-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_weights [hPre_finite_weights : Cert.Pre_finite_weights.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_weights.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite_weights.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_weights [hPre_finite_weights : Cert.Pre_finite_weights.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_weights.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite_weights.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_mixers [hPre_finite_mixers : Cert.Pre_finite_mixers.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_mixers.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14))).1 = (fun _ => 1#1)
    ∧ (Cert.Pre_finite_mixers.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14))).2.1 = (fun _ => 1#1)
    ∧ (Cert.Pre_finite_mixers.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14))).2.2.1 = (fun _ => 1#1)
    ∧ (Cert.Pre_finite_mixers.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_mixers [hPre_finite_mixers : Cert.Pre_finite_mixers.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_mixers.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14))).1 = (fun _ => 1#1)
    ∧ (Cert.Pre_finite_mixers.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14))).2.1 = (fun _ => 1#1)
    ∧ (Cert.Pre_finite_mixers.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14))).2.2.1 = (fun _ => 1#1)
    ∧ (Cert.Pre_finite_mixers.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite_weights [hKernel2Ideal : Cert.Kernel2Ideal.Facts] [hPre_finite_weights : Cert.Pre_finite_weights.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_weights m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite_weights [hReference2Ideal : Cert.Reference2Ideal.Facts] [hPre_finite_weights : Cert.Pre_finite_weights.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_weights m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Kernel3Ideal_pre_finite_mixers [hKernel3Ideal : Cert.Kernel3Ideal.Facts] [hPre_finite_mixers : Cert.Pre_finite_mixers.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_mixers m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Reference3Ideal_pre_finite_mixers [hReference3Ideal : Cert.Reference3Ideal.Facts] [hPre_finite_mixers : Cert.Pre_finite_mixers.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_mixers m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite_weights [hKernel2Ideal : Cert.Kernel2Ideal.Facts] [hReference2Ideal : Cert.Reference2Ideal.Facts] [hPre_finite_weights : Cert.Pre_finite_weights.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_weights m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v99_0)) (v1 : (c : Dev Cert.Kernel2Ideal.nD) → Buf (Elt Ideal) ((c.tc : Thread Cert.Kernel2Ideal.nD Cert.Kernel2Ideal.τ).loc Cert.Kernel2Ideal.main_v99_1)) (v2 : (c : Dev Cert.Kernel2Ideal.nD) → Buf (Elt Ideal) ((c.tc : Thread Cert.Kernel2Ideal.nD Cert.Kernel2Ideal.τ).loc Cert.Kernel2Ideal.main_v99_2)) (v3 : (c : Dev Cert.Kernel2Ideal.nD) → Buf (Elt Ideal) ((c.tc : Thread Cert.Kernel2Ideal.nD Cert.Kernel2Ideal.τ).loc Cert.Kernel2Ideal.main_v99_3)) (v4 : (c : Dev Cert.Kernel2Ideal.nD) → Buf (Elt Ideal) ((c.tc : Thread Cert.Kernel2Ideal.nD Cert.Kernel2Ideal.τ).loc Cert.Kernel2Ideal.main_v99_4)) (v5 : (c : Dev Cert.Kernel2Ideal.nD) → Buf (Elt Ideal) ((c.tc : Thread Cert.Kernel2Ideal.nD Cert.Kernel2Ideal.τ).loc Cert.Kernel2Ideal.main_v99_5)) (v6 : (c : Dev Cert.Kernel2Ideal.nD) → Buf (Elt Ideal) ((c.tc : Thread Cert.Kernel2Ideal.nD Cert.Kernel2Ideal.τ).loc Cert.Kernel2Ideal.main_v99_6)) (v7 : (c : Dev Cert.Kernel2Ideal.nD) → Buf (Elt Ideal) ((c.tc : Thread Cert.Kernel2Ideal.nD Cert.Kernel2Ideal.τ).loc Cert.Kernel2Ideal.main_v99_7)) (v8 : (c : Dev Cert.Kernel2Ideal.nD) → Buf (Elt Ideal) ((c.tc : Thread Cert.Kernel2Ideal.nD Cert.Kernel2Ideal.τ).loc Cert.Kernel2Ideal.main_v99_8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v99_0) = v0 c
          ∧ r.2.mem ((c.tc : Thread Cert.Kernel2Ideal.nD Cert.Kernel2Ideal.τ).loc Cert.Kernel2Ideal.main_v99_1) = v1 c
          ∧ r.2.mem ((c.tc : Thread Cert.Kernel2Ideal.nD Cert.Kernel2Ideal.τ).loc Cert.Kernel2Ideal.main_v99_2) = v2 c
          ∧ r.2.mem ((c.tc : Thread Cert.Kernel2Ideal.nD Cert.Kernel2Ideal.τ).loc Cert.Kernel2Ideal.main_v99_3) = v3 c
          ∧ r.2.mem ((c.tc : Thread Cert.Kernel2Ideal.nD Cert.Kernel2Ideal.τ).loc Cert.Kernel2Ideal.main_v99_4) = v4 c
          ∧ r.2.mem ((c.tc : Thread Cert.Kernel2Ideal.nD Cert.Kernel2Ideal.τ).loc Cert.Kernel2Ideal.main_v99_5) = v5 c
          ∧ r.2.mem ((c.tc : Thread Cert.Kernel2Ideal.nD Cert.Kernel2Ideal.τ).loc Cert.Kernel2Ideal.main_v99_6) = v6 c
          ∧ r.2.mem ((c.tc : Thread Cert.Kernel2Ideal.nD Cert.Kernel2Ideal.τ).loc Cert.Kernel2Ideal.main_v99_7) = v7 c
          ∧ r.2.mem ((c.tc : Thread Cert.Kernel2Ideal.nD Cert.Kernel2Ideal.τ).loc Cert.Kernel2Ideal.main_v99_8) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v151) = v0 c
          ∧ r.2.mem ((c.tc : Thread Cert.Reference2Ideal.nD Cert.Reference2Ideal.τ).loc Cert.Reference2Ideal.main_v200) = v1 c
          ∧ r.2.mem ((c.tc : Thread Cert.Reference2Ideal.nD Cert.Reference2Ideal.τ).loc Cert.Reference2Ideal.main_v201) = v2 c
          ∧ r.2.mem ((c.tc : Thread Cert.Reference2Ideal.nD Cert.Reference2Ideal.τ).loc Cert.Reference2Ideal.main_v70) = v3 c
          ∧ r.2.mem ((c.tc : Thread Cert.Reference2Ideal.nD Cert.Reference2Ideal.τ).loc Cert.Reference2Ideal.main_v71) = v4 c
          ∧ r.2.mem ((c.tc : Thread Cert.Reference2Ideal.nD Cert.Reference2Ideal.τ).loc Cert.Reference2Ideal.main_v72) = v5 c
          ∧ r.2.mem ((c.tc : Thread Cert.Reference2Ideal.nD Cert.Reference2Ideal.τ).loc Cert.Reference2Ideal.main_v253) = v6 c
          ∧ r.2.mem ((c.tc : Thread Cert.Reference2Ideal.nD Cert.Reference2Ideal.τ).loc Cert.Reference2Ideal.main_v300) = v7 c
          ∧ r.2.mem ((c.tc : Thread Cert.Reference2Ideal.nD Cert.Reference2Ideal.τ).loc Cert.Reference2Ideal.main_v301) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  IdealRules.named_const.Statement Cert.Kernel3Ideal.κ "gelu_cubic" .f32 0x3D122279#32 ((80338380498831 / 2251799813685248 : ℝ) : EReal)

def algebraic_Kernel3Ideal_Reference3Ideal_pre_finite_mixers [hKernel3Ideal : Cert.Kernel3Ideal.Facts] [hReference3Ideal : Cert.Reference3Ideal.Facts] [hPre_finite_mixers : Cert.Pre_finite_mixers.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_mixers m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v22_0)) (v1 : (c : Dev Cert.Kernel3Ideal.nD) → Buf (Elt Ideal) ((c.tc : Thread Cert.Kernel3Ideal.nD Cert.Kernel3Ideal.τ).loc Cert.Kernel3Ideal.main_v22_1)) (v2 : (c : Dev Cert.Kernel3Ideal.nD) → Buf (Elt Ideal) ((c.tc : Thread Cert.Kernel3Ideal.nD Cert.Kernel3Ideal.τ).loc Cert.Kernel3Ideal.main_v22_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v22_0) = v0 c
          ∧ r.2.mem ((c.tc : Thread Cert.Kernel3Ideal.nD Cert.Kernel3Ideal.τ).loc Cert.Kernel3Ideal.main_v22_1) = v1 c
          ∧ r.2.mem ((c.tc : Thread Cert.Kernel3Ideal.nD Cert.Kernel3Ideal.τ).loc Cert.Kernel3Ideal.main_v22_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v123) = v0 c
          ∧ r.2.mem ((c.tc : Thread Cert.Reference3Ideal.nD Cert.Reference3Ideal.τ).loc Cert.Reference3Ideal.main_v148) = v1 c
          ∧ r.2.mem ((c.tc : Thread Cert.Reference3Ideal.nD Cert.Reference3Ideal.τ).loc Cert.Reference3Ideal.main_v150) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts) (hPre_finite_weights : Cert.Pre_finite_weights.Facts) (hPre_finite_mixers : Cert.Pre_finite_mixers.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Kernel2Ideal_pre_finite_weights (hKernel2Ideal := hKernel2Ideal) (hPre_finite_weights := hPre_finite_weights)
    ∧ quiescent_Reference2Ideal (hReference2Ideal := hReference2Ideal)
    ∧ quiescent_Reference2Ideal_pre_finite_weights (hReference2Ideal := hReference2Ideal) (hPre_finite_weights := hPre_finite_weights)
    ∧ quiescent_Kernel3 (hKernel3 := hKernel3)
    ∧ quiescent_Kernel3Ideal (hKernel3Ideal := hKernel3Ideal)
    ∧ quiescent_Kernel3Ideal_pre_finite_mixers (hKernel3Ideal := hKernel3Ideal) (hPre_finite_mixers := hPre_finite_mixers)
    ∧ quiescent_Reference3Ideal (hReference3Ideal := hReference3Ideal)
    ∧ quiescent_Reference3Ideal_pre_finite_mixers (hReference3Ideal := hReference3Ideal) (hPre_finite_mixers := hPre_finite_mixers)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal_pre_finite_weights (hKernel2Ideal := hKernel2Ideal) (hReference2Ideal := hReference2Ideal) (hPre_finite_weights := hPre_finite_weights)
    ∧ preserves_Kernel3_Kernel3Ideal
    ∧ algebraic_Kernel3Ideal_Reference3Ideal_pre_finite_mixers (hKernel3Ideal := hKernel3Ideal) (hReference3Ideal := hReference3Ideal) (hPre_finite_mixers := hPre_finite_mixers)
-- ==== Pre_finite_mixers.lean ====
abbrev S16896x1024 : Shape := ⟨2, ![16896, 1024]⟩
abbrev S16896x256 : Shape := ⟨2, ![16896, 256]⟩
abbrev S16896x512 : Shape := ⟨2, ![16896, 512]⟩
abbrev S2x6144 : Shape := ⟨2, ![2, 6144]⟩
abbrev S6144 : Shape := ⟨1, ![6144]⟩
abbrev S1024x1024 : Shape := ⟨2, ![1024, 1024]⟩
abbrev S4x128x128 : Shape := ⟨3, ![4, 128, 128]⟩
abbrev S4x128 : Shape := ⟨2, ![4, 128]⟩
abbrev S1024 : Shape := ⟨1, ![1024]⟩
abbrev S1024x2048 : Shape := ⟨2, ![1024, 2048]⟩
abbrev S_ : Shape := ⟨0, ![]⟩

class Facts : Prop where
  bcast_S_S16896x256 : S_.BroadcastsInDim S16896x256 (![] : Fin 0 → Fin S16896x256.rank)

variable [Facts]

def fn {F : FTy → Type} [FloatOps F] (main_arg0 : FVec F S16896x1024 .f32) (main_arg1 : FVec F S16896x256 .f32) (main_arg2 : FVec F S16896x256 .f32) (main_arg3 : FVec F S16896x256 .f32) (main_arg4 : FVec F S16896x256 .f32) (main_arg5 : FVec F S16896x256 .f32) (main_arg6 : FVec F S16896x512 .f32) (main_arg7 : FVec F S2x6144 .f32) (main_arg8 : FVec F S6144 .f32) (main_arg9 : FVec F S1024x1024 .f32) (main_arg10 : FVec F S4x128x128 .f32) (main_arg11 : FVec F S4x128 .f32) (main_arg12 : FVec F S1024 .f32) (main_arg13 : FVec F S1024 .f32) (main_arg14 : FVec F S1024x2048 .f32) : IVec S16896x256 1 × IVec S16896x256 1 × IVec S16896x256 1 × IVec S16896x256 1 :=
  let main_v0 : FVec F S16896x256 .f32 := Host.absf main_arg1
  let main_cst : FVec F S_ .f32 := constant S_ .f32 0x7F800000#32
  let main_v1 : FVec F S16896x256 .f32 := broadcastInDim S16896x256 ![] bcast_S_S16896x256 main_cst
  let main_v2 : IVec S16896x256 1 := cmpf .olt main_v0 main_v1
  let main_v3 : FVec F S16896x256 .f32 := Host.absf main_arg2
  let main_cst_0 : FVec F S_ .f32 := constant S_ .f32 0x7F800000#32
  let main_v4 : FVec F S16896x256 .f32 := broadcastInDim S16896x256 ![] bcast_S_S16896x256 main_cst_0
  let main_v5 : IVec S16896x256 1 := cmpf .olt main_v3 main_v4
  let main_v6 : FVec F S16896x256 .f32 := Host.absf main_arg5
  let main_cst_1 : FVec F S_ .f32 := constant S_ .f32 0x7F800000#32
  let main_v7 : FVec F S16896x256 .f32 := broadcastInDim S16896x256 ![] bcast_S_S16896x256 main_cst_1
  let main_v8 : IVec S16896x256 1 := cmpf .olt main_v6 main_v7
  let main_cst_2 : FVec F S_ .f32 := constant S_ .f32 0xFF800000#32
  let main_v9 : FVec F S16896x256 .f32 := broadcastInDim S16896x256 ![] bcast_S_S16896x256 main_cst_2
  let main_v10 : IVec S16896x256 1 := cmpf .ogt main_arg4 main_v9
  (main_v2, main_v5, main_v8, main_v10)
-- ==== Pre_finite_scores.lean ====
abbrev S2x8192x512 : Shape := ⟨3, ![2, 8192, 512]⟩
abbrev S2x8192x128 : Shape := ⟨3, ![2, 8192, 128]⟩
abbrev S2x256x512 : Shape := ⟨3, ![2, 256, 512]⟩
abbrev S2x256x128 : Shape := ⟨3, ![2, 256, 128]⟩
abbrev S8 : Shape := ⟨1, ![8]⟩
abbrev S_ : Shape := ⟨0, ![]⟩

class Facts : Prop where
  bcast_S_S2x8192x512 : S_.BroadcastsInDim S2x8192x512 (![] : Fin 0 → Fin S2x8192x512.rank)
  bcast_S_S2x8192x128 : S_.BroadcastsInDim S2x8192x128 (![] : Fin 0 → Fin S2x8192x128.rank)
  bcast_S_S2x256x512 : S_.BroadcastsInDim S2x256x512 (![] : Fin 0 → Fin S2x256x512.rank)
  bcast_S_S2x256x128 : S_.BroadcastsInDim S2x256x128 (![] : Fin 0 → Fin S2x256x128.rank)
  bcast_S_S8 : S_.BroadcastsInDim S8 (![] : Fin 0 → Fin S8.rank)

variable [Facts]

def fn {F : FTy → Type} [FloatOps F] (main_arg0 : FVec F S2x8192x512 .f32) (main_arg1 : FVec F S2x8192x128 .f32) (main_arg2 : FVec F S2x8192x128 .f32) (main_arg3 : FVec F S2x256x512 .f32) (main_arg4 : FVec F S2x256x128 .f32) (main_arg5 : FVec F S2x256x128 .f32) (main_arg6 : FVec F S8 .f32) : IVec S2x8192x512 1 × IVec S2x8192x128 1 × IVec S2x256x512 1 × IVec S2x256x128 1 × IVec S8 1 :=
  let main_v0 : FVec F S2x8192x512 .f32 := Host.absf main_arg0
  let main_cst : FVec F S_ .f32 := constant S_ .f32 0x7F800000#32
  let main_v1 : FVec F S2x8192x512 .f32 := broadcastInDim S2x8192x512 ![] bcast_S_S2x8192x512 main_cst
  let main_v2 : IVec S2x8192x512 1 := cmpf .olt main_v0 main_v1
  let main_v3 : FVec F S2x8192x128 .f32 := Host.absf main_arg1
  let main_cst_0 : FVec F S_ .f32 := constant S_ .f32 0x7F800000#32
  let main_v4 : FVec F S2x8192x128 .f32 := broadcastInDim S2x8192x128 ![] bcast_S_S2x8192x128 main_cst_0
  let main_v5 : IVec S2x8192x128 1 := cmpf .olt main_v3 main_v4
  let main_v6 : FVec F S2x256x512 .f32 := Host.absf main_arg3
  let main_cst_1 : FVec F S_ .f32 := constant S_ .f32 0x7F800000#32
  let main_v7 : FVec F S2x256x512 .f32 := broadcastInDim S2x256x512 ![] bcast_S_S2x256x512 main_cst_1
  let main_v8 : IVec S2x256x512 1 := cmpf .olt main_v6 main_v7
  let main_v9 : FVec F S2x256x128 .f32 := Host.absf main_arg4
  let main_cst_2 : FVec F S_ .f32 := constant S_ .f32 0x7F800000#32
  let main_v10 : FVec F S2x256x128 .f32 := broadcastInDim S2x256x128 ![] bcast_S_S2x256x128 main_cst_2
  let main_v11 : IVec S2x256x128 1 := cmpf .olt main_v9 main_v10
  let main_v12 : FVec F S8 .f32 := Host.absf main_arg6
  let main_cst_3 : FVec F S_ .f32 := constant S_ .f32 0x7F800000#32
  let main_v13 : FVec F S8 .f32 := broadcastInDim S8 ![] bcast_S_S8 main_cst_3
  let main_v14 : IVec S8 1 := cmpf .olt main_v12 main_v13
  (main_v2, main_v5, main_v8, main_v11, main_v14)
-- ==== Pre_finite_weights.lean ====
abbrev S2x8192x1024 : Shape := ⟨3, ![2, 8192, 1024]⟩
abbrev S2x256x1024 : Shape := ⟨3, ![2, 256, 1024]⟩
abbrev S2x6144 : Shape := ⟨2, ![2, 6144]⟩
abbrev S6144 : Shape := ⟨1, ![6144]⟩
abbrev S1024x2304 : Shape := ⟨2, ![1024, 2304]⟩
abbrev S_ : Shape := ⟨0, ![]⟩

class Facts : Prop where
  bcast_S_S2x6144 : S_.BroadcastsInDim S2x6144 (![] : Fin 0 → Fin S2x6144.rank)
  bcast_S_S1024x2304 : S_.BroadcastsInDim S1024x2304 (![] : Fin 0 → Fin S1024x2304.rank)

variable [Facts]

def fn {F : FTy → Type} [FloatOps F] (main_arg0 : FVec F S2x8192x1024 .f32) (main_arg1 : FVec F S2x256x1024 .f32) (main_arg2 : FVec F S2x6144 .f32) (main_arg3 : FVec F S6144 .f32) (main_arg4 : FVec F S1024x2304 .f32) : IVec S2x6144 1 × IVec S1024x2304 1 :=
  let main_v0 : FVec F S2x6144 .f32 := Host.absf main_arg2
  let main_cst : FVec F S_ .f32 := constant S_ .f32 0x7F800000#32
  let main_v1 : FVec F S2x6144 .f32 := broadcastInDim S2x6144 ![] bcast_S_S2x6144 main_cst
  let main_v2 : IVec S2x6144 1 := cmpf .olt main_v0 main_v1
  let main_v3 : FVec F S1024x2304 .f32 := Host.absf main_arg4
  let main_cst_0 : FVec F S_ .f32 := constant S_ .f32 0x7F800000#32
  let main_v4 : FVec F S1024x2304 .f32 := broadcastInDim S1024x2304 ![] bcast_S_S1024x2304 main_cst_0
  let main_v5 : IVec S1024x2304 1 := cmpf .olt main_v3 main_v4
  (main_v2, main_v5)
-- ==== Kernel.lean ====
abbrev S2x8192x512 : Shape := ⟨3, ![2, 8192, 512]⟩
abbrev S2x8192x128 : Shape := ⟨3, ![2, 8192, 128]⟩
abbrev S2x256x512 : Shape := ⟨3, ![2, 256, 512]⟩
abbrev S2x256x128 : Shape := ⟨3, ![2, 256, 128]⟩
abbrev S8 : Shape := ⟨1, ![8]⟩
abbrev S16384x512 : Shape := ⟨2, ![16384, 512]⟩
abbrev S512x512 : Shape := ⟨2, ![512, 512]⟩
abbrev S16896x512 : Shape := ⟨2, ![16896, 512]⟩
abbrev S16896x2x4x64 : Shape := ⟨4, ![16896, 2, 4, 64]⟩
abbrev S16896x4x2x64 : Shape := ⟨4, ![16896, 4, 2, 64]⟩
abbrev S16384x128 : Shape := ⟨2, ![16384, 128]⟩
abbrev S512x128 : Shape := ⟨2, ![512, 128]⟩
abbrev S16896x128 : Shape := ⟨2, ![16896, 128]⟩
abbrev S128x512 : Shape := ⟨2, ![128, 512]⟩
abbrev S128x128 : Shape := ⟨2, ![128, 128]⟩
abbrev S256x128 : Shape := ⟨2, ![256, 128]⟩
abbrev S128x384 : Shape := ⟨2, ![128, 384]⟩
abbrev S640x128 : Shape := ⟨2, ![640, 128]⟩
abbrev S1x128 : Shape := ⟨2, ![1, 128]⟩
abbrev S512x384 : Shape := ⟨2, ![512, 384]⟩
abbrev S1 : Shape := ⟨1, ![1]⟩
abbrev S128x1 : Shape := ⟨2, ![128, 1]⟩
abbrev S512x1 : Shape := ⟨2, ![512, 1]⟩
abbrev S512x640 : Shape := ⟨2, ![512, 640]⟩
abbrev S512x256 : Shape := ⟨2, ![512, 256]⟩
abbrev S512 : Shape := ⟨1, ![512]⟩

abbrev nBuf : Space → Nat
  | .hbm => 23
  | .vmem => 20
  | .smem => 1
  | _ => 0

abbrev bufTy : (tb : Table) → Fin (tcTables nBuf tb) → BufTy
  | .hbm, ⟨0, _⟩ => ⟨S2x8192x512, .f32⟩
  | .hbm, ⟨1, _⟩ => ⟨S2x8192x128, .f32⟩
  | .hbm, ⟨2, _⟩ => ⟨S2x8192x128, .f32⟩
  | .hbm, ⟨3, _⟩ => ⟨S2x256x512, .f32⟩
  | .hbm, ⟨4, _⟩ => ⟨S2x256x128, .f32⟩
  | .hbm, ⟨5, _⟩ => ⟨S2x256x128, .f32⟩
  | .hbm, ⟨6, _⟩ => ⟨S8, .f32⟩
  | .hbm, ⟨7, _⟩ => ⟨S16384x512, .f32⟩
  | .hbm, ⟨8, _⟩ => ⟨S512x512, .f32⟩
  | .hbm, ⟨9, _⟩ => ⟨S16896x512, .f32⟩
  | .hbm, ⟨10, _⟩ => ⟨S16896x2x4x64, .f32⟩
  | .hbm, ⟨11, _⟩ => ⟨S16896x4x2x64, .f32⟩
  | .hbm, ⟨12, _⟩ => ⟨S16896x512, .f32⟩
  | .hbm, ⟨13, _⟩ => ⟨S16896x512, .bf16⟩
  | .hbm, ⟨14, _⟩ => ⟨S16384x128, .f32⟩
  | .hbm, ⟨15, _⟩ => ⟨S512x128, .f32⟩
  | .hbm, ⟨16, _⟩ => ⟨S16896x128, .f32⟩
  | .hbm, ⟨17, _⟩ => ⟨S16896x128, .bf16⟩
  | .hbm, ⟨18, _⟩ => ⟨S16384x128, .f32⟩
  | .hbm, ⟨19, _⟩ => ⟨S512x128, .f32⟩
  | .hbm, ⟨20, _⟩ => ⟨S16896x128, .f32⟩
  | .hbm, ⟨21, _⟩ => ⟨S16896x128, .bf16⟩
  | .hbm, ⟨22, _⟩ => ⟨S16896x512, .bf16⟩
  | .local _ .vmem, ⟨0, _⟩ => ⟨S128x512, .bf16⟩
  | .local _ .vmem, ⟨1, _⟩ => ⟨S128x512, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S128x128, .bf16⟩
  | .local _ .vmem, ⟨12, _⟩ => ⟨S128x128, .bf16⟩
  | .local _ .vmem, ⟨13, _⟩ => ⟨S128x128, .bf16⟩
  | .local _ .vmem, ⟨14, _⟩ => ⟨S256x128, .bf16⟩
  | .local _ .vmem, ⟨15, _⟩ => ⟨S256x128, .bf16⟩
  | .local _ .vmem, ⟨16, _⟩ => ⟨S256x128, .bf16⟩
  | .local _ .vmem, ⟨17, _⟩ => ⟨S256x128, .bf16⟩
  | .local _ .vmem, ⟨18, _⟩ => ⟨S128x512, .bf16⟩
  | .local _ .vmem, ⟨19, _⟩ => ⟨S128x512, .bf16⟩
  | .local _ .smem, ⟨0, _⟩ => ⟨S8, .f32⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![2, 66], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 1 := Scalar.cmpi .slt arg1 c64_i32
  let c64_i32_0 : BitVec 32 := 64#32
  let v1 : BitVec 32 := Scalar.muli arg0 c64_i32_0
  let v2 : BitVec 32 := Scalar.addi v1 arg1
  let c2_i32 : BitVec 32 := 2#32
  let v3 : BitVec 32 := Scalar.muli arg0 c2_i32
  let c128_i32 : BitVec 32 := 128#32
  let v4 : BitVec 32 := Scalar.addi c128_i32 v3
  let c64_i32_1 : BitVec 32 := 64#32
  let v5 : BitVec 32 := Scalar.subi arg1 c64_i32_1
  let v6 : BitVec 32 := Scalar.addi v4 v5
  let v7 : BitVec 32 := Scalar.select v0 v2 v6
  let c0_i32 : BitVec 32 := 0#32
  let c0_i32_2 : BitVec 32 := 0#32
  ![v7.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c_m1_i32 : BitVec 32 := 4294967295#32
  let v1 : BitVec 32 := Scalar.addi arg1 c_m1_i32
  let c0_i32 : BitVec 32 := 0#32
  let c63_i32 : BitVec 32 := 63#32
  let v2 : BitVec 32 := Scalar.maxsi c0_i32 v1
  let v3 : BitVec 32 := Scalar.minsi c63_i32 v2
  let v4 : BitVec 32 := Scalar.addi v0 v3
  let c0_i32_0 : BitVec 32 := 0#32
  let c0_i32_1 : BitVec 32 := 0#32
  ![v4.toNat, c0_i32_0.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi arg1 c0_i32
  let c0_i32_0 : BitVec 32 := 0#32
  let c63_i32 : BitVec 32 := 63#32
  let v2 : BitVec 32 := Scalar.maxsi c0_i32_0 v1
  let v3 : BitVec 32 := Scalar.minsi c63_i32 v2
  let v4 : BitVec 32 := Scalar.addi v0 v3
  let c0_i32_1 : BitVec 32 := 0#32
  let c0_i32_2 : BitVec 32 := 0#32
  ![v4.toNat, c0_i32_1.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.addi arg1 c1_i32
  let c0_i32 : BitVec 32 := 0#32
  let c63_i32 : BitVec 32 := 63#32
  let v2 : BitVec 32 := Scalar.maxsi c0_i32 v1
  let v3 : BitVec 32 := Scalar.minsi c63_i32 v2
  let v4 : BitVec 32 := Scalar.addi v0 v3
  let c0_i32_0 : BitVec 32 := 0#32
  let c0_i32_1 : BitVec 32 := 0#32
  ![v4.toNat, c0_i32_0.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c_m1_i32 : BitVec 32 := 4294967295#32
  let v1 : BitVec 32 := Scalar.addi arg1 c_m1_i32
  let c0_i32 : BitVec 32 := 0#32
  let c63_i32 : BitVec 32 := 63#32
  let v2 : BitVec 32 := Scalar.maxsi c0_i32 v1
  let v3 : BitVec 32 := Scalar.minsi c63_i32 v2
  let v4 : BitVec 32 := Scalar.addi v0 v3
  let c0_i32_0 : BitVec 32 := 0#32
  let c0_i32_1 : BitVec 32 := 0#32
  ![v4.toNat, c0_i32_0.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c0_i32 : BitVec 32 := 0#32
  let v1 : BitVec 32 := Scalar.addi arg1 c0_i32
  let c0_i32_0 : BitVec 32 := 0#32
  let c63_i32 : BitVec 32 := 63#32
  let v2 : BitVec 32 := Scalar.maxsi c0_i32_0 v1
  let v3 : BitVec 32 := Scalar.minsi c63_i32 v2
  let v4 : BitVec 32 := Scalar.addi v0 v3
  let c0_i32_1 : BitVec 32 := 0#32
  let c0_i32_2 : BitVec 32 := 0#32
  ![v4.toNat, c0_i32_1.toNat]

def cc0_transform_7 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.addi arg1 c1_i32
  let c0_i32 : BitVec 32 := 0#32
  let c63_i32 : BitVec 32 := 63#32
  let v2 : BitVec 32 := Scalar.maxsi c0_i32 v1
  let v3 : BitVec 32 := Scalar.minsi c63_i32 v2
  let v4 : BitVec 32 := Scalar.addi v0 v3
  let c0_i32_0 : BitVec 32 := 0#32
  let c0_i32_1 : BitVec 32 := 0#32
  ![v4.toNat, c0_i32_0.toNat]

def cc0_transform_8 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 1 := Scalar.cmpi .slt arg1 c64_i32
  let c64_i32_0 : BitVec 32 := 64#32
  let v1 : BitVec 32 := Scalar.muli arg0 c64_i32_0
  let v2 : BitVec 32 := Scalar.addi v1 arg1
  let c2_i32 : BitVec 32 := 2#32
  let v3 : BitVec 32 := Scalar.muli arg0 c2_i32
  let c128_i32 : BitVec 32 := 128#32
  let v4 : BitVec 32 := Scalar.addi c128_i32 v3
  let c64_i32_1 : BitVec 32 := 64#32
  let v5 : BitVec 32 := Scalar.subi arg1 c64_i32_1
  let v6 : BitVec 32 := Scalar.addi v4 v5
  let v7 : BitVec 32 := Scalar.select v0 v2 v6
  let c0_i32 : BitVec 32 := 0#32
  let c0_i32_2 : BitVec 32 := 0#32
  ![v7.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S2x8192x512 : Shape := ⟨3, ![2, 8192, 512]⟩
abbrev S2x8192x128 : Shape := ⟨3, ![2, 8192, 128]⟩
abbrev S2x256x512 : Shape := ⟨3, ![2, 256, 512]⟩
abbrev S2x256x128 : Shape := ⟨3, ![2, 256, 128]⟩
abbrev S8 : Shape := ⟨1, ![8]⟩
abbrev S2x4 : Shape := ⟨2, ![2, 4]⟩
abbrev S2x256x2x64 : Shape := ⟨4, ![2, 256, 2, 64]⟩
abbrev S2x8192x2x4x64 : Shape := ⟨5, ![2, 8192, 2, 4, 64]⟩
abbrev S2x8192x2x64 : Shape := ⟨4, ![2, 8192, 2, 64]⟩
abbrev S2x64x128x2x4x64 : Shape := ⟨6, ![2, 64, 128, 2, 4, 64]⟩
abbrev S_ : Shape := ⟨0, ![]⟩
abbrev S2x8448x2x64 : Shape := ⟨4, ![2, 8448, 2, 64]⟩
abbrev S2x66x128x2x64 : Shape := ⟨5, ![2, 66, 128, 2, 64]⟩
abbrev S2x64x128x2x64 : Shape := ⟨5, ![2, 64, 128, 2, 64]⟩
abbrev S2x64x384x2x64 : Shape := ⟨5, ![2, 64, 384, 2, 64]⟩
abbrev S128 : Shape := ⟨1, ![128]⟩
abbrev S384 : Shape := ⟨1, ![384]⟩
abbrev S64 : Shape := ⟨1, ![64]⟩
abbrev S1x384 : Shape := ⟨2, ![1, 384]⟩
abbrev S128x1 : Shape := ⟨2, ![128, 1]⟩
abbrev S128x384 : Shape := ⟨2, ![128, 384]⟩
abbrev S64x1 : Shape := ⟨2, ![64, 1]⟩
abbrev S64x384 : Shape := ⟨2, ![64, 384]⟩
abbrev S1x128x384 : Shape := ⟨3, ![1, 128, 384]⟩
abbrev S64x1x384 : Shape := ⟨3, ![64, 1, 384]⟩
abbrev S64x128x384 : Shape := ⟨3, ![64, 128, 384]⟩
abbrev S2x64x2x384x128x4 : Shape := ⟨6, ![2, 64, 2, 384, 128, 4]⟩
abbrev S2x64x2x4x128x384 : Shape := ⟨6, ![2, 64, 2, 4, 128, 384]⟩
abbrev S1x64x1x1x128x384 : Shape := ⟨6, ![1, 64, 1, 1, 128, 384]⟩
abbrev S2x2x256x64x128x4 : Shape := ⟨6, ![2, 2, 256, 64, 128, 4]⟩
abbrev S2x64x2x4x128x256 : Shape := ⟨6, ![2, 64, 2, 4, 128, 256]⟩
abbrev S1x1x2x4x1x1 : Shape := ⟨6, ![1, 1, 2, 4, 1, 1]⟩
abbrev S2x64x2x4x128x1 : Shape := ⟨6, ![2, 64, 2, 4, 128, 1]⟩
abbrev S2x64x2x4x128x641 : Shape := ⟨6, ![2, 64, 2, 4, 128, 641]⟩
abbrev S2x64x2x4x128 : Shape := ⟨5, ![2, 64, 2, 4, 128]⟩
abbrev S2x64x2x64x4x128 : Shape := ⟨6, ![2, 64, 2, 64, 4, 128]⟩
abbrev S2x2x64x64x4x128 : Shape := ⟨6, ![2, 2, 64, 64, 4, 128]⟩
abbrev S2x256x2x4x64 : Shape := ⟨5, ![2, 256, 2, 4, 64]⟩
abbrev S2x2x256x256x4 : Shape := ⟨5, ![2, 2, 256, 256, 4]⟩
abbrev S2x2x4x256x256 : Shape := ⟨5, ![2, 2, 4, 256, 256]⟩
abbrev S1x2x4x1x1 : Shape := ⟨5, ![1, 2, 4, 1, 1]⟩
abbrev S2x2x4x256x1 : Shape := ⟨5, ![2, 2, 4, 256, 1]⟩
abbrev S2x2x4x256x257 : Shape := ⟨5, ![2, 2, 4, 256, 257]⟩
abbrev S2x2x4x256 : Shape := ⟨4, ![2, 2, 4, 256]⟩
abbrev S2x2x64x4x256 : Shape := ⟨5, ![2, 2, 64, 4, 256]⟩
abbrev S16384x2x4x64 : Shape := ⟨4, ![16384, 2, 4, 64]⟩
abbrev S16384x4x2x64 : Shape := ⟨4, ![16384, 4, 2, 64]⟩
abbrev S16384x512 : Shape := ⟨2, ![16384, 512]⟩
abbrev S512x2x4x64 : Shape := ⟨4, ![512, 2, 4, 64]⟩
abbrev S512x4x2x64 : Shape := ⟨4, ![512, 4, 2, 64]⟩
abbrev S512x512 : Shape := ⟨2, ![512, 512]⟩
abbrev S16896x512 : Shape := ⟨2, ![16896, 512]⟩

abbrev nBuf : Space → Nat
  | .hbm => 133
  | .vmem => 0
  | .smem => 0
  | _ => 0

abbrev hbmTy0_0 (i : Nat) : BufTy := match i % 128 with
  | 0 => ⟨S2x8192x512, .f32⟩
  | 1 => ⟨S2x8192x128, .f32⟩
  | 2 => ⟨S2x8192x128, .f32⟩
  | 3 => ⟨S2x256x512, .f32⟩
  | 4 => ⟨S2x256x128, .f32⟩
  | 5 => ⟨S2x256x128, .f32⟩
  | 6 => ⟨S8, .f32⟩
  | 7 => ⟨S2x4, .f32⟩
  | 8 => ⟨S2x256x2x64, .f32⟩
  | 9 => ⟨S2x256x2x64, .f32⟩
  | 10 => ⟨S2x8192x2x4x64, .f32⟩
  | 11 => ⟨S2x8192x2x64, .f32⟩
  | 12 => ⟨S2x8192x2x64, .f32⟩
  | 13 => ⟨S2x64x128x2x4x64, .f32⟩
  | 14 => ⟨S_, .i32⟩
  | 15 => ⟨S_, .f32⟩
  | 16 => ⟨S2x8448x2x64, .f32⟩
  | 17 => ⟨S2x66x128x2x64, .f32⟩
  | 18 => ⟨S2x64x128x2x64, .f32⟩
  | 19 => ⟨S2x64x128x2x64, .f32⟩
  | 20 => ⟨S2x64x128x2x64, .f32⟩
  | 21 => ⟨S2x64x384x2x64, .f32⟩
  | 22 => ⟨S_, .i32⟩
  | 23 => ⟨S_, .f32⟩
  | 24 => ⟨S2x8448x2x64, .f32⟩
  | 25 => ⟨S2x66x128x2x64, .f32⟩
  | 26 => ⟨S2x64x128x2x64, .f32⟩
  | 27 => ⟨S2x64x128x2x64, .f32⟩
  | 28 => ⟨S2x64x128x2x64, .f32⟩
  | 29 => ⟨S2x64x384x2x64, .f32⟩
  | 30 => ⟨S128, .i32⟩
  | 31 => ⟨S384, .i32⟩
  | 32 => ⟨S64, .i32⟩
  | 33 => ⟨S1x384, .i32⟩
  | 34 => ⟨S_, .i32⟩
  | 35 => ⟨S1x384, .i32⟩
  | 36 => ⟨S1x384, .i32⟩
  | 37 => ⟨S128x1, .i32⟩
  | 38 => ⟨S128x384, .i32⟩
  | 39 => ⟨S128x384, .i32⟩
  | 40 => ⟨S128x384, .i32⟩
  | 41 => ⟨S64x1, .i32⟩
  | 42 => ⟨S_, .i32⟩
  | 43 => ⟨S64x1, .i32⟩
  | 44 => ⟨S64x1, .i32⟩
  | 45 => ⟨S_, .i32⟩
  | 46 => ⟨S64x1, .i32⟩
  | 47 => ⟨S64x1, .i32⟩
  | 48 => ⟨S1x384, .i32⟩
  | 49 => ⟨S64x384, .i32⟩
  | 50 => ⟨S64x384, .i32⟩
  | 51 => ⟨S64x384, .i32⟩
  | 52 => ⟨S128x384, .i32⟩
  | 53 => ⟨S_, .i32⟩
  | 54 => ⟨S128x384, .i32⟩
  | 55 => ⟨S128x384, .i1⟩
  | 56 => ⟨S1x128x384, .i1⟩
  | 57 => ⟨S_, .i32⟩
  | 58 => ⟨S64x384, .i32⟩
  | 59 => ⟨S64x384, .i1⟩
  | 60 => ⟨S_, .i32⟩
  | 61 => ⟨S64x384, .i32⟩
  | 62 => ⟨S64x384, .i1⟩
  | 63 => ⟨S64x384, .i1⟩
  | 64 => ⟨S64x1x384, .i1⟩
  | 65 => ⟨S64x128x384, .i1⟩
  | 66 => ⟨S64x128x384, .i1⟩
  | 67 => ⟨S64x128x384, .i1⟩
  | 68 => ⟨S2x64x2x384x128x4, .f32⟩
  | 69 => ⟨S2x64x2x4x128x384, .f32⟩
  | 70 => ⟨S1x64x1x1x128x384, .i1⟩
  | 71 => ⟨S_, .f32⟩
  | 72 => ⟨S_, .f32⟩
  | 73 => ⟨S2x64x2x4x128x384, .i1⟩
  | 74 => ⟨S2x64x2x4x128x384, .f32⟩
  | 75 => ⟨S2x64x2x4x128x384, .f32⟩
  | 76 => ⟨S2x2x256x64x128x4, .f32⟩
  | 77 => ⟨S2x64x2x4x128x256, .f32⟩
  | 78 => ⟨S1x1x2x4x1x1, .f32⟩
  | 79 => ⟨S2x64x2x4x128x1, .f32⟩
  | 80 => ⟨S2x64x2x4x128x641, .f32⟩
  | 81 => ⟨S_, .f32⟩
  | 82 => ⟨S2x64x2x4x128, .f32⟩
  | 83 => ⟨S_, .f32⟩
  | 84 => ⟨S2x64x2x4x128, .f32⟩
  | 85 => ⟨S2x64x2x4x128, .f32⟩
  | 86 => ⟨S2x64x2x4x128x1, .f32⟩
  | 87 => ⟨S2x64x2x4x128x641, .f32⟩
  | 88 => ⟨S2x64x2x4x128x641, .f32⟩
  | 89 => ⟨S2x64x2x4x128x641, .f32⟩
  | 90 => ⟨S_, .f32⟩
  | 91 => ⟨S2x64x2x4x128, .f32⟩
  | 92 => ⟨S2x64x2x4x128x1, .f32⟩
  | 93 => ⟨S2x64x2x4x128x641, .f32⟩
  | 94 => ⟨S2x64x2x4x128x641, .f32⟩
  | 95 => ⟨S2x64x2x4x128x384, .f32⟩
  | 96 => ⟨S2x64x2x64x4x128, .f32⟩
  | 97 => ⟨S2x64x128x2x4x64, .f32⟩
  | 98 => ⟨S2x64x2x4x128x256, .f32⟩
  | 99 => ⟨S2x2x64x64x4x128, .f32⟩
  | 100 => ⟨S2x64x128x2x4x64, .f32⟩
  | 101 => ⟨S2x64x128x2x4x64, .f32⟩
  | 102 => ⟨S2x256x2x4x64, .f32⟩
  | 103 => ⟨S2x2x256x256x4, .f32⟩
  | 104 => ⟨S2x2x4x256x256, .f32⟩
  | 105 => ⟨S1x2x4x1x1, .f32⟩
  | 106 => ⟨S2x2x4x256x1, .f32⟩
  | 107 => ⟨S2x2x4x256x257, .f32⟩
  | 108 => ⟨S_, .f32⟩
  | 109 => ⟨S2x2x4x256, .f32⟩
  | 110 => ⟨S_, .f32⟩
  | 111 => ⟨S2x2x4x256, .f32⟩
  | 112 => ⟨S2x2x4x256, .f32⟩
  | 113 => ⟨S2x2x4x256x1, .f32⟩
  | 114 => ⟨S2x2x4x256x257, .f32⟩
  | 115 => ⟨S2x2x4x256x257, .f32⟩
  | 116 => ⟨S2x2x4x256x257, .f32⟩
  | 117 => ⟨S_, .f32⟩
  | 118 => ⟨S2x2x4x256, .f32⟩
  | 119 => ⟨S2x2x4x256x1, .f32⟩
  | 120 => ⟨S2x2x4x256x257, .f32⟩
  | 121 => ⟨S2x2x4x256x257, .f32⟩
  | 122 => ⟨S2x2x4x256x256, .f32⟩
  | 123 => ⟨S2x2x64x4x256, .f32⟩
  | 124 => ⟨S2x256x2x4x64, .f32⟩
  | 125 => ⟨S16384x2x4x64, .f32⟩
  | 126 => ⟨S16384x4x2x64, .f32⟩
  | 127 => ⟨S16384x512, .f32⟩
  | _ => ⟨S2x8192x512, .f32⟩

abbrev hbmTy0_1 (i : Nat) : BufTy := match i % 128 with
  | 0 => ⟨S512x2x4x64, .f32⟩
  | 1 => ⟨S512x4x2x64, .f32⟩
  | 2 => ⟨S512x512, .f32⟩
  | 3 => ⟨S16896x512, .f32⟩
  | 4 => ⟨S16896x512, .bf16⟩
  | _ => ⟨S2x8192x512, .f32⟩

abbrev hbmTy (i : Nat) : BufTy := match i / 128 with
  | 0 => hbmTy0_0 i
  | 1 => hbmTy0_1 i
  | _ => ⟨S2x8192x512, .f32⟩

abbrev bufTy : (tb : Table) → Fin (tcTables nBuf tb) → BufTy
  | .hbm, ⟨i, _⟩ => hbmTy i
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_0 : Ref sig .tc := ⟨.hbm, 22, rfl⟩
abbrev main_call1_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_2 : Ref sig .tc := ⟨.hbm, 42, rfl⟩
abbrev main_v30 : Ref sig .tc := ⟨.hbm, 43, rfl⟩
abbrev main_v31 : Ref sig .tc := ⟨.hbm, 44, rfl⟩
abbrev main_c_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_4 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_5 : Ref sig .tc := ⟨.hbm, 57, rfl⟩
abbrev main_v42 : Ref sig .tc := ⟨.hbm, 58, rfl⟩
abbrev main_v43 : Ref sig .tc := ⟨.hbm, 59, rfl⟩
abbrev main_c_6 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_7 : Ref sig .tc := ⟨.hbm, 81, rfl⟩
abbrev main_v60 : Ref sig .tc := ⟨.hbm, 82, rfl⟩
abbrev main_cst_8 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_9 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_10 : Ref sig .tc := ⟨.hbm, 108, rfl⟩
abbrev main_v84 : Ref sig .tc := ⟨.hbm, 109, rfl⟩
abbrev main_cst_11 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_12 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x256x1024 : Shape := ⟨3, ![2, 256, 1024]⟩
abbrev S2x6144 : Shape := ⟨2, ![2, 6144]⟩
abbrev S6144 : Shape := ⟨1, ![6144]⟩
abbrev S1024x2304 : Shape := ⟨2, ![1024, 2304]⟩
abbrev S512 : Shape := ⟨1, ![512]⟩
abbrev S256 : Shape := ⟨1, ![256]⟩
abbrev S128 : Shape := ⟨1, ![128]⟩
abbrev S16384x1024 : Shape := ⟨2, ![16384, 1024]⟩
abbrev S512x1024 : Shape := ⟨2, ![512, 1024]⟩
abbrev S16896x1024 : Shape := ⟨2, ![16896, 1024]⟩
abbrev S1x6144 : Shape := ⟨2, ![1, 6144]⟩
abbrev S_ : Shape := ⟨0, ![]⟩
abbrev S5x6144 : Shape := ⟨2, ![5, 6144]⟩
abbrev S8x6144 : Shape := ⟨2, ![8, 6144]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S1x8192x1x64 : Shape := ⟨4, ![1, 8192, 1, 64]⟩
abbrev S1x8192x4x64 : Shape := ⟨4, ![1, 8192, 4, 64]⟩
abbrev S8192x256 : Shape := ⟨2, ![8192, 256]⟩
abbrev S512x256 : Shape := ⟨2, ![512, 256]⟩
abbrev S8704x256 : Shape := ⟨2, ![8704, 256]⟩
abbrev S1024x512 : Shape := ⟨2, ![1024, 512]⟩
abbrev S1024x1536 : Shape := ⟨2, ![1024, 1536]⟩
abbrev S512x1 : Shape := ⟨2, ![512, 1]⟩
abbrev S1024x256 : Shape := ⟨2, ![1024, 256]⟩
abbrev S256x1 : Shape := ⟨2, ![256, 1]⟩
abbrev S1x256 : Shape := ⟨2, ![1, 256]⟩
abbrev S1x512 : Shape := ⟨2, ![1, 512]⟩
abbrev S1024x128 : Shape := ⟨2, ![1024, 128]⟩
abbrev S128x1 : Shape := ⟨2, ![128, 1]⟩
abbrev S1x128 : Shape := ⟨2, ![1, 128]⟩
abbrev S1024x1152 : Shape := ⟨2, ![1024, 1152]⟩
abbrev S1024x3456 : Shape := ⟨2, ![1024, 3456]⟩
abbrev S16896x256 : Shape := ⟨2, ![16896, 256]⟩
abbrev S16896x512 : Shape := ⟨2, ![16896, 512]⟩
abbrev S16896x128 : Shape := ⟨2, ![16896, 128]⟩
abbrev S512x512 : Shape := ⟨2, ![512, 512]⟩
abbrev S512x128 : Shape := ⟨2, ![512, 128]⟩
abbrev S1x1024 : Shape := ⟨2, ![1, 1024]⟩

abbrev nBuf : Space → Nat
  | .hbm => 139
  | .vmem => 26
  | .smem => 0
  | _ => 0

abbrev hbmTy0_0 (i : Nat) : BufTy := match i % 128 with
  | 0 => ⟨S2x8192x1024, .f32⟩
  | 1 => ⟨S2x256x1024, .f32⟩
  | 2 => ⟨S2x6144, .f32⟩
  | 3 => ⟨S6144, .f32⟩
  | 4 => ⟨S1024x2304, .f32⟩
  | 5 => ⟨S512, .i32⟩
  | 6 => ⟨S512, .i1⟩
  | 7 => ⟨S256, .i32⟩
  | 8 => ⟨S256, .i1⟩
  | 9 => ⟨S256, .f32⟩
  | 10 => ⟨S256, .i32⟩
  | 11 => ⟨S256, .i1⟩
  | 12 => ⟨S256, .f32⟩
  | 13 => ⟨S512, .i32⟩
  | 14 => ⟨S512, .i1⟩
  | 15 => ⟨S512, .f32⟩
  | 16 => ⟨S512, .i1⟩
  | 17 => ⟨S128, .i32⟩
  | 18 => ⟨S128, .i1⟩
  | 19 => ⟨S128, .f32⟩
  | 20 => ⟨S16384x1024, .f32⟩
  | 21 => ⟨S512x1024, .f32⟩
  | 22 => ⟨S16896x1024, .f32⟩
  | 23 => ⟨S1x6144, .f32⟩
  | 24 => ⟨S_, .f32⟩
  | 25 => ⟨S5x6144, .f32⟩
  | 26 => ⟨S8x6144, .f32⟩
  | 27 => ⟨S128, .i32⟩
  | 28 => ⟨S128x64, .i32⟩
  | 29 => ⟨S8192, .i32⟩
  | 30 => ⟨S8192, .f32⟩
  | 31 => ⟨S64, .i32⟩
  | 32 => ⟨S1x64, .i32⟩
  | 33 => ⟨S128x64, .i32⟩
  | 34 => ⟨S8192, .i32⟩
  | 35 => ⟨S8192, .f32⟩
  | 36 => ⟨S16, .f32⟩
  | 37 => ⟨S16, .f32⟩
  | 38 => ⟨S_, .f32⟩
  | 39 => ⟨S16, .f32⟩
  | 40 => ⟨S16, .f32⟩
  | 41 => ⟨S_, .f32⟩
  | 42 => ⟨S16, .f32⟩
  | 43 => ⟨S16, .f32⟩
  | 44 => ⟨S8192x1, .f32⟩
  | 45 => ⟨S1x16, .f32⟩
  | 46 => ⟨S8192x16, .f32⟩
  | 47 => ⟨S8192x16, .f32⟩
  | 48 => ⟨S8192x16, .f32⟩
  | 49 => ⟨S8192x1, .f32⟩
  | 50 => ⟨S1x16, .f32⟩
  | 51 => ⟨S8192x16, .f32⟩
  | 52 => ⟨S8192x16, .f32⟩
  | 53 => ⟨S8192x16, .f32⟩
  | 54 => ⟨S8192x16, .f32⟩
  | 55 => ⟨S8192x16, .f32⟩
  | 56 => ⟨S8192x64, .f32⟩
  | 57 => ⟨S8192x16, .f32⟩
  | 58 => ⟨S8192x16, .f32⟩
  | 59 => ⟨S8192x64, .f32⟩
  | 60 => ⟨S1x8192x1x64, .f32⟩
  | 61 => ⟨S1x8192x4x64, .f32⟩
  | 62 => ⟨S8192x256, .f32⟩
  | 63 => ⟨S_, .f32⟩
  | 64 => ⟨S512x256, .f32⟩
  | 65 => ⟨S8704x256, .f32⟩
  | 66 => ⟨S1x8192x1x64, .f32⟩
  | 67 => ⟨S1x8192x4x64, .f32⟩
  | 68 => ⟨S8192x256, .f32⟩
  | 69 => ⟨S_, .f32⟩
  | 70 => ⟨S512x256, .f32⟩
  | 71 => ⟨S8704x256, .f32⟩
  | 72 => ⟨S1024x512, .f32⟩
  | 73 => ⟨S1024x1536, .f32⟩
  | 74 => ⟨S_, .i32⟩
  | 75 => ⟨S512, .i32⟩
  | 76 => ⟨S512, .i32⟩
  | 77 => ⟨S512, .i32⟩
  | 78 => ⟨S512x1, .i32⟩
  | 79 => ⟨S1024x512, .f32⟩
  | 80 => ⟨S1024x256, .f32⟩
  | 81 => ⟨S1024x2304, .f32⟩
  | 82 => ⟨S1024x256, .f32⟩
  | 83 => ⟨S_, .i32⟩
  | 84 => ⟨S256, .i32⟩
  | 85 => ⟨S256, .i32⟩
  | 86 => ⟨S256, .i32⟩
  | 87 => ⟨S256x1, .i32⟩
  | 88 => ⟨S1024x256, .f32⟩
  | 89 => ⟨S1x256, .f32⟩
  | 90 => ⟨S1024x256, .f32⟩
  | 91 => ⟨S1024x256, .f32⟩
  | 92 => ⟨S1024x256, .f32⟩
  | 93 => ⟨S_, .i32⟩
  | 94 => ⟨S256, .i32⟩
  | 95 => ⟨S256, .i32⟩
  | 96 => ⟨S256, .i32⟩
  | 97 => ⟨S256x1, .i32⟩
  | 98 => ⟨S1024x256, .f32⟩
  | 99 => ⟨S1x256, .f32⟩
  | 100 => ⟨S1024x256, .f32⟩
  | 101 => ⟨S1024x256, .f32⟩
  | 102 => ⟨S_, .i32⟩
  | 103 => ⟨S512, .i32⟩
  | 104 => ⟨S512, .i32⟩
  | 105 => ⟨S512, .i32⟩
  | 106 => ⟨S512x1, .i32⟩
  | 107 => ⟨S1024x512, .f32⟩
  | 108 => ⟨S1x512, .f32⟩
  | 109 => ⟨S1024x512, .f32⟩
  | 110 => ⟨S1024x512, .f32⟩
  | 111 => ⟨S_, .i32⟩
  | 112 => ⟨S512, .i32⟩
  | 113 => ⟨S512, .i32⟩
  | 114 => ⟨S512, .i32⟩
  | 115 => ⟨S512x1, .i32⟩
  | 116 => ⟨S1024x512, .f32⟩
  | 117 => ⟨S1024x128, .f32⟩
  | 118 => ⟨S_, .i32⟩
  | 119 => ⟨S128, .i32⟩
  | 120 => ⟨S128, .i32⟩
  | 121 => ⟨S128, .i32⟩
  | 122 => ⟨S128x1, .i32⟩
  | 123 => ⟨S1024x128, .f32⟩
  | 124 => ⟨S1x128, .f32⟩
  | 125 => ⟨S1024x128, .f32⟩
  | 126 => ⟨S1024x128, .f32⟩
  | 127 => ⟨S1024x1152, .f32⟩
  | _ => ⟨S2x8192x1024, .f32⟩

abbrev hbmTy0_1 (i : Nat) : BufTy := match i % 128 with
  | 0 => ⟨S1024x3456, .f32⟩
  | 1 => ⟨S1024x3456, .bf16⟩
  | 2 => ⟨S16896x256, .bf16⟩
  | 3 => ⟨S16896x256, .bf16⟩
  | 4 => ⟨S16896x256, .bf16⟩
  | 5 => ⟨S16896x256, .f32⟩
  | 6 => ⟨S16896x256, .f32⟩
  | 7 => ⟨S16896x256, .f32⟩
  | 8 => ⟨S16896x512, .bf16⟩
  | 9 => ⟨S16896x128, .bf16⟩
  | 10 => ⟨S16896x128, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S8x6144, .f32⟩
  | .local _ .vmem, ⟨3, _⟩ => ⟨S1024x3456, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x512, .bf16⟩
  | .local _ .vmem, ⟨21, _⟩ => ⟨S512x512, .bf16⟩
  | .local _ .vmem, ⟨22, _⟩ => ⟨S512x128, .bf16⟩
  | .local _ .vmem, ⟨23, _⟩ => ⟨S512x128, .bf16⟩
  | .local _ .vmem, ⟨24, _⟩ => ⟨S512x128, .bf16⟩
  | .local _ .vmem, ⟨25, _⟩ => ⟨S512x128, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_cst : Ref sig .tc := ⟨.hbm, 9, rfl⟩
abbrev main_c_3 : Ref sig .tc := ⟨.hbm, 10, rfl⟩
abbrev main_c_4 : Ref sig .tc := ⟨.hbm, 11, rfl⟩
abbrev main_cst_5 : Ref sig .tc := ⟨.hbm, 12, rfl⟩
abbrev main_c_6 : Ref sig .tc := ⟨.hbm, 13, rfl⟩
abbrev main_c_7 : Ref sig .tc := ⟨.hbm, 14, rfl⟩
abbrev main_cst_8 : Ref sig .tc := ⟨.hbm, 15, rfl⟩
abbrev main_c_9 : Ref sig .tc := ⟨.hbm, 16, rfl⟩
abbrev main_c_10 : Ref sig .tc := ⟨.hbm, 17, rfl⟩
abbrev main_c_11 : Ref sig .tc := ⟨.hbm, 18, rfl⟩
abbrev main_cst_12 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst_13 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_14 : Ref sig .tc := ⟨.hbm, 38, rfl⟩
abbrev main_v17 : Ref sig .tc := ⟨.hbm, 39, rfl⟩
abbrev main_v18 : Ref sig .tc := ⟨.hbm, 40, rfl⟩
abbrev main_cst_15 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_16 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_17 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_18 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_19 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_20 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_c_21 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_c_22 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_c_23 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99_0 : Ref sig .tc := ⟨.hbm, 130, rfl⟩
abbrev main_v99_1 : Ref sig .tc := ⟨.hbm, 131, rfl⟩
abbrev main_v99_2 : Ref sig .tc := ⟨.hbm, 132, rfl⟩
abbrev main_v99_3 : Ref sig .tc := ⟨.hbm, 133, rfl⟩
abbrev main_v99_4 : Ref sig .tc := ⟨.hbm, 134, rfl⟩
abbrev main_v99_5 : Ref sig .tc := ⟨.hbm, 135, rfl⟩
abbrev main_v99_6 : Ref sig .tc := ⟨.hbm, 136, rfl⟩
abbrev main_v99_7 : Ref sig .tc := ⟨.hbm, 137, rfl⟩
abbrev main_v99_8 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![33], ![false]⟩

def k0_off1 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let v0 : BitVec 32 := Scalar.divsi arg0 c16_i32
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let v18 : Index := Scalar.indexCast v17
  let c0 : Index := 0#32
  ![v18.toNat, 0]
def k0_off2 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let v0 : BitVec 32 := Scalar.divsi arg0 c16_i32
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let v21 : Index := Scalar.indexCast v17
  let c1024 : Index := 1024#32
  ![v21.toNat, 1024]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c32_i32 : BitVec 32 := 32#32
  let v0 : BitVec 1 := Scalar.cmpi .slt arg0 c32_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c32_i32_3 : BitVec 32 := 32#32
  let v11 : BitVec 32 := Scalar.subi arg0 c32_i32_3
  let c16_i32_4 : BitVec 32 := 16#32
  let v12 : BitVec 32 := Scalar.addi c16_i32_4 v11
  let v13 : BitVec 32 := Scalar.select v0 v10 v12
  let c0_i32_5 : BitVec 32 := 0#32
  let c0_i32_6 : BitVec 32 := 0#32
  ![v13.toNat, c0_i32_5.toNat]

def cc0_transform_4 (i : grid0.Coords) : Fin 2 → Nat :=
  let arg0 : BitVec 32 := BitVec.ofNat 32 (i 0).val
  let c32_i32 : BitVec 32 := 32#32
  let v0 : BitVec 1 := Scalar.cmpi .slt arg0 c32_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c32_i32_3 : BitVec 32 := 32#32
  let v11 : BitVec 32 := Scalar.subi arg0 c32_i32_3
  let c16_i32_4 : BitVec 32 := 16#32
  let v12 : BitVec 32 := Scalar.addi c16_i32_4 v11
  let v13 : BitVec 32 := Scalar.select v0 v10 v12
  let c0_i32_5 : BitVec 32 := 0#32
  let c0_i32_6 : BitVec 32 := 0#32
  ![v13.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S2x8192x1024 : Shape := ⟨3, ![2, 8192, 1024]⟩
abbrev S2x256x1024 : Shape := ⟨3, ![2, 256, 1024]⟩
abbrev S2x6144 : Shape := ⟨2, ![2, 6144]⟩
abbrev S6144 : Shape := ⟨1, ![6144]⟩
abbrev S1024x2304 : Shape := ⟨2, ![1024, 2304]⟩
abbrev S2x1x6144 : Shape := ⟨3, ![2, 1, 6144]⟩
abbrev S2x1x1024 : Shape := ⟨3, ![2, 1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S16384x1024 : Shape := ⟨2, ![16384, 1024]⟩
abbrev S2x256 : Shape := ⟨2, ![2, 256]⟩
abbrev S2x256x1 : Shape := ⟨3, ![2, 256, 1]⟩
abbrev S1x1x1024 : Shape := ⟨3, ![1, 1, 1024]⟩
abbrev S512x1024 : Shape := ⟨2, ![512, 1024]⟩
abbrev S16896x1024 : Shape := ⟨2, ![16896, 1024]⟩
abbrev S16896x2304 : Shape := ⟨2, ![16896, 2304]⟩
abbrev S16896x256 : Shape := ⟨2, ![16896, 256]⟩
abbrev S16896x512 : Shape := ⟨2, ![16896, 512]⟩
abbrev S16896x128 : Shape := ⟨2, ![16896, 128]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S16384x256 : Shape := ⟨2, ![16384, 256]⟩
abbrev S2x8192x4x64 : Shape := ⟨4, ![2, 8192, 4, 64]⟩
abbrev S8192x1x16 : Shape := ⟨3, ![8192, 1, 16]⟩
abbrev S2x8192x4x32 : Shape := ⟨4, ![2, 8192, 4, 32]⟩
abbrev S2x8192x4x16 : Shape := ⟨4, ![2, 8192, 4, 16]⟩
abbrev S1x8192x1x16 : Shape := ⟨4, ![1, 8192, 1, 16]⟩
abbrev S512x256 : Shape := ⟨2, ![512, 256]⟩
abbrev S16384x512 : Shape := ⟨2, ![16384, 512]⟩
abbrev S2x8192x8x64 : Shape := ⟨4, ![2, 8192, 8, 64]⟩
abbrev S2x8192x8x32 : Shape := ⟨4, ![2, 8192, 8, 32]⟩
abbrev S2x8192x8x16 : Shape := ⟨4, ![2, 8192, 8, 16]⟩
abbrev S512x512 : Shape := ⟨2, ![512, 512]⟩
abbrev S16896x2x4x64 : Shape := ⟨4, ![16896, 2, 4, 64]⟩
abbrev S16896x4x2x64 : Shape := ⟨4, ![16896, 4, 2, 64]⟩
abbrev S16384x128 : Shape := ⟨2, ![16384, 128]⟩
abbrev S2x8192x2x64 : Shape := ⟨4, ![2, 8192, 2, 64]⟩
abbrev S2x8192x2x32 : Shape := ⟨4, ![2, 8192, 2, 32]⟩
abbrev S2x8192x2x16 : Shape := ⟨4, ![2, 8192, 2, 16]⟩
abbrev S512x128 : Shape := ⟨2, ![512, 128]⟩

abbrev nBuf : Space → Nat
  | .hbm => 323
  | .vmem => 0
  | .smem => 0
  | _ => 0

abbrev hbmTy0_0 (i : Nat) : BufTy := match i % 128 with
  | 0 => ⟨S2x8192x1024, .f32⟩
  | 1 => ⟨S2x256x1024, .f32⟩
  | 2 => ⟨S2x6144, .f32⟩
  | 3 => ⟨S6144, .f32⟩
  | 4 => ⟨S1024x2304, .f32⟩
  | 5 => ⟨S2x1x6144, .f32⟩
  | 6 => ⟨S2x1x1024, .f32⟩
  | 7 => ⟨S2x1x1024, .f32⟩
  | 8 => ⟨S2x1x1024, .f32⟩
  | 9 => ⟨S2x1x1024, .f32⟩
  | 10 => ⟨S2x1x1024, .f32⟩
  | 11 => ⟨S2x1x1024, .f32⟩
  | 12 => ⟨S1024, .f32⟩
  | 13 => ⟨S1024, .f32⟩
  | 14 => ⟨S1024, .f32⟩
  | 15 => ⟨S1024, .f32⟩
  | 16 => ⟨S1024, .f32⟩
  | 17 => ⟨S1024, .f32⟩
  | 18 => ⟨S_, .f32⟩
  | 19 => ⟨S2x8192, .f32⟩
  | 20 => ⟨S2x8192x1, .f32⟩
  | 21 => ⟨S_, .f32⟩
  | 22 => ⟨S2x8192x1, .f32⟩
  | 23 => ⟨S2x8192x1, .f32⟩
  | 24 => ⟨S2x8192x1024, .f32⟩
  | 25 => ⟨S2x8192x1024, .f32⟩
  | 26 => ⟨S2x8192x1024, .f32⟩
  | 27 => ⟨S_, .f32⟩
  | 28 => ⟨S2x8192, .f32⟩
  | 29 => ⟨S2x8192x1, .f32⟩
  | 30 => ⟨S_, .f32⟩
  | 31 => ⟨S2x8192x1, .f32⟩
  | 32 => ⟨S2x8192x1, .f32⟩
  | 33 => ⟨S2x8192x1024, .f32⟩
  | 34 => ⟨S2x8192x1024, .f32⟩
  | 35 => ⟨S_, .f32⟩
  | 36 => ⟨S2x8192x1, .f32⟩
  | 37 => ⟨S2x8192x1, .f32⟩
  | 38 => ⟨S2x8192x1, .f32⟩
  | 39 => ⟨S2x8192x1024, .f32⟩
  | 40 => ⟨S2x8192x1024, .f32⟩
  | 41 => ⟨S_, .f32⟩
  | 42 => ⟨S2x1x1024, .f32⟩
  | 43 => ⟨S2x1x1024, .f32⟩
  | 44 => ⟨S2x8192x1024, .f32⟩
  | 45 => ⟨S2x8192x1024, .f32⟩
  | 46 => ⟨S2x8192x1024, .f32⟩
  | 47 => ⟨S2x8192x1024, .f32⟩
  | 48 => ⟨S16384x1024, .f32⟩
  | 49 => ⟨S_, .f32⟩
  | 50 => ⟨S2x256, .f32⟩
  | 51 => ⟨S2x256x1, .f32⟩
  | 52 => ⟨S_, .f32⟩
  | 53 => ⟨S2x256x1, .f32⟩
  | 54 => ⟨S2x256x1, .f32⟩
  | 55 => ⟨S2x256x1024, .f32⟩
  | 56 => ⟨S2x256x1024, .f32⟩
  | 57 => ⟨S2x256x1024, .f32⟩
  | 58 => ⟨S_, .f32⟩
  | 59 => ⟨S2x256, .f32⟩
  | 60 => ⟨S2x256x1, .f32⟩
  | 61 => ⟨S_, .f32⟩
  | 62 => ⟨S2x256x1, .f32⟩
  | 63 => ⟨S2x256x1, .f32⟩
  | 64 => ⟨S2x256x1024, .f32⟩
  | 65 => ⟨S2x256x1024, .f32⟩
  | 66 => ⟨S_, .f32⟩
  | 67 => ⟨S2x256x1, .f32⟩
  | 68 => ⟨S2x256x1, .f32⟩
  | 69 => ⟨S2x256x1, .f32⟩
  | 70 => ⟨S2x256x1024, .f32⟩
  | 71 => ⟨S2x256x1024, .f32⟩
  | 72 => ⟨S_, .f32⟩
  | 73 => ⟨S1024, .f32⟩
  | 74 => ⟨S1024, .f32⟩
  | 75 => ⟨S1x1x1024, .f32⟩
  | 76 => ⟨S2x256x1024, .f32⟩
  | 77 => ⟨S2x256x1024, .f32⟩
  | 78 => ⟨S1x1x1024, .f32⟩
  | 79 => ⟨S2x256x1024, .f32⟩
  | 80 => ⟨S2x256x1024, .f32⟩
  | 81 => ⟨S512x1024, .f32⟩
  | 82 => ⟨S16896x1024, .f32⟩
  | 83 => ⟨S16896x2304, .f32⟩
  | 84 => ⟨S16896x256, .f32⟩
  | 85 => ⟨S16896x256, .f32⟩
  | 86 => ⟨S16896x256, .f32⟩
  | 87 => ⟨S16896x256, .f32⟩
  | 88 => ⟨S16896x256, .f32⟩
  | 89 => ⟨S16896x256, .f32⟩
  | 90 => ⟨S16896x512, .f32⟩
  | 91 => ⟨S16896x128, .f32⟩
  | 92 => ⟨S16896x128, .f32⟩
  | 93 => ⟨S128, .i32⟩
  | 94 => ⟨S128x64, .i32⟩
  | 95 => ⟨S8192, .i32⟩
  | 96 => ⟨S8192, .f32⟩
  | 97 => ⟨S64, .i32⟩
  | 98 => ⟨S1x64, .i32⟩
  | 99 => ⟨S128x64, .i32⟩
  | 100 => ⟨S8192, .i32⟩
  | 101 => ⟨S8192, .f32⟩
  | 102 => ⟨S16, .f32⟩
  | 103 => ⟨S16, .f32⟩
  | 104 => ⟨S_, .f32⟩
  | 105 => ⟨S16, .f32⟩
  | 106 => ⟨S16, .f32⟩
  | 107 => ⟨S_, .f32⟩
  | 108 => ⟨S16, .f32⟩
  | 109 => ⟨S16, .f32⟩
  | 110 => ⟨S8192x1, .f32⟩
  | 111 => ⟨S1x16, .f32⟩
  | 112 => ⟨S8192x16, .f32⟩
  | 113 => ⟨S8192x16, .f32⟩
  | 114 => ⟨S8192x16, .f32⟩
  | 115 => ⟨S8192x1, .f32⟩
  | 116 => ⟨S1x16, .f32⟩
  | 117 => ⟨S8192x16, .f32⟩
  | 118 => ⟨S8192x16, .f32⟩
  | 119 => ⟨S8192x16, .f32⟩
  | 120 => ⟨S8192x16, .f32⟩
  | 121 => ⟨S8192x16, .f32⟩
  | 122 => ⟨S8192x16, .f32⟩
  | 123 => ⟨S8192x16, .f32⟩
  | 124 => ⟨S16384x256, .f32⟩
  | 125 => ⟨S2x8192x4x64, .f32⟩
  | 126 => ⟨S8192x1x16, .f32⟩
  | 127 => ⟨S8192x1x16, .f32⟩
  | _ => ⟨S2x8192x1024, .f32⟩

abbrev hbmTy0_1 (i : Nat) : BufTy := match i % 128 with
  | 0 => ⟨S8192x1x16, .f32⟩
  | 1 => ⟨S8192x1x16, .f32⟩
  | 2 => ⟨S2x8192x4x32, .f32⟩
  | 3 => ⟨S2x8192x4x16, .f32⟩
  | 4 => ⟨S2x8192x4x16, .f32⟩
  | 5 => ⟨S1x8192x1x16, .f32⟩
  | 6 => ⟨S2x8192x4x16, .f32⟩
  | 7 => ⟨S2x8192x4x16, .f32⟩
  | 8 => ⟨S1x8192x1x16, .f32⟩
  | 9 => ⟨S2x8192x4x16, .f32⟩
  | 10 => ⟨S2x8192x4x16, .f32⟩
  | 11 => ⟨S2x8192x4x16, .f32⟩
  | 12 => ⟨S1x8192x1x16, .f32⟩
  | 13 => ⟨S2x8192x4x16, .f32⟩
  | 14 => ⟨S2x8192x4x16, .f32⟩
  | 15 => ⟨S1x8192x1x16, .f32⟩
  | 16 => ⟨S2x8192x4x16, .f32⟩
  | 17 => ⟨S2x8192x4x16, .f32⟩
  | 18 => ⟨S2x8192x4x16, .f32⟩
  | 19 => ⟨S2x8192x4x32, .f32⟩
  | 20 => ⟨S2x8192x4x32, .f32⟩
  | 21 => ⟨S2x8192x4x16, .f32⟩
  | 22 => ⟨S2x8192x4x16, .f32⟩
  | 23 => ⟨S1x8192x1x16, .f32⟩
  | 24 => ⟨S2x8192x4x16, .f32⟩
  | 25 => ⟨S2x8192x4x16, .f32⟩
  | 26 => ⟨S1x8192x1x16, .f32⟩
  | 27 => ⟨S2x8192x4x16, .f32⟩
  | 28 => ⟨S2x8192x4x16, .f32⟩
  | 29 => ⟨S2x8192x4x16, .f32⟩
  | 30 => ⟨S1x8192x1x16, .f32⟩
  | 31 => ⟨S2x8192x4x16, .f32⟩
  | 32 => ⟨S2x8192x4x16, .f32⟩
  | 33 => ⟨S1x8192x1x16, .f32⟩
  | 34 => ⟨S2x8192x4x16, .f32⟩
  | 35 => ⟨S2x8192x4x16, .f32⟩
  | 36 => ⟨S2x8192x4x16, .f32⟩
  | 37 => ⟨S2x8192x4x32, .f32⟩
  | 38 => ⟨S2x8192x4x64, .f32⟩
  | 39 => ⟨S16384x256, .f32⟩
  | 40 => ⟨S512x256, .f32⟩
  | 41 => ⟨S16896x256, .f32⟩
  | 42 => ⟨S16896x256, .bf16⟩
  | 43 => ⟨S16384x256, .f32⟩
  | 44 => ⟨S2x8192x4x64, .f32⟩
  | 45 => ⟨S8192x1x16, .f32⟩
  | 46 => ⟨S8192x1x16, .f32⟩
  | 47 => ⟨S8192x1x16, .f32⟩
  | 48 => ⟨S8192x1x16, .f32⟩
  | 49 => ⟨S2x8192x4x32, .f32⟩
  | 50 => ⟨S2x8192x4x16, .f32⟩
  | 51 => ⟨S2x8192x4x16, .f32⟩
  | 52 => ⟨S1x8192x1x16, .f32⟩
  | 53 => ⟨S2x8192x4x16, .f32⟩
  | 54 => ⟨S2x8192x4x16, .f32⟩
  | 55 => ⟨S1x8192x1x16, .f32⟩
  | 56 => ⟨S2x8192x4x16, .f32⟩
  | 57 => ⟨S2x8192x4x16, .f32⟩
  | 58 => ⟨S2x8192x4x16, .f32⟩
  | 59 => ⟨S1x8192x1x16, .f32⟩
  | 60 => ⟨S2x8192x4x16, .f32⟩
  | 61 => ⟨S2x8192x4x16, .f32⟩
  | 62 => ⟨S1x8192x1x16, .f32⟩
  | 63 => ⟨S2x8192x4x16, .f32⟩
  | 64 => ⟨S2x8192x4x16, .f32⟩
  | 65 => ⟨S2x8192x4x16, .f32⟩
  | 66 => ⟨S2x8192x4x32, .f32⟩
  | 67 => ⟨S2x8192x4x32, .f32⟩
  | 68 => ⟨S2x8192x4x16, .f32⟩
  | 69 => ⟨S2x8192x4x16, .f32⟩
  | 70 => ⟨S1x8192x1x16, .f32⟩
  | 71 => ⟨S2x8192x4x16, .f32⟩
  | 72 => ⟨S2x8192x4x16, .f32⟩
  | 73 => ⟨S1x8192x1x16, .f32⟩
  | 74 => ⟨S2x8192x4x16, .f32⟩
  | 75 => ⟨S2x8192x4x16, .f32⟩
  | 76 => ⟨S2x8192x4x16, .f32⟩
  | 77 => ⟨S1x8192x1x16, .f32⟩
  | 78 => ⟨S2x8192x4x16, .f32⟩
  | 79 => ⟨S2x8192x4x16, .f32⟩
  | 80 => ⟨S1x8192x1x16, .f32⟩
  | 81 => ⟨S2x8192x4x16, .f32⟩
  | 82 => ⟨S2x8192x4x16, .f32⟩
  | 83 => ⟨S2x8192x4x16, .f32⟩
  | 84 => ⟨S2x8192x4x32, .f32⟩
  | 85 => ⟨S2x8192x4x64, .f32⟩
  | 86 => ⟨S16384x256, .f32⟩
  | 87 => ⟨S512x256, .f32⟩
  | 88 => ⟨S16896x256, .f32⟩
  | 89 => ⟨S_, .f32⟩
  | 90 => ⟨S16896x256, .f32⟩
  | 91 => ⟨S16896x256, .f32⟩
  | 92 => ⟨S16896x256, .bf16⟩
  | 93 => ⟨S16896x256, .bf16⟩
  | 94 => ⟨S16384x512, .f32⟩
  | 95 => ⟨S2x8192x8x64, .f32⟩
  | 96 => ⟨S8192x1x16, .f32⟩
  | 97 => ⟨S8192x1x16, .f32⟩
  | 98 => ⟨S8192x1x16, .f32⟩
  | 99 => ⟨S8192x1x16, .f32⟩
  | 100 => ⟨S2x8192x8x32, .f32⟩
  | 101 => ⟨S2x8192x8x16, .f32⟩
  | 102 => ⟨S2x8192x8x16, .f32⟩
  | 103 => ⟨S1x8192x1x16, .f32⟩
  | 104 => ⟨S2x8192x8x16, .f32⟩
  | 105 => ⟨S2x8192x8x16, .f32⟩
  | 106 => ⟨S1x8192x1x16, .f32⟩
  | 107 => ⟨S2x8192x8x16, .f32⟩
  | 108 => ⟨S2x8192x8x16, .f32⟩
  | 109 => ⟨S2x8192x8x16, .f32⟩
  | 110 => ⟨S1x8192x1x16, .f32⟩
  | 111 => ⟨S2x8192x8x16, .f32⟩
  | 112 => ⟨S2x8192x8x16, .f32⟩
  | 113 => ⟨S1x8192x1x16, .f32⟩
  | 114 => ⟨S2x8192x8x16, .f32⟩
  | 115 => ⟨S2x8192x8x16, .f32⟩
  | 116 => ⟨S2x8192x8x16, .f32⟩
  | 117 => ⟨S2x8192x8x32, .f32⟩
  | 118 => ⟨S2x8192x8x32, .f32⟩
  | 119 => ⟨S2x8192x8x16, .f32⟩
  | 120 => ⟨S2x8192x8x16, .f32⟩
  | 121 => ⟨S1x8192x1x16, .f32⟩
  | 122 => ⟨S2x8192x8x16, .f32⟩
  | 123 => ⟨S2x8192x8x16, .f32⟩
  | 124 => ⟨S1x8192x1x16, .f32⟩
  | 125 => ⟨S2x8192x8x16, .f32⟩
  | 126 => ⟨S2x8192x8x16, .f32⟩
  | 127 => ⟨S2x8192x8x16, .f32⟩
  | _ => ⟨S2x8192x1024, .f32⟩

abbrev hbmTy0_2 (i : Nat) : BufTy := match i % 128 with
  | 0 => ⟨S1x8192x1x16, .f32⟩
  | 1 => ⟨S2x8192x8x16, .f32⟩
  | 2 => ⟨S2x8192x8x16, .f32⟩
  | 3 => ⟨S1x8192x1x16, .f32⟩
  | 4 => ⟨S2x8192x8x16, .f32⟩
  | 5 => ⟨S2x8192x8x16, .f32⟩
  | 6 => ⟨S2x8192x8x16, .f32⟩
  | 7 => ⟨S2x8192x8x32, .f32⟩
  | 8 => ⟨S2x8192x8x64, .f32⟩
  | 9 => ⟨S16384x512, .f32⟩
  | 10 => ⟨S512x512, .f32⟩
  | 11 => ⟨S16896x512, .f32⟩
  | 12 => ⟨S_, .f32⟩
  | 13 => ⟨S16896x512, .f32⟩
  | 14 => ⟨S16896x512, .f32⟩
  | 15 => ⟨S16896x2x4x64, .f32⟩
  | 16 => ⟨S16896x4x2x64, .f32⟩
  | 17 => ⟨S16896x512, .f32⟩
  | 18 => ⟨S16896x512, .bf16⟩
  | 19 => ⟨S16384x128, .f32⟩
  | 20 => ⟨S2x8192x2x64, .f32⟩
  | 21 => ⟨S8192x1x16, .f32⟩
  | 22 => ⟨S8192x1x16, .f32⟩
  | 23 => ⟨S8192x1x16, .f32⟩
  | 24 => ⟨S8192x1x16, .f32⟩
  | 25 => ⟨S2x8192x2x32, .f32⟩
  | 26 => ⟨S2x8192x2x16, .f32⟩
  | 27 => ⟨S2x8192x2x16, .f32⟩
  | 28 => ⟨S1x8192x1x16, .f32⟩
  | 29 => ⟨S2x8192x2x16, .f32⟩
  | 30 => ⟨S2x8192x2x16, .f32⟩
  | 31 => ⟨S1x8192x1x16, .f32⟩
  | 32 => ⟨S2x8192x2x16, .f32⟩
  | 33 => ⟨S2x8192x2x16, .f32⟩
  | 34 => ⟨S2x8192x2x16, .f32⟩
  | 35 => ⟨S1x8192x1x16, .f32⟩
  | 36 => ⟨S2x8192x2x16, .f32⟩
  | 37 => ⟨S2x8192x2x16, .f32⟩
  | 38 => ⟨S1x8192x1x16, .f32⟩
  | 39 => ⟨S2x8192x2x16, .f32⟩
  | 40 => ⟨S2x8192x2x16, .f32⟩
  | 41 => ⟨S2x8192x2x16, .f32⟩
  | 42 => ⟨S2x8192x2x32, .f32⟩
  | 43 => ⟨S2x8192x2x32, .f32⟩
  | 44 => ⟨S2x8192x2x16, .f32⟩
  | 45 => ⟨S2x8192x2x16, .f32⟩
  | 46 => ⟨S1x8192x1x16, .f32⟩
  | 47 => ⟨S2x8192x2x16, .f32⟩
  | 48 => ⟨S2x8192x2x16, .f32⟩
  | 49 => ⟨S1x8192x1x16, .f32⟩
  | 50 => ⟨S2x8192x2x16, .f32⟩
  | 51 => ⟨S2x8192x2x16, .f32⟩
  | 52 => ⟨S2x8192x2x16, .f32⟩
  | 53 => ⟨S1x8192x1x16, .f32⟩
  | 54 => ⟨S2x8192x2x16, .f32⟩
  | 55 => ⟨S2x8192x2x16, .f32⟩
  | 56 => ⟨S1x8192x1x16, .f32⟩
  | 57 => ⟨S2x8192x2x16, .f32⟩
  | 58 => ⟨S2x8192x2x16, .f32⟩
  | 59 => ⟨S2x8192x2x16, .f32⟩
  | 60 => ⟨S2x8192x2x32, .f32⟩
  | 61 => ⟨S2x8192x2x64, .f32⟩
  | 62 => ⟨S16384x128, .f32⟩
  | 63 => ⟨S512x128, .f32⟩
  | 64 => ⟨S16896x128, .f32⟩
  | 65 => ⟨S16896x128, .bf16⟩
  | 66 => ⟨S16896x128, .bf16⟩
  | _ => ⟨S2x8192x1024, .f32⟩

abbrev hbmTy (i : Nat) : BufTy := match i / 128 with
  | 0 => hbmTy0_0 i
  | 1 => hbmTy0_1 i
  | 2 => hbmTy0_2 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_cst_8 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_9 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_10 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_cst_11 : Ref sig .tc := ⟨.hbm, 104, rfl⟩
abbrev main_v87 : Ref sig .tc := ⟨.hbm, 105, rfl⟩
abbrev main_v88 : Ref sig .tc := ⟨.hbm, 106, rfl⟩
abbrev main_cst_12 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_v175 : Ref sig .tc := ⟨.hbm, 194, rfl⟩
abbrev main_v176 : Ref sig .tc := ⟨.hbm, 195, rfl⟩
abbrev main_v177 : Ref sig .tc := ⟨.hbm, 196, rfl⟩
abbrev main_v178 : Ref sig .tc := ⟨.hbm, 197, rfl⟩
abbrev main_v179 : Ref sig .tc := ⟨.hbm, 198, rfl⟩
abbrev main_v180 : Ref sig .tc := ⟨.hbm, 199, rfl⟩
abbrev main_v181 : Ref sig .tc := ⟨.hbm, 200, rfl⟩
abbrev main_v182 : Ref sig .tc := ⟨.hbm, 201, rfl⟩
abbrev main_v183 : Ref sig .tc := ⟨.hbm, 202, rfl⟩
abbrev main_v184 : Ref sig .tc := ⟨.hbm, 203, rfl⟩
abbrev main_v185 : Ref sig .tc := ⟨.hbm, 204, rfl⟩
abbrev main_v186 : Ref sig .tc := ⟨.hbm, 205, rfl⟩
abbrev main_v187 : Ref sig .tc := ⟨.hbm, 206, rfl⟩
abbrev main_v188 : Ref sig .tc := ⟨.hbm, 207, rfl⟩
abbrev main_v189 : Ref sig .tc := ⟨.hbm, 208, rfl⟩
abbrev main_v190 : Ref sig .tc := ⟨.hbm, 209, rfl⟩
abbrev main_v191 : Ref sig .tc := ⟨.hbm, 210, rfl⟩
abbrev main_v192 : Ref sig .tc := ⟨.hbm, 211, rfl⟩
abbrev main_v193 : Ref sig .tc := ⟨.hbm, 212, rfl⟩
abbrev main_v194 : Ref sig .tc := ⟨.hbm, 213, rfl⟩
abbrev main_v195 : Ref sig .tc := ⟨.hbm, 214, rfl⟩
abbrev main_v196 : Ref sig .tc := ⟨.hbm, 215, rfl⟩
abbrev main_v197 : Ref sig .tc := ⟨.hbm, 216, rfl⟩
abbrev main_cst_13 : Ref sig .tc := ⟨.hbm, 217, rfl⟩
abbrev main_v198 : Ref sig .tc := ⟨.hbm, 218, rfl⟩
abbrev main_v199 : Ref sig .tc := ⟨.hbm, 219, rfl⟩
abbrev main_v200 : Ref sig .tc := ⟨.hbm, 220, rfl⟩
abbrev main_v201 : Ref sig .tc := ⟨.hbm, 221, rfl⟩
abbrev main_v202 : Ref sig .tc := ⟨.hbm, 222, rfl⟩
abbrev main_v203 : Ref sig .tc := ⟨.hbm, 223, rfl⟩
abbrev main_v204 : Ref sig .tc := ⟨.hbm, 224, rfl⟩
abbrev main_v205 : Ref sig .tc := ⟨.hbm, 225, rfl⟩
abbrev main_v206 : Ref sig .tc := ⟨.hbm, 226, rfl⟩
abbrev main_v207 : Ref sig .tc := ⟨.hbm, 227, rfl⟩
abbrev main_v208 : Ref sig .tc := ⟨.hbm, 228, rfl⟩
abbrev main_v209 : Ref sig .tc := ⟨.hbm, 229, rfl⟩
abbrev main_v210 : Ref sig .tc := ⟨.hbm, 230, rfl⟩
abbrev main_v211 : Ref sig .tc := ⟨.hbm, 231, rfl⟩
abbrev main_v212 : Ref sig .tc := ⟨.hbm, 232, rfl⟩
abbrev main_v213 : Ref sig .tc := ⟨.hbm, 233, rfl⟩
abbrev main_v214 : Ref sig .tc := ⟨.hbm, 234, rfl⟩
abbrev main_v215 : Ref sig .tc := ⟨.hbm, 235, rfl⟩
abbrev main_v216 : Ref sig .tc := ⟨.hbm, 236, rfl⟩
abbrev main_v217 : Ref sig .tc := ⟨.hbm, 237, rfl⟩
abbrev main_v218 : Ref sig .tc := ⟨.hbm, 238, rfl⟩
abbrev main_v219 : Ref sig .tc := ⟨.hbm, 239, rfl⟩
abbrev main_v220 : Ref sig .tc := ⟨.hbm, 240, rfl⟩
abbrev main_v221 : Ref sig .tc := ⟨.hbm, 241, rfl⟩
abbrev main_v222 : Ref sig .tc := ⟨.hbm, 242, rfl⟩
abbrev main_v223 : Ref sig .tc := ⟨.hbm, 243, rfl⟩
abbrev main_v224 : Ref sig .tc := ⟨.hbm, 244, rfl⟩
abbrev main_v225 : Ref sig .tc := ⟨.hbm, 245, rfl⟩
abbrev main_v226 : Ref sig .tc := ⟨.hbm, 246, rfl⟩
abbrev main_v227 : Ref sig .tc := ⟨.hbm, 247, rfl⟩
abbrev main_v228 : Ref sig .tc := ⟨.hbm, 248, rfl⟩
abbrev main_v229 : Ref sig .tc := ⟨.hbm, 249, rfl⟩
abbrev main_v230 : Ref sig .tc := ⟨.hbm, 250, rfl⟩
abbrev main_v231 : Ref sig .tc := ⟨.hbm, 251, rfl⟩
abbrev main_v232 : Ref sig .tc := ⟨.hbm, 252, rfl⟩
abbrev main_v233 : Ref sig .tc := ⟨.hbm, 253, rfl⟩
abbrev main_v234 : Ref sig .tc := ⟨.hbm, 254, rfl⟩
abbrev main_v235 : Ref sig .tc := ⟨.hbm, 255, rfl⟩
abbrev main_v236 : Ref sig .tc := ⟨.hbm, 256, rfl⟩
abbrev main_v237 : Ref sig .tc := ⟨.hbm, 257, rfl⟩
abbrev main_v238 : Ref sig .tc := ⟨.hbm, 258, rfl⟩
abbrev main_v239 : Ref sig .tc := ⟨.hbm, 259, rfl⟩
abbrev main_v240 : Ref sig .tc := ⟨.hbm, 260, rfl⟩
abbrev main_v241 : Ref sig .tc := ⟨.hbm, 261, rfl⟩
abbrev main_v242 : Ref sig .tc := ⟨.hbm, 262, rfl⟩
abbrev main_v243 : Ref sig .tc := ⟨.hbm, 263, rfl⟩
abbrev main_v244 : Ref sig .tc := ⟨.hbm, 264, rfl⟩
abbrev main_v245 : Ref sig .tc := ⟨.hbm, 265, rfl⟩
abbrev main_v246 : Ref sig .tc := ⟨.hbm, 266, rfl⟩
abbrev main_v247 : Ref sig .tc := ⟨.hbm, 267, rfl⟩
abbrev main_cst_14 : Ref sig .tc := ⟨.hbm, 268, rfl⟩
abbrev main_v248 : Ref sig .tc := ⟨.hbm, 269, rfl⟩
abbrev main_v249 : Ref sig .tc := ⟨.hbm, 270, rfl⟩
abbrev main_v250 : Ref sig .tc := ⟨.hbm, 271, rfl⟩
abbrev main_v251 : Ref sig .tc := ⟨.hbm, 272, rfl⟩
abbrev main_v252 : Ref sig .tc := ⟨.hbm, 273, rfl⟩
abbrev main_v253 : Ref sig .tc := ⟨.hbm, 274, rfl⟩
abbrev main_v254 : Ref sig .tc := ⟨.hbm, 275, rfl⟩
abbrev main_v255 : Ref sig .tc := ⟨.hbm, 276, rfl⟩
abbrev main_v256 : Ref sig .tc := ⟨.hbm, 277, rfl⟩
abbrev main_v257 : Ref sig .tc := ⟨.hbm, 278, rfl⟩
abbrev main_v258 : Ref sig .tc := ⟨.hbm, 279, rfl⟩
abbrev main_v259 : Ref sig .tc := ⟨.hbm, 280, rfl⟩
abbrev main_v260 : Ref sig .tc := ⟨.hbm, 281, rfl⟩
abbrev main_v261 : Ref sig .tc := ⟨.hbm, 282, rfl⟩
abbrev main_v262 : Ref sig .tc := ⟨.hbm, 283, rfl⟩
abbrev main_v263 : Ref sig .tc := ⟨.hbm, 284, rfl⟩
abbrev main_v264 : Ref sig .tc := ⟨.hbm, 285, rfl⟩
abbrev main_v265 : Ref sig .tc := ⟨.hbm, 286, rfl⟩
abbrev main_v266 : Ref sig .tc := ⟨.hbm, 287, rfl⟩
abbrev main_v267 : Ref sig .tc := ⟨.hbm, 288, rfl⟩
abbrev main_v268 : Ref sig .tc := ⟨.hbm, 289, rfl⟩
abbrev main_v269 : Ref sig .tc := ⟨.hbm, 290, rfl⟩
abbrev main_v270 : Ref sig .tc := ⟨.hbm, 291, rfl⟩
abbrev main_v271 : Ref sig .tc := ⟨.hbm, 292, rfl⟩
abbrev main_v272 : Ref sig .tc := ⟨.hbm, 293, rfl⟩
abbrev main_v273 : Ref sig .tc := ⟨.hbm, 294, rfl⟩
abbrev main_v274 : Ref sig .tc := ⟨.hbm, 295, rfl⟩
abbrev main_v275 : Ref sig .tc := ⟨.hbm, 296, rfl⟩
abbrev main_v276 : Ref sig .tc := ⟨.hbm, 297, rfl⟩
abbrev main_v277 : Ref sig .tc := ⟨.hbm, 298, rfl⟩
abbrev main_v278 : Ref sig .tc := ⟨.hbm, 299, rfl⟩
abbrev main_v279 : Ref sig .tc := ⟨.hbm, 300, rfl⟩
abbrev main_v280 : Ref sig .tc := ⟨.hbm, 301, rfl⟩
abbrev main_v281 : Ref sig .tc := ⟨.hbm, 302, rfl⟩
abbrev main_v282 : Ref sig .tc := ⟨.hbm, 303, rfl⟩
abbrev main_v283 : Ref sig .tc := ⟨.hbm, 304, rfl⟩
abbrev main_v284 : Ref sig .tc := ⟨.hbm, 305, rfl⟩
abbrev main_v285 : Ref sig .tc := ⟨.hbm, 306, rfl⟩
abbrev main_v286 : Ref sig .tc := ⟨.hbm, 307, rfl⟩
abbrev main_v287 : Ref sig .tc := ⟨.hbm, 308, rfl⟩
abbrev main_v288 : Ref sig .tc := ⟨.hbm, 309, rfl⟩
abbrev main_v289 : Ref sig .tc := ⟨.hbm, 310, rfl⟩
abbrev main_v290 : Ref sig .tc := ⟨.hbm, 311, rfl⟩
abbrev main_v291 : Ref sig .tc := ⟨.hbm, 312, rfl⟩
abbrev main_v292 : Ref sig .tc := ⟨.hbm, 313, rfl⟩
abbrev main_v293 : Ref sig .tc := ⟨.hbm, 314, rfl⟩
abbrev main_v294 : Ref sig .tc := ⟨.hbm, 315, rfl⟩
abbrev main_v295 : Ref sig .tc := ⟨.hbm, 316, rfl⟩
abbrev main_v296 : Ref sig .tc := ⟨.hbm, 317, rfl⟩
abbrev main_v297 : Ref sig .tc := ⟨.hbm, 318, rfl⟩
abbrev main_v298 : Ref sig .tc := ⟨.hbm, 319, rfl⟩
abbrev main_v299 : Ref sig .tc := ⟨.hbm, 320, rfl⟩
abbrev main_v300 : Ref sig .tc := ⟨.hbm, 321, rfl⟩
abbrev main_v301 : Ref sig .tc := ⟨.hbm, 322, rfl⟩

abbrev nD : Nat := 1
abbrev τ : Topo := Topo.v7x

variable {F : FTy → Type} [FloatOps F]
-- ==== Kernel3.lean ====
abbrev S16896x1024 : Shape := ⟨2, ![16896, 1024]⟩
abbrev S16896x256 : Shape := ⟨2, ![16896, 256]⟩
abbrev S16896x512 : Shape := ⟨2, ![16896, 512]⟩
abbrev S2x6144 : Shape := ⟨2, ![2, 6144]⟩
abbrev S6144 : Shape := ⟨1, ![6144]⟩
abbrev S1024x1024 : Shape := ⟨2, ![1024, 1024]⟩
abbrev S4x128x128 : Shape := ⟨3, ![4, 128, 128]⟩
abbrev S4x128 : Shape := ⟨2, ![4, 128]⟩
abbrev S1024 : Shape := ⟨1, ![1024]⟩
abbrev S1024x2048 : Shape := ⟨2, ![1024, 2048]⟩
abbrev S512 : Shape := ⟨1, ![512]⟩
abbrev S1x6144 : Shape := ⟨2, ![1, 6144]⟩
abbrev S_ : Shape := ⟨0, ![]⟩
abbrev S5x6144 : Shape := ⟨2, ![5, 6144]⟩
abbrev S8x6144 : Shape := ⟨2, ![8, 6144]⟩
abbrev S512x1024 : Shape := ⟨2, ![512, 1024]⟩
abbrev S512x1 : Shape := ⟨2, ![512, 1]⟩
abbrev S128x4x128 : Shape := ⟨3, ![128, 4, 128]⟩
abbrev S128x512 : Shape := ⟨2, ![128, 512]⟩
abbrev S128x4 : Shape := ⟨2, ![128, 4]⟩
abbrev S128x4x64 : Shape := ⟨3, ![128, 4, 64]⟩
abbrev S128x256 : Shape := ⟨2, ![128, 256]⟩
abbrev S1x1024 : Shape := ⟨2, ![1, 1024]⟩
abbrev S66x1024x256 : Shape := ⟨3, ![66, 1024, 256]⟩
abbrev S16896x2048 : Shape := ⟨2, ![16896, 2048]⟩
abbrev S512x256 : Shape := ⟨2, ![512, 256]⟩
abbrev S512x512 : Shape := ⟨2, ![512, 512]⟩
abbrev S2x1024x256 : Shape := ⟨3, ![2, 1024, 256]⟩
abbrev S512x2048 : Shape := ⟨2, ![512, 2048]⟩
abbrev S256x256 : Shape := ⟨2, ![256, 256]⟩
abbrev S256x1024 : Shape := ⟨2, ![256, 1024]⟩
abbrev S1024x256 : Shape := ⟨2, ![1024, 256]⟩
abbrev S1x1024x256 : Shape := ⟨3, ![1, 1024, 256]⟩

abbrev nBuf : Space → Nat
  | .hbm => 44
  | .vmem => 27
  | .smem => 0
  | _ => 0

abbrev bufTy : (tb : Table) → Fin (tcTables nBuf tb) → BufTy
  | .hbm, ⟨0, _⟩ => ⟨S16896x1024, .f32⟩
  | .hbm, ⟨1, _⟩ => ⟨S16896x256, .f32⟩
  | .hbm, ⟨2, _⟩ => ⟨S16896x256, .f32⟩
  | .hbm, ⟨3, _⟩ => ⟨S16896x256, .f32⟩
  | .hbm, ⟨4, _⟩ => ⟨S16896x256, .f32⟩
  | .hbm, ⟨5, _⟩ => ⟨S16896x256, .f32⟩
  | .hbm, ⟨6, _⟩ => ⟨S16896x512, .f32⟩
  | .hbm, ⟨7, _⟩ => ⟨S2x6144, .f32⟩
  | .hbm, ⟨8, _⟩ => ⟨S6144, .f32⟩
  | .hbm, ⟨9, _⟩ => ⟨S1024x1024, .f32⟩
  | .hbm, ⟨10, _⟩ => ⟨S4x128x128, .f32⟩
  | .hbm, ⟨11, _⟩ => ⟨S4x128, .f32⟩
  | .hbm, ⟨12, _⟩ => ⟨S1024, .f32⟩
  | .hbm, ⟨13, _⟩ => ⟨S1024, .f32⟩
  | .hbm, ⟨14, _⟩ => ⟨S1024x2048, .f32⟩
  | .hbm, ⟨15, _⟩ => ⟨S512, .i32⟩
  | .hbm, ⟨16, _⟩ => ⟨S512, .i1⟩
  | .hbm, ⟨17, _⟩ => ⟨S1x6144, .f32⟩
  | .hbm, ⟨18, _⟩ => ⟨S_, .f32⟩
  | .hbm, ⟨19, _⟩ => ⟨S5x6144, .f32⟩
  | .hbm, ⟨20, _⟩ => ⟨S8x6144, .f32⟩
  | .hbm, ⟨21, _⟩ => ⟨S512x1024, .f32⟩
  | .hbm, ⟨22, _⟩ => ⟨S512x1024, .f32⟩
  | .hbm, ⟨23, _⟩ => ⟨S_, .i32⟩
  | .hbm, ⟨24, _⟩ => ⟨S512, .i32⟩
  | .hbm, ⟨25, _⟩ => ⟨S512, .i32⟩
  | .hbm, ⟨26, _⟩ => ⟨S512, .i32⟩
  | .hbm, ⟨27, _⟩ => ⟨S512x1, .i32⟩
  | .hbm, ⟨28, _⟩ => ⟨S512x1024, .f32⟩
  | .hbm, ⟨29, _⟩ => ⟨S1024x1024, .f32⟩
  | .hbm, ⟨30, _⟩ => ⟨S1024x1024, .bf16⟩
  | .hbm, ⟨31, _⟩ => ⟨S128x4x128, .f32⟩
  | .hbm, ⟨32, _⟩ => ⟨S128x512, .f32⟩
  | .hbm, ⟨33, _⟩ => ⟨S128x512, .bf16⟩
  | .hbm, ⟨34, _⟩ => ⟨S128x4, .f32⟩
  | .hbm, ⟨35, _⟩ => ⟨S128x4x64, .f32⟩
  | .hbm, ⟨36, _⟩ => ⟨S128x256, .f32⟩
  | .hbm, ⟨37, _⟩ => ⟨S16896x512, .bf16⟩
  | .hbm, ⟨38, _⟩ => ⟨S1x1024, .f32⟩
  | .hbm, ⟨39, _⟩ => ⟨S1x1024, .f32⟩
  | .hbm, ⟨40, _⟩ => ⟨S1024x2048, .bf16⟩
  | .hbm, ⟨41, _⟩ => ⟨S16896x1024, .f32⟩
  | .hbm, ⟨42, _⟩ => ⟨S66x1024x256, .bf16⟩
  | .hbm, ⟨43, _⟩ => ⟨S16896x2048, .bf16⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x512, .bf16⟩
  | .local _ .vmem, ⟨13, _⟩ => ⟨S512x512, .bf16⟩
  | .local _ .vmem, ⟨14, _⟩ => ⟨S8x6144, .f32⟩
  | .local _ .vmem, ⟨15, _⟩ => ⟨S1024x1024, .bf16⟩
  | .local _ .vmem, ⟨16, _⟩ => ⟨S128x512, .bf16⟩
  | .local _ .vmem, ⟨17, _⟩ => ⟨S128x256, .f32⟩
  | .local _ .vmem, ⟨18, _⟩ => ⟨S1x1024, .f32⟩
  | .local _ .vmem, ⟨19, _⟩ => ⟨S1x1024, .f32⟩
  | .local _ .vmem, ⟨20, _⟩ => ⟨S1024x2048, .bf16⟩
  | .local _ .vmem, ⟨21, _⟩ => ⟨S512x1024, .f32⟩
  | .local _ .vmem, ⟨22, _⟩ => ⟨S512x1024, .f32⟩
  | .local _ .vmem, ⟨23, _⟩ => ⟨S2x1024x256, .bf16⟩
  | .local _ .vmem, ⟨24, _⟩ => ⟨S2x1024x256, .bf16⟩
  | .local _ .vmem, ⟨25, _⟩ => ⟨S512x2048, .bf16⟩
  | .local _ .vmem, ⟨26, _⟩ => ⟨S512x2048, .bf16⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_c_0 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22_0 : Ref sig .tc := ⟨.hbm, 41, rfl⟩
abbrev main_v22_1 : Ref sig .tc := ⟨.hbm, 42, rfl⟩
abbrev main_v22_2 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![33], ![false]⟩

def k0_off1 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let v0 : BitVec 32 := Scalar.divsi arg0 c16_i32
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let v269 : Index := Scalar.indexCast v17
  let c2048 : Index := 2048#32
  ![v269.toNat, 2048]
def k0_off2 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let v0 : BitVec 32 := Scalar.divsi arg0 c16_i32
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let v303 : Index := Scalar.indexCast v17
  let c3072 : Index := 3072#32
  ![v303.toNat, 3072]
def k0_off3 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let v0 : BitVec 32 := Scalar.divsi arg0 c16_i32
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let v306 : Index := Scalar.indexCast v17
  let c4096 : Index := 4096#32
  ![v306.toNat, 4096]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x1024x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Kernel3Ideal.lean ====
variable {F : FTy → Type} [FloatOps F] [Named F]
def κ : String → Option EReal := fun
  | "gelu_cubic" => some ((80338380498831 / 2251799813685248 : ℝ) : EReal)
  | _ => none
-- ==== Reference3Ideal.lean ====
abbrev S16896x1024 : Shape := ⟨2, ![16896, 1024]⟩
abbrev S16896x256 : Shape := ⟨2, ![16896, 256]⟩
abbrev S16896x512 : Shape := ⟨2, ![16896, 512]⟩
abbrev S2x6144 : Shape := ⟨2, ![2, 6144]⟩
abbrev S6144 : Shape := ⟨1, ![6144]⟩
abbrev S1024x1024 : Shape := ⟨2, ![1024, 1024]⟩
abbrev S4x128x128 : Shape := ⟨3, ![4, 128, 128]⟩
abbrev S4x128 : Shape := ⟨2, ![4, 128]⟩
abbrev S1024 : Shape := ⟨1, ![1024]⟩
abbrev S1024x2048 : Shape := ⟨2, ![1024, 2048]⟩
abbrev S2x1x6144 : Shape := ⟨3, ![2, 1, 6144]⟩
abbrev S2x8192x6144 : Shape := ⟨3, ![2, 8192, 6144]⟩
abbrev S16384x6144 : Shape := ⟨2, ![16384, 6144]⟩
abbrev S512x6144 : Shape := ⟨2, ![512, 6144]⟩
abbrev S16896x6144 : Shape := ⟨2, ![16896, 6144]⟩
abbrev S16896x4x2x64 : Shape := ⟨4, ![16896, 4, 2, 64]⟩
abbrev S16896x2x4x64 : Shape := ⟨4, ![16896, 2, 4, 64]⟩
abbrev S16896x4x64 : Shape := ⟨3, ![16896, 4, 64]⟩
abbrev S_ : Shape := ⟨0, ![]⟩
abbrev S16896x4 : Shape := ⟨2, ![16896, 4]⟩
abbrev S16896x4x1 : Shape := ⟨3, ![16896, 4, 1]⟩
abbrev S132x128x4x64 : Shape := ⟨4, ![132, 128, 4, 64]⟩
abbrev S4x132x64x128 : Shape := ⟨4, ![4, 132, 64, 128]⟩
abbrev S128x4 : Shape := ⟨2, ![128, 4]⟩
abbrev S128x4x1 : Shape := ⟨3, ![128, 4, 1]⟩
abbrev S1x128x4x1 : Shape := ⟨4, ![1, 128, 4, 1]⟩
abbrev S16896 : Shape := ⟨1, ![16896]⟩
abbrev S16896x1 : Shape := ⟨2, ![16896, 1]⟩
abbrev S1x1024 : Shape := ⟨2, ![1, 1024]⟩
abbrev S66x256x1024 : Shape := ⟨3, ![66, 256, 1024]⟩
abbrev S66x1024x256 : Shape := ⟨3, ![66, 1024, 256]⟩
abbrev S16896x2048 : Shape := ⟨2, ![16896, 2048]⟩

abbrev nBuf : Space → Nat
  | .hbm => 204
  | .vmem => 0
  | .smem => 0
  | _ => 0

abbrev hbmTy0_0 (i : Nat) : BufTy := match i % 128 with
  | 0 => ⟨S16896x1024, .f32⟩
  | 1 => ⟨S16896x256, .f32⟩
  | 2 => ⟨S16896x256, .f32⟩
  | 3 => ⟨S16896x256, .f32⟩
  | 4 => ⟨S16896x256, .f32⟩
  | 5 => ⟨S16896x256, .f32⟩
  | 6 => ⟨S16896x512, .f32⟩
  | 7 => ⟨S2x6144, .f32⟩
  | 8 => ⟨S6144, .f32⟩
  | 9 => ⟨S1024x1024, .f32⟩
  | 10 => ⟨S4x128x128, .f32⟩
  | 11 => ⟨S4x128, .f32⟩
  | 12 => ⟨S1024, .f32⟩
  | 13 => ⟨S1024, .f32⟩
  | 14 => ⟨S1024x2048, .f32⟩
  | 15 => ⟨S2x1x6144, .f32⟩
  | 16 => ⟨S2x8192x6144, .f32⟩
  | 17 => ⟨S16384x6144, .f32⟩
  | 18 => ⟨S512x6144, .f32⟩
  | 19 => ⟨S16896x6144, .f32⟩
  | 20 => ⟨S16896x1024, .f32⟩
  | 21 => ⟨S16896x1024, .f32⟩
  | 22 => ⟨S16896x1024, .f32⟩
  | 23 => ⟨S16896x1024, .f32⟩
  | 24 => ⟨S16896x1024, .f32⟩
  | 25 => ⟨S16896x1024, .f32⟩
  | 26 => ⟨S16896x4x2x64, .f32⟩
  | 27 => ⟨S16896x2x4x64, .f32⟩
  | 28 => ⟨S16896x512, .f32⟩
  | 29 => ⟨S16896x256, .f32⟩
  | 30 => ⟨S16896x4x64, .f32⟩
  | 31 => ⟨S_, .f32⟩
  | 32 => ⟨S16896x4, .f32⟩
  | 33 => ⟨S16896x4x1, .f32⟩
  | 34 => ⟨S_, .f32⟩
  | 35 => ⟨S16896x4x1, .f32⟩
  | 36 => ⟨S16896x4x1, .f32⟩
  | 37 => ⟨S16896x4x64, .f32⟩
  | 38 => ⟨S16896x4x64, .f32⟩
  | 39 => ⟨S16896x4x64, .f32⟩
  | 40 => ⟨S_, .f32⟩
  | 41 => ⟨S16896x4, .f32⟩
  | 42 => ⟨S16896x4x1, .f32⟩
  | 43 => ⟨S_, .f32⟩
  | 44 => ⟨S16896x4x1, .f32⟩
  | 45 => ⟨S16896x4x1, .f32⟩
  | 46 => ⟨S16896x4x64, .f32⟩
  | 47 => ⟨S16896x4x64, .f32⟩
  | 48 => ⟨S_, .f32⟩
  | 49 => ⟨S16896x4x1, .f32⟩
  | 50 => ⟨S16896x4x1, .f32⟩
  | 51 => ⟨S16896x4x1, .f32⟩
  | 52 => ⟨S16896x4x64, .f32⟩
  | 53 => ⟨S16896x4x64, .f32⟩
  | 54 => ⟨S16896x4x64, .f32⟩
  | 55 => ⟨S16896x4x64, .f32⟩
  | 56 => ⟨S16896x4x64, .f32⟩
  | 57 => ⟨S_, .f32⟩
  | 58 => ⟨S16896x4x64, .f32⟩
  | 59 => ⟨S16896x4x64, .f32⟩
  | 60 => ⟨S_, .f32⟩
  | 61 => ⟨S16896x4x64, .f32⟩
  | 62 => ⟨S16896x4x64, .f32⟩
  | 63 => ⟨S16896x4x64, .f32⟩
  | 64 => ⟨S16896x4x64, .f32⟩
  | 65 => ⟨S16896x256, .f32⟩
  | 66 => ⟨S16896x256, .f32⟩
  | 67 => ⟨S16896x256, .f32⟩
  | 68 => ⟨S_, .f32⟩
  | 69 => ⟨S16896x256, .f32⟩
  | 70 => ⟨S16896x256, .f32⟩
  | 71 => ⟨S16896x256, .f32⟩
  | 72 => ⟨S_, .f32⟩
  | 73 => ⟨S16896x256, .f32⟩
  | 74 => ⟨S16896x256, .f32⟩
  | 75 => ⟨S16896x256, .f32⟩
  | 76 => ⟨S_, .f32⟩
  | 77 => ⟨S16896x256, .f32⟩
  | 78 => ⟨S16896x256, .f32⟩
  | 79 => ⟨S_, .f32⟩
  | 80 => ⟨S16896x256, .f32⟩
  | 81 => ⟨S16896x256, .f32⟩
  | 82 => ⟨S16896x256, .f32⟩
  | 83 => ⟨S132x128x4x64, .f32⟩
  | 84 => ⟨S16896x256, .f32⟩
  | 85 => ⟨S16896x256, .f32⟩
  | 86 => ⟨S_, .f32⟩
  | 87 => ⟨S16896x256, .f32⟩
  | 88 => ⟨S16896x256, .f32⟩
  | 89 => ⟨S16896x256, .f32⟩
  | 90 => ⟨S_, .f32⟩
  | 91 => ⟨S16896x256, .f32⟩
  | 92 => ⟨S16896x256, .f32⟩
  | 93 => ⟨S16896x256, .f32⟩
  | 94 => ⟨S_, .f32⟩
  | 95 => ⟨S16896x256, .f32⟩
  | 96 => ⟨S16896x256, .f32⟩
  | 97 => ⟨S_, .f32⟩
  | 98 => ⟨S16896x256, .f32⟩
  | 99 => ⟨S16896x256, .f32⟩
  | 100 => ⟨S16896x256, .f32⟩
  | 101 => ⟨S16896x4x64, .f32⟩
  | 102 => ⟨S_, .f32⟩
  | 103 => ⟨S16896x4, .f32⟩
  | 104 => ⟨S16896x4x1, .f32⟩
  | 105 => ⟨S_, .f32⟩
  | 106 => ⟨S16896x4x1, .f32⟩
  | 107 => ⟨S16896x4x1, .f32⟩
  | 108 => ⟨S16896x4x64, .f32⟩
  | 109 => ⟨S16896x4x64, .f32⟩
  | 110 => ⟨S16896x4x64, .f32⟩
  | 111 => ⟨S_, .f32⟩
  | 112 => ⟨S16896x4, .f32⟩
  | 113 => ⟨S16896x4x1, .f32⟩
  | 114 => ⟨S_, .f32⟩
  | 115 => ⟨S16896x4x1, .f32⟩
  | 116 => ⟨S16896x4x1, .f32⟩
  | 117 => ⟨S16896x4x64, .f32⟩
  | 118 => ⟨S16896x4x64, .f32⟩
  | 119 => ⟨S_, .f32⟩
  | 120 => ⟨S16896x4x1, .f32⟩
  | 121 => ⟨S16896x4x1, .f32⟩
  | 122 => ⟨S16896x4x1, .f32⟩
  | 123 => ⟨S16896x4x64, .f32⟩
  | 124 => ⟨S16896x4x64, .f32⟩
  | 125 => ⟨S132x128x4x64, .f32⟩
  | 126 => ⟨S4x132x64x128, .f32⟩
  | 127 => ⟨S132x128x4x64, .f32⟩
  | _ => ⟨S16896x1024, .f32⟩

abbrev hbmTy0_1 (i : Nat) : BufTy := match i % 128 with
  | 0 => ⟨S128x4, .f32⟩
  | 1 => ⟨S128x4x1, .f32⟩
  | 2 => ⟨S1x128x4x1, .f32⟩
  | 3 => ⟨S132x128x4x64, .f32⟩
  | 4 => ⟨S132x128x4x64, .f32⟩
  | 5 => ⟨S132x128x4x64, .f32⟩
  | 6 => ⟨S16896x256, .f32⟩
  | 7 => ⟨S16896x1024, .f32⟩
  | 8 => ⟨S16896x1024, .f32⟩
  | 9 => ⟨S_, .f32⟩
  | 10 => ⟨S16896x1024, .f32⟩
  | 11 => ⟨S16896x1024, .f32⟩
  | 12 => ⟨S16896x1024, .f32⟩
  | 13 => ⟨S16896x1024, .f32⟩
  | 14 => ⟨S_, .f32⟩
  | 15 => ⟨S16896, .f32⟩
  | 16 => ⟨S16896x1, .f32⟩
  | 17 => ⟨S_, .f32⟩
  | 18 => ⟨S16896x1, .f32⟩
  | 19 => ⟨S16896x1, .f32⟩
  | 20 => ⟨S16896x1024, .f32⟩
  | 21 => ⟨S16896x1024, .f32⟩
  | 22 => ⟨S16896x1024, .f32⟩
  | 23 => ⟨S_, .f32⟩
  | 24 => ⟨S16896, .f32⟩
  | 25 => ⟨S16896x1, .f32⟩
  | 26 => ⟨S_, .f32⟩
  | 27 => ⟨S16896x1, .f32⟩
  | 28 => ⟨S16896x1, .f32⟩
  | 29 => ⟨S16896x1024, .f32⟩
  | 30 => ⟨S16896x1024, .f32⟩
  | 31 => ⟨S_, .f32⟩
  | 32 => ⟨S16896x1, .f32⟩
  | 33 => ⟨S16896x1, .f32⟩
  | 34 => ⟨S16896x1, .f32⟩
  | 35 => ⟨S16896x1024, .f32⟩
  | 36 => ⟨S16896x1024, .f32⟩
  | 37 => ⟨S1x1024, .f32⟩
  | 38 => ⟨S16896x1024, .f32⟩
  | 39 => ⟨S16896x1024, .f32⟩
  | 40 => ⟨S1x1024, .f32⟩
  | 41 => ⟨S16896x1024, .f32⟩
  | 42 => ⟨S16896x1024, .f32⟩
  | 43 => ⟨S_, .f32⟩
  | 44 => ⟨S16896, .f32⟩
  | 45 => ⟨S16896x1, .f32⟩
  | 46 => ⟨S_, .f32⟩
  | 47 => ⟨S16896x1, .f32⟩
  | 48 => ⟨S16896x1, .f32⟩
  | 49 => ⟨S16896x1024, .f32⟩
  | 50 => ⟨S16896x1024, .f32⟩
  | 51 => ⟨S16896x1024, .f32⟩
  | 52 => ⟨S_, .f32⟩
  | 53 => ⟨S16896, .f32⟩
  | 54 => ⟨S16896x1, .f32⟩
  | 55 => ⟨S_, .f32⟩
  | 56 => ⟨S16896x1, .f32⟩
  | 57 => ⟨S16896x1, .f32⟩
  | 58 => ⟨S16896x1024, .f32⟩
  | 59 => ⟨S16896x1024, .f32⟩
  | 60 => ⟨S_, .f32⟩
  | 61 => ⟨S16896x1, .f32⟩
  | 62 => ⟨S16896x1, .f32⟩
  | 63 => ⟨S16896x1, .f32⟩
  | 64 => ⟨S16896x1024, .f32⟩
  | 65 => ⟨S16896x1024, .f32⟩
  | 66 => ⟨S_, .f32⟩
  | 67 => ⟨S16896x1024, .f32⟩
  | 68 => ⟨S16896x1024, .f32⟩
  | 69 => ⟨S16896x1024, .f32⟩
  | 70 => ⟨S16896x1024, .f32⟩
  | 71 => ⟨S66x256x1024, .f32⟩
  | 72 => ⟨S66x1024x256, .f32⟩
  | 73 => ⟨S66x1024x256, .bf16⟩
  | 74 => ⟨S16896x2048, .f32⟩
  | 75 => ⟨S16896x2048, .bf16⟩
  | _ => ⟨S16896x1024, .f32⟩

abbrev hbmTy (i : Nat) : BufTy := match i / 128 with
  | 0 => hbmTy0_0 i
  | 1 => hbmTy0_1 i
  | _ => ⟨S16896x1024, .f32⟩

abbrev bufTy : (tb : Table) → Fin (tcTables nBuf tb) → BufTy
  | .hbm, ⟨i, _⟩ => hbmTy i
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_cst_0 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_1 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_4 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_5 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_6 : Ref sig .tc := ⟨.hbm, 76, rfl⟩
abbrev main_v46 : Ref sig .tc := ⟨.hbm, 77, rfl⟩
abbrev main_v47 : Ref sig .tc := ⟨.hbm, 78, rfl⟩
abbrev main_cst_7 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_8 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_9 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_10 : Ref sig .tc := ⟨.hbm, 94, rfl⟩
abbrev main_v60 : Ref sig .tc := ⟨.hbm, 95, rfl⟩
abbrev main_v61 : Ref sig .tc := ⟨.hbm, 96, rfl⟩
abbrev main_cst_11 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_12 : Ref sig .tc := ⟨.hbm, 102, rfl⟩
abbrev main_v66 : Ref sig .tc := ⟨.hbm, 103, rfl⟩
abbrev main_v67 : Ref sig .tc := ⟨.hbm, 104, rfl⟩
abbrev main_cst_13 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_14 : Ref sig .tc := ⟨.hbm, 111, rfl⟩
abbrev main_v73 : Ref sig .tc := ⟨.hbm, 112, rfl⟩
abbrev main_v74 : Ref sig .tc := ⟨.hbm, 113, rfl⟩
abbrev main_cst_15 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_cst_16 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_cst_17 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_18 : Ref sig .tc := ⟨.hbm, 142, rfl⟩
abbrev main_v100 : Ref sig .tc := ⟨.hbm, 143, rfl⟩
abbrev main_v101 : Ref sig .tc := ⟨.hbm, 144, rfl⟩
abbrev main_cst_19 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_20 : Ref sig .tc := ⟨.hbm, 151, rfl⟩
abbrev main_v107 : Ref sig .tc := ⟨.hbm, 152, rfl⟩
abbrev main_v108 : Ref sig .tc := ⟨.hbm, 153, rfl⟩
abbrev main_cst_21 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_cst_22 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_cst_23 : Ref sig .tc := ⟨.hbm, 171, rfl⟩
abbrev main_v124 : Ref sig .tc := ⟨.hbm, 172, rfl⟩
abbrev main_v125 : Ref sig .tc := ⟨.hbm, 173, rfl⟩
abbrev main_cst_24 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_cst_25 : Ref sig .tc := ⟨.hbm, 180, rfl⟩
abbrev main_v131 : Ref sig .tc := ⟨.hbm, 181, rfl⟩
abbrev main_v132 : Ref sig .tc := ⟨.hbm, 182, rfl⟩
abbrev main_cst_26 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_cst_27 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_cst_28 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩

abbrev nD : Nat := 1
abbrev τ : Topo := Topo.v7x

variable {F : FTy → Type} [FloatOps F]
-- ==== Proof.Tile.lean ====
/- What one grid point of the window attention computes, entry by entry: the stored tile of one
   query slab is the softmax-weighted mean `attn` of the value rows. -/
module

public import proofs.«01_k».proof.Proof.Gen.KernelIdeal.Skeleton
public import Idealize.ShloMosaic.Lib.Pointwise
public import Idealize.ShloMosaic.Lib.Pipeline.ValueKit

@[expose] public section

set_option maxRecDepth 16384

noncomputable section

namespace Attn
open Idealize.ShloMosaic Idealize.ShloMosaic.TcCoe Idealize.SL.Sem
open Cert.KernelIdeal Cert.KernelIdeal.Gen

/-- The greatest of the local scores, the context scores and the sink. -/
def top (sl : Fin 384 → EReal) (sc : Fin 256 → EReal) (sk : EReal) : EReal :=
  max (max (Finset.fold max ⊥ sl Finset.univ) (Finset.fold max ⊥ sc Finset.univ)) sk

/-- The softmax denominator: exponentials of the local scores, the context scores and the sink. -/
def den (sl : Fin 384 → EReal) (sc : Fin 256 → EReal) (sk : EReal) : EReal :=
  ∑ x, Ideal.exp (sl x - top sl sc sk) + ∑ x, Ideal.exp (sc x - top sl sc sk) + Ideal.exp (sk - top sl sc sk)

/-- Softmax attention with a sink: weights over 384 local and 256 context entries, one reciprocal. -/
def attn (sl : Fin 384 → EReal) (sc : Fin 256 → EReal) (sk : EReal) (vl : Fin 384 → EReal) (vc : Fin 256 → EReal) : EReal :=
  (∑ x, Ideal.exp (sl x - top sl sc sk) * vl x + ∑ x, Ideal.exp (sc x - top sl sc sk) * vc x)
    * Ideal.div 1 (den sl sc sk)

theorem negInf : Ideal.ofBits FTy.f32 4286578688#32 = (⊥ : EReal) := by simp [Ideal.ofBits, Ideal.ieee]

section
variable (K V : FVec Ideal S640x128 .bf16) (lane : IVec S1x128 32) (a b c d : FVec Ideal S128x128 .bf16)
variable (mk : IVec S512x384 1) (s0 s1 s2 s3 : Elt Ideal .f32)

/-- Group 0 at row `ρ` and lane `l`: attention over the scores of the first masked product. -/
theorem group0 (ρ : Fin 512) (l : Fin 128) :
    k0_pay30 (F := Ideal) V (k0_pay23 s0 s1 s2 s3) (k0_pay27 K lane a b c d mk s0 s1 s2 s3)
      (k0_pay28 K lane a b c d mk s0 s1 s2 s3) (k0_pay29 K lane a b c d mk s0 s1 s2 s3) (ix2 ρ l)
    = attn (fun x => Scalar.select (mk (ix2 ρ x)) (k0_pay24 K lane a b c d (ix2 ρ ⟨x, by omega⟩)) ⊥)
        (fun x => k0_pay24 K lane a b c d (ix2 ρ ⟨384 + x, by omega⟩)) (k0_pay23 s0 s1 s2 s3 (ix2 ρ 0))
        (fun x => V (ix2 ⟨x, by omega⟩ l)) (fun x => V (ix2 ⟨384 + x, by omega⟩ l)) := by
  unfold k0_pay30 k0_pay28 k0_pay29 k0_pay27 k0_pay25 k0_pay26
  generalize k0_pay24 (F := Ideal) K lane a b c d = S
  generalize k0_pay23 (F := Ideal) s0 s1 s2 s3 = z
  pointwise
  simp only [attn, den, top, negInf]

variable (ln : IVec S1x128 1) (z : Ideal .bf16)

/-- Group 1 at row `ρ` and lane `l`: attention over the scores of the second masked product. -/
theorem group1 (ρ : Fin 512) (l : Fin 128) :
    k0_pay1 (F := Ideal) (k0_pay45 K c d mk ln a b z s0 s1 s2 s3) (k0_pay46 K V c d mk ln a b z s0 s1 s2 s3) k0_pay47 (ix2 ρ l)
    = attn (fun x => Scalar.select (mk (ix2 ρ x)) (k0_pay39 K c d ln a b z (ix2 ρ ⟨x, by omega⟩)) ⊥)
        (fun x => k0_pay39 K c d ln a b z (ix2 ρ ⟨384 + x, by omega⟩)) (k0_pay38 s0 s1 s2 s3 (ix2 ρ 0))
        (fun x => V (ix2 ⟨x, by omega⟩ l)) (fun x => V (ix2 ⟨384 + x, by omega⟩ l)) := by
  unfold k0_pay1 k0_pay45 k0_pay46 k0_pay47 k0_pay43 k0_pay44 k0_pay42 k0_pay40 k0_pay41
  generalize k0_pay39 (F := Ideal) K c d ln a b z = S
  generalize k0_pay38 (F := Ideal) s0 s1 s2 s3 = z
  pointwise
  simp only [attn, den, top, negInf]

end

/-- The lanes of group 0 are the first 64. -/
theorem lane0 : ∀ l : Fin 128, k0_pay22 k0_pay12 (ix2 0 l) = if l.val < 64 then 1#1 else 0#1 := by decide +kernel

/-- The lanes of group 1 are the last 64. -/
theorem lane1 : ∀ l : Fin 128, k0_pay35 k0_pay12 (ix2 0 l) = if l.val < 64 then 0#1 else 1#1 := by decide +kernel

/-- A sum over the lanes of group 0. -/
theorem sum_lane0 (f : Fin 128 → EReal) :
    ∑ x, Scalar.select (k0_pay22 k0_pay12 (ix2 0 x)) (f x) 0 = ∑ y : Fin 64, f ⟨y, by omega⟩ := by
  simp only [lane0]
  rw [Fin.sum_univ_two_halves 64 64 rfl]
  have h1 : ∀ x : Fin 64, Scalar.select (if x.val < 64 then 1#1 else 0#1) (f ⟨x, by omega⟩) 0 = f ⟨x, by omega⟩ := fun x => by
    rw [if_pos x.2]; rfl
  have h2 : ∀ x : Fin 64, Scalar.select (if 64 + x.val < 64 then 1#1 else 0#1) (f ⟨64 + x, by omega⟩) 0 = 0 := fun x => by
    rw [if_neg (by omega)]; rfl
  simp only [h1, h2, Finset.sum_const_zero, add_zero]

/-- A sum over the lanes of group 1. -/
theorem sum_lane1 (f : Fin 128 → EReal) :
    ∑ x, Scalar.select (k0_pay35 k0_pay12 (ix2 0 x)) (f x) 0 = ∑ y : Fin 64, f ⟨64 + y, by omega⟩ := by
  simp only [lane1]
  rw [Fin.sum_univ_two_halves 64 64 rfl]
  have h1 : ∀ x : Fin 64, Scalar.select (if x.val < 64 then 0#1 else 1#1) (f ⟨x, by omega⟩) 0 = 0 := fun x => by
    rw [if_pos x.2]; rfl
  have h2 : ∀ x : Fin 64, Scalar.select (if 64 + x.val < 64 then 0#1 else 1#1) (f ⟨64 + x, by omega⟩) 0 = f ⟨64 + x, by omega⟩ := fun x => by
    rw [if_neg (by omega)]; rfl
  simp only [h1, h2, Finset.sum_const_zero, zero_add]

/-- A masked factor masks the product. -/
theorem select_zero_mul (p : BitVec 1) (x k : EReal) : Scalar.select p x 0 * k = Scalar.select p (x * k) 0 := by
  unfold Scalar.select; split <;> simp

/-- Score of one query row against key `κ`, over the 64 lanes of group `g`. -/
def score (K : FVec Ideal S640x128 .bf16) (w : FVec Ideal S128x128 .bf16) (i : Fin 128) (g : Fin 2) (κ : Fin 640) : EReal :=
  ∑ y : Fin 64, w (ix2 i ⟨64 * g + y, by omega⟩) * K (ix2 κ ⟨64 * g + y, by omega⟩)

/-- The stored tile of query slab `w` at row `i`, lane `l`, a lane of group `g`. -/
def tile (K V : FVec Ideal S640x128 .bf16) (w : FVec Ideal S128x128 .bf16) (mk : IVec S128x384 1) (s : EReal)
    (i : Fin 128) (g : Fin 2) (l : Fin 128) : EReal :=
  attn (fun x => Scalar.select (mk (ix2 i x)) (score K w i g ⟨x, by omega⟩) ⊥) (fun x => score K w i g ⟨384 + x, by omega⟩)
    s (fun x => V (ix2 ⟨x, by omega⟩ l)) (fun x => V (ix2 ⟨384 + x, by omega⟩ l))

section
variable (K V : FVec Ideal S640x128 .bf16) (a b c d : FVec Ideal S128x128 .bf16)
variable (mk : IVec S128x384 1) (s0 s1 s2 s3 t0 t1 t2 t3 : Elt Ideal .f32)

/-- The tile of slab 0. -/
theorem tile0 (i l : Fin 128) :
    k0_pay2 (F := Ideal) (k0_pay31 V k0_pay18 (k0_pay22 k0_pay12) (k0_pay23 s0 s1 s2 s3) (k0_pay27 K k0_pay12 a b c d (k0_pay17 mk) s0 s1 s2 s3)
      (k0_pay28 K k0_pay12 a b c d (k0_pay17 mk) s0 s1 s2 s3) (k0_pay29 K k0_pay12 a b c d (k0_pay17 mk) s0 s1 s2 s3))
      (k0_pay35 k0_pay12)
      (k0_pay45 K c d (k0_pay17 mk) (k0_pay35 k0_pay12) (k0_pay36 k0_pay12 a) (k0_pay37 k0_pay12 b) (FloatOps.ofBits FTy.bf16 0#16) t0 t1 t2 t3)
      (k0_pay46 K V c d (k0_pay17 mk) (k0_pay35 k0_pay12) (k0_pay36 k0_pay12 a) (k0_pay37 k0_pay12 b) (FloatOps.ofBits FTy.bf16 0#16) t0 t1 t2 t3)
      k0_pay47 (ix2 i l)
    = if l.val < 64 then tile K V a mk s0 i 0 l else tile K V a mk t0 i 1 l := by
  pointwise [k0_pay2, k0_pay31, k0_pay18]
  rw [group0, group1, lane0, lane1]
  by_cases h : l.val < 64
  · simp only [h, if_true]
    pointwise [k0_pay24, k0_pay23, k0_pay17]
    simp only [sum_lane0]
    unfold tile score
    congr
  · simp only [h, if_false]
    pointwise [k0_pay39, k0_pay36, k0_pay37, k0_pay38, k0_pay17]
    simp only [sum_lane1]
    unfold tile score
    congr

/-- The tile of slab 1. -/
theorem tile1 (i l : Fin 128) :
    k0_pay3 (F := Ideal) (k0_pay32 V k0_pay19 (k0_pay22 k0_pay12) (k0_pay23 s0 s1 s2 s3) (k0_pay27 K k0_pay12 a b c d (k0_pay17 mk) s0 s1 s2 s3)
      (k0_pay28 K k0_pay12 a b c d (k0_pay17 mk) s0 s1 s2 s3) (k0_pay29 K k0_pay12 a b c d (k0_pay17 mk) s0 s1 s2 s3))
      (k0_pay35 k0_pay12)
      (k0_pay45 K c d (k0_pay17 mk) (k0_pay35 k0_pay12) (k0_pay36 k0_pay12 a) (k0_pay37 k0_pay12 b) (FloatOps.ofBits FTy.bf16 0#16) t0 t1 t2 t3)
      (k0_pay46 K V c d (k0_pay17 mk) (k0_pay35 k0_pay12) (k0_pay36 k0_pay12 a) (k0_pay37 k0_pay12 b) (FloatOps.ofBits FTy.bf16 0#16) t0 t1 t2 t3)
      k0_pay47 (ix2 i l)
    = if l.val < 64 then tile K V b mk s1 i 0 l else tile K V b mk t1 i 1 l := by
  pointwise [k0_pay3, k0_pay32, k0_pay19]
  rw [group0, group1, lane0, lane1]
  by_cases h : l.val < 64
  · simp only [h, if_true]
    pointwise [k0_pay24, k0_pay23, k0_pay17]
    have e : (⟨128 + i.val - 128, by omega⟩ : Fin 128) = i := Fin.ext (by simp only []; omega)
    try simp only [dif_neg (show ¬ 128 + i.val < 128 by omega), dif_pos (show 128 + i.val - 128 < 128 by omega)]
    try simp only [e, select_zero_mul]
    simp only [sum_lane0]
    unfold tile score
    congr
  · simp only [h, if_false]
    pointwise [k0_pay39, k0_pay36, k0_pay37, k0_pay38, k0_pay17]
    have e : (⟨128 + i.val - 128, by omega⟩ : Fin 128) = i := Fin.ext (by simp only []; omega)
    try simp only [dif_neg (show ¬ 128 + i.val < 128 by omega), dif_pos (show 128 + i.val - 128 < 128 by omega)]
    try simp only [e, select_zero_mul]
    simp only [sum_lane1]
    unfold tile score
    congr

/-- The tile of slab 2. -/
theorem tile2 (i l : Fin 128) :
    k0_pay4 (F := Ideal) (k0_pay33 V k0_pay20 (k0_pay22 k0_pay12) (k0_pay23 s0 s1 s2 s3) (k0_pay27 K k0_pay12 a b c d (k0_pay17 mk) s0 s1 s2 s3)
      (k0_pay28 K k0_pay12 a b c d (k0_pay17 mk) s0 s1 s2 s3) (k0_pay29 K k0_pay12 a b c d (k0_pay17 mk) s0 s1 s2 s3))
      (k0_pay35 k0_pay12)
      (k0_pay45 K c d (k0_pay17 mk) (k0_pay35 k0_pay12) (k0_pay36 k0_pay12 a) (k0_pay37 k0_pay12 b) (FloatOps.ofBits FTy.bf16 0#16) t0 t1 t2 t3)
      (k0_pay46 K V c d (k0_pay17 mk) (k0_pay35 k0_pay12) (k0_pay36 k0_pay12 a) (k0_pay37 k0_pay12 b) (FloatOps.ofBits FTy.bf16 0#16) t0 t1 t2 t3)
      k0_pay47 (ix2 i l)
    = if l.val < 64 then tile K V c mk s2 i 0 l else tile K V c mk t2 i 1 l := by
  pointwise [k0_pay4, k0_pay33, k0_pay20]
  rw [group0, group1, lane0, lane1]
  by_cases h : l.val < 64
  · simp only [h, if_true]
    pointwise [k0_pay24, k0_pay23, k0_pay17]
    have e : (⟨256 + i.val - 128 - 128, by omega⟩ : Fin 128) = i := Fin.ext (by simp only []; omega)
    try simp only [dif_neg (show ¬ 256 + i.val < 128 by omega), dif_neg (show ¬ 256 + i.val - 128 < 128 by omega), dif_pos (show 256 + i.val - 128 - 128 < 128 by omega)]
    try simp only [e, select_zero_mul]
    simp only [sum_lane0]
    unfold tile score
    congr
  · simp only [h, if_false]
    pointwise [k0_pay39, k0_pay36, k0_pay37, k0_pay38, k0_pay17]
    have e : (⟨256 + i.val - 128 - 128, by omega⟩ : Fin 128) = i := Fin.ext (by simp only []; omega)
    try simp only [dif_neg (show ¬ 256 + i.val < 128 by omega), dif_neg (show ¬ 256 + i.val - 128 < 128 by omega), dif_pos (show 256 + i.val - 128 - 128 < 128 by omega)]
    try simp only [e, select_zero_mul]
    simp only [sum_lane1]
    unfold tile score
    congr

/-- The tile of slab 3. -/
theorem tile3 (i l : Fin 128) :
    k0_pay5 (F := Ideal) (k0_pay34 V (k0_pay21 (FloatOps.ofBits FTy.f32 0#32)) (k0_pay22 k0_pay12) (k0_pay23 s0 s1 s2 s3) (k0_pay27 K k0_pay12 a b c d (k0_pay17 mk) s0 s1 s2 s3)
      (k0_pay28 K k0_pay12 a b c d (k0_pay17 mk) s0 s1 s2 s3) (k0_pay29 K k0_pay12 a b c d (k0_pay17 mk) s0 s1 s2 s3))
      (k0_pay35 k0_pay12)
      (k0_pay45 K c d (k0_pay17 mk) (k0_pay35 k0_pay12) (k0_pay36 k0_pay12 a) (k0_pay37 k0_pay12 b) (FloatOps.ofBits FTy.bf16 0#16) t0 t1 t2 t3)
      (k0_pay46 K V c d (k0_pay17 mk) (k0_pay35 k0_pay12) (k0_pay36 k0_pay12 a) (k0_pay37 k0_pay12 b) (FloatOps.ofBits FTy.bf16 0#16) t0 t1 t2 t3)
      k0_pay47 (ix2 i l)
    = if l.val < 64 then tile K V d mk s3 i 0 l else tile K V d mk t3 i 1 l := by
  pointwise [k0_pay5, k0_pay34, k0_pay21]
  rw [group0, group1, lane0, lane1]
  by_cases h : l.val < 64
  · simp only [h, if_true]
    pointwise [k0_pay24, k0_pay23, k0_pay17]
    have e : (⟨384 + i.val - 128 - 128 - 128, by omega⟩ : Fin 128) = i := Fin.ext (by simp only []; omega)
    try simp only [dif_neg (show ¬ 384 + i.val < 128 by omega), dif_neg (show ¬ 384 + i.val - 128 < 128 by omega), dif_neg (show ¬ 384 + i.val - 128 - 128 < 128 by omega)]
    try simp only [e, select_zero_mul]
    simp only [sum_lane0]
    unfold tile score
    congr
  · simp only [h, if_false]
    pointwise [k0_pay39, k0_pay36, k0_pay37, k0_pay38, k0_pay17]
    have e : (⟨384 + i.val - 128 - 128 - 128, by omega⟩ : Fin 128) = i := Fin.ext (by simp only []; omega)
    try simp only [dif_neg (show ¬ 384 + i.val < 128 by omega), dif_neg (show ¬ 384 + i.val - 128 < 128 by omega), dif_neg (show ¬ 384 + i.val - 128 - 128 < 128 by omega)]
    try simp only [e, select_zero_mul]
    simp only [sum_lane1]
    unfold tile score
    congr

end

end Attn
end
-- ==== Proof.Softmax.lean ====
/- Softmax attention with a sink over the extended reals: one reciprocal after the weighted sum, or
   a division of every weight before it, give the same mean. -/
module

public import proofs.«01_k».proof.Proof.Tile

@[expose] public section

set_option maxRecDepth 16384

noncomputable section

namespace Attn
open Idealize.ShloMosaic

theorem exp_nonneg (x : EReal) : 0 ≤ Ideal.exp x := by
  induction x with
  | bot => simp
  | top => simp
  | coe r => rw [Ideal.exp_coe]; exact_mod_cast (Real.exp_pos r).le

theorem exp_ne_top {x : EReal} (h : x ≠ ⊤) : Ideal.exp x ≠ ⊤ := by
  induction x with
  | bot => simp
  | top => exact absurd rfl h
  | coe r => rw [Ideal.exp_coe]; exact EReal.coe_ne_top _

theorem exp_pos {x : EReal} (h : x ≠ ⊥) : 0 < Ideal.exp x := by
  induction x with
  | bot => exact absurd rfl h
  | top => simp
  | coe r => rw [Ideal.exp_coe]; exact_mod_cast Real.exp_pos r

theorem sub_ne_top {x m : EReal} (hx : x ≠ ⊤) (hm : m ≠ ⊥) : x - m ≠ ⊤ := by
  induction x with
  | bot => simp
  | top => exact absurd rfl hx
  | coe r =>
    induction m with
    | bot => exact absurd rfl hm
    | top => simp
    | coe t => rw [← EReal.coe_sub]; exact EReal.coe_ne_top _

theorem sub_ne_bot {x m : EReal} (hx : x ≠ ⊥) (hm : m ≠ ⊤) : x - m ≠ ⊥ := by
  induction x with
  | bot => exact absurd rfl hx
  | top =>
    induction m with
    | bot => simp
    | top => exact absurd rfl hm
    | coe t => simp
  | coe r =>
    induction m with
    | bot => simp
    | top => exact absurd rfl hm
    | coe t => rw [← EReal.coe_sub]; exact EReal.coe_ne_bot _

theorem sum_ne_top {ι : Type*} (s : Finset ι) (f : ι → EReal) (h : ∀ i, f i ≠ ⊤) : ∑ i ∈ s, f i ≠ ⊤ := by
  classical
  induction s using Finset.induction_on with
  | empty => simp
  | insert a s ha ih => rw [Finset.sum_insert ha]; exact EReal.add_ne_top (h a) ih

/-- A finite nonnegative factor goes through a sum. -/
theorem sum_mul_fin {ι : Type*} (s : Finset ι) (f : ι → EReal) (e : EReal) (h0 : 0 ≤ e) (ht : e ≠ ⊤) :
    (∑ i ∈ s, f i) * e = ∑ i ∈ s, f i * e := by
  classical
  induction s using Finset.induction_on with
  | empty => simp
  | insert a s ha ih =>
    rw [Finset.sum_insert ha, Finset.sum_insert ha, ← ih, EReal.right_distrib_of_nonneg_of_ne_top h0 ht]

/-- A fold of `max` is a supremum. -/
theorem fold_max {ι : Type*} (s : Finset ι) (f : ι → EReal) : Finset.fold max ⊥ f s = s.sup f := rfl

theorem sup_ne_top {ι : Type*} (s : Finset ι) (f : ι → EReal) (h : ∀ i, f i ≠ ⊤) : s.sup f ≠ ⊤ := by
  classical
  induction s using Finset.induction_on with
  | empty => simp
  | insert a s ha ih =>
    rw [Finset.sup_insert]
    rcases max_choice (f a) (s.sup f) with e | e
    · change max _ _ ≠ _; rw [e]; exact h a
    · change max _ _ ≠ _; rw [e]; exact ih

section
variable (sl : Fin 384 → EReal) (sc : Fin 256 → EReal) (sk : EReal)

theorem top_ne_top (hl : ∀ x, sl x ≠ ⊤) (hc : ∀ x, sc x ≠ ⊤) (hs : sk ≠ ⊤) : top sl sc sk ≠ ⊤ := by
  unfold top
  rw [fold_max, fold_max]
  have h1 := sup_ne_top Finset.univ sl hl
  have h2 := sup_ne_top Finset.univ sc hc
  rcases max_choice (max (Finset.univ.sup sl) (Finset.univ.sup sc)) sk with e | e <;> rw [e]
  · rcases max_choice (Finset.univ.sup sl) (Finset.univ.sup sc) with e | e <;> rw [e] <;> assumption
  · exact hs

theorem top_ne_bot (hs : sk ≠ ⊥) : top sl sc sk ≠ ⊥ := fun h =>
  hs (le_bot_iff.mp (h ▸ le_max_right _ _))

/-- The denominator is positive and finite. -/
theorem den_pos (hl : ∀ x, sl x ≠ ⊤) (hc : ∀ x, sc x ≠ ⊤) (hs : sk ≠ ⊤) (hb : sk ≠ ⊥) :
    0 < den sl sc sk ∧ den sl sc sk ≠ ⊤ := by
  have ht := top_ne_top sl sc sk hl hc hs
  have hm := top_ne_bot sl sc sk hb
  refine ⟨lt_of_lt_of_le (exp_pos (sub_ne_bot hb ht)) (le_add_of_nonneg_left (add_nonneg ?_ ?_)), ?_⟩
  · exact Finset.sum_nonneg fun i _ => exp_nonneg _
  · exact Finset.sum_nonneg fun i _ => exp_nonneg _
  · exact EReal.add_ne_top (EReal.add_ne_top (sum_ne_top _ _ fun i => exp_ne_top (sub_ne_top (hl i) hm))
      (sum_ne_top _ _ fun i => exp_ne_top (sub_ne_top (hc i) hm))) (exp_ne_top (sub_ne_top hs hm))

/-- A masked entry takes no part. -/
theorem exp_bot_sub (m : EReal) : Ideal.exp (⊥ - m) = 0 := by
  rw [sub_eq_add_neg, EReal.bot_add]; rfl

/-- Dividing each weight, then summing. -/
theorem attn_div (hl : ∀ x, sl x ≠ ⊤) (hc : ∀ x, sc x ≠ ⊤) (hs : sk ≠ ⊤) (hb : sk ≠ ⊥)
    (vl wl : Fin 384 → EReal) (vc : Fin 256 → EReal) (hv : ∀ x, sl x ≠ ⊥ → wl x = vl x) :
    ∑ x, wl x * Ideal.div (Ideal.exp (sl x - top sl sc sk)) (den sl sc sk)
      + ∑ x, vc x * Ideal.div (Ideal.exp (sc x - top sl sc sk)) (den sl sc sk) = attn sl sc sk vl vc := by
  obtain ⟨h0, ht⟩ := den_pos sl sc sk hl hc hs hb
  unfold attn
  generalize den sl sc sk = D at h0 ht
  induction D with
  | bot => simp at h0
  | top => exact absurd rfl ht
  | coe r =>
    have hr : 0 < r := by exact_mod_cast h0
    have he : (0 : EReal) ≤ ((1 / r : ℝ) : EReal) := by exact_mod_cast (one_div_pos.mpr hr).le
    simp only [Ideal.div_coe hr.ne', one_mul]
    rw [EReal.right_distrib_of_nonneg_of_ne_top he (EReal.coe_ne_top _), sum_mul_fin _ _ _ he (EReal.coe_ne_top _),
      sum_mul_fin _ _ _ he (EReal.coe_ne_top _)]
    congr 1
    · refine Finset.sum_congr rfl fun x _ => ?_
      by_cases h : sl x = ⊥
      · rw [h, exp_bot_sub]; simp
      · rw [hv x h, ← mul_assoc, mul_comm (vl x)]
    · refine Finset.sum_congr rfl fun x _ => ?_
      rw [← mul_assoc, mul_comm (vc x)]

/-- The greatest of a latent query's 641 entries. -/
theorem top641 (T : Fin 641 → EReal) (h1 : ∀ x : Fin 384, T ⟨x, by omega⟩ = sl x)
    (h2 : ∀ x : Fin 256, T ⟨384 + x, by omega⟩ = sc x) (h3 : T ⟨640, by omega⟩ = sk) :
    max ⊥ (Finset.fold max ⊥ T Finset.univ) = top sl sc sk := by
  unfold top
  rw [fold_max, fold_max, fold_max, max_eq_right bot_le]
  apply le_antisymm
  · refine Finset.sup_le fun x _ => ?_
    by_cases a : x.val < 384
    · exact le_trans (le_of_eq (h1 ⟨x, a⟩)) (le_max_of_le_left (le_max_of_le_left (Finset.le_sup (f := sl) (Finset.mem_univ _))))
    · by_cases b : x.val < 640
      · have e : x = ⟨384 + (⟨x.val - 384, by omega⟩ : Fin 256).val, by simp only []; omega⟩ := Fin.ext (by simp only []; omega)
        rw [e, h2 ⟨x.val - 384, by omega⟩]
        exact le_max_of_le_left (le_max_of_le_right (Finset.le_sup (f := sc) (Finset.mem_univ _)))
      · have e : x = ⟨640, by omega⟩ := Fin.ext (by simp only []; omega)
        rw [e, h3]; exact le_max_right _ _
  · refine max_le (max_le (Finset.sup_le fun x _ => ?_) (Finset.sup_le fun x _ => ?_)) ?_
    · rw [← h1]; exact Finset.le_sup (f := T) (Finset.mem_univ _)
    · rw [← h2]; exact Finset.le_sup (f := T) (Finset.mem_univ _)
    · rw [← h3]; exact Finset.le_sup (f := T) (Finset.mem_univ _)

/-- The greatest of a context query's 257 entries. -/
theorem top257 (T : Fin 257 → EReal)
    (h2 : ∀ x : Fin 256, T ⟨x, by omega⟩ = sc x) (h3 : T ⟨256, by omega⟩ = sk) :
    max ⊥ (Finset.fold max ⊥ T Finset.univ) = top (fun _ => ⊥) sc sk := by
  unfold top
  rw [fold_max, fold_max, fold_max, max_eq_right bot_le]
  apply le_antisymm
  · refine Finset.sup_le fun x _ => ?_
    by_cases b : x.val < 256
    · exact le_trans (le_of_eq (h2 ⟨x, b⟩)) (le_max_of_le_left (le_max_of_le_right (Finset.le_sup (f := sc) (Finset.mem_univ _))))
    · have e : x = ⟨256, by omega⟩ := Fin.ext (by simp only []; omega)
      rw [e, h3]; exact le_max_right _ _
  · refine max_le (max_le (Finset.sup_le fun x _ => bot_le) (Finset.sup_le fun x _ => ?_)) ?_
    · rw [← h2]; exact Finset.le_sup (f := T) (Finset.mem_univ _)
    · rw [← h3]; exact Finset.le_sup (f := T) (Finset.mem_univ _)

/-- A latent query: softmax over its 641 entries, the sink's weight dropped. -/
theorem latent_eq (T : Fin 641 → EReal) (h1 : ∀ x : Fin 384, T ⟨x, by omega⟩ = sl x)
    (h2 : ∀ x : Fin 256, T ⟨384 + x, by omega⟩ = sc x) (h3 : T ⟨640, by omega⟩ = sk)
    (hl : ∀ x, sl x ≠ ⊤) (hc : ∀ x, sc x ≠ ⊤) (hs : sk ≠ ⊤) (hb : sk ≠ ⊥)
    (vl wl : Fin 384 → EReal) (vc : Fin 256 → EReal) (hv : ∀ x, sl x ≠ ⊥ → wl x = vl x) :
    ∑ x : Fin 384, wl x * Ideal.div (Ideal.exp (T ⟨x, by omega⟩ - max ⊥ (Finset.fold max ⊥ T Finset.univ)))
        (0 + ∑ y, Ideal.exp (T y - max ⊥ (Finset.fold max ⊥ T Finset.univ)))
      + ∑ x : Fin 256, vc x * Ideal.div (Ideal.exp (T ⟨384 + x, by omega⟩ - max ⊥ (Finset.fold max ⊥ T Finset.univ)))
        (0 + ∑ y, Ideal.exp (T y - max ⊥ (Finset.fold max ⊥ T Finset.univ)))
      = attn sl sc sk vl vc := by
  rw [← attn_div sl sc sk hl hc hs hb vl wl vc hv, top641 sl sc sk T h1 h2 h3]
  have hd : 0 + ∑ y, Ideal.exp (T y - top sl sc sk) = den sl sc sk := by
    rw [zero_add, Fin.sum_univ_two_halves 640 1 rfl, Fin.sum_univ_two_halves 384 256 rfl]
    unfold den
    simp only [← h1, ← h2, ← h3, Finset.univ_unique, Finset.sum_singleton]
    rfl
  rw [hd]
  simp only [h1, h2]

/-- A context query: softmax over its 257 entries, the sink's weight dropped. -/
theorem context_eq (T : Fin 257 → EReal)
    (h2 : ∀ x : Fin 256, T ⟨x, by omega⟩ = sc x) (h3 : T ⟨256, by omega⟩ = sk)
    (hc : ∀ x, sc x ≠ ⊤) (hs : sk ≠ ⊤) (hb : sk ≠ ⊥) (vl : Fin 384 → EReal) (vc : Fin 256 → EReal) :
    ∑ x : Fin 256, vc x * Ideal.div (Ideal.exp (T ⟨x, by omega⟩ - max ⊥ (Finset.fold max ⊥ T Finset.univ)))
        (0 + ∑ y, Ideal.exp (T y - max ⊥ (Finset.fold max ⊥ T Finset.univ)))
      = attn (fun _ => ⊥) sc sk vl vc := by
  rw [← attn_div (fun _ => ⊥) sc sk (fun _ => bot_ne_top) hc hs hb vl (fun _ => 0) vc (fun _ h => absurd rfl h), top257 sc sk T h2 h3]
  have hd : 0 + ∑ y, Ideal.exp (T y - top (fun _ => ⊥) sc sk) = den (fun _ => ⊥) sc sk := by
    rw [zero_add, Fin.sum_univ_two_halves 256 1 rfl]
    unfold den
    simp only [← h2, ← h3, Finset.univ_unique, Finset.sum_singleton, exp_bot_sub, Finset.sum_const_zero, zero_add]
    rfl
  rw [hd]
  simp only [h2, zero_mul, Finset.sum_const_zero, zero_add]

/-- Values of masked entries do not matter. -/
theorem attn_congr {sl sl' : Fin 384 → EReal} {sc sc' : Fin 256 → EReal} {sk sk' : EReal} {vl vl' : Fin 384 → EReal}
    {vc vc' : Fin 256 → EReal} (h1 : ∀ x, sl x = sl' x) (h2 : ∀ x, sc x = sc' x) (h3 : sk = sk')
    (h4 : ∀ x, sl' x ≠ ⊥ → vl x = vl' x) (h5 : ∀ x, vc x = vc' x) : attn sl sc sk vl vc = attn sl' sc' sk' vl' vc' := by
  obtain rfl : sl = sl' := funext h1
  obtain rfl : sc = sc' := funext h2
  obtain rfl : vc = vc' := funext h5
  subst h3
  unfold attn
  congr 2
  refine Finset.sum_congr rfl fun x _ => ?_
  by_cases h : sl x = ⊥
  · rw [h, exp_bot_sub]; simp
  · rw [h4 x h]

end
end Attn
end
-- ==== Proof.Spec.lean ====
/- The window attention as a function of plain index functions: which keys a query sees, its scores,
   and its softmax-weighted mean. Both programs are read into these terms. -/
module

public import proofs.«01_k».proof.Proof.Softmax

@[expose] public section

set_option maxRecDepth 16384

noncomputable section

namespace Attn
open Idealize.ShloMosaic

/-- Query `i` of block `n` sees entry `x` of the three blocks around it: within the window and inside the sequence. -/
def Sees (n : ℕ) (i : ℕ) (x : ℕ) : Prop := i ≤ x ∧ x ≤ i + 256 ∧ 128 ≤ n * 128 + x ∧ n * 128 + x < 8320

instance (n i x : ℕ) : Decidable (Sees n i x) := by unfold Sees; infer_instance

/-- Whether the distance between query and key is within the window, as a word. -/
theorem rel_word : ∀ z : Fin 512, IntOp.cmpi .sle (IntOp.absi (IntOp.subi (BitVec.ofNat 32 z.val) 256#32)) 128#32
    = if 128 ≤ z.val ∧ z.val ≤ 384 then 1#1 else 0#1 := by decide +kernel

/-- Whether a key position is inside the sequence, as a word. -/
theorem pos_word : ∀ w : Fin 8960, IntOp.andi (IntOp.cmpi .sge (IntOp.subi (BitVec.ofNat 32 w.val) 128#32) 0#32)
    (IntOp.cmpi .slt (IntOp.subi (BitVec.ofNat 32 w.val) 128#32) 8192#32)
    = if 128 ≤ w.val ∧ w.val < 8320 then 1#1 else 0#1 := by decide +kernel

theorem rel_sub (i : Fin 128) (x : Fin 384) : IntOp.subi (IntOp.subi (BitVec.ofNat 32 x.val) 128#32) (BitVec.ofNat 32 i.val)
    = IntOp.subi (BitVec.ofNat 32 (x.val + 128 - i.val)) 256#32 := by
  unfold IntOp.subi
  apply BitVec.eq_of_toNat_eq
  simp only [BitVec.toNat_sub, BitVec.toNat_ofNat]
  omega

theorem pos_sub (n : ℕ) (hn : n < 66) (x : Fin 384) :
    IntOp.addi (IntOp.subi (IntOp.muli (BitVec.ofNat 32 n) 128#32) 128#32) (BitVec.ofNat 32 x.val)
    = IntOp.subi (BitVec.ofNat 32 (n * 128 + x.val)) 128#32 := by
  unfold IntOp.subi IntOp.addi IntOp.muli
  apply BitVec.eq_of_toNat_eq
  simp only [BitVec.toNat_sub, BitVec.toNat_add, BitVec.toNat_mul, BitVec.toNat_ofNat]
  omega

/-- The mask's word at a query and an entry. -/
theorem sees_word (n : ℕ) (hn : n < 66) (i : Fin 128) (x : Fin 384) :
    IntOp.andi (IntOp.cmpi .sle (IntOp.absi (IntOp.subi (IntOp.subi (BitVec.ofNat 32 x.val) 128#32) (BitVec.ofNat 32 i.val))) 128#32)
      (IntOp.andi
        (IntOp.cmpi .sge (IntOp.addi (IntOp.subi (IntOp.muli (BitVec.ofNat 32 n) 128#32) 128#32) (BitVec.ofNat 32 x.val)) 0#32)
        (IntOp.cmpi .slt (IntOp.addi (IntOp.subi (IntOp.muli (BitVec.ofNat 32 n) 128#32) 128#32) (BitVec.ofNat 32 x.val)) 8192#32))
    = if Sees n i x then 1#1 else 0#1 := by
  rw [rel_sub, pos_sub n hn, rel_word ⟨x.val + 128 - i.val, by omega⟩, pos_word ⟨n * 128 + x.val, by omega⟩]
  by_cases h1 : 128 ≤ x.val + 128 - i.val ∧ x.val + 128 - i.val ≤ 384
  · by_cases h2 : 128 ≤ n * 128 + x.val ∧ n * 128 + x.val < 8320
    · rw [if_pos h1, if_pos h2, if_pos (show Sees n i x by unfold Sees; omega)]; rfl
    · rw [if_pos h1, if_neg h2, if_neg (show ¬ Sees n i x by unfold Sees; omega)]; rfl
  · rw [if_neg h1, if_neg (show ¬ Sees n i x by unfold Sees; omega)]
    split <;> rfl

section
variable (Q : Fin 2 → Fin 8192 → Fin 512 → EReal) (K V : Fin 2 → Fin 8192 → Fin 128 → EReal)
variable (QC : Fin 2 → Fin 256 → Fin 512 → EReal) (KC VC : Fin 2 → Fin 256 → Fin 128 → EReal) (S : Fin 8 → EReal)
variable (b : Fin 2) (n : Fin 64) (i : Fin 128) (h : Fin 2) (r : Fin 4)

/-- Score of a latent query against an entry of its three blocks; `⊥` where it does not see it. -/
def slat (x : Fin 384) : EReal :=
  if hv : Sees n i x then ∑ y : Fin 64, Q b ⟨n * 128 + i, by omega⟩ ⟨h * 256 + r * 64 + y, by omega⟩
    * K b ⟨n * 128 + x - 128, by unfold Sees at hv; omega⟩ ⟨h * 64 + y, by omega⟩ else ⊥

/-- Score of a latent query against a context key. -/
def sctx (x : Fin 256) : EReal :=
  ∑ y : Fin 64, Q b ⟨n * 128 + i, by omega⟩ ⟨h * 256 + r * 64 + y, by omega⟩ * KC b x ⟨h * 64 + y, by omega⟩

/-- Score of a context query against a context key. -/
def scon (j x : Fin 256) : EReal :=
  ∑ y : Fin 64, QC b j ⟨h * 256 + r * 64 + y, by omega⟩ * KC b x ⟨h * 64 + y, by omega⟩

/-- The value row at entry `x` of the three blocks around block `n`. -/
def vlat (c : Fin 128) (x : Fin 384) : EReal :=
  if hv : 128 ≤ n.val * 128 + x ∧ n.val * 128 + x < 8320 then V b ⟨n * 128 + x - 128, by omega⟩ c else 0

/-- The attention of a latent query. -/
def LAT (d : Fin 64) : EReal :=
  attn (slat Q K b n i h r) (sctx Q KC b n i h r) (S ⟨h * 4 + r, by omega⟩) (vlat V b n ⟨h * 64 + d, by omega⟩)
    (fun x => VC b x ⟨h * 64 + d, by omega⟩)

/-- The attention of a context query: it sees no latent key. -/
def CON (j : Fin 256) (d : Fin 64) : EReal :=
  attn (fun _ => ⊥) (scon QC KC b h r j) (S ⟨h * 4 + r, by omega⟩) (fun _ => 0) (fun x => VC b x ⟨h * 64 + d, by omega⟩)

/-- A number that is neither infinity. -/
def Fin' (x : EReal) : Prop := x ≠ ⊤ ∧ x ≠ ⊥

theorem mul_ne_top {x y : EReal} (hx : Fin' x) (hy : Fin' y) : x * y ≠ ⊤ := by
  lift x to ℝ using ⟨hx.1, hx.2⟩
  lift y to ℝ using ⟨hy.1, hy.2⟩
  rw [← EReal.coe_mul]; exact EReal.coe_ne_top _

theorem slat_ne_top (hQ : ∀ b p c, Fin' (Q b p c)) (hK : ∀ b p c, Fin' (K b p c)) (x : Fin 384) : slat Q K b n i h r x ≠ ⊤ := by
  unfold slat; split
  · exact sum_ne_top _ _ fun y => mul_ne_top (hQ _ _ _) (hK _ _ _)
  · exact bot_ne_top

theorem sctx_ne_top (hQ : ∀ b p c, Fin' (Q b p c)) (hK : ∀ b p c, Fin' (KC b p c)) (x : Fin 256) : sctx Q KC b n i h r x ≠ ⊤ :=
  sum_ne_top _ _ fun y => mul_ne_top (hQ _ _ _) (hK _ _ _)

theorem scon_ne_top (hQ : ∀ b p c, Fin' (QC b p c)) (hK : ∀ b p c, Fin' (KC b p c)) (j x : Fin 256) : scon QC KC b h r j x ≠ ⊤ :=
  sum_ne_top _ _ fun y => mul_ne_top (hQ _ _ _) (hK _ _ _)

end
end Attn
end
-- ==== Proof.Reads.lean ====
/- What the kernel's blocks hold, entry by entry, in terms of the arguments. -/
module

public import proofs.«01_k».proof.Proof.Spec
public import proofs.«01_k».proof.Proof.Gen.KernelIdeal.Frame
public import Idealize.ShloMosaic.Lib.Pipeline.ValueKit

@[expose] public section

set_option maxRecDepth 16384

noncomputable section

namespace Attn
open Idealize.ShloMosaic Idealize.ShloMosaic.TcCoe Idealize.SL.Sem
open Cert.KernelIdeal Cert.KernelIdeal.Gen

variable (m : (ℓ : Loc nD τ sig) → Buf (Elt Ideal) ℓ) (c : Dev nD)

/-- The queries, keys, values and sinks the kernel is given. -/
abbrev aQ : FVec Ideal S2x8192x512 .f32 := m ((c : Thread nD τ).loc main_arg0)
abbrev aK : FVec Ideal S2x8192x128 .f32 := m ((c : Thread nD τ).loc main_arg1)
abbrev aV : FVec Ideal S2x8192x128 .f32 := m ((c : Thread nD τ).loc main_arg2)
abbrev aQC : FVec Ideal S2x256x512 .f32 := m ((c : Thread nD τ).loc main_arg3)
abbrev aKC : FVec Ideal S2x256x128 .f32 := m ((c : Thread nD τ).loc main_arg4)
abbrev aVC : FVec Ideal S2x256x128 .f32 := m ((c : Thread nD τ).loc main_arg5)
abbrev aS : FVec Ideal S8 .f32 := m ((c : Thread nD τ).loc main_arg6)

/-- Latent rows above context rows, at a row and a column. -/
theorem rows128 (X : FVec Ideal S2x8192x128 .f32) (Y : FVec Ideal S2x256x128 .f32) (R : Fin 16896) (C : Fin 128) :
    truncf .bf16 (concatenate S16896x128 0 [⟨S16384x128, shapeCast S16384x128 X shapeCasts_S2x8192x128_S16384x128⟩,
      ⟨S512x128, shapeCast S512x128 Y shapeCasts_S2x256x128_S512x128⟩] concatenates_S16384x128_S512x128_S16896x128_d0) bitsLt_bf16_f32 (ix2 R C)
    = if h : R.val < 16384 then X (ix3 ⟨R / 8192, by omega⟩ ⟨R % 8192, by omega⟩ C)
      else Y (ix3 ⟨(R - 16384) / 256, by omega⟩ ⟨(R - 16384) % 256, by omega⟩ C) := by
  pointwise

/-- The same for the queries, whose heads are regrouped: repeat before group. -/
theorem rows512 (X : FVec Ideal S2x8192x512 .f32) (Y : FVec Ideal S2x256x512 .f32) (R : Fin 16896) (C : Fin 512) :
    truncf .bf16 (shapeCast S16896x512 (transpose S16896x4x2x64 [0, 2, 1, 3] (shapeCast S16896x2x4x64
      (concatenate S16896x512 0 [⟨S16384x512, shapeCast S16384x512 X shapeCasts_S2x8192x512_S16384x512⟩,
      ⟨S512x512, shapeCast S512x512 Y shapeCasts_S2x256x512_S512x512⟩] concatenates_S16384x512_S512x512_S16896x512_d0)
      shapeCasts_S16896x512_S16896x2x4x64) transposes_S16896x2x4x64_S16896x4x2x64_0_2_1_3) shapeCasts_S16896x4x2x64_S16896x512) bitsLt_bf16_f32 (ix2 R C)
    = if h : R.val < 16384 then X (ix3 ⟨R / 8192, by omega⟩ ⟨R % 8192, by omega⟩ ⟨C / 64 % 2 * 256 + C / 128 * 64 + C % 64, by omega⟩)
      else Y (ix3 ⟨(R - 16384) / 256, by omega⟩ ⟨(R - 16384) % 256, by omega⟩ ⟨C / 64 % 2 * 256 + C / 128 * 64 + C % 64, by omega⟩) := by
  pointwise

/-- The keys as the kernel lays them out. -/
theorem rowsK (R : Fin 16896) (C : Fin 128) : (V m c main_v10 : FVec Ideal S16896x128 .bf16) (ix2 R C) =
    if h : R.val < 16384 then aK m c (ix3 ⟨R / 8192, by omega⟩ ⟨R % 8192, by omega⟩ C)
    else aKC m c (ix3 ⟨(R - 16384) / 256, by omega⟩ ⟨(R - 16384) % 256, by omega⟩ C) := by
  entry_read
  exact rows128 _ _ R C

/-- The values as the kernel lays them out. -/
theorem rowsV (R : Fin 16896) (C : Fin 128) : (V m c main_v14 : FVec Ideal S16896x128 .bf16) (ix2 R C) =
    if h : R.val < 16384 then aV m c (ix3 ⟨R / 8192, by omega⟩ ⟨R % 8192, by omega⟩ C)
    else aVC m c (ix3 ⟨(R - 16384) / 256, by omega⟩ ⟨(R - 16384) % 256, by omega⟩ C) := by
  entry_read
  exact rows128 _ _ R C

/-- The queries, heads regrouped. -/
theorem rowsQ (R : Fin 16896) (C : Fin 512) : (V m c main_v6 : FVec Ideal S16896x512 .bf16) (ix2 R C) =
    if h : R.val < 16384 then aQ m c (ix3 ⟨R / 8192, by omega⟩ ⟨R % 8192, by omega⟩ ⟨C / 64 % 2 * 256 + C / 128 * 64 + C % 64, by omega⟩)
    else aQC m c (ix3 ⟨(R - 16384) / 256, by omega⟩ ⟨(R - 16384) % 256, by omega⟩ ⟨C / 64 % 2 * 256 + C / 128 * 64 + C % 64, by omega⟩) := by
  entry_read
  exact rows512 _ _ R C

/-- Where each window's block lies. -/
theorem idx_val : ∀ t : Fin cfg0.N, (win0_0.index t = ![0] ∧
     win0_1.index t = ![if t.val % 66 < 64 then t.val / 66 * 64 + t.val % 66 else 128 + t.val/66*2 + (t.val % 66 - 64),0]) ∧
     win0_10.index t = ![if t.val % 66 < 64 then t.val / 66 * 64 + t.val % 66 else 128 + t.val/66*2 + (t.val % 66 - 64),0] ∧
     win0_2.index t = ![t.val/66*64 + (min (t.val%66 - 1) 63),0] ∧ win0_3.index t = ![t.val/66*64 + (min (t.val%66) 63),0]
     ∧ win0_4.index t = ![t.val/66*64 + (min (t.val%66+1) 63),0] ∧
     win0_5.index t = ![t.val/66*64 + (min (t.val%66 - 1) 63),0] ∧ win0_6.index t = ![t.val/66*64 + (min (t.val%66) 63),0]
     ∧ win0_7.index t = ![t.val/66*64 + (min (t.val%66+1) 63),0] ∧
     win0_8.index t = ![64 + t.val/66,0] ∧ win0_9.index t = ![64 + t.val/66,0] := (by decide +kernel : ∀ t : Fin grid0.N, _)

/-- Where each window's block lies, window by window. -/
theorem idx0 (t : Fin cfg0.N) : win0_0.index t = ![0] := (idx_val t).1.1
theorem idx1 (t : Fin cfg0.N) : win0_1.index t = ![if t.val % 66 < 64 then t.val / 66 * 64 + t.val % 66 else 128 + t.val/66*2 + (t.val % 66 - 64),0] := (idx_val t).1.2
theorem idx2 (t : Fin cfg0.N) : win0_2.index t = ![t.val/66*64 + (min (t.val%66 - 1) 63),0] := (idx_val t).2.2.1
theorem idx3 (t : Fin cfg0.N) : win0_3.index t = ![t.val/66*64 + (min (t.val%66) 63),0] := (idx_val t).2.2.2.1
theorem idx4 (t : Fin cfg0.N) : win0_4.index t = ![t.val/66*64 + (min (t.val%66+1) 63),0] := (idx_val t).2.2.2.2.1
theorem idx5 (t : Fin cfg0.N) : win0_5.index t = ![t.val/66*64 + (min (t.val%66 - 1) 63),0] := (idx_val t).2.2.2.2.2.1
theorem idx6 (t : Fin cfg0.N) : win0_6.index t = ![t.val/66*64 + (min (t.val%66) 63),0] := (idx_val t).2.2.2.2.2.2.1
theorem idx7 (t : Fin cfg0.N) : win0_7.index t = ![t.val/66*64 + (min (t.val%66+1) 63),0] := (idx_val t).2.2.2.2.2.2.2.1
theorem idx8 (t : Fin cfg0.N) : win0_8.index t = ![64 + t.val/66,0] := (idx_val t).2.2.2.2.2.2.2.2.1
theorem idx9 (t : Fin cfg0.N) : win0_9.index t = ![64 + t.val/66,0] := (idx_val t).2.2.2.2.2.2.2.2.2
theorem idx10 (t : Fin cfg0.N) : win0_10.index t = ![if t.val % 66 < 64 then t.val / 66 * 64 + t.val % 66 else 128 + t.val/66*2 + (t.val % 66 - 64),0] := (idx_val t).2.1

end Attn
end
-- ==== Proof.Blocks.lean ====
/- The blocks of a grid point, entry by entry, in terms of the arguments. -/
module

public import proofs.«01_k».proof.Proof.Reads

@[expose] public section

set_option maxRecDepth 16384

noncomputable section

namespace Attn
open Idealize.ShloMosaic Idealize.ShloMosaic.TcCoe Idealize.SL.Sem
open Cert.KernelIdeal Cert.KernelIdeal.Gen

variable (m : (ℓ : Loc nD τ sig) → Buf (Elt Ideal) ℓ) (c : Dev nD) (t : Fin cfg0.N)

theorem t_lt : t.val < 132 := lt_of_lt_of_eq t.isLt N_0

/-- The block of keys before, at and after the point's own. -/
theorem blk2 (P : ℕ) (hb : P < 64) (e : P = min (t.val % 66 - 1) 63) (x C : Fin 128) : (iblk m c 2 t : FVec Ideal S128x128 .bf16) (ix2 x C) = (V m c main_v10 : FVec Ideal S16896x128 .bf16)
    (ix2 ⟨(t.val / 66 * 64 + P) * 128 + x, by have := t_lt t; clear e; omega⟩ C) := by
  have ht := t_lt t
  have e' : win0_2.index t = ![t.val / 66 * 64 + P, 0] := by subst e; exact idx2 t
  clear e
  unfold iblk View.read
  rw [cast_eq]
  refine congrArg (V m c (Pipeline.arrRef spec0 2)) ?_
  funext a
  refine Fin.ext ?_
  refine ((cfg0.win 2).rect_emb_val t (ix2 x C) a).trans ?_
  rw [show (cfg0.win 2).index t = ![t.val / 66 * 64 + P, 0] from e']
  fin_cases a
  · rfl
  · change 0 * 128 + C.val = C.val
    omega

theorem blk3 (P : ℕ) (hb : P < 64) (e : P = min (t.val % 66) 63) (x C : Fin 128) : (iblk m c 3 t : FVec Ideal S128x128 .bf16) (ix2 x C) = (V m c main_v10 : FVec Ideal S16896x128 .bf16)
    (ix2 ⟨(t.val / 66 * 64 + P) * 128 + x, by have := t_lt t; clear e; omega⟩ C) := by
  have ht := t_lt t
  have e' : win0_3.index t = ![t.val / 66 * 64 + P, 0] := by subst e; exact idx3 t
  clear e
  change (V m c main_v10 : FVec Ideal S16896x128 .bf16) (((cfg0.win 3).blk t).view.emb (ix2 x C)) = _
  refine congrArg (V m c main_v10 : FVec Ideal S16896x128 .bf16) ?_
  blk_ext [e']

theorem blk4 (P : ℕ) (hb : P < 64) (e : P = min (t.val % 66 + 1) 63) (x C : Fin 128) : (iblk m c 4 t : FVec Ideal S128x128 .bf16) (ix2 x C) = (V m c main_v10 : FVec Ideal S16896x128 .bf16)
    (ix2 ⟨(t.val / 66 * 64 + P) * 128 + x, by have := t_lt t; clear e; omega⟩ C) := by
  have ht := t_lt t
  have e' : win0_4.index t = ![t.val / 66 * 64 + P, 0] := by subst e; exact idx4 t
  clear e
  change (V m c main_v10 : FVec Ideal S16896x128 .bf16) (((cfg0.win 4).blk t).view.emb (ix2 x C)) = _
  refine congrArg (V m c main_v10 : FVec Ideal S16896x128 .bf16) ?_
  blk_ext [e']

/-- The same blocks of values. -/
theorem blk5 (P : ℕ) (hb : P < 64) (e : P = min (t.val % 66 - 1) 63) (x C : Fin 128) : (iblk m c 5 t : FVec Ideal S128x128 .bf16) (ix2 x C) = (V m c main_v14 : FVec Ideal S16896x128 .bf16)
    (ix2 ⟨(t.val / 66 * 64 + P) * 128 + x, by have := t_lt t; clear e; omega⟩ C) := by
  have ht := t_lt t
  have e' : win0_5.index t = ![t.val / 66 * 64 + P, 0] := by subst e; exact idx5 t
  clear e
  unfold iblk View.read
  rw [cast_eq]
  refine congrArg (V m c (Pipeline.arrRef spec0 5)) ?_
  funext a
  refine Fin.ext ?_
  refine ((cfg0.win 5).rect_emb_val t (ix2 x C) a).trans ?_
  rw [show (cfg0.win 5).index t = ![t.val / 66 * 64 + P, 0] from e']
  fin_cases a
  · rfl
  · change 0 * 128 + C.val = C.val
    omega

theorem blk6 (P : ℕ) (hb : P < 64) (e : P = min (t.val % 66) 63) (x C : Fin 128) : (iblk m c 6 t : FVec Ideal S128x128 .bf16) (ix2 x C) = (V m c main_v14 : FVec Ideal S16896x128 .bf16)
    (ix2 ⟨(t.val / 66 * 64 + P) * 128 + x, by have := t_lt t; clear e; omega⟩ C) := by
  have ht := t_lt t
  have e' : win0_6.index t = ![t.val / 66 * 64 + P, 0] := by subst e; exact idx6 t
  clear e
  change (V m c main_v14 : FVec Ideal S16896x128 .bf16) (((cfg0.win 6).blk t).view.emb (ix2 x C)) = _
  refine congrArg (V m c main_v14 : FVec Ideal S16896x128 .bf16) ?_
  blk_ext [e']

theorem blk7 (P : ℕ) (hb : P < 64) (e : P = min (t.val % 66 + 1) 63) (x C : Fin 128) : (iblk m c 7 t : FVec Ideal S128x128 .bf16) (ix2 x C) = (V m c main_v14 : FVec Ideal S16896x128 .bf16)
    (ix2 ⟨(t.val / 66 * 64 + P) * 128 + x, by have := t_lt t; clear e; omega⟩ C) := by
  have ht := t_lt t
  have e' : win0_7.index t = ![t.val / 66 * 64 + P, 0] := by subst e; exact idx7 t
  clear e
  change (V m c main_v14 : FVec Ideal S16896x128 .bf16) (((cfg0.win 7).blk t).view.emb (ix2 x C)) = _
  refine congrArg (V m c main_v14 : FVec Ideal S16896x128 .bf16) ?_
  blk_ext [e']

/-- The context's keys. -/
theorem blk8 (x : Fin 256) (C : Fin 128) : (iblk m c 8 t : FVec Ideal S256x128 .bf16) (ix2 x C) = (V m c main_v10 : FVec Ideal S16896x128 .bf16)
    (ix2 ⟨(64 + t.val / 66) * 256 + x, by have := t_lt t; omega⟩ C) := by
  have ht := t_lt t
  change (V m c main_v10 : FVec Ideal S16896x128 .bf16) (((cfg0.win 8).blk t).view.emb (ix2 x C)) = _
  refine congrArg (V m c main_v10 : FVec Ideal S16896x128 .bf16) ?_
  blk_ext [idx8 t]

/-- The context's values. -/
theorem blk9 (x : Fin 256) (C : Fin 128) : (iblk m c 9 t : FVec Ideal S256x128 .bf16) (ix2 x C) = (V m c main_v14 : FVec Ideal S16896x128 .bf16)
    (ix2 ⟨(64 + t.val / 66) * 256 + x, by have := t_lt t; omega⟩ C) := by
  have ht := t_lt t
  change (V m c main_v14 : FVec Ideal S16896x128 .bf16) (((cfg0.win 9).blk t).view.emb (ix2 x C)) = _
  refine congrArg (V m c main_v14 : FVec Ideal S16896x128 .bf16) ?_
  blk_ext [idx9 t]

/-- The point's block of queries. -/
theorem blk1 (P : ℕ) (hb : P < 132) (e : P = if t.val % 66 < 64 then t.val / 66 * 64 + t.val % 66 else 128 + t.val / 66 * 2 + (t.val % 66 - 64))
    (i : Fin 128) (C : Fin 512) : (iblk m c 1 t : FVec Ideal S128x512 .bf16) (ix2 i C) = (V m c main_v6 : FVec Ideal S16896x512 .bf16)
    (ix2 ⟨P * 128 + i, by clear e; omega⟩ C) := by
  have ht := t_lt t
  have e' : win0_1.index t = ![P, 0] := by subst e; exact idx1 t
  clear e
  change (V m c main_v6 : FVec Ideal S16896x512 .bf16) (((cfg0.win 1).blk t).view.emb (ix2 i C)) = _
  refine congrArg (V m c main_v6 : FVec Ideal S16896x512 .bf16) ?_
  blk_ext [e']

/-- The sinks. -/
theorem blk0 (a : Fin 8) : (iblk m c 0 t : FVec Ideal S8 .f32) (ix1 a) = aS m c (ix1 a) := by
  blk_ext [iblk, V, idx0 t]

section
variable (hn : t.val % 66 < 64)
include hn

/-- A latent point's queries. -/
theorem q_lat (i : Fin 128) (g : Fin 2) (r : Fin 4) (y : Fin 64) :
    (iblk m c 1 t : FVec Ideal S128x512 .bf16) (ix2 i ⟨128 * r + (64 * g + y), by omega⟩)
    = aQ m c (ix3 ⟨t.val / 66, by have := t_lt t; omega⟩ ⟨t.val % 66 * 128 + i, by omega⟩ ⟨g * 256 + r * 64 + y, by omega⟩) := by
  have ht := t_lt t
  rw [blk1 m c t (t.val / 66 * 64 + t.val % 66) (by omega) (if_pos hn).symm, rowsQ, dif_pos (by simp only []; omega)]
  blk_ext

end

/-- A context point's queries. -/
theorem q_con (hn : ¬ t.val % 66 < 64) (i : Fin 128) (g : Fin 2) (r : Fin 4) (y : Fin 64) :
    (iblk m c 1 t : FVec Ideal S128x512 .bf16) (ix2 i ⟨128 * r + (64 * g + y), by omega⟩)
    = aQC m c (ix3 ⟨t.val / 66, by have := t_lt t; omega⟩ ⟨(t.val % 66 - 64) * 128 + i, by have := t_lt t; omega⟩ ⟨g * 256 + r * 64 + y, by omega⟩) := by
  have ht := t_lt t
  rw [blk1 m c t (128 + t.val / 66 * 2 + (t.val % 66 - 64)) (by omega) (if_neg hn).symm, rowsQ, dif_neg (by simp only []; omega)]
  blk_ext

end Attn
end
-- ==== Proof.Point.lean ====
/- The four blocks stacked under a grid point's queries, and each stored tile as attention over the arguments. -/
module

public import proofs.«01_k».proof.Proof.Blocks
public import proofs.«01_k».proof.Proof.Softmax

@[expose] public section

set_option maxRecDepth 16384

noncomputable section

namespace Attn
open Idealize.ShloMosaic Idealize.ShloMosaic.TcCoe Idealize.SL.Sem
open Cert.KernelIdeal Cert.KernelIdeal.Gen

/-- Four blocks stacked. -/
theorem stackK (A B C : FVec Ideal S128x128 .bf16) (D : FVec Ideal S256x128 .bf16) (x : Fin 640) (l : Fin 128) :
    k0_pay7 (F := Ideal) A B C D (ix2 x l) = if h : x.val < 128 then A (ix2 ⟨x, h⟩ l) else
      if h : x.val - 128 < 128 then B (ix2 ⟨x - 128, h⟩ l) else if h : x.val - 128 - 128 < 128 then C (ix2 ⟨x - 128 - 128, h⟩ l)
      else D (ix2 ⟨x - 128 - 128 - 128, by omega⟩ l) := by
  pointwise [k0_pay7]

theorem stackV (A B C : FVec Ideal S128x128 .bf16) (D : FVec Ideal S256x128 .bf16) (x : Fin 640) (l : Fin 128) :
    k0_pay11 (F := Ideal) (k0_pay8 A) (k0_pay9 B) (k0_pay10 C) D (ix2 x l) = if h : x.val < 128 then A (ix2 ⟨x, h⟩ l) else
      if h : x.val - 128 < 128 then B (ix2 ⟨x - 128, h⟩ l) else if h : x.val - 128 - 128 < 128 then C (ix2 ⟨x - 128 - 128, h⟩ l)
      else D (ix2 ⟨x - 128 - 128 - 128, by omega⟩ l) := by
  pointwise [k0_pay11, k0_pay8, k0_pay9, k0_pay10]

/-- The four slabs of a block of queries. -/
theorem slab0 (X : FVec Ideal S128x512 .bf16) (Y : FVec Ideal S128x128 .bf16)
    (e : ∀ x, Y x = X ((Rect.unit (s := S128x512) ![0, 0] ![128, 128] inb_S128x512_S128x128_0_0).idx x)) (i l : Fin 128) :
    k0_pay13 (F := Ideal) Y (ix2 i l) = X (ix2 i ⟨128 * 0 + l, by omega⟩) := by
  pointwise [k0_pay13, e]
theorem slab1 (X : FVec Ideal S128x512 .bf16) (Y : FVec Ideal S128x128 .bf16)
    (e : ∀ x, Y x = X ((Rect.unit (s := S128x512) ![0, 128] ![128, 128] inb_S128x512_S128x128_0_128).idx x)) (i l : Fin 128) :
    k0_pay14 (F := Ideal) Y (ix2 i l) = X (ix2 i ⟨128 * 1 + l, by omega⟩) := by
  pointwise [k0_pay14, e]
theorem slab2 (X : FVec Ideal S128x512 .bf16) (Y : FVec Ideal S128x128 .bf16)
    (e : ∀ x, Y x = X ((Rect.unit (s := S128x512) ![0, 256] ![128, 128] inb_S128x512_S128x128_0_256).idx x)) (i l : Fin 128) :
    k0_pay15 (F := Ideal) Y (ix2 i l) = X (ix2 i ⟨128 * 2 + l, by omega⟩) := by
  pointwise [k0_pay15, e]
theorem slab3 (X : FVec Ideal S128x512 .bf16) (Y : FVec Ideal S128x128 .bf16)
    (e : ∀ x, Y x = X ((Rect.unit (s := S128x512) ![0, 384] ![128, 128] inb_S128x512_S128x128_0_384).idx x)) (i l : Fin 128) :
    k0_pay16 (F := Ideal) Y (ix2 i l) = X (ix2 i ⟨128 * 3 + l, by omega⟩) := by
  pointwise [k0_pay16, e]

/-- The mask of a grid point: only latent points see their neighbourhood. -/
theorem mask_word (j : grid0.Coords) (n : ℕ) (hn : n < 66) (e : (j 1).val = n) (i : Fin 128) (x : Fin 384) :
    k0_pay6 j (ix2 i x) = if n < 64 ∧ Sees n i x then 1#1 else 0#1 := by
  have hw : Scalar.cmpi .slt (BitVec.ofNat 32 n) 64#32 = if n < 64 then 1#1 else 0#1 := by
    have : ∀ k : Fin 66, Scalar.cmpi .slt (BitVec.ofNat 32 k.val) 64#32 = if k.val < 64 then 1#1 else 0#1 := by decide +kernel
    exact this ⟨n, hn⟩
  pointwise [k0_pay6, e]
  refine (congrArg₂ IntOp.andi ((BitVec.and_assoc _ _ _).trans (sees_word n hn i x)) hw).trans ?_
  by_cases h1 : n < 64
  · by_cases h2 : Sees n i x
    · rw [if_pos h1, if_pos h2, if_pos ⟨h1, h2⟩]; rfl
    · rw [if_pos h1, if_neg h2, if_neg (fun h => h2 h.2)]; rfl
  · rw [if_neg h1, if_neg (show ¬ (n < 64 ∧ Sees n i x) from fun h => h1 h.1)]; split <;> rfl

/-- A stored entry at a latent point is the attention of a latent query. -/
theorem tile_lat (K V : FVec Ideal S640x128 .bf16) (w : FVec Ideal S128x128 .bf16) (mk : IVec S128x384 1) (sk : EReal)
    (Q : Fin 2 → Fin 8192 → Fin 512 → EReal) (KL VL : Fin 2 → Fin 8192 → Fin 128 → EReal)
    (KC VC : Fin 2 → Fin 256 → Fin 128 → EReal) (S : Fin 8 → EReal) (b : Fin 2) (n : Fin 64) (i : Fin 128) (g : Fin 2) (r : Fin 4) (d : Fin 64)
    (hm : ∀ x, mk (ix2 i x) = if Sees n i x then 1#1 else 0#1)
    (hw : ∀ y : Fin 64, w (ix2 i ⟨64 * g + y, by omega⟩) = Q b ⟨n * 128 + i, by omega⟩ ⟨g * 256 + r * 64 + y, by omega⟩)
    (hK : ∀ (x : Fin 384) l (hv : 128 ≤ n.val * 128 + x ∧ n.val * 128 + x < 8320), K (ix2 ⟨x, by omega⟩ l) = KL b ⟨n * 128 + x - 128, by omega⟩ l)
    (hV : ∀ (x : Fin 384) l (hv : 128 ≤ n.val * 128 + x ∧ n.val * 128 + x < 8320), V (ix2 ⟨x, by omega⟩ l) = VL b ⟨n * 128 + x - 128, by omega⟩ l)
    (hKC : ∀ (x : Fin 256) l, K (ix2 ⟨384 + x, by omega⟩ l) = KC b x l) (hVC : ∀ (x : Fin 256) l, V (ix2 ⟨384 + x, by omega⟩ l) = VC b x l)
    (hs : sk = S ⟨g * 4 + r, by omega⟩) (l : Fin 128) (hl : l.val = g * 64 + d) :
    tile K V w mk sk i g l = LAT Q KL VL KC VC S b n i g r d := by
  have e64 : ∀ y : Fin 64, (⟨64 * g + y, by omega⟩ : Fin 128) = ⟨g * 64 + y, by omega⟩ := fun y => Fin.ext (by simp only []; omega)
  have el : l = ⟨g * 64 + d, by clear hl; omega⟩ := Fin.ext hl
  clear hl
  subst el
  unfold tile LAT
  refine attn_congr (fun x => ?_) (fun x => ?_) hs (fun x hx => ?_) (fun x => hVC x _)
  · rw [hm]
    unfold slat
    by_cases hv : Sees n i x
    · rw [if_pos hv, dif_pos hv]
      refine (if_pos rfl : Scalar.select 1#1 _ _ = _).trans ?_
      unfold score
      refine Finset.sum_congr rfl fun y _ => ?_
      rw [hw, hK x _ ⟨hv.2.2.1, hv.2.2.2⟩, e64]
    · rw [if_neg hv, dif_neg hv]; rfl
  · unfold score sctx
    refine Finset.sum_congr rfl fun y _ => ?_
    rw [hw, hKC, e64]
  · unfold slat at hx
    by_cases hv : Sees n i x
    · rw [hV x _ ⟨hv.2.2.1, hv.2.2.2⟩]
      unfold vlat
      rw [dif_pos ⟨hv.2.2.1, hv.2.2.2⟩]
    · rw [dif_neg hv] at hx; exact absurd rfl hx

/-- A stored entry at a context point is the attention of a context query. -/
theorem tile_con (K V : FVec Ideal S640x128 .bf16) (w : FVec Ideal S128x128 .bf16) (mk : IVec S128x384 1) (sk : EReal)
    (QC : Fin 2 → Fin 256 → Fin 512 → EReal)
    (KC VC : Fin 2 → Fin 256 → Fin 128 → EReal) (S : Fin 8 → EReal) (b : Fin 2) (i : Fin 128) (j : Fin 256) (g : Fin 2) (r : Fin 4) (d : Fin 64)
    (hm : ∀ x, mk (ix2 i x) = 0#1)
    (hw : ∀ y : Fin 64, w (ix2 i ⟨64 * g + y, by omega⟩) = QC b j ⟨g * 256 + r * 64 + y, by omega⟩)
    (hKC : ∀ (x : Fin 256) l, K (ix2 ⟨384 + x, by omega⟩ l) = KC b x l) (hVC : ∀ (x : Fin 256) l, V (ix2 ⟨384 + x, by omega⟩ l) = VC b x l)
    (hs : sk = S ⟨g * 4 + r, by omega⟩) (l : Fin 128) (hl : l.val = g * 64 + d) :
    tile K V w mk sk i g l = CON QC KC VC S b g r j d := by
  have e64 : ∀ y : Fin 64, (⟨64 * g + y, by omega⟩ : Fin 128) = ⟨g * 64 + y, by omega⟩ := fun y => Fin.ext (by simp only []; omega)
  have el : l = ⟨g * 64 + d, by clear hl; omega⟩ := Fin.ext hl
  clear hl
  subst el
  unfold tile CON
  refine attn_congr (fun x => ?_) (fun x => ?_) hs (fun x hx => absurd rfl hx) (fun x => hVC x _)
  · rw [hm]; rfl
  · unfold score scon
    refine Finset.sum_congr rfl fun y _ => ?_
    rw [hw, hKC, e64]

variable (m : (ℓ : Loc nD τ sig) → Buf (Elt Ideal) ℓ) (c : Dev nD) (t : Fin cfg0.N)

/-- The keys of a latent point at a position inside the sequence. -/
theorem keys_lat (hn : t.val % 66 < 64) (x : Fin 384) (l : Fin 128) (hv : 128 ≤ t.val % 66 * 128 + x ∧ t.val % 66 * 128 + x < 8320) :
    k0_pay7 (F := Ideal) (iblk m c 2 t) (iblk m c 3 t) (iblk m c 4 t) (iblk m c 8 t) (ix2 ⟨x, by omega⟩ l)
    = aK m c (ix3 ⟨t.val / 66, by have := t_lt t; omega⟩ ⟨t.val % 66 * 128 + x - 128, by omega⟩ l) := by
  have ht := t_lt t
  refine (stackK _ _ _ _ _ _).trans ?_
  by_cases h1 : x.val < 128
  · rw [dif_pos h1]
    refine (blk2 m c t (t.val % 66 - 1) (by omega) (by omega) ⟨x, h1⟩ l).trans ?_
    rw [rowsK, dif_pos (by simp only []; omega)]
    blk_ext
  · rw [dif_neg h1]
    by_cases h2 : x.val - 128 < 128
    · rw [dif_pos h2]
      refine (blk3 m c t (t.val % 66) (by omega) (by omega) ⟨x - 128, h2⟩ l).trans ?_
      rw [rowsK, dif_pos (by simp only []; omega)]
      blk_ext
    · rw [dif_neg h2, dif_pos (show x.val - 128 - 128 < 128 by omega)]
      refine (blk4 m c t (t.val % 66 + 1) (by omega) (by omega) ⟨x - 128 - 128, by omega⟩ l).trans ?_
      rw [rowsK, dif_pos (by simp only []; omega)]
      blk_ext

/-- The context's keys at any point. -/
theorem keys_con (x : Fin 256) (l : Fin 128) :
    k0_pay7 (F := Ideal) (iblk m c 2 t) (iblk m c 3 t) (iblk m c 4 t) (iblk m c 8 t) (ix2 ⟨384 + x, by omega⟩ l)
    = aKC m c (ix3 ⟨t.val / 66, by have := t_lt t; omega⟩ x l) := by
  have ht := t_lt t
  refine (stackK _ _ _ _ _ _).trans ?_
  rw [dif_neg (by simp only []; omega), dif_neg (by simp only []; omega), dif_neg (by simp only []; omega)]
  refine (blk8 m c t _ l).trans ?_
  rw [rowsK, dif_neg (by simp only []; omega)]
  blk_ext

/-- The values of a latent point at a position inside the sequence. -/
theorem vals_lat (hn : t.val % 66 < 64) (x : Fin 384) (l : Fin 128) (hv : 128 ≤ t.val % 66 * 128 + x ∧ t.val % 66 * 128 + x < 8320) :
    k0_pay11 (F := Ideal) (k0_pay8 (iblk m c 5 t)) (k0_pay9 (iblk m c 6 t)) (k0_pay10 (iblk m c 7 t)) (iblk m c 9 t) (ix2 ⟨x, by omega⟩ l)
    = aV m c (ix3 ⟨t.val / 66, by have := t_lt t; omega⟩ ⟨t.val % 66 * 128 + x - 128, by omega⟩ l) := by
  have ht := t_lt t
  refine (stackV _ _ _ _ _ _).trans ?_
  by_cases h1 : x.val < 128
  · rw [dif_pos h1]
    refine (blk5 m c t (t.val % 66 - 1) (by omega) (by omega) ⟨x, h1⟩ l).trans ?_
    rw [rowsV, dif_pos (by simp only []; omega)]
    blk_ext
  · rw [dif_neg h1]
    by_cases h2 : x.val - 128 < 128
    · rw [dif_pos h2]
      refine (blk6 m c t (t.val % 66) (by omega) (by omega) ⟨x - 128, h2⟩ l).trans ?_
      rw [rowsV, dif_pos (by simp only []; omega)]
      blk_ext
    · rw [dif_neg h2, dif_pos (show x.val - 128 - 128 < 128 by omega)]
      refine (blk7 m c t (t.val % 66 + 1) (by omega) (by omega) ⟨x - 128 - 128, by omega⟩ l).trans ?_
      rw [rowsV, dif_pos (by simp only []; omega)]
      blk_ext

/-- The context's values at any point. -/
theorem vals_con (x : Fin 256) (l : Fin 128) :
    k0_pay11 (F := Ideal) (k0_pay8 (iblk m c 5 t)) (k0_pay9 (iblk m c 6 t)) (k0_pay10 (iblk m c 7 t)) (iblk m c 9 t) (ix2 ⟨384 + x, by omega⟩ l)
    = aVC m c (ix3 ⟨t.val / 66, by have := t_lt t; omega⟩ x l) := by
  have ht := t_lt t
  refine (stackV _ _ _ _ _ _).trans ?_
  rw [dif_neg (by simp only []; omega), dif_neg (by simp only []; omega), dif_neg (by simp only []; omega)]
  refine (blk9 m c t _ l).trans ?_
  rw [rowsV, dif_neg (by simp only []; omega)]
  blk_ext

end Attn
end
-- ==== Proof.RefStages.lean ====
/- The reference's result in stages, and each stage entry by entry. -/
module

public import proofs.«01_k».proof.Proof.Gen.ReferenceIdeal.Run
public import Idealize.ShloMosaic.Lib.Pointwise

@[expose] public section

set_option maxRecDepth 16384

noncomputable section

namespace Attn.Ref
open Idealize.ShloMosaic Idealize.ShloMosaic.TcCoe Idealize.SL.Sem
open Cert.ReferenceIdeal Cert.ReferenceIdeal.Gen

/-- The three blocks of keys (or values) around each block of queries, zeros past the ends. -/
def bandR (X : FVec Ideal S2x8192x128 .f32) : FVec Ideal S2x64x384x2x64 .f32 :=
  concatenate S2x64x384x2x64 2 [⟨S2x64x128x2x64, (extractStridedSlice S2x64x128x2x64 ![0, 0, 0, 0, 0] (shapeCast S2x66x128x2x64 (pad S2x8448x2x64 ![0, 128, 0, 0] ![0, 128, 0, 0] ![0, 0, 0, 0] (shapeCast S2x8192x2x64 X shapeCasts_S2x8192x128_S2x8192x2x64) (sitofp .f32 (constantI S_ 32 0#32)) pads_S2x8192x2x64_S2x8448x2x64_000_1281280_000_000 h_S_) shapeCasts_S2x8448x2x64_S2x66x128x2x64) slices_S2x66x128x2x64_S2x64x128x2x64_0_0_0_0_0)⟩, ⟨S2x64x128x2x64, (extractStridedSlice S2x64x128x2x64 ![0, 1, 0, 0, 0] (shapeCast S2x66x128x2x64 (pad S2x8448x2x64 ![0, 128, 0, 0] ![0, 128, 0, 0] ![0, 0, 0, 0] (shapeCast S2x8192x2x64 X shapeCasts_S2x8192x128_S2x8192x2x64) (sitofp .f32 (constantI S_ 32 0#32)) pads_S2x8192x2x64_S2x8448x2x64_000_1281280_000_000 h_S_) shapeCasts_S2x8448x2x64_S2x66x128x2x64) slices_S2x66x128x2x64_S2x64x128x2x64_0_1_0_0_0)⟩, ⟨S2x64x128x2x64, (extractStridedSlice S2x64x128x2x64 ![0, 2, 0, 0, 0] (shapeCast S2x66x128x2x64 (pad S2x8448x2x64 ![0, 128, 0, 0] ![0, 128, 0, 0] ![0, 0, 0, 0] (shapeCast S2x8192x2x64 X shapeCasts_S2x8192x128_S2x8192x2x64) (sitofp .f32 (constantI S_ 32 0#32)) pads_S2x8192x2x64_S2x8448x2x64_000_1281280_000_000 h_S_) shapeCasts_S2x8448x2x64_S2x66x128x2x64) slices_S2x66x128x2x64_S2x64x128x2x64_0_2_0_0_0)⟩] concatenates_S2x64x128x2x64_S2x64x128x2x64_S2x64x128x2x64_S2x64x384x2x64_d2

/-- The band mask. -/
def maskR  : IVec S2x64x2x4x128x384 1 :=
  broadcastInDim S2x64x2x4x128x384 ![0, 1, 2, 3, 4, 5] bcast_S1x64x1x1x128x384_S2x64x2x4x128x384_0_1_2_3_4_5 (broadcastInDim S1x64x1x1x128x384 ![1, 4, 5] bcast_S64x128x384_S1x64x1x1x128x384_1_4_5 (andi (broadcastInDim S64x128x384 ![0, 1, 2] bcast_S1x128x384_S64x128x384_0_1_2 (broadcastInDim S1x128x384 ![1, 2] bcast_S128x384_S1x128x384_1_2 (cmpi .sle (absi (subi (broadcastInDim S128x384 ![0, 1] bcast_S1x384_S128x384_0_1 (subi (broadcastInDim S1x384 ![1] bcast_S384_S1x384_1 (iotaInDim S384 32 0)) (broadcastInDim S1x384 ![] bcast_S_S1x384 (constantI S_ 32 128#32)))) (broadcastInDim S128x384 ![0, 1] bcast_S128x1_S128x384_0_1 (broadcastInDim S128x1 ![0] bcast_S128_S128x1_0 (iotaInDim S128 32 0))))) (broadcastInDim S128x384 ![] bcast_S_S128x384 (constantI S_ 32 128#32))))) (broadcastInDim S64x128x384 ![0, 1, 2] bcast_S64x1x384_S64x128x384_0_1_2 (broadcastInDim S64x1x384 ![0, 2] bcast_S64x384_S64x1x384_0_2 (andi (cmpi .sge (addi (broadcastInDim S64x384 ![0, 1] bcast_S64x1_S64x384_0_1 (subi (muli (broadcastInDim S64x1 ![0] bcast_S64_S64x1_0 (iotaInDim S64 32 0)) (broadcastInDim S64x1 ![] bcast_S_S64x1 (constantI S_ 32 128#32))) (broadcastInDim S64x1 ![] bcast_S_S64x1 (constantI S_ 32 128#32)))) (broadcastInDim S64x384 ![0, 1] bcast_S1x384_S64x384_0_1 (broadcastInDim S1x384 ![1] bcast_S384_S1x384_1 (iotaInDim S384 32 0)))) (broadcastInDim S64x384 ![] bcast_S_S64x384 (constantI S_ 32 0#32))) (cmpi .slt (addi (broadcastInDim S64x384 ![0, 1] bcast_S64x1_S64x384_0_1 (subi (muli (broadcastInDim S64x1 ![0] bcast_S64_S64x1_0 (iotaInDim S64 32 0)) (broadcastInDim S64x1 ![] bcast_S_S64x1 (constantI S_ 32 128#32))) (broadcastInDim S64x1 ![] bcast_S_S64x1 (constantI S_ 32 128#32)))) (broadcastInDim S64x384 ![0, 1] bcast_S1x384_S64x384_0_1 (broadcastInDim S1x384 ![1] bcast_S384_S1x384_1 (iotaInDim S384 32 0)))) (broadcastInDim S64x384 ![] bcast_S_S64x384 (constantI S_ 32 8192#32))))))))

/-- Scores of the latent queries against the banded keys. -/
def locR (q : FVec Ideal S2x8192x512 .f32) (k : FVec Ideal S2x8192x128 .f32) : FVec Ideal S2x64x2x4x128x384 .f32 :=
  transpose S2x64x2x4x128x384 [0, 1, 2, 5, 4, 3] (Host.dotGeneral dot_S2x64x384x2x64_S2x64x128x2x4x64_S2x64x2x384x128x4_4_5_2_24_013_013 none (bandR k) (shapeCast S2x64x128x2x4x64 (shapeCast S2x8192x2x4x64 q shapeCasts_S2x8192x512_S2x8192x2x4x64) shapeCasts_S2x8192x2x4x64_S2x64x128x2x4x64)) transposes_S2x64x2x384x128x4_S2x64x2x4x128x384_0_1_2_5_4_3

/-- Banded scores, masked. -/
def maskedR (q : FVec Ideal S2x8192x512 .f32) (k : FVec Ideal S2x8192x128 .f32) : FVec Ideal S2x64x2x4x128x384 .f32 :=
  select maskR (locR q k) (broadcastInDim S2x64x2x4x128x384 ![] bcast_S_S2x64x2x4x128x384 (id (constant S_ .f32 0xFF800000#32)))

/-- Scores of the latent queries against the context keys. -/
def ctxR (q : FVec Ideal S2x8192x512 .f32) (kc : FVec Ideal S2x256x128 .f32) : FVec Ideal S2x64x2x4x128x256 .f32 :=
  transpose S2x64x2x4x128x256 [0, 3, 1, 5, 4, 2] (Host.dotGeneral dot_S2x256x2x64_S2x64x128x2x4x64_S2x2x256x64x128x4_3_5_1_124_02_03 none (shapeCast S2x256x2x64 kc shapeCasts_S2x256x128_S2x256x2x64) (shapeCast S2x64x128x2x4x64 (shapeCast S2x8192x2x4x64 q shapeCasts_S2x8192x512_S2x8192x2x4x64) shapeCasts_S2x8192x2x4x64_S2x64x128x2x4x64)) transposes_S2x2x256x64x128x4_S2x64x2x4x128x256_0_3_1_5_4_2

/-- The sinks beside the latent scores. -/
def sinkR (s : FVec Ideal S8 .f32) : FVec Ideal S2x64x2x4x128x1 .f32 :=
  broadcastInDim S2x64x2x4x128x1 ![0, 1, 2, 3, 4, 5] bcast_S1x1x2x4x1x1_S2x64x2x4x128x1_0_1_2_3_4_5 (broadcastInDim S1x1x2x4x1x1 ![2, 3] bcast_S2x4_S1x1x2x4x1x1_2_3 (shapeCast S2x4 s shapeCasts_S8_S2x4))

/-- A latent query's scores: banded, context, sink. -/
def rowR (q : FVec Ideal S2x8192x512 .f32) (k : FVec Ideal S2x8192x128 .f32) (kc : FVec Ideal S2x256x128 .f32) (s : FVec Ideal S8 .f32) : FVec Ideal S2x64x2x4x128x641 .f32 :=
  concatenate S2x64x2x4x128x641 5 [⟨S2x64x2x4x128x384, (maskedR q k)⟩, ⟨S2x64x2x4x128x256, (ctxR q kc)⟩, ⟨S2x64x2x4x128x1, (sinkR s)⟩] concatenates_S2x64x2x4x128x384_S2x64x2x4x128x256_S2x64x2x4x128x1_S2x64x2x4x128x641_d5

/-- Their greatest. -/
def topR (q : FVec Ideal S2x8192x512 .f32) (k : FVec Ideal S2x8192x128 .f32) (kc : FVec Ideal S2x256x128 .f32) (s : FVec Ideal S8 .f32) : FVec Ideal S2x64x2x4x128 .f32 :=
  maximumf (broadcastInDim S2x64x2x4x128 ![] bcast_S_S2x64x2x4x128 (constant S_ .f32 0xFF800000#32)) (Host.reduce FloatOps.maximumf (rowR q k kc s) (constant S_ .f32 0xFF800000#32) reducesTo_S2x64x2x4x128x641_S2x64x2x4x128_d5 h_S_)

/-- Their exponentials. -/
def expR (q : FVec Ideal S2x8192x512 .f32) (k : FVec Ideal S2x8192x128 .f32) (kc : FVec Ideal S2x256x128 .f32) (s : FVec Ideal S8 .f32) : FVec Ideal S2x64x2x4x128x641 .f32 :=
  Host.exp (subf (rowR q k kc s) (broadcastInDim S2x64x2x4x128x641 ![0, 1, 2, 3, 4, 5] bcast_S2x64x2x4x128x1_S2x64x2x4x128x641_0_1_2_3_4_5 (broadcastInDim S2x64x2x4x128x1 ![0, 1, 2, 3, 4] bcast_S2x64x2x4x128_S2x64x2x4x128x1_0_1_2_3_4 (topR q k kc s))))

/-- The sum of the exponentials. -/
def sumR (q : FVec Ideal S2x8192x512 .f32) (k : FVec Ideal S2x8192x128 .f32) (kc : FVec Ideal S2x256x128 .f32) (s : FVec Ideal S8 .f32) : FVec Ideal S2x64x2x4x128 .f32 :=
  Host.reduceAdd (expR q k kc s) (constant S_ .f32 0x00000000#32) reducesTo_S2x64x2x4x128x641_S2x64x2x4x128_d5 h_S_

/-- Their softmax. -/
def softR (q : FVec Ideal S2x8192x512 .f32) (k : FVec Ideal S2x8192x128 .f32) (kc : FVec Ideal S2x256x128 .f32) (s : FVec Ideal S8 .f32) : FVec Ideal S2x64x2x4x128x641 .f32 :=
  Host.divf (expR q k kc s) (broadcastInDim S2x64x2x4x128x641 ![0, 1, 2, 3, 4, 5] bcast_S2x64x2x4x128x1_S2x64x2x4x128x641_0_1_2_3_4_5 (broadcastInDim S2x64x2x4x128x1 ![0, 1, 2, 3, 4] bcast_S2x64x2x4x128_S2x64x2x4x128x1_0_1_2_3_4 (sumR q k kc s)))

/-- The latent rows of the result, by block and head. -/
def latR (q : FVec Ideal S2x8192x512 .f32) (k : FVec Ideal S2x8192x128 .f32) (v : FVec Ideal S2x8192x128 .f32) (kc : FVec Ideal S2x256x128 .f32) (vc : FVec Ideal S2x256x128 .f32) (s : FVec Ideal S8 .f32) : FVec Ideal S2x64x128x2x4x64 .f32 :=
  addf (transpose S2x64x128x2x4x64 [0, 1, 5, 2, 4, 3] (Host.dotGeneral dot_S2x64x384x2x64_S2x64x2x4x128x384_S2x64x2x64x4x128_2_5_4_34_013_012 none (bandR v) (extractStridedSlice S2x64x2x4x128x384 ![0, 0, 0, 0, 0, 0] (softR q k kc s) slices_S2x64x2x4x128x641_S2x64x2x4x128x384_0_0_0_0_0_0)) transposes_S2x64x2x64x4x128_S2x64x128x2x4x64_0_1_5_2_4_3) (transpose S2x64x128x2x4x64 [0, 3, 5, 1, 4, 2] (Host.dotGeneral dot_S2x256x2x64_S2x64x2x4x128x256_S2x2x64x64x4x128_1_5_3_134_02_02 none (shapeCast S2x256x2x64 vc shapeCasts_S2x256x128_S2x256x2x64) (extractStridedSlice S2x64x2x4x128x256 ![0, 0, 0, 0, 0, 384] (softR q k kc s) slices_S2x64x2x4x128x641_S2x64x2x4x128x256_0_0_0_0_0_384)) transposes_S2x2x64x64x4x128_S2x64x128x2x4x64_0_3_5_1_4_2)

/-- Scores of the context queries. -/
def cscoreR (qc : FVec Ideal S2x256x512 .f32) (kc : FVec Ideal S2x256x128 .f32) : FVec Ideal S2x2x4x256x256 .f32 :=
  transpose S2x2x4x256x256 [0, 1, 4, 3, 2] (Host.dotGeneral dot_S2x256x2x64_S2x256x2x4x64_S2x2x256x256x4_3_4_1_13_02_02 none (shapeCast S2x256x2x64 kc shapeCasts_S2x256x128_S2x256x2x64) (shapeCast S2x256x2x4x64 qc shapeCasts_S2x256x512_S2x256x2x4x64)) transposes_S2x2x256x256x4_S2x2x4x256x256_0_1_4_3_2

/-- A context query's scores: context, sink. -/
def crowR (qc : FVec Ideal S2x256x512 .f32) (kc : FVec Ideal S2x256x128 .f32) (s : FVec Ideal S8 .f32) : FVec Ideal S2x2x4x256x257 .f32 :=
  concatenate S2x2x4x256x257 4 [⟨S2x2x4x256x256, (cscoreR qc kc)⟩, ⟨S2x2x4x256x1, (broadcastInDim S2x2x4x256x1 ![0, 1, 2, 3, 4] bcast_S1x2x4x1x1_S2x2x4x256x1_0_1_2_3_4 (broadcastInDim S1x2x4x1x1 ![1, 2] bcast_S2x4_S1x2x4x1x1_1_2 (shapeCast S2x4 s shapeCasts_S8_S2x4)))⟩] concatenates_S2x2x4x256x256_S2x2x4x256x1_S2x2x4x256x257_d4

/-- Their greatest. -/
def ctopR (qc : FVec Ideal S2x256x512 .f32) (kc : FVec Ideal S2x256x128 .f32) (s : FVec Ideal S8 .f32) : FVec Ideal S2x2x4x256 .f32 :=
  maximumf (broadcastInDim S2x2x4x256 ![] bcast_S_S2x2x4x256 (constant S_ .f32 0xFF800000#32)) (Host.reduce FloatOps.maximumf (crowR qc kc s) (constant S_ .f32 0xFF800000#32) reducesTo_S2x2x4x256x257_S2x2x4x256_d4 h_S_)

/-- Their exponentials. -/
def cexpR (qc : FVec Ideal S2x256x512 .f32) (kc : FVec Ideal S2x256x128 .f32) (s : FVec Ideal S8 .f32) : FVec Ideal S2x2x4x256x257 .f32 :=
  Host.exp (subf (crowR qc kc s) (broadcastInDim S2x2x4x256x257 ![0, 1, 2, 3, 4] bcast_S2x2x4x256x1_S2x2x4x256x257_0_1_2_3_4 (broadcastInDim S2x2x4x256x1 ![0, 1, 2, 3] bcast_S2x2x4x256_S2x2x4x256x1_0_1_2_3 (ctopR qc kc s))))

/-- The sum of the exponentials. -/
def csumR (qc : FVec Ideal S2x256x512 .f32) (kc : FVec Ideal S2x256x128 .f32) (s : FVec Ideal S8 .f32) : FVec Ideal S2x2x4x256 .f32 :=
  Host.reduceAdd (cexpR qc kc s) (constant S_ .f32 0x00000000#32) reducesTo_S2x2x4x256x257_S2x2x4x256_d4 h_S_

/-- Their softmax. -/
def csoftR (qc : FVec Ideal S2x256x512 .f32) (kc : FVec Ideal S2x256x128 .f32) (s : FVec Ideal S8 .f32) : FVec Ideal S2x2x4x256x257 .f32 :=
  Host.divf (cexpR qc kc s) (broadcastInDim S2x2x4x256x257 ![0, 1, 2, 3, 4] bcast_S2x2x4x256x1_S2x2x4x256x257_0_1_2_3_4 (broadcastInDim S2x2x4x256x1 ![0, 1, 2, 3] bcast_S2x2x4x256_S2x2x4x256x1_0_1_2_3 (csumR qc kc s)))

/-- The context rows of the result, by head. -/
def conR (qc : FVec Ideal S2x256x512 .f32) (kc : FVec Ideal S2x256x128 .f32) (vc : FVec Ideal S2x256x128 .f32) (s : FVec Ideal S8 .f32) : FVec Ideal S2x256x2x4x64 .f32 :=
  transpose S2x256x2x4x64 [0, 4, 1, 3, 2] (Host.dotGeneral dot_S2x256x2x64_S2x2x4x256x256_S2x2x64x4x256_1_4_3_23_02_01 none (shapeCast S2x256x2x64 vc shapeCasts_S2x256x128_S2x256x2x64) (extractStridedSlice S2x2x4x256x256 ![0, 0, 0, 0, 0] (csoftR qc kc s) slices_S2x2x4x256x257_S2x2x4x256x256_0_0_0_0_0)) transposes_S2x2x64x4x256_S2x256x2x4x64_0_4_1_3_2

/-- The reference's result as a function of its arguments. -/
def REF (q : FVec Ideal S2x8192x512 .f32) (k : FVec Ideal S2x8192x128 .f32) (v : FVec Ideal S2x8192x128 .f32) (qc : FVec Ideal S2x256x512 .f32) (kc : FVec Ideal S2x256x128 .f32) (vc : FVec Ideal S2x256x128 .f32) (s : FVec Ideal S8 .f32) : FVec Ideal S16896x512 .bf16 :=
  truncf .bf16 (concatenate S16896x512 0 [⟨S16384x512, (shapeCast S16384x512 (transpose S16384x4x2x64 [0, 2, 1, 3] (shapeCast S16384x2x4x64 (latR q k v kc vc s) shapeCasts_S2x64x128x2x4x64_S16384x2x4x64) transposes_S16384x2x4x64_S16384x4x2x64_0_2_1_3) shapeCasts_S16384x4x2x64_S16384x512)⟩, ⟨S512x512, (shapeCast S512x512 (transpose S512x4x2x64 [0, 2, 1, 3] (shapeCast S512x2x4x64 (conR qc kc vc s) shapeCasts_S2x256x2x4x64_S512x2x4x64) transposes_S512x2x4x64_S512x4x2x64_0_2_1_3) shapeCasts_S512x4x2x64_S512x512)⟩] concatenates_S16384x512_S512x512_S16896x512_d0) bitsLt_bf16_f32

/-- The reference's run ends at `REF` of its arguments. -/
theorem res_eq (m : (ℓ : Loc nD τ sig) → Buf (Elt Ideal) ℓ) (c : Dev nD) :
    Cert.ReferenceIdeal.Value.res_out0 (F := Ideal) m c = REF (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := rfl

end Attn.Ref
end
-- ==== Proof.RefRead.lean ====
/- The reference's result entry by entry, in the terms of `Spec.lean`. -/
module

public import proofs.«01_k».proof.Proof.RefStages
public import proofs.«01_k».proof.Proof.Spec

@[expose] public section

set_option maxRecDepth 16384

noncomputable section

namespace Attn.Ref
open Idealize.ShloMosaic Idealize.ShloMosaic.TcCoe Idealize.SL.Sem
open Cert.ReferenceIdeal Cert.ReferenceIdeal.Gen

theorem zeroPad : (FloatOps.sitofp FTy.f32 0#32 : Ideal .f32) = (0 : EReal) := by
  change (((0#32 : BitVec 32).toInt : ℝ) : EReal) = 0
  simp

/-- A padded position, read. -/
theorem pos_at (f : Fin 8192 → EReal) (w w' : ℕ) (e : w = w') :
    (if h : 128 ≤ w ∧ w - 128 < 8192 then f ⟨w - 128, h.2⟩ else 0) = if h : 128 ≤ w' ∧ w' < 8320 then f ⟨w' - 128, by omega⟩ else 0 := by
  subst e
  by_cases h : 128 ≤ w ∧ w < 8320
  · rw [dif_pos h, dif_pos ⟨h.1, by omega⟩]
  · rw [dif_neg h, dif_neg (fun a => h ⟨a.1, by omega⟩)]

section
variable (q : FVec Ideal S2x8192x512 .f32) (k v : FVec Ideal S2x8192x128 .f32) (qc : FVec Ideal S2x256x512 .f32)
variable (kc vc : FVec Ideal S2x256x128 .f32) (s : FVec Ideal S8 .f32)
variable (b : Fin 2) (n : Fin 64) (i : Fin 128) (h : Fin 2) (r : Fin 4)

/-- An entry of the banded keys: the key of that position, or zero past the ends. -/
theorem band_at (x : Fin 384) (d : Fin 64) : bandR k (ix5 b n x h d) = vlat (fun b p c => k (ix3 b p c)) b n ⟨h * 64 + d, by omega⟩ x := by
  pointwise [bandR]
  simp only [zeroPad]
  unfold vlat
  by_cases h1 : x.val < 128
  · rw [dif_pos h1]
    exact pos_at (fun p => k (ix3 b p ⟨h * 64 + d, by omega⟩)) _ _ rfl
  · rw [dif_neg h1]
    by_cases h3 : x.val - 128 < 128
    · rw [dif_pos h3]
      exact pos_at (fun p => k (ix3 b p ⟨h * 64 + d, by omega⟩)) _ _ (by omega)
    · rw [dif_neg h3]
      exact pos_at (fun p => k (ix3 b p ⟨h * 64 + d, by omega⟩)) _ _ (by omega)

/-- The mask at an entry. -/
theorem mask_at (x : Fin 384) : maskR (ix6 b n h r i x) = if Sees n i x then 1#1 else 0#1 := by
  pointwise [maskR]
  exact sees_word n (by omega) i x

/-- A masked banded score. -/
theorem masked_at (x : Fin 384) : maskedR q k (ix6 b n h r i x) = slat (fun b p c => q (ix3 b p c)) (fun b p c => k (ix3 b p c)) b n i h r x := by
  have e : maskedR q k (ix6 b n h r i x) = Scalar.select (maskR (ix6 b n h r i x)) (locR q k (ix6 b n h r i x)) ⊥ := by
    unfold maskedR
    generalize maskR = M
    generalize locR q k = L
    pointwise
    change Scalar.select _ _ (Ideal.ofBits FTy.f32 4286578688#32) = _
    rw [negInf]
  rw [e, mask_at]
  unfold slat
  by_cases hv : Sees n i x
  · rw [if_pos hv, dif_pos hv]
    change locR q k (ix6 b n h r i x) = _
    pointwise [locR]
    refine Finset.sum_congr rfl fun y _ => ?_
    rw [band_at, mul_comm]
    unfold vlat
    rw [dif_pos (by unfold Sees at hv; omega)]
  · rw [if_neg hv, dif_neg hv]; rfl

/-- A context score of a latent query. -/
theorem ctx_at (x : Fin 256) : ctxR q kc (ix6 b n h r i x) = sctx (fun b p c => q (ix3 b p c)) (fun b p c => kc (ix3 b p c)) b n i h r x := by
  pointwise [ctxR]
  unfold sctx
  exact Finset.sum_congr rfl fun y _ => mul_comm _ _

/-- A latent query's row. -/
theorem row_at (x : Fin 641) : rowR q k kc s (ix6 b n h r i x) =
    if hx : x.val < 384 then maskedR q k (ix6 b n h r i ⟨x, hx⟩) else
    if hx : x.val - 384 < 256 then ctxR q kc (ix6 b n h r i ⟨x - 384, hx⟩) else s (ix1 ⟨h * 4 + r, by omega⟩) := by
  pointwise [rowR, sinkR]

theorem lift6 (x : Fin 641) (hr : Shape.Reduces S2x64x2x4x128x641 [5] S2x64x2x4x128) :
    hr.lift (ix5 b n h r i) x = ix6 b n h r i x := by
  funext a; fin_cases a <;> rfl

theorem red6 : Shape.Reduces S2x64x2x4x128x641 [5] S2x64x2x4x128 := by decide

theorem fold_maximumf {n : ℕ} (f : Fin n → EReal) :
    Finset.fold (FloatOps.maximumf (F := Ideal) (φ := .f32)) ⊥ f Finset.univ = Finset.fold max ⊥ f Finset.univ := rfl

theorem red_at  (T : FVec Ideal S2x64x2x4x128x641 .f32) : (Host.reduce FloatOps.maximumf T (constant S_ .f32 0xFF800000#32) reducesTo_S2x64x2x4x128x641_S2x64x2x4x128_d5 h_S_ (ix5 b n h r i) : Ideal .f32)
    = Finset.fold (FloatOps.maximumf (F := Ideal) (φ := .f32)) ⊥ (fun x : Fin 641 => T (ix6 b n h r i x)) Finset.univ := by
  have e : T ∘ red6.lift (ix5 b n h r i) = fun x : Fin 641 => T (ix6 b n h r i x) := funext fun x => congrArg T (lift6 b n i h r x red6)
  have z : (constant S_ .f32 0xFF800000#32 : FVec Ideal S_ .f32) (Shape.Idx.first h_S_) = ⊥ := negInf
  have f := Host.reduce_eq_fold_single (FloatOps.maximumf (F := Ideal) (φ := .f32)) T (constant S_ .f32 0xFF800000#32)
    reducesTo_S2x64x2x4x128x641_S2x64x2x4x128_d5 red6 h_S_ (ix5 b n h r i)
  rw [z, e] at f
  exact f

theorem cap_at  (U : FVec Ideal S2x64x2x4x128 .f32) :
    (maximumf (broadcastInDim S2x64x2x4x128 ![] bcast_S_S2x64x2x4x128 (constant S_ .f32 0xFF800000#32)) U) (ix5 b n h r i)
    = max (Ideal.ofBits FTy.f32 4286578688#32) (U (ix5 b n h r i)) := by
  pointwise

/-- The greatest of a row. -/
theorem top_at : topR q k kc s (ix5 b n h r i) = max ⊥ (Finset.fold max ⊥ (fun x : Fin 641 => rowR q k kc s (ix6 b n h r i x)) Finset.univ) := by
  unfold topR
  exact (cap_at b n i h r _).trans (congrArg₂ max negInf ((red_at b n i h r _).trans (fold_maximumf _)))

/-- An exponential of a row. -/
theorem exp_at (x : Fin 641) : expR q k kc s (ix6 b n h r i x) = Ideal.exp (rowR q k kc s (ix6 b n h r i x) - topR q k kc s (ix5 b n h r i)) := by
  unfold expR
  generalize rowR q k kc s = T
  generalize topR q k kc s = M
  pointwise

/-- The sum of a row's exponentials. -/
theorem sum_at : sumR q k kc s (ix5 b n h r i) = 0 + ∑ x : Fin 641, expR q k kc s (ix6 b n h r i x) := by
  unfold sumR
  generalize expR q k kc s = T
  change Ideal.hostReduceAdd reducesTo_S2x64x2x4x128x641_S2x64x2x4x128_d5 T (Ideal.ofBits FTy.f32 0#32) (ix5 b n h r i) = _
  rw [Ideal.hostReduceAdd_single _ red6]
  have z : Ideal.ofBits FTy.f32 0#32 = 0 := by simp [Ideal.ofBits, Ideal.ieee]
  rw [z]
  exact congrArg (0 + ·) (Finset.sum_congr rfl fun x _ => congrArg T (lift6 b n i h r x red6))

/-- A weight of a row. -/
theorem soft_at (x : Fin 641) : softR q k kc s (ix6 b n h r i x) = Ideal.div (expR q k kc s (ix6 b n h r i x)) (sumR q k kc s (ix5 b n h r i)) := by
  unfold softR
  generalize expR q k kc s = T
  generalize sumR q k kc s = M
  pointwise

/-- The banded values against the weights. -/
theorem dotA (B : FVec Ideal S2x64x384x2x64 .f32) (W : FVec Ideal S2x64x2x4x128x384 .f32) (d : Fin 64) :
    transpose S2x64x128x2x4x64 [0, 1, 5, 2, 4, 3] (Host.dotGeneral dot_S2x64x384x2x64_S2x64x2x4x128x384_S2x64x2x64x4x128_2_5_4_34_013_012 none B W)
      transposes_S2x64x2x64x4x128_S2x64x128x2x4x64_0_1_5_2_4_3 (ix6 b n i h r d)
    = ∑ x : Fin 384, B (ix5 b n x h d) * W (ix6 b n h r i x) := by
  pointwise

/-- The context values against the weights. -/
theorem dotB (V : FVec Ideal S2x256x128 .f32) (W : FVec Ideal S2x64x2x4x128x256 .f32) (d : Fin 64) :
    transpose S2x64x128x2x4x64 [0, 3, 5, 1, 4, 2] (Host.dotGeneral dot_S2x256x2x64_S2x64x2x4x128x256_S2x2x64x64x4x128_1_5_3_134_02_02 none
      (shapeCast S2x256x2x64 V shapeCasts_S2x256x128_S2x256x2x64) W) transposes_S2x2x64x64x4x128_S2x64x128x2x4x64_0_3_5_1_4_2 (ix6 b n i h r d)
    = ∑ x : Fin 256, V (ix3 b x ⟨h * 64 + d, by omega⟩) * W (ix6 b n h r i x) := by
  pointwise

theorem addf_at (X Y : FVec Ideal S2x64x128x2x4x64 .f32) (j : S2x64x128x2x4x64.Idx) : addf X Y j = (X j + Y j : EReal) := rfl

theorem slA (W : FVec Ideal S2x64x2x4x128x641 .f32) (x : Fin 384) :
    extractStridedSlice S2x64x2x4x128x384 ![0, 0, 0, 0, 0, 0] W slices_S2x64x2x4x128x641_S2x64x2x4x128x384_0_0_0_0_0_0 (ix6 b n h r i x)
    = W (ix6 b n h r i ⟨x, by omega⟩) := by
  pointwise

theorem slB (W : FVec Ideal S2x64x2x4x128x641 .f32) (x : Fin 256) :
    extractStridedSlice S2x64x2x4x128x256 ![0, 0, 0, 0, 0, 384] W slices_S2x64x2x4x128x641_S2x64x2x4x128x256_0_0_0_0_0_384 (ix6 b n h r i x)
    = W (ix6 b n h r i ⟨384 + x, by omega⟩) := by
  pointwise

/-- The latent rows in terms of the weights. -/
theorem lat_sum (d : Fin 64) : latR q k v kc vc s (ix6 b n i h r d) =
    ∑ x : Fin 384, bandR v (ix5 b n x h d) * softR q k kc s (ix6 b n h r i ⟨x, by omega⟩)
    + ∑ x : Fin 256, vc (ix3 b x ⟨h * 64 + d, by omega⟩) * softR q k kc s (ix6 b n h r i ⟨384 + x, by omega⟩) := by
  unfold latR
  generalize softR q k kc s = W
  generalize bandR v = B
  rw [addf_at, dotA, dotB]
  simp only [slA, slB]

/-- A latent entry of the reference. -/
theorem lat_at (hq : ∀ b p c, Fin' (q (ix3 b p c))) (hk : ∀ b p c, Fin' (k (ix3 b p c))) (hkc : ∀ b p c, Fin' (kc (ix3 b p c)))
    (hs : ∀ a, Fin' (s (ix1 a))) (d : Fin 64) :
    latR q k v kc vc s (ix6 b n i h r d) = LAT (fun b p c => q (ix3 b p c)) (fun b p c => k (ix3 b p c)) (fun b p c => v (ix3 b p c))
      (fun b p c => kc (ix3 b p c)) (fun b p c => vc (ix3 b p c)) (fun a => s (ix1 a)) b n i h r d := by
  rw [lat_sum]
  simp only [soft_at, exp_at, sum_at, top_at, band_at]
  refine latent_eq (slat (fun b p c => q (ix3 b p c)) (fun b p c => k (ix3 b p c)) b n i h r)
    (sctx (fun b p c => q (ix3 b p c)) (fun b p c => kc (ix3 b p c)) b n i h r) (s (ix1 ⟨h * 4 + r, by omega⟩))
    (fun x => rowR q k kc s (ix6 b n h r i x)) (fun x => ?_) (fun x => ?_) ?_ (slat_ne_top _ _ _ _ _ _ _ hq hk) (sctx_ne_top _ _ _ _ _ _ _ hq hkc)
    (hs _).1 (hs _).2 _ _ _ (fun _ _ => rfl)
  · rw [row_at, dif_pos x.2, masked_at]
  · rw [row_at, dif_neg (by simp only []; omega), dif_pos (by simp only []; omega), ← ctx_at]
    congr 2; exact Fin.ext (by simp only []; omega)
  · rw [row_at, dif_neg (by simp only []; omega), dif_neg (by simp only []; omega)]

/-- A context score of a context query. -/
theorem cscore_at (j x : Fin 256) : cscoreR qc kc (ix5 b h r j x) = scon (fun b p c => qc (ix3 b p c)) (fun b p c => kc (ix3 b p c)) b h r j x := by
  pointwise [cscoreR]
  unfold scon
  exact Finset.sum_congr rfl fun y _ => mul_comm _ _

/-- A context query's row. -/
theorem crow_at (j : Fin 256) (x : Fin 257) : crowR qc kc s (ix5 b h r j x) =
    if hx : x.val < 256 then cscoreR qc kc (ix5 b h r j ⟨x, hx⟩) else s (ix1 ⟨h * 4 + r, by omega⟩) := by
  pointwise [crowR]

theorem lift5 (j : Fin 256) (x : Fin 257) (hr : Shape.Reduces S2x2x4x256x257 [4] S2x2x4x256) :
    hr.lift (ix4 b h r j) x = ix5 b h r j x := by
  funext a; fin_cases a <;> rfl

theorem red5 : Shape.Reduces S2x2x4x256x257 [4] S2x2x4x256 := by decide

theorem cred_at (j : Fin 256) (T : FVec Ideal S2x2x4x256x257 .f32) : (Host.reduce FloatOps.maximumf T (constant S_ .f32 0xFF800000#32) reducesTo_S2x2x4x256x257_S2x2x4x256_d4 h_S_ (ix4 b h r j) : Ideal .f32)
    = Finset.fold (FloatOps.maximumf (F := Ideal) (φ := .f32)) ⊥ (fun x : Fin 257 => T (ix5 b h r j x)) Finset.univ := by
  have e : T ∘ red5.lift (ix4 b h r j) = fun x : Fin 257 => T (ix5 b h r j x) := funext fun x => congrArg T (lift5 b h r j x red5)
  have z : (constant S_ .f32 0xFF800000#32 : FVec Ideal S_ .f32) (Shape.Idx.first h_S_) = ⊥ := negInf
  have f := Host.reduce_eq_fold_single (FloatOps.maximumf (F := Ideal) (φ := .f32)) T (constant S_ .f32 0xFF800000#32)
    reducesTo_S2x2x4x256x257_S2x2x4x256_d4 red5 h_S_ (ix4 b h r j)
  rw [z, e] at f
  exact f

theorem ccap_at (j : Fin 256) (U : FVec Ideal S2x2x4x256 .f32) :
    (maximumf (broadcastInDim S2x2x4x256 ![] bcast_S_S2x2x4x256 (constant S_ .f32 0xFF800000#32)) U) (ix4 b h r j)
    = max (Ideal.ofBits FTy.f32 4286578688#32) (U (ix4 b h r j)) := by
  pointwise

/-- The greatest of a context row. -/
theorem ctop_at (j : Fin 256) : ctopR qc kc s (ix4 b h r j) = max ⊥ (Finset.fold max ⊥ (fun x : Fin 257 => crowR qc kc s (ix5 b h r j x)) Finset.univ) := by
  unfold ctopR
  exact (ccap_at b h r j _).trans (congrArg₂ max negInf ((cred_at b h r j _).trans (fold_maximumf _)))

/-- An exponential of a context row. -/
theorem cexp_at (j : Fin 256) (x : Fin 257) : cexpR qc kc s (ix5 b h r j x) = Ideal.exp (crowR qc kc s (ix5 b h r j x) - ctopR qc kc s (ix4 b h r j)) := by
  unfold cexpR
  generalize crowR qc kc s = T
  generalize ctopR qc kc s = M
  pointwise

/-- The sum of a context row's exponentials. -/
theorem csum_at (j : Fin 256) : csumR qc kc s (ix4 b h r j) = 0 + ∑ x : Fin 257, cexpR qc kc s (ix5 b h r j x) := by
  unfold csumR
  generalize cexpR qc kc s = T
  change Ideal.hostReduceAdd reducesTo_S2x2x4x256x257_S2x2x4x256_d4 T (Ideal.ofBits FTy.f32 0#32) (ix4 b h r j) = _
  rw [Ideal.hostReduceAdd_single _ red5]
  have z : Ideal.ofBits FTy.f32 0#32 = 0 := by simp [Ideal.ofBits, Ideal.ieee]
  rw [z]
  exact congrArg (0 + ·) (Finset.sum_congr rfl fun x _ => congrArg T (lift5 b h r j x red5))

/-- A weight of a context row. -/
theorem csoft_at (j : Fin 256) (x : Fin 257) : csoftR qc kc s (ix5 b h r j x) = Ideal.div (cexpR qc kc s (ix5 b h r j x)) (csumR qc kc s (ix4 b h r j)) := by
  unfold csoftR
  generalize cexpR qc kc s = T
  generalize csumR qc kc s = M
  pointwise

/-- The context rows in terms of the weights. -/
theorem con_sum (j : Fin 256) (d : Fin 64) : conR qc kc vc s (ix5 b j h r d) =
    ∑ x : Fin 256, vc (ix3 b x ⟨h * 64 + d, by omega⟩) * csoftR qc kc s (ix5 b h r j ⟨x, by omega⟩) := by
  unfold conR
  generalize csoftR qc kc s = W
  pointwise

/-- A context entry of the reference. -/
theorem con_at (hq : ∀ b p c, Fin' (qc (ix3 b p c))) (hkc : ∀ b p c, Fin' (kc (ix3 b p c)))
    (hs : ∀ a, Fin' (s (ix1 a))) (j : Fin 256) (d : Fin 64) :
    conR qc kc vc s (ix5 b j h r d) = CON (fun b p c => qc (ix3 b p c))
      (fun b p c => kc (ix3 b p c)) (fun b p c => vc (ix3 b p c)) (fun a => s (ix1 a)) b h r j d := by
  rw [con_sum]
  simp only [csoft_at, cexp_at, csum_at, ctop_at]
  refine context_eq (scon (fun b p c => qc (ix3 b p c)) (fun b p c => kc (ix3 b p c)) b h r j) (s (ix1 ⟨h * 4 + r, by omega⟩))
    (fun x => crowR qc kc s (ix5 b h r j x)) (fun x => ?_) ?_ (scon_ne_top _ _ _ _ _ hq hkc _) (hs _).1 (hs _).2 _ _
  · rw [crow_at, dif_pos x.2, cscore_at]
  · rw [crow_at, dif_neg (by simp only []; omega)]

/-- The reference at a row and a column. -/
theorem ref_at (R : Fin 16896) (C : Fin 512) : REF q k v qc kc vc s (ix2 R C) =
    if hR : R.val < 16384 then latR q k v kc vc s
        (ix6 ⟨R / 8192, by omega⟩ ⟨R / 128 % 64, by omega⟩ ⟨R % 128, by omega⟩ ⟨C / 64 % 2, by omega⟩ ⟨C / 128, by omega⟩ ⟨C % 64, by omega⟩)
    else conR qc kc vc s
        (ix5 ⟨(R - 16384) / 256, by omega⟩ ⟨(R - 16384) % 256, by omega⟩ ⟨C / 64 % 2, by omega⟩ ⟨C / 128, by omega⟩ ⟨C % 64, by omega⟩) := by
  pointwise [REF]

end
end Attn.Ref
end
-- ==== Proof.Final.lean ====
/- Every block the kernel writes back is the reference's block, so its result is the reference's. -/
module

public import proofs.«01_k».proof.Proof.Point
public import proofs.«01_k».proof.Proof.RefRead
public import proofs.«01_k».proof.Proof.Gen.KernelIdeal.Value

@[expose] public section

set_option maxRecDepth 16384

noncomputable section

namespace Attn
open Idealize.ShloMosaic Idealize.ShloMosaic.TcCoe Idealize.SL.Sem
open Cert.KernelIdeal Cert.KernelIdeal.Gen

variable (m : (ℓ : Loc nD τ sig) → Buf (Elt Ideal) ℓ) (c : Dev nD)

/-- Every query, key and sink is a number. -/
def Ok : Prop := (∀ b p x, Fin' (aQ m c (ix3 b p x))) ∧ (∀ b p x, Fin' (aK m c (ix3 b p x))) ∧ (∀ b p x, Fin' (aQC m c (ix3 b p x)))
  ∧ (∀ b p x, Fin' (aKC m c (ix3 b p x))) ∧ (∀ a, Fin' (aS m c (ix1 a)))

/-- The reference's result of the arguments. -/
abbrev res : FVec Ideal S16896x512 .bf16 := Ref.REF (aQ m c) (aK m c) (aV m c) (aQC m c) (aKC m c) (aVC m c) (aS m c)

/-- The reference at a latent row. -/
theorem res_lat (ok : Ok m c) (b : Fin 2) (n : Fin 64) (i : Fin 128) (g : Fin 2) (r : Fin 4) (d : Fin 64) (R : Fin 16896) (C : Fin 512)
    (hR : R.val = (b * 64 + n) * 128 + i) (hC : C.val = 128 * r + (g * 64 + d)) :
    res m c (ix2 R C) = LAT (fun b p x => aQ m c (ix3 b p x)) (fun b p x => aK m c (ix3 b p x)) (fun b p x => aV m c (ix3 b p x))
      (fun b p x => aKC m c (ix3 b p x)) (fun b p x => aVC m c (ix3 b p x)) (fun a => aS m c (ix1 a)) b n i g r d := by
  refine (Ref.ref_at _ _ _ _ _ _ _ R C).trans ?_
  rw [dif_pos (by omega), Ref.lat_at _ _ _ _ _ _ _ _ _ _ _ ok.1 ok.2.1 ok.2.2.2.1 ok.2.2.2.2]
  have e1 : (⟨R / 8192, by omega⟩ : Fin 2) = b := Fin.ext (by simp only []; omega)
  have e2 : (⟨R / 128 % 64, by omega⟩ : Fin 64) = n := Fin.ext (by simp only []; omega)
  have e3 : (⟨R % 128, by omega⟩ : Fin 128) = i := Fin.ext (by simp only []; omega)
  have e4 : (⟨C / 64 % 2, by omega⟩ : Fin 2) = g := Fin.ext (by simp only []; omega)
  have e5 : (⟨C / 128, by omega⟩ : Fin 4) = r := Fin.ext (by simp only []; omega)
  have e6 : (⟨C % 64, by omega⟩ : Fin 64) = d := Fin.ext (by simp only []; omega)
  rw [e1, e2, e3, e4, e5, e6]

/-- The reference at a context row. -/
theorem res_con (ok : Ok m c) (b : Fin 2) (j : Fin 256) (g : Fin 2) (r : Fin 4) (d : Fin 64) (R : Fin 16896) (C : Fin 512)
    (hR : R.val = 16384 + b * 256 + j) (hC : C.val = 128 * r + (g * 64 + d)) :
    res m c (ix2 R C) = CON (fun b p x => aQC m c (ix3 b p x))
      (fun b p x => aKC m c (ix3 b p x)) (fun b p x => aVC m c (ix3 b p x)) (fun a => aS m c (ix1 a)) b g r j d := by
  refine (Ref.ref_at _ _ _ _ _ _ _ R C).trans ?_
  rw [dif_neg (by omega), Ref.con_at _ _ _ _ _ _ _ ok.2.2.1 ok.2.2.2.1 ok.2.2.2.2]
  have e1 : (⟨(R - 16384) / 256, by omega⟩ : Fin 2) = b := Fin.ext (by simp only []; omega)
  have e2 : (⟨(R - 16384) % 256, by omega⟩ : Fin 256) = j := Fin.ext (by simp only []; omega)
  have e4 : (⟨C / 64 % 2, by omega⟩ : Fin 2) = g := Fin.ext (by simp only []; omega)
  have e5 : (⟨C / 128, by omega⟩ : Fin 4) = r := Fin.ext (by simp only []; omega)
  have e6 : (⟨C % 64, by omega⟩ : Fin 64) = d := Fin.ext (by simp only []; omega)
  rw [e1, e2, e4, e5, e6]

theorem coord1 : ∀ t : Fin cfg0.N, (grid0.coords t 1).val = t.val % 66 :=
  (by decide +kernel : ∀ t : Fin grid0.N, (grid0.coords t 1).val = t.val % 66)

variable (t : Fin cfg0.N)

/-- The keys and the values stacked at a grid point. -/
abbrev KK : FVec Ideal S640x128 .bf16 := k0_pay7 (F := Ideal) (iblk m c 2 t) (iblk m c 3 t) (iblk m c 4 t) (iblk m c 8 t)
abbrev VV : FVec Ideal S640x128 .bf16 := k0_pay11 (F := Ideal) (k0_pay8 (iblk m c 5 t)) (k0_pay9 (iblk m c 6 t)) (k0_pay10 (iblk m c 7 t)) (iblk m c 9 t)

/-- A stored entry of group `g` is the reference's entry. -/
theorem entry (ok : Ok m c) (w : FVec Ideal S128x128 .bf16) (sk : EReal) (i l : Fin 128) (g : Fin 2) (r : Fin 4)
    (hw : ∀ l : Fin 128, w (ix2 i l) = (iblk m c 1 t : FVec Ideal S128x512 .bf16) (ix2 i ⟨128 * r + l, by omega⟩))
    (hs : sk = aS m c (ix1 ⟨g * 4 + r, by omega⟩)) (hl : l.val / 64 = g) (R : Fin 16896) (C : Fin 512)
    (hR : R.val = (if t.val % 66 < 64 then t.val / 66 * 64 + t.val % 66 else 128 + t.val / 66 * 2 + (t.val % 66 - 64)) * 128 + i)
    (hC : C.val = 128 * r + l) : tile (KK m c t) (VV m c t) w (k0_pay6 (grid0.coords t)) sk i g l = res m c (ix2 R C) := by
  have ht := t_lt t
  have hmask := mask_word (grid0.coords t) (t.val % 66) (by omega) (coord1 t) i
  by_cases hn : t.val % 66 < 64
  · rw [if_pos hn] at hR
    rw [res_lat m c ok ⟨t.val / 66, by omega⟩ ⟨t.val % 66, hn⟩ i g r ⟨l.val % 64, by omega⟩ R C hR (by simp only []; omega)]
    refine tile_lat (KK m c t) (VV m c t) w (k0_pay6 (grid0.coords t)) sk (fun b p x => aQ m c (ix3 b p x)) (fun b p x => aK m c (ix3 b p x)) (fun b p x => aV m c (ix3 b p x))
      (fun b p x => aKC m c (ix3 b p x)) (fun b p x => aVC m c (ix3 b p x)) (fun a => aS m c (ix1 a)) ⟨t.val / 66, by omega⟩ ⟨t.val % 66, hn⟩ i g r ⟨l.val % 64, by omega⟩ (fun x => ?_) (fun y => ?_) (fun x l hv => keys_lat m c t hn x l hv)
      (fun x l hv => vals_lat m c t hn x l hv) (fun x l => keys_con m c t x l) (fun x l => vals_con m c t x l) hs _ (by simp only []; omega)
    · rw [hmask]; simp only [hn, true_and]
    · exact (hw _).trans (q_lat m c t hn i g r y)
  · rw [if_neg hn] at hR
    rw [res_con m c ok ⟨t.val / 66, by omega⟩ ⟨(t.val % 66 - 64) * 128 + i, by omega⟩ g r ⟨l.val % 64, by omega⟩ R C (by simp only []; omega) (by simp only []; omega)]
    refine tile_con (KK m c t) (VV m c t) w (k0_pay6 (grid0.coords t)) sk (fun b p x => aQC m c (ix3 b p x))
      (fun b p x => aKC m c (ix3 b p x)) (fun b p x => aVC m c (ix3 b p x)) (fun a => aS m c (ix1 a)) ⟨t.val / 66, by omega⟩ i ⟨(t.val % 66 - 64) * 128 + i, by omega⟩ g r ⟨l.val % 64, by omega⟩ (fun x => ?_) (fun y => ?_)
      (fun x l => keys_con m c t x l) (fun x l => vals_con m c t x l) hs _ (by simp only []; omega)
    · rw [hmask, if_neg (fun h => hn h.1)]
    · exact (hw _).trans (q_con m c t hn i g r y)

/-- … and of either group. -/
theorem entry2 (ok : Ok m c) (w : FVec Ideal S128x128 .bf16) (s0 s1 : EReal) (i l : Fin 128) (r : Fin 4)
    (hw : ∀ l : Fin 128, w (ix2 i l) = (iblk m c 1 t : FVec Ideal S128x512 .bf16) (ix2 i ⟨128 * r + l, by omega⟩))
    (hs0 : s0 = aS m c (ix1 ⟨r, by omega⟩)) (hs1 : s1 = aS m c (ix1 ⟨4 + r, by omega⟩)) (R : Fin 16896) (C : Fin 512)
    (hR : R.val = (if t.val % 66 < 64 then t.val / 66 * 64 + t.val % 66 else 128 + t.val / 66 * 2 + (t.val % 66 - 64)) * 128 + i)
    (hC : C.val = 128 * r + l) : (if l.val < 64 then tile (KK m c t) (VV m c t) w (k0_pay6 (grid0.coords t)) s0 i 0 l
      else tile (KK m c t) (VV m c t) w (k0_pay6 (grid0.coords t)) s1 i 1 l) = res m c (ix2 R C) := by
  by_cases h : l.val < 64
  · rw [if_pos h]
    refine entry m c t ok w s0 i l 0 r hw (hs0.trans ?_) (show l.val / 64 = 0 by omega) R C hR hC
    exact congrArg (fun a => aS m c (ix1 a)) (Fin.ext (show r.val = 0 * 4 + r.val by omega))
  · rw [if_neg h]
    refine entry m c t ok w s1 i l 1 r hw (hs1.trans ?_) (show l.val / 64 = 1 by omega) R C hR hC
    exact congrArg (fun a => aS m c (ix1 a)) (Fin.ext (show 4 + r.val = 1 * 4 + r.val by omega))

/-- The stored tile of repeat 0. -/
theorem store0 (ok : Ok m c) (Y0 Y1 Y2 Y3 : FVec Ideal S128x128 .bf16) (s0 s1 s2 s3 t0 t1 t2 t3 : Elt Ideal .f32)
    (e0 : ∀ x, Y0 x = (iblk m c 1 t : FVec Ideal S128x512 .bf16) ((Rect.unit (s := S128x512) ![0, 0] ![128, 128] inb_S128x512_S128x128_0_0).idx x))
    (hs : s0 = aS m c (ix1 0)) (ht : t0 = aS m c (ix1 4)) (i l : Fin 128) (R : Fin 16896) (C : Fin 512)
    (hR : R.val = (if t.val % 66 < 64 then t.val / 66 * 64 + t.val % 66 else 128 + t.val / 66 * 2 + (t.val % 66 - 64)) * 128 + i)
    (hC : C.val = 128 * 0 + l) :
    k0_pay2 (F := Ideal) (k0_pay31 (VV m c t) k0_pay18 (k0_pay22 k0_pay12) (k0_pay23 s0 s1 s2 s3) (k0_pay27 (KK m c t) k0_pay12 (k0_pay13 Y0) (k0_pay14 Y1) (k0_pay15 Y2) (k0_pay16 Y3) (k0_pay17 (k0_pay6 (grid0.coords t))) s0 s1 s2 s3)
      (k0_pay28 (KK m c t) k0_pay12 (k0_pay13 Y0) (k0_pay14 Y1) (k0_pay15 Y2) (k0_pay16 Y3) (k0_pay17 (k0_pay6 (grid0.coords t))) s0 s1 s2 s3) (k0_pay29 (KK m c t) k0_pay12 (k0_pay13 Y0) (k0_pay14 Y1) (k0_pay15 Y2) (k0_pay16 Y3) (k0_pay17 (k0_pay6 (grid0.coords t))) s0 s1 s2 s3))
      (k0_pay35 k0_pay12)
      (k0_pay45 (KK m c t) (k0_pay15 Y2) (k0_pay16 Y3) (k0_pay17 (k0_pay6 (grid0.coords t))) (k0_pay35 k0_pay12) (k0_pay36 k0_pay12 (k0_pay13 Y0)) (k0_pay37 k0_pay12 (k0_pay14 Y1)) (FloatOps.ofBits FTy.bf16 0#16) t0 t1 t2 t3)
      (k0_pay46 (KK m c t) (VV m c t) (k0_pay15 Y2) (k0_pay16 Y3) (k0_pay17 (k0_pay6 (grid0.coords t))) (k0_pay35 k0_pay12) (k0_pay36 k0_pay12 (k0_pay13 Y0)) (k0_pay37 k0_pay12 (k0_pay14 Y1)) (FloatOps.ofBits FTy.bf16 0#16) t0 t1 t2 t3)
      k0_pay47 (ix2 i l) = res m c (ix2 R C) :=
  (tile0 (KK m c t) (VV m c t) (k0_pay13 Y0) (k0_pay14 Y1) (k0_pay15 Y2) (k0_pay16 Y3) (k0_pay6 (grid0.coords t)) s0 s1 s2 s3 t0 t1 t2 t3 i l).trans
    (entry2 m c t ok _ _ _ i l 0 (fun l => slab0 _ _ e0 i l) hs ht R C hR hC)

/-- The stored tile of repeat 1. -/
theorem store1 (ok : Ok m c) (Y0 Y1 Y2 Y3 : FVec Ideal S128x128 .bf16) (s0 s1 s2 s3 t0 t1 t2 t3 : Elt Ideal .f32)
    (e1 : ∀ x, Y1 x = (iblk m c 1 t : FVec Ideal S128x512 .bf16) ((Rect.unit (s := S128x512) ![0, 128] ![128, 128] inb_S128x512_S128x128_0_128).idx x))
    (hs : s1 = aS m c (ix1 1)) (ht : t1 = aS m c (ix1 5)) (i l : Fin 128) (R : Fin 16896) (C : Fin 512)
    (hR : R.val = (if t.val % 66 < 64 then t.val / 66 * 64 + t.val % 66 else 128 + t.val / 66 * 2 + (t.val % 66 - 64)) * 128 + i)
    (hC : C.val = 128 * 1 + l) :
    k0_pay3 (F := Ideal) (k0_pay32 (VV m c t) k0_pay19 (k0_pay22 k0_pay12) (k0_pay23 s0 s1 s2 s3) (k0_pay27 (KK m c t) k0_pay12 (k0_pay13 Y0) (k0_pay14 Y1) (k0_pay15 Y2) (k0_pay16 Y3) (k0_pay17 (k0_pay6 (grid0.coords t))) s0 s1 s2 s3)
      (k0_pay28 (KK m c t) k0_pay12 (k0_pay13 Y0) (k0_pay14 Y1) (k0_pay15 Y2) (k0_pay16 Y3) (k0_pay17 (k0_pay6 (grid0.coords t))) s0 s1 s2 s3) (k0_pay29 (KK m c t) k0_pay12 (k0_pay13 Y0) (k0_pay14 Y1) (k0_pay15 Y2) (k0_pay16 Y3) (k0_pay17 (k0_pay6 (grid0.coords t))) s0 s1 s2 s3))
      (k0_pay35 k0_pay12)
      (k0_pay45 (KK m c t) (k0_pay15 Y2) (k0_pay16 Y3) (k0_pay17 (k0_pay6 (grid0.coords t))) (k0_pay35 k0_pay12) (k0_pay36 k0_pay12 (k0_pay13 Y0)) (k0_pay37 k0_pay12 (k0_pay14 Y1)) (FloatOps.ofBits FTy.bf16 0#16) t0 t1 t2 t3)
      (k0_pay46 (KK m c t) (VV m c t) (k0_pay15 Y2) (k0_pay16 Y3) (k0_pay17 (k0_pay6 (grid0.coords t))) (k0_pay35 k0_pay12) (k0_pay36 k0_pay12 (k0_pay13 Y0)) (k0_pay37 k0_pay12 (k0_pay14 Y1)) (FloatOps.ofBits FTy.bf16 0#16) t0 t1 t2 t3)
      k0_pay47 (ix2 i l) = res m c (ix2 R C) :=
  (tile1 (KK m c t) (VV m c t) (k0_pay13 Y0) (k0_pay14 Y1) (k0_pay15 Y2) (k0_pay16 Y3) (k0_pay6 (grid0.coords t)) s0 s1 s2 s3 t0 t1 t2 t3 i l).trans
    (entry2 m c t ok _ _ _ i l 1 (fun l => slab1 _ _ e1 i l) hs ht R C hR hC)

/-- The stored tile of repeat 2. -/
theorem store2 (ok : Ok m c) (Y0 Y1 Y2 Y3 : FVec Ideal S128x128 .bf16) (s0 s1 s2 s3 t0 t1 t2 t3 : Elt Ideal .f32)
    (e2 : ∀ x, Y2 x = (iblk m c 1 t : FVec Ideal S128x512 .bf16) ((Rect.unit (s := S128x512) ![0, 256] ![128, 128] inb_S128x512_S128x128_0_256).idx x))
    (hs : s2 = aS m c (ix1 2)) (ht : t2 = aS m c (ix1 6)) (i l : Fin 128) (R : Fin 16896) (C : Fin 512)
    (hR : R.val = (if t.val % 66 < 64 then t.val / 66 * 64 + t.val % 66 else 128 + t.val / 66 * 2 + (t.val % 66 - 64)) * 128 + i)
    (hC : C.val = 128 * 2 + l) :
    k0_pay4 (F := Ideal) (k0_pay33 (VV m c t) k0_pay20 (k0_pay22 k0_pay12) (k0_pay23 s0 s1 s2 s3) (k0_pay27 (KK m c t) k0_pay12 (k0_pay13 Y0) (k0_pay14 Y1) (k0_pay15 Y2) (k0_pay16 Y3) (k0_pay17 (k0_pay6 (grid0.coords t))) s0 s1 s2 s3)
      (k0_pay28 (KK m c t) k0_pay12 (k0_pay13 Y0) (k0_pay14 Y1) (k0_pay15 Y2) (k0_pay16 Y3) (k0_pay17 (k0_pay6 (grid0.coords t))) s0 s1 s2 s3) (k0_pay29 (KK m c t) k0_pay12 (k0_pay13 Y0) (k0_pay14 Y1) (k0_pay15 Y2) (k0_pay16 Y3) (k0_pay17 (k0_pay6 (grid0.coords t))) s0 s1 s2 s3))
      (k0_pay35 k0_pay12)
      (k0_pay45 (KK m c t) (k0_pay15 Y2) (k0_pay16 Y3) (k0_pay17 (k0_pay6 (grid0.coords t))) (k0_pay35 k0_pay12) (k0_pay36 k0_pay12 (k0_pay13 Y0)) (k0_pay37 k0_pay12 (k0_pay14 Y1)) (FloatOps.ofBits FTy.bf16 0#16) t0 t1 t2 t3)
      (k0_pay46 (KK m c t) (VV m c t) (k0_pay15 Y2) (k0_pay16 Y3) (k0_pay17 (k0_pay6 (grid0.coords t))) (k0_pay35 k0_pay12) (k0_pay36 k0_pay12 (k0_pay13 Y0)) (k0_pay37 k0_pay12 (k0_pay14 Y1)) (FloatOps.ofBits FTy.bf16 0#16) t0 t1 t2 t3)
      k0_pay47 (ix2 i l) = res m c (ix2 R C) :=
  (tile2 (KK m c t) (VV m c t) (k0_pay13 Y0) (k0_pay14 Y1) (k0_pay15 Y2) (k0_pay16 Y3) (k0_pay6 (grid0.coords t)) s0 s1 s2 s3 t0 t1 t2 t3 i l).trans
    (entry2 m c t ok _ _ _ i l 2 (fun l => slab2 _ _ e2 i l) hs ht R C hR hC)

/-- The stored tile of repeat 3. -/
theorem store3 (ok : Ok m c) (Y0 Y1 Y2 Y3 : FVec Ideal S128x128 .bf16) (s0 s1 s2 s3 t0 t1 t2 t3 : Elt Ideal .f32)
    (e3 : ∀ x, Y3 x = (iblk m c 1 t : FVec Ideal S128x512 .bf16) ((Rect.unit (s := S128x512) ![0, 384] ![128, 128] inb_S128x512_S128x128_0_384).idx x))
    (hs : s3 = aS m c (ix1 3)) (ht : t3 = aS m c (ix1 7)) (i l : Fin 128) (R : Fin 16896) (C : Fin 512)
    (hR : R.val = (if t.val % 66 < 64 then t.val / 66 * 64 + t.val % 66 else 128 + t.val / 66 * 2 + (t.val % 66 - 64)) * 128 + i)
    (hC : C.val = 128 * 3 + l) :
    k0_pay5 (F := Ideal) (k0_pay34 (VV m c t) (k0_pay21 (FloatOps.ofBits FTy.f32 0#32)) (k0_pay22 k0_pay12) (k0_pay23 s0 s1 s2 s3) (k0_pay27 (KK m c t) k0_pay12 (k0_pay13 Y0) (k0_pay14 Y1) (k0_pay15 Y2) (k0_pay16 Y3) (k0_pay17 (k0_pay6 (grid0.coords t))) s0 s1 s2 s3)
      (k0_pay28 (KK m c t) k0_pay12 (k0_pay13 Y0) (k0_pay14 Y1) (k0_pay15 Y2) (k0_pay16 Y3) (k0_pay17 (k0_pay6 (grid0.coords t))) s0 s1 s2 s3) (k0_pay29 (KK m c t) k0_pay12 (k0_pay13 Y0) (k0_pay14 Y1) (k0_pay15 Y2) (k0_pay16 Y3) (k0_pay17 (k0_pay6 (grid0.coords t))) s0 s1 s2 s3))
      (k0_pay35 k0_pay12)
      (k0_pay45 (KK m c t) (k0_pay15 Y2) (k0_pay16 Y3) (k0_pay17 (k0_pay6 (grid0.coords t))) (k0_pay35 k0_pay12) (k0_pay36 k0_pay12 (k0_pay13 Y0)) (k0_pay37 k0_pay12 (k0_pay14 Y1)) (FloatOps.ofBits FTy.bf16 0#16) t0 t1 t2 t3)
      (k0_pay46 (KK m c t) (VV m c t) (k0_pay15 Y2) (k0_pay16 Y3) (k0_pay17 (k0_pay6 (grid0.coords t))) (k0_pay35 k0_pay12) (k0_pay36 k0_pay12 (k0_pay13 Y0)) (k0_pay37 k0_pay12 (k0_pay14 Y1)) (FloatOps.ofBits FTy.bf16 0#16) t0 t1 t2 t3)
      k0_pay47 (ix2 i l) = res m c (ix2 R C) :=
  (tile3 (KK m c t) (VV m c t) (k0_pay13 Y0) (k0_pay14 Y1) (k0_pay15 Y2) (k0_pay16 Y3) (k0_pay6 (grid0.coords t)) s0 s1 s2 s3 t0 t1 t2 t3 i l).trans
    (entry2 m c t ok _ _ _ i l 3 (fun l => slab3 _ _ e3 i l) hs ht R C hR hC)

/-- The kernel's result is the reference's result of its arguments. -/
theorem final (ok : Ok m c) : (dats m 0 c).arrAt 10 (cfgs 0).N = res m c := by
  refine (dats m 0 c).arrAt_eq_of_covers 10 _ (by decide +kernel) fun t hf y => ?_
  clear hf
  have r0 : ((((View.whole main_v15).slice (win0_10.rect t)).emb y : S16896x512.Idx) 0).val
      = (if t.val % 66 < 64 then t.val / 66 * 64 + t.val % 66 else 128 + t.val / 66 * 2 + (t.val % 66 - 64)) * 128 + (y 0).val := by
    refine ((cfg0.win 10).rect_emb_val t y 0).trans ?_
    rw [show (cfg0.win 10).index t = _ from idx10 t]
    rfl
  have r1 : ((((View.whole main_v15).slice (win0_10.rect t)).emb y : S16896x512.Idx) 1).val = (y 1).val := by
    refine ((cfg0.win 10).rect_emb_val t y 1).trans ?_
    rw [show (cfg0.win 10).index t = _ from idx10 t]
    exact (congrArg (· + (y 1).val) (Nat.zero_mul _)).trans (Nat.zero_add _)
  blk_simp
  rw [after0_10]
  unfold outsAt0
  frame_out
  canon_tiles x k
  · rw [eq_ix2 x, eq_ix2 (((View.whole main_v15).slice (win0_10.rect t)).emb y : S16896x512.Idx)]
    refine store3 m c t ok _ _ _ _ _ _ _ _ _ _ _ _ (fun x => rfl)
      ((congrArg (iblk m c 0 t : FVec Ideal S8 .f32) (?_ : _ = ix1 3)).trans (blk0 m c t 3))
      ((congrArg (iblk m c 0 t : FVec Ideal S8 .f32) (?_ : _ = ix1 7)).trans (blk0 m c t 7)) (x 0) (x 1) _ _ ?_ ?_
    · funext a; fin_cases a; rfl
    · funext a; fin_cases a; rfl
    · rw [r0, k0]
    · rw [r1, k1]
  · rw [eq_ix2 x, eq_ix2 (((View.whole main_v15).slice (win0_10.rect t)).emb y : S16896x512.Idx)]
    refine store2 m c t ok _ _ _ _ _ _ _ _ _ _ _ _ (fun x => rfl)
      ((congrArg (iblk m c 0 t : FVec Ideal S8 .f32) (?_ : _ = ix1 2)).trans (blk0 m c t 2))
      ((congrArg (iblk m c 0 t : FVec Ideal S8 .f32) (?_ : _ = ix1 6)).trans (blk0 m c t 6)) (x 0) (x 1) _ _ ?_ ?_
    · funext a; fin_cases a; rfl
    · funext a; fin_cases a; rfl
    · rw [r0, k0]
    · rw [r1, k1]
  · rw [eq_ix2 x, eq_ix2 (((View.whole main_v15).slice (win0_10.rect t)).emb y : S16896x512.Idx)]
    refine store1 m c t ok _ _ _ _ _ _ _ _ _ _ _ _ (fun x => rfl)
      ((congrArg (iblk m c 0 t : FVec Ideal S8 .f32) (?_ : _ = ix1 1)).trans (blk0 m c t 1))
      ((congrArg (iblk m c 0 t : FVec Ideal S8 .f32) (?_ : _ = ix1 5)).trans (blk0 m c t 5)) (x 0) (x 1) _ _ ?_ ?_
    · funext a; fin_cases a; rfl
    · funext a; fin_cases a; rfl
    · rw [r0, k0]
    · rw [r1, k1]
  · rw [eq_ix2 x, eq_ix2 (((View.whole main_v15).slice (win0_10.rect t)).emb y : S16896x512.Idx)]
    refine store0 m c t ok _ _ _ _ _ _ _ _ _ _ _ _ (fun x => rfl)
      ((congrArg (iblk m c 0 t : FVec Ideal S8 .f32) (?_ : _ = ix1 0)).trans (blk0 m c t 0))
      ((congrArg (iblk m c 0 t : FVec Ideal S8 .f32) (?_ : _ = ix1 4)).trans (blk0 m c t 4)) (x 0) (x 1) _ _ ?_ ?_
    · funext a; fin_cases a; rfl
    · funext a; fin_cases a; rfl
    · rw [r0, k0]
    · rw [r1, k1]; simp only [Nat.mul_zero, Nat.zero_add]

end Attn
end
-- ==== Proof.Finite.lean ====
/- What the precondition says of an array: every entry is a number. -/
module

public import proofs.«01_k».proof.Defs
public import proofs.«01_k».proof.Proof.Spec

@[expose] public section

set_option maxRecDepth 16384

noncomputable section

namespace Attn
open Idealize.ShloMosaic Idealize.ShloMosaic.TcCoe Idealize.SL.Sem

theorem posInf : Ideal.ofBits FTy.f32 2139095040#32 = (⊤ : EReal) := by simp [Ideal.ofBits, Ideal.ieee]

/-- A magnitude below infinity is a number's. -/
theorem fin_of_abs (x : EReal) (h : max x (-x) < ⊤) : Fin' x := by
  refine ⟨?_, ?_⟩
  · rintro rfl; simp at h
  · rintro rfl; simp at h

/-- An array whose every magnitude compares below infinity. -/
theorem fin_of {s : Shape} (X : FVec Ideal s .f32) (hb : (⟨0, ![]⟩ : Shape).BroadcastsInDim s (![] : Fin 0 → Fin s.rank))
    (h : cmpf .olt (Host.absf X) (broadcastInDim s ![] hb (constant (⟨0, ![]⟩ : Shape) .f32 0x7F800000#32)) = fun _ => 1#1) (i : s.Idx) :
    Fin' (X i) := by
  have e := congrFun h i
  simp only [cmpf, Host.absf, broadcastInDim, constant] at e
  change Ideal.cmp .olt (max (X i) (-(X i))) (Ideal.ofBits FTy.f32 2139095040#32) = 1#1 at e
  rw [posInf] at e
  refine fin_of_abs _ ?_
  by_contra hc
  simp [Ideal.cmp, hc] at e

/-- An array whose every entry compares above negative infinity. -/
theorem ne_bot_of {s : Shape} (X : FVec Ideal s .f32) (hb : (⟨0, ![]⟩ : Shape).BroadcastsInDim s (![] : Fin 0 → Fin s.rank))
    (h : cmpf .ogt X (broadcastInDim s ![] hb (constant (⟨0, ![]⟩ : Shape) .f32 0xFF800000#32)) = fun _ => 1#1) (i : s.Idx) :
    X i ≠ (⊥ : EReal) := by
  have e := congrFun h i
  simp only [cmpf, broadcastInDim, constant] at e
  change Ideal.cmp .ogt (X i) (Ideal.ofBits FTy.f32 4286578688#32) = 1#1 at e
  intro hx
  have hn : Ideal.ofBits FTy.f32 4286578688#32 = (⊥ : EReal) := by simp [Ideal.ofBits, Ideal.ieee]
  rw [hn, hx] at e
  simp [Ideal.cmp] at e

instance preFacts : Cert.Pre_finite_scores.Facts where
  bcast_S_S2x8192x512 := by decide
  bcast_S_S2x8192x128 := by decide
  bcast_S_S2x256x512 := by decide
  bcast_S_S2x256x128 := by decide
  bcast_S_S8 := by decide

instance preFacts2 : Cert.Pre_finite_weights.Facts where
  bcast_S_S2x6144 := by decide
  bcast_S_S1024x2304 := by decide

instance preFacts3 : Cert.Pre_finite_mixers.Facts where
  bcast_S_S16896x256 := by decide

end Attn
end
-- ==== Proof.ProjHost.lean ====
/- The host operations that prepare the projection's operands, in stretches. -/
module

public import proofs.«01_k».proof.Proof.Gen.Kernel2Ideal.Frame.Runs

@[expose] public section

set_option maxRecDepth 16384
set_option maxHeartbeats 4000000

noncomputable section

namespace Proj
open Idealize.ShloMosaic Idealize.ShloMosaic.TcCoe Idealize.SL.Sem
open Cert.Kernel2Ideal Cert.Kernel2Ideal.Gen

variable {F : FTy → Type} [FloatOps F]

/-- The tables of columns and signs. -/
def ops0 : List (HloOp τ sig (Elt F)) :=
  [ StableHlo.nullary main_c (fun i => lit0 (S512.rowMajor i)),
    StableHlo.nullary main_c_0 (constantI S512 1 0#1),
    StableHlo.nullary main_c_1 (fun i => lit1 (S256.rowMajor i)),
    StableHlo.nullary main_c_2 (constantI S256 1 0#1),
    StableHlo.nullary main_cst (fun i => FloatOps.ofBits .f32 (lit2 (S256.rowMajor i))),
    StableHlo.nullary main_c_3 (fun i => lit3 (S256.rowMajor i)),
    StableHlo.nullary main_c_4 (constantI S256 1 0#1),
    StableHlo.nullary main_cst_5 (fun i => FloatOps.ofBits .f32 (lit4 (S256.rowMajor i))),
    StableHlo.nullary main_c_6 (fun i => lit5 (S512.rowMajor i)),
    StableHlo.nullary main_c_7 (constantI S512 1 0#1),
    StableHlo.nullary main_cst_8 (fun i => FloatOps.ofBits .f32 (lit6 (S512.rowMajor i))),
    StableHlo.nullary main_c_9 (constantI S512 1 0#1),
    StableHlo.nullary main_c_10 (fun i => lit7 (S128.rowMajor i)),
    StableHlo.nullary main_c_11 (constantI S128 1 0#1),
    StableHlo.nullary main_cst_12 (fun i => FloatOps.ofBits .f32 (lit8 (S128.rowMajor i))) ]

/-- What this stretch writes. -/
abbrev outs0 : List (Ref sig .tc) := [main_c, main_c_0, main_c_1, main_c_2, main_cst, main_c_3, main_c_4, main_cst_5, main_c_6, main_c_7, main_cst_8, main_c_9, main_c_10, main_c_11, main_cst_12]

theorem writes0 : (ops0 : List (HloOp τ sig (Elt F))).Forall fun op => op.writes ⊆ (outs0.map (Proc.devRef (τ := τ) .tc)).toFinset := by
  unfold ops0
  simp only [List.Forall]
  refine ⟨?_, ?_, ?_, ?_, ?_, ?_, ?_, ?_, ?_, ?_, ?_, ?_, ?_, ?_, ?_⟩ <;> (simp only [StableHlo.nullary_writes, StableHlo.unary_writes, StableHlo.binary_writes, StableHlo.ternary_writes, StableHlo.reshape_writes, StableHlo.nary_writes, Finset.singleton_subset_iff, List.mem_toFinset]; exact List.mem_map_of_mem (by decide))

/-- A buffer this stretch does not write keeps its contents. -/
theorem keep0 (σ : Valuation τ sig (Elt F)) (r : Ref sig .tc) (h : r ∉ outs0) :
    StableHlo.after ops0 σ (Proc.devRef .tc r) = σ (Proc.devRef .tc r) := StableHlo.after_of_writes_sub ops0 _ writes0 h

/-- The tokens and the modulation rows, stacked. -/
def ops1 : List (HloOp τ sig (Elt F)) :=
  [ StableHlo.reshape main_arg0 main_v0 (rfl : (.f32 : EltTy) = .f32) shapeCasts_S2x8192x1024_S16384x1024,
    StableHlo.reshape main_arg1 main_v1 (rfl : (.f32 : EltTy) = .f32) shapeCasts_S2x256x1024_S512x1024,
    StableHlo.binary main_v0 main_v1 main_v2 ((fun a b => concatenate S16896x1024 0 [⟨S16384x1024, a⟩, ⟨S512x1024, b⟩] concatenates_S16384x1024_S512x1024_S16896x1024_d0) : (⟨S16384x1024, .f32⟩ : BufTy).Contents (Elt F) → (⟨S512x1024, .f32⟩ : BufTy).Contents (Elt F) → (⟨S16896x1024, .f32⟩ : BufTy).Contents (Elt F)),
    StableHlo.unary main_arg3 main_v3 (broadcastInDim S1x6144 ![1] bcast_S6144_S1x6144_1 : (⟨S6144, .f32⟩ : BufTy).Contents (Elt F) → (⟨S1x6144, .f32⟩ : BufTy).Contents (Elt F)),
    StableHlo.nullary main_cst_13 (constant S_ .f32 0x00000000#32),
    StableHlo.unary main_cst_13 main_v4 (broadcastInDim S5x6144 ![] bcast_S_S5x6144 : (⟨S_, .f32⟩ : BufTy).Contents (Elt F) → (⟨S5x6144, .f32⟩ : BufTy).Contents (Elt F)),
    StableHlo.nary ![main_arg2, main_v3, main_v4] main_v5 (fun u => (concatenate S8x6144 0 [⟨S2x6144, (u 0 : (⟨S2x6144, .f32⟩ : BufTy).Contents (Elt F))⟩, ⟨S1x6144, (u 1 : (⟨S1x6144, .f32⟩ : BufTy).Contents (Elt F))⟩, ⟨S5x6144, (u 2 : (⟨S5x6144, .f32⟩ : BufTy).Contents (Elt F))⟩] concatenates_S2x6144_S1x6144_S5x6144_S8x6144_d0 : (⟨S8x6144, .f32⟩ : BufTy).Contents (Elt F))) ]

/-- What this stretch writes. -/
abbrev outs1 : List (Ref sig .tc) := [main_v0, main_v1, main_v2, main_v3, main_cst_13, main_v4, main_v5]

theorem writes1 : (ops1 : List (HloOp τ sig (Elt F))).Forall fun op => op.writes ⊆ (outs1.map (Proc.devRef (τ := τ) .tc)).toFinset := by
  unfold ops1
  simp only [List.Forall]
  refine ⟨?_, ?_, ?_, ?_, ?_, ?_, ?_⟩ <;> (simp only [StableHlo.nullary_writes, StableHlo.unary_writes, StableHlo.binary_writes, StableHlo.ternary_writes, StableHlo.reshape_writes, StableHlo.nary_writes, Finset.singleton_subset_iff, List.mem_toFinset]; exact List.mem_map_of_mem (by decide))

/-- A buffer this stretch does not write keeps its contents. -/
theorem keep1 (σ : Valuation τ sig (Elt F)) (r : Ref sig .tc) (h : r ∉ outs1) :
    StableHlo.after ops1 σ (Proc.devRef .tc r) = σ (Proc.devRef .tc r) := StableHlo.after_of_writes_sub ops1 _ writes1 h

/-- The rotation angles. -/
def ops2 : List (HloOp τ sig (Elt F)) :=
  [ StableHlo.nullary main_v6 (iotaInDim S128 32 0),
    StableHlo.unary main_v6 main_v7 (broadcastInDim S128x64 ![0] bcast_S128_S128x64_0 : (⟨S128, .i32⟩ : BufTy).Contents (Elt F) → (⟨S128x64, .i32⟩ : BufTy).Contents (Elt F)),
    StableHlo.reshape main_v7 main_v8 (rfl : (.i32 : EltTy) = .i32) shapeCasts_S128x64_S8192,
    StableHlo.unary main_v8 main_v9 (sitofp .f32 : (⟨S8192, .i32⟩ : BufTy).Contents (Elt F) → (⟨S8192, .f32⟩ : BufTy).Contents (Elt F)),
    StableHlo.nullary main_v10 (iotaInDim S64 32 0),
    StableHlo.reshape main_v10 main_v11 (rfl : (.i32 : EltTy) = .i32) shapeCasts_S64_S1x64,
    StableHlo.unary main_v11 main_v12 (broadcastInDim S128x64 ![0, 1] bcast_S1x64_S128x64_0_1 : (⟨S1x64, .i32⟩ : BufTy).Contents (Elt F) → (⟨S128x64, .i32⟩ : BufTy).Contents (Elt F)),
    StableHlo.reshape main_v12 main_v13 (rfl : (.i32 : EltTy) = .i32) shapeCasts_S128x64_S8192,
    StableHlo.unary main_v13 main_v14 (sitofp .f32 : (⟨S8192, .i32⟩ : BufTy).Contents (Elt F) → (⟨S8192, .f32⟩ : BufTy).Contents (Elt F)),
    StableHlo.nullary main_v15 (sitofp .f32 (iotaInDim S16 32 0)),
    StableHlo.unary main_v15 main_v16 (Host.negf : (⟨S16, .f32⟩ : BufTy).Contents (Elt F) → (⟨S16, .f32⟩ : BufTy).Contents (Elt F)),
    StableHlo.nullary main_cst_14 (constant S_ .f32 0x41800000#32),
    StableHlo.unary main_cst_14 main_v17 (broadcastInDim S16 ![] bcast_S_S16 : (⟨S_, .f32⟩ : BufTy).Contents (Elt F) → (⟨S16, .f32⟩ : BufTy).Contents (Elt F)),
    StableHlo.binary main_v16 main_v17 main_v18 (Host.divf : (⟨S16, .f32⟩ : BufTy).Contents (Elt F) → (⟨S16, .f32⟩ : BufTy).Contents (Elt F) → (⟨S16, .f32⟩ : BufTy).Contents (Elt F)),
    StableHlo.nullary main_cst_15 (constant S_ .f32 0x461C4000#32),
    StableHlo.unary main_cst_15 main_v19 (broadcastInDim S16 ![] bcast_S_S16 : (⟨S_, .f32⟩ : BufTy).Contents (Elt F) → (⟨S16, .f32⟩ : BufTy).Contents (Elt F)),
    StableHlo.binary main_v19 main_v18 main_v20 (Host.powf : (⟨S16, .f32⟩ : BufTy).Contents (Elt F) → (⟨S16, .f32⟩ : BufTy).Contents (Elt F) → (⟨S16, .f32⟩ : BufTy).Contents (Elt F)),
    StableHlo.unary main_v9 main_v21 (broadcastInDim S8192x1 ![0] bcast_S8192_S8192x1_0 : (⟨S8192, .f32⟩ : BufTy).Contents (Elt F) → (⟨S8192x1, .f32⟩ : BufTy).Contents (Elt F)),
    StableHlo.unary main_v20 main_v22 (broadcastInDim S1x16 ![1] bcast_S16_S1x16_1 : (⟨S16, .f32⟩ : BufTy).Contents (Elt F) → (⟨S1x16, .f32⟩ : BufTy).Contents (Elt F)),
    StableHlo.unary main_v21 main_v23 (broadcastInDim S8192x16 ![0, 1] bcast_S8192x1_S8192x16_0_1 : (⟨S8192x1, .f32⟩ : BufTy).Contents (Elt F) → (⟨S8192x16, .f32⟩ : BufTy).Contents (Elt F)),
    StableHlo.unary main_v22 main_v24 (broadcastInDim S8192x16 ![0, 1] bcast_S1x16_S8192x16_0_1 : (⟨S1x16, .f32⟩ : BufTy).Contents (Elt F) → (⟨S8192x16, .f32⟩ : BufTy).Contents (Elt F)),
    StableHlo.binary main_v23 main_v24 main_v25 (mulf : (⟨S8192x16, .f32⟩ : BufTy).Contents (Elt F) → (⟨S8192x16, .f32⟩ : BufTy).Contents (Elt F) → (⟨S8192x16, .f32⟩ : BufTy).Contents (Elt F)),
    StableHlo.unary main_v14 main_v26 (broadcastInDim S8192x1 ![0] bcast_S8192_S8192x1_0 : (⟨S8192, .f32⟩ : BufTy).Contents (Elt F) → (⟨S8192x1, .f32⟩ : BufTy).Contents (Elt F)),
    StableHlo.unary main_v20 main_v27 (broadcastInDim S1x16 ![1] bcast_S16_S1x16_1 : (⟨S16, .f32⟩ : BufTy).Contents (Elt F) → (⟨S1x16, .f32⟩ : BufTy).Contents (Elt F)),
    StableHlo.unary main_v26 main_v28 (broadcastInDim S8192x16 ![0, 1] bcast_S8192x1_S8192x16_0_1 : (⟨S8192x1, .f32⟩ : BufTy).Contents (Elt F) → (⟨S8192x16, .f32⟩ : BufTy).Contents (Elt F)),
    StableHlo.unary main_v27 main_v29 (broadcastInDim S8192x16 ![0, 1] bcast_S1x16_S8192x16_0_1 : (⟨S1x16, .f32⟩ : BufTy).Contents (Elt F) → (⟨S8192x16, .f32⟩ : BufTy).Contents (Elt F)),
    StableHlo.binary main_v28 main_v29 main_v30 (mulf : (⟨S8192x16, .f32⟩ : BufTy).Contents (Elt F) → (⟨S8192x16, .f32⟩ : BufTy).Contents (Elt F) → (⟨S8192x16, .f32⟩ : BufTy).Contents (Elt F)) ]

/-- What this stretch writes. -/
abbrev outs2 : List (Ref sig .tc) := [main_v6, main_v7, main_v8, main_v9, main_v10, main_v11, main_v12, main_v13, main_v14, main_v15, main_v16, main_cst_14, main_v17, main_v18, main_cst_15, main_v19, main_v20, main_v21, main_v22, main_v23, main_v24, main_v25, main_v26, main_v27, main_v28, main_v29, main_v30]

theorem writes2 : (ops2 : List (HloOp τ sig (Elt F))).Forall fun op => op.writes ⊆ (outs2.map (Proc.devRef (τ := τ) .tc)).toFinset := by
  unfold ops2
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_⟩ <;> (simp only [StableHlo.nullary_writes, StableHlo.unary_writes, StableHlo.binary_writes, StableHlo.ternary_writes, StableHlo.reshape_writes, StableHlo.nary_writes, Finset.singleton_subset_iff, List.mem_toFinset]; exact List.mem_map_of_mem (by decide))

/-- A buffer this stretch does not write keeps its contents. -/
theorem keep2 (σ : Valuation τ sig (Elt F)) (r : Ref sig .tc) (h : r ∉ outs2) :
    StableHlo.after ops2 σ (Proc.devRef .tc r) = σ (Proc.devRef .tc r) := StableHlo.after_of_writes_sub ops2 _ writes2 h

/-- The tables of cosines and sines. -/
def ops3 : List (HloOp τ sig (Elt F)) :=
  [ StableHlo.unary main_v25 main_v31 (Host.cos : (⟨S8192x16, .f32⟩ : BufTy).Contents (Elt F) → (⟨S8192x16, .f32⟩ : BufTy).Contents (Elt F)),
    StableHlo.unary main_v30 main_v32 (Host.cos : (⟨S8192x16, .f32⟩ : BufTy).Contents (Elt F) → (⟨S8192x16, .f32⟩ : BufTy).Contents (Elt F)),
    StableHlo.nary ![main_v31, main_v31, main_v32, main_v32] main_v33 (fun u => (concatenate S8192x64 1 [⟨S8192x16, (u 0 : (⟨S8192x16, .f32⟩ : BufTy).Contents (Elt F))⟩, ⟨S8192x16, (u 1 : (⟨S8192x16, .f32⟩ : BufTy).Contents (Elt F))⟩, ⟨S8192x16, (u 2 : (⟨S8192x16, .f32⟩ : BufTy).Contents (Elt F))⟩, ⟨S8192x16, (u 3 : (⟨S8192x16, .f32⟩ : BufTy).Contents (Elt F))⟩] concatenates_S8192x16_S8192x16_S8192x16_S8192x16_S8192x64_d1 : (⟨S8192x64, .f32⟩ : BufTy).Contents (Elt F))),
    StableHlo.unary main_v25 main_v34 (Host.sin : (⟨S8192x16, .f32⟩ : BufTy).Contents (Elt F) → (⟨S8192x16, .f32⟩ : BufTy).Contents (Elt F)),
    StableHlo.unary main_v30 main_v35 (Host.sin : (⟨S8192x16, .f32⟩ : BufTy).Contents (Elt F) → (⟨S8192x16, .f32⟩ : BufTy).Contents (Elt F)),
    StableHlo.nary ![main_v34, main_v34, main_v35, main_v35] main_v36 (fun u => (concatenate S8192x64 1 [⟨S8192x16, (u 0 : (⟨S8192x16, .f32⟩ : BufTy).Contents (Elt F))⟩, ⟨S8192x16, (u 1 : (⟨S8192x16, .f32⟩ : BufTy).Contents (Elt F))⟩, ⟨S8192x16, (u 2 : (⟨S8192x16, .f32⟩ : BufTy).Contents (Elt F))⟩, ⟨S8192x16, (u 3 : (⟨S8192x16, .f32⟩ : BufTy).Contents (Elt F))⟩] concatenates_S8192x16_S8192x16_S8192x16_S8192x16_S8192x64_d1 : (⟨S8192x64, .f32⟩ : BufTy).Contents (Elt F))),
    StableHlo.reshape main_v33 main_v37 (rfl : (.f32 : EltTy) = .f32) shapeCasts_S8192x64_S1x8192x1x64,
    StableHlo.unary main_v37 main_v38 (broadcastInDim S1x8192x4x64 ![0, 1, 2, 3] bcast_S1x8192x1x64_S1x8192x4x64_0_1_2_3 : (⟨S1x8192x1x64, .f32⟩ : BufTy).Contents (Elt F) → (⟨S1x8192x4x64, .f32⟩ : BufTy).Contents (Elt F)),
    StableHlo.reshape main_v38 main_v39 (rfl : (.f32 : EltTy) = .f32) shapeCasts_S1x8192x4x64_S8192x256,
    StableHlo.nullary main_cst_16 (constant S_ .f32 0x3F800000#32),
    StableHlo.unary main_cst_16 main_v40 (broadcastInDim S512x256 ![] bcast_S_S512x256 : (⟨S_, .f32⟩ : BufTy).Contents (Elt F) → (⟨S512x256, .f32⟩ : BufTy).Contents (Elt F)),
    StableHlo.binary main_v39 main_v40 main_v41 ((fun a b => concatenate S8704x256 0 [⟨S8192x256, a⟩, ⟨S512x256, b⟩] concatenates_S8192x256_S512x256_S8704x256_d0) : (⟨S8192x256, .f32⟩ : BufTy).Contents (Elt F) → (⟨S512x256, .f32⟩ : BufTy).Contents (Elt F) → (⟨S8704x256, .f32⟩ : BufTy).Contents (Elt F)),
    StableHlo.reshape main_v36 main_v42 (rfl : (.f32 : EltTy) = .f32) shapeCasts_S8192x64_S1x8192x1x64,
    StableHlo.unary main_v42 main_v43 (broadcastInDim S1x8192x4x64 ![0, 1, 2, 3] bcast_S1x8192x1x64_S1x8192x4x64_0_1_2_3 : (⟨S1x8192x1x64, .f32⟩ : BufTy).Contents (Elt F) → (⟨S1x8192x4x64, .f32⟩ : BufTy).Contents (Elt F)),
    StableHlo.reshape main_v43 main_v44 (rfl : (.f32 : EltTy) = .f32) shapeCasts_S1x8192x4x64_S8192x256,
    StableHlo.nullary main_cst_17 (constant S_ .f32 0x00000000#32),
    StableHlo.unary main_cst_17 main_v45 (broadcastInDim S512x256 ![] bcast_S_S512x256 : (⟨S_, .f32⟩ : BufTy).Contents (Elt F) → (⟨S512x256, .f32⟩ : BufTy).Contents (Elt F)),
    StableHlo.binary main_v44 main_v45 main_v46 ((fun a b => concatenate S8704x256 0 [⟨S8192x256, a⟩, ⟨S512x256, b⟩] concatenates_S8192x256_S512x256_S8704x256_d0) : (⟨S8192x256, .f32⟩ : BufTy).Contents (Elt F) → (⟨S512x256, .f32⟩ : BufTy).Contents (Elt F) → (⟨S8704x256, .f32⟩ : BufTy).Contents (Elt F)) ]

/-- What this stretch writes. -/
abbrev outs3 : List (Ref sig .tc) := [main_v31, main_v32, main_v33, main_v34, main_v35, main_v36, main_v37, main_v38, main_v39, main_cst_16, main_v40, main_v41, main_v42, main_v43, main_v44, main_cst_17, main_v45, main_v46]

theorem writes3 : (ops3 : List (HloOp τ sig (Elt F))).Forall fun op => op.writes ⊆ (outs3.map (Proc.devRef (τ := τ) .tc)).toFinset := by
  unfold ops3
  simp only [List.Forall]
  refine ⟨?_, ?_, ?_, ?_, ?_, ?_, ?_, ?_, ?_, ?_, ?_, ?_, ?_, ?_, ?_, ?_, ?_, ?_⟩ <;> (simp only [StableHlo.nullary_writes, StableHlo.unary_writes, StableHlo.binary_writes, StableHlo.ternary_writes, StableHlo.reshape_writes, StableHlo.nary_writes, Finset.singleton_subset_iff, List.mem_toFinset]; exact List.mem_map_of_mem (by decide))

/-- A buffer this stretch does not write keeps its contents. -/
theorem keep3 (σ : Valuation τ sig (Elt F)) (r : Ref sig .tc) (h : r ∉ outs3) :
    StableHlo.after ops3 σ (Proc.devRef .tc r) = σ (Proc.devRef .tc r) := StableHlo.after_of_writes_sub ops3 _ writes3 h

/-- The columns as they are. -/
def ops4 : List (HloOp τ sig (Elt F)) :=
  [ StableHlo.unary main_arg4 main_v47 ((extractStridedSlice S1024x512 ![0, 1536] · slices_S1024x2304_S1024x512_0_1536) : (⟨S1024x2304, .f32⟩ : BufTy).Contents (Elt F) → (⟨S1024x512, .f32⟩ : BufTy).Contents (Elt F)),
    StableHlo.unary main_arg4 main_v48 ((extractStridedSlice S1024x1536 ![0, 0] · slices_S1024x2304_S1024x1536_0_0) : (⟨S1024x2304, .f32⟩ : BufTy).Contents (Elt F) → (⟨S1024x1536, .f32⟩ : BufTy).Contents (Elt F)),
    StableHlo.nullary main_c_18 (constantI S_ 32 512#32),
    StableHlo.unary main_c_18 main_v49 (broadcastInDim S512 ![] bcast_S_S512 : (⟨S_, .i32⟩ : BufTy).Contents (Elt F) → (⟨S512, .i32⟩ : BufTy).Contents (Elt F)),
    StableHlo.binary main_c main_v49 main_v50 (addi : (⟨S512, .i32⟩ : BufTy).Contents (Elt F) → (⟨S512, .i32⟩ : BufTy).Contents (Elt F) → (⟨S512, .i32⟩ : BufTy).Contents (Elt F)),
    StableHlo.ternary main_c_0 main_v50 main_c main_v51 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v51 main_v52 (broadcastInDim S512x1 ![0] bcast_S512_S512x1_0 : (⟨S512, .i32⟩ : BufTy).Contents (Elt F) → (⟨S512x1, .i32⟩ : BufTy).Contents (Elt F)),
    StableHlo.binary main_v47 main_v52 main_v53 ((fun x i => Host.gather gather_S1024x512_S512x1_S1024x512_0_1_n_n_1_1_10241 x i) : (⟨S1024x512, .f32⟩ : BufTy).Contents (Elt F) → (⟨S512x1, .i32⟩ : BufTy).Contents (Elt F) → (⟨S1024x512, .f32⟩ : BufTy).Contents (Elt F)),
    StableHlo.unary main_arg4 main_v54 ((extractStridedSlice S1024x256 ![0, 2048] · slices_S1024x2304_S1024x256_0_2048) : (⟨S1024x2304, .f32⟩ : BufTy).Contents (Elt F) → (⟨S1024x256, .f32⟩ : BufTy).Contents (Elt F)),
    StableHlo.nary ![main_v48, main_v53, main_v54] main_v55 (fun u => (concatenate S1024x2304 1 [⟨S1024x1536, (u 0 : (⟨S1024x1536, .f32⟩ : BufTy).Contents (Elt F))⟩, ⟨S1024x512, (u 1 : (⟨S1024x512, .f32⟩ : BufTy).Contents (Elt F))⟩, ⟨S1024x256, (u 2 : (⟨S1024x256, .f32⟩ : BufTy).Contents (Elt F))⟩] concatenates_S1024x1536_S1024x512_S1024x256_S1024x2304_d1 : (⟨S1024x2304, .f32⟩ : BufTy).Contents (Elt F))) ]

/-- What this stretch writes. -/
abbrev outs4 : List (Ref sig .tc) := [main_v47, main_v48, main_c_18, main_v49, main_v50, main_v51, main_v52, main_v53, main_v54, main_v55]

theorem writes4 : (ops4 : List (HloOp τ sig (Elt F))).Forall fun op => op.writes ⊆ (outs4.map (Proc.devRef (τ := τ) .tc)).toFinset := by
  unfold ops4
  simp only [List.Forall]
  refine ⟨?_, ?_, ?_, ?_, ?_, ?_, ?_, ?_, ?_, ?_⟩ <;> (simp only [StableHlo.nullary_writes, StableHlo.unary_writes, StableHlo.binary_writes, StableHlo.ternary_writes, StableHlo.reshape_writes, StableHlo.nary_writes, Finset.singleton_subset_iff, List.mem_toFinset]; exact List.mem_map_of_mem (by decide))

/-- A buffer this stretch does not write keeps its contents. -/
theorem keep4 (σ : Valuation τ sig (Elt F)) (r : Ref sig .tc) (h : r ∉ outs4) :
    StableHlo.after ops4 σ (Proc.devRef .tc r) = σ (Proc.devRef .tc r) := StableHlo.after_of_writes_sub ops4 _ writes4 h

/-- The partner columns of the first rotated group. -/
def ops5 : List (HloOp τ sig (Elt F)) :=
  [ StableHlo.unary main_arg4 main_v56 ((extractStridedSlice S1024x256 ![0, 0] · slices_S1024x2304_S1024x256_0_0) : (⟨S1024x2304, .f32⟩ : BufTy).Contents (Elt F) → (⟨S1024x256, .f32⟩ : BufTy).Contents (Elt F)),
    StableHlo.nullary main_c_19 (constantI S_ 32 256#32),
    StableHlo.unary main_c_19 main_v57 (broadcastInDim S256 ![] bcast_S_S256 : (⟨S_, .i32⟩ : BufTy).Contents (Elt F) → (⟨S256, .i32⟩ : BufTy).Contents (Elt F)),
    StableHlo.binary main_c_1 main_v57 main_v58 (addi : (⟨S256, .i32⟩ : BufTy).Contents (Elt F) → (⟨S256, .i32⟩ : BufTy).Contents (Elt F) → (⟨S256, .i32⟩ : BufTy).Contents (Elt F)),
    StableHlo.ternary main_c_2 main_v58 main_c_1 main_v59 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v59 main_v60 (broadcastInDim S256x1 ![0] bcast_S256_S256x1_0 : (⟨S256, .i32⟩ : BufTy).Contents (Elt F) → (⟨S256x1, .i32⟩ : BufTy).Contents (Elt F)),
    StableHlo.binary main_v56 main_v60 main_v61 ((fun x i => Host.gather gather_S1024x256_S256x1_S1024x256_0_1_n_n_1_1_10241 x i) : (⟨S1024x256, .f32⟩ : BufTy).Contents (Elt F) → (⟨S256x1, .i32⟩ : BufTy).Contents (Elt F) → (⟨S1024x256, .f32⟩ : BufTy).Contents (Elt F)),
    StableHlo.unary main_cst main_v62 (broadcastInDim S1x256 ![1] bcast_S256_S1x256_1 : (⟨S256, .f32⟩ : BufTy).Contents (Elt F) → (⟨S1x256, .f32⟩ : BufTy).Contents (Elt F)),
    StableHlo.unary main_v62 main_v63 (broadcastInDim S1024x256 ![0, 1] bcast_S1x256_S1024x256_0_1 : (⟨S1x256, .f32⟩ : BufTy).Contents (Elt F) → (⟨S1024x256, .f32⟩ : BufTy).Contents (Elt F)),
    StableHlo.binary main_v61 main_v63 main_v64 (mulf : (⟨S1024x256, .f32⟩ : BufTy).Contents (Elt F) → (⟨S1024x256, .f32⟩ : BufTy).Contents (Elt F) → (⟨S1024x256, .f32⟩ : BufTy).Contents (Elt F)) ]

/-- What this stretch writes. -/
abbrev outs5 : List (Ref sig .tc) := [main_v56, main_c_19, main_v57, main_v58, main_v59, main_v60, main_v61, main_v62, main_v63, main_v64]

theorem writes5 : (ops5 : List (HloOp τ sig (Elt F))).Forall fun op => op.writes ⊆ (outs5.map (Proc.devRef (τ := τ) .tc)).toFinset := by
  unfold ops5
  simp only [List.Forall]
  refine ⟨?_, ?_, ?_, ?_, ?_, ?_, ?_, ?_, ?_, ?_⟩ <;> (simp only [StableHlo.nullary_writes, StableHlo.unary_writes, StableHlo.binary_writes, StableHlo.ternary_writes, StableHlo.reshape_writes, StableHlo.nary_writes, Finset.singleton_subset_iff, List.mem_toFinset]; exact List.mem_map_of_mem (by decide))

/-- A buffer this stretch does not write keeps its contents. -/
theorem keep5 (σ : Valuation τ sig (Elt F)) (r : Ref sig .tc) (h : r ∉ outs5) :
    StableHlo.after ops5 σ (Proc.devRef .tc r) = σ (Proc.devRef .tc r) := StableHlo.after_of_writes_sub ops5 _ writes5 h

/-- … of the second, -/
def ops6 : List (HloOp τ sig (Elt F)) :=
  [ StableHlo.unary main_arg4 main_v65 ((extractStridedSlice S1024x256 ![0, 256] · slices_S1024x2304_S1024x256_0_256) : (⟨S1024x2304, .f32⟩ : BufTy).Contents (Elt F) → (⟨S1024x256, .f32⟩ : BufTy).Contents (Elt F)),
    StableHlo.nullary main_c_20 (constantI S_ 32 256#32),
    StableHlo.unary main_c_20 main_v66 (broadcastInDim S256 ![] bcast_S_S256 : (⟨S_, .i32⟩ : BufTy).Contents (Elt F) → (⟨S256, .i32⟩ : BufTy).Contents (Elt F)),
    StableHlo.binary main_c_3 main_v66 main_v67 (addi : (⟨S256, .i32⟩ : BufTy).Contents (Elt F) → (⟨S256, .i32⟩ : BufTy).Contents (Elt F) → (⟨S256, .i32⟩ : BufTy).Contents (Elt F)),
    StableHlo.ternary main_c_4 main_v67 main_c_3 main_v68 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v68 main_v69 (broadcastInDim S256x1 ![0] bcast_S256_S256x1_0 : (⟨S256, .i32⟩ : BufTy).Contents (Elt F) → (⟨S256x1, .i32⟩ : BufTy).Contents (Elt F)),
    StableHlo.binary main_v65 main_v69 main_v70 ((fun x i => Host.gather gather_S1024x256_S256x1_S1024x256_0_1_n_n_1_1_10241 x i) : (⟨S1024x256, .f32⟩ : BufTy).Contents (Elt F) → (⟨S256x1, .i32⟩ : BufTy).Contents (Elt F) → (⟨S1024x256, .f32⟩ : BufTy).Contents (Elt F)),
    StableHlo.unary main_cst_5 main_v71 (broadcastInDim S1x256 ![1] bcast_S256_S1x256_1 : (⟨S256, .f32⟩ : BufTy).Contents (Elt F) → (⟨S1x256, .f32⟩ : BufTy).Contents (Elt F)),
    StableHlo.unary main_v71 main_v72 (broadcastInDim S1024x256 ![0, 1] bcast_S1x256_S1024x256_0_1 : (⟨S1x256, .f32⟩ : BufTy).Contents (Elt F) → (⟨S1024x256, .f32⟩ : BufTy).Contents (Elt F)),
    StableHlo.binary main_v70 main_v72 main_v73 (mulf : (⟨S1024x256, .f32⟩ : BufTy).Contents (Elt F) → (⟨S1024x256, .f32⟩ : BufTy).Contents (Elt F) → (⟨S1024x256, .f32⟩ : BufTy).Contents (Elt F)) ]

/-- What this stretch writes. -/
abbrev outs6 : List (Ref sig .tc) := [main_v65, main_c_20, main_v66, main_v67, main_v68, main_v69, main_v70, main_v71, main_v72, main_v73]

theorem writes6 : (ops6 : List (HloOp τ sig (Elt F))).Forall fun op => op.writes ⊆ (outs6.map (Proc.devRef (τ := τ) .tc)).toFinset := by
  unfold ops6
  simp only [List.Forall]
  refine ⟨?_, ?_, ?_, ?_, ?_, ?_, ?_, ?_, ?_, ?_⟩ <;> (simp only [StableHlo.nullary_writes, StableHlo.unary_writes, StableHlo.binary_writes, StableHlo.ternary_writes, StableHlo.reshape_writes, StableHlo.nary_writes, Finset.singleton_subset_iff, List.mem_toFinset]; exact List.mem_map_of_mem (by decide))

/-- A buffer this stretch does not write keeps its contents. -/
theorem keep6 (σ : Valuation τ sig (Elt F)) (r : Ref sig .tc) (h : r ∉ outs6) :
    StableHlo.after ops6 σ (Proc.devRef .tc r) = σ (Proc.devRef .tc r) := StableHlo.after_of_writes_sub ops6 _ writes6 h

/-- … of the third, -/
def ops7 : List (HloOp τ sig (Elt F)) :=
  [ StableHlo.nullary main_c_21 (constantI S_ 32 512#32),
    StableHlo.unary main_c_21 main_v74 (broadcastInDim S512 ![] bcast_S_S512 : (⟨S_, .i32⟩ : BufTy).Contents (Elt F) → (⟨S512, .i32⟩ : BufTy).Contents (Elt F)),
    StableHlo.binary main_c_6 main_v74 main_v75 (addi : (⟨S512, .i32⟩ : BufTy).Contents (Elt F) → (⟨S512, .i32⟩ : BufTy).Contents (Elt F) → (⟨S512, .i32⟩ : BufTy).Contents (Elt F)),
    StableHlo.ternary main_c_7 main_v75 main_c_6 main_v76 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v76 main_v77 (broadcastInDim S512x1 ![0] bcast_S512_S512x1_0 : (⟨S512, .i32⟩ : BufTy).Contents (Elt F) → (⟨S512x1, .i32⟩ : BufTy).Contents (Elt F)),
    StableHlo.binary main_v47 main_v77 main_v78 ((fun x i => Host.gather gather_S1024x512_S512x1_S1024x512_0_1_n_n_1_1_10241 x i) : (⟨S1024x512, .f32⟩ : BufTy).Contents (Elt F) → (⟨S512x1, .i32⟩ : BufTy).Contents (Elt F) → (⟨S1024x512, .f32⟩ : BufTy).Contents (Elt F)),
    StableHlo.unary main_cst_8 main_v79 (broadcastInDim S1x512 ![1] bcast_S512_S1x512_1 : (⟨S512, .f32⟩ : BufTy).Contents (Elt F) → (⟨S1x512, .f32⟩ : BufTy).Contents (Elt F)),
    StableHlo.unary main_v79 main_v80 (broadcastInDim S1024x512 ![0, 1] bcast_S1x512_S1024x512_0_1 : (⟨S1x512, .f32⟩ : BufTy).Contents (Elt F) → (⟨S1024x512, .f32⟩ : BufTy).Contents (Elt F)),
    StableHlo.binary main_v78 main_v80 main_v81 (mulf : (⟨S1024x512, .f32⟩ : BufTy).Contents (Elt F) → (⟨S1024x512, .f32⟩ : BufTy).Contents (Elt F) → (⟨S1024x512, .f32⟩ : BufTy).Contents (Elt F)),
    StableHlo.nullary main_c_22 (constantI S_ 32 512#32),
    StableHlo.unary main_c_22 main_v82 (broadcastInDim S512 ![] bcast_S_S512 : (⟨S_, .i32⟩ : BufTy).Contents (Elt F) → (⟨S512, .i32⟩ : BufTy).Contents (Elt F)),
    StableHlo.binary main_c main_v82 main_v83 (addi : (⟨S512, .i32⟩ : BufTy).Contents (Elt F) → (⟨S512, .i32⟩ : BufTy).Contents (Elt F) → (⟨S512, .i32⟩ : BufTy).Contents (Elt F)),
    StableHlo.ternary main_c_9 main_v83 main_c main_v84 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v84 main_v85 (broadcastInDim S512x1 ![0] bcast_S512_S512x1_0 : (⟨S512, .i32⟩ : BufTy).Contents (Elt F) → (⟨S512x1, .i32⟩ : BufTy).Contents (Elt F)),
    StableHlo.binary main_v81 main_v85 main_v86 ((fun x i => Host.gather gather_S1024x512_S512x1_S1024x512_0_1_n_n_1_1_10241 x i) : (⟨S1024x512, .f32⟩ : BufTy).Contents (Elt F) → (⟨S512x1, .i32⟩ : BufTy).Contents (Elt F) → (⟨S1024x512, .f32⟩ : BufTy).Contents (Elt F)) ]

/-- What this stretch writes. -/
abbrev outs7 : List (Ref sig .tc) := [main_c_21, main_v74, main_v75, main_v76, main_v77, main_v78, main_v79, main_v80, main_v81, main_c_22, main_v82, main_v83, main_v84, main_v85, main_v86]

theorem writes7 : (ops7 : List (HloOp τ sig (Elt F))).Forall fun op => op.writes ⊆ (outs7.map (Proc.devRef (τ := τ) .tc)).toFinset := by
  unfold ops7
  simp only [List.Forall]
  refine ⟨?_, ?_, ?_, ?_, ?_, ?_, ?_, ?_, ?_, ?_, ?_, ?_, ?_, ?_, ?_⟩ <;> (simp only [StableHlo.nullary_writes, StableHlo.unary_writes, StableHlo.binary_writes, StableHlo.ternary_writes, StableHlo.reshape_writes, StableHlo.nary_writes, Finset.singleton_subset_iff, List.mem_toFinset]; exact List.mem_map_of_mem (by decide))

/-- A buffer this stretch does not write keeps its contents. -/
theorem keep7 (σ : Valuation τ sig (Elt F)) (r : Ref sig .tc) (h : r ∉ outs7) :
    StableHlo.after ops7 σ (Proc.devRef .tc r) = σ (Proc.devRef .tc r) := StableHlo.after_of_writes_sub ops7 _ writes7 h

/-- … of the fourth. -/
def ops8 : List (HloOp τ sig (Elt F)) :=
  [ StableHlo.unary main_arg4 main_v87 ((extractStridedSlice S1024x128 ![0, 2048] · slices_S1024x2304_S1024x128_0_2048) : (⟨S1024x2304, .f32⟩ : BufTy).Contents (Elt F) → (⟨S1024x128, .f32⟩ : BufTy).Contents (Elt F)),
    StableHlo.nullary main_c_23 (constantI S_ 32 128#32),
    StableHlo.unary main_c_23 main_v88 (broadcastInDim S128 ![] bcast_S_S128 : (⟨S_, .i32⟩ : BufTy).Contents (Elt F) → (⟨S128, .i32⟩ : BufTy).Contents (Elt F)),
    StableHlo.binary main_c_10 main_v88 main_v89 (addi : (⟨S128, .i32⟩ : BufTy).Contents (Elt F) → (⟨S128, .i32⟩ : BufTy).Contents (Elt F) → (⟨S128, .i32⟩ : BufTy).Contents (Elt F)),
    StableHlo.ternary main_c_11 main_v89 main_c_10 main_v90 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_v90 main_v91 (broadcastInDim S128x1 ![0] bcast_S128_S128x1_0 : (⟨S128, .i32⟩ : BufTy).Contents (Elt F) → (⟨S128x1, .i32⟩ : BufTy).Contents (Elt F)),
    StableHlo.binary main_v87 main_v91 main_v92 ((fun x i => Host.gather gather_S1024x128_S128x1_S1024x128_0_1_n_n_1_1_10241 x i) : (⟨S1024x128, .f32⟩ : BufTy).Contents (Elt F) → (⟨S128x1, .i32⟩ : BufTy).Contents (Elt F) → (⟨S1024x128, .f32⟩ : BufTy).Contents (Elt F)),
    StableHlo.unary main_cst_12 main_v93 (broadcastInDim S1x128 ![1] bcast_S128_S1x128_1 : (⟨S128, .f32⟩ : BufTy).Contents (Elt F) → (⟨S1x128, .f32⟩ : BufTy).Contents (Elt F)),
    StableHlo.unary main_v93 main_v94 (broadcastInDim S1024x128 ![0, 1] bcast_S1x128_S1024x128_0_1 : (⟨S1x128, .f32⟩ : BufTy).Contents (Elt F) → (⟨S1024x128, .f32⟩ : BufTy).Contents (Elt F)),
    StableHlo.binary main_v92 main_v94 main_v95 (mulf : (⟨S1024x128, .f32⟩ : BufTy).Contents (Elt F) → (⟨S1024x128, .f32⟩ : BufTy).Contents (Elt F) → (⟨S1024x128, .f32⟩ : BufTy).Contents (Elt F)) ]

/-- What this stretch writes. -/
abbrev outs8 : List (Ref sig .tc) := [main_v87, main_c_23, main_v88, main_v89, main_v90, main_v91, main_v92, main_v93, main_v94, main_v95]

theorem writes8 : (ops8 : List (HloOp τ sig (Elt F))).Forall fun op => op.writes ⊆ (outs8.map (Proc.devRef (τ := τ) .tc)).toFinset := by
  unfold ops8
  simp only [List.Forall]
  refine ⟨?_, ?_, ?_, ?_, ?_, ?_, ?_, ?_, ?_, ?_⟩ <;> (simp only [StableHlo.nullary_writes, StableHlo.unary_writes, StableHlo.binary_writes, StableHlo.ternary_writes, StableHlo.reshape_writes, StableHlo.nary_writes, Finset.singleton_subset_iff, List.mem_toFinset]; exact List.mem_map_of_mem (by decide))

/-- A buffer this stretch does not write keeps its contents. -/
theorem keep8 (σ : Valuation τ sig (Elt F)) (r : Ref sig .tc) (h : r ∉ outs8) :
    StableHlo.after ops8 σ (Proc.devRef .tc r) = σ (Proc.devRef .tc r) := StableHlo.after_of_writes_sub ops8 _ writes8 h

/-- All columns, side by side. -/
def ops9 : List (HloOp τ sig (Elt F)) :=
  [ StableHlo.nary ![main_v64, main_v73, main_v86, main_v95] main_v96 (fun u => (concatenate S1024x1152 1 [⟨S1024x256, (u 0 : (⟨S1024x256, .f32⟩ : BufTy).Contents (Elt F))⟩, ⟨S1024x256, (u 1 : (⟨S1024x256, .f32⟩ : BufTy).Contents (Elt F))⟩, ⟨S1024x512, (u 2 : (⟨S1024x512, .f32⟩ : BufTy).Contents (Elt F))⟩, ⟨S1024x128, (u 3 : (⟨S1024x128, .f32⟩ : BufTy).Contents (Elt F))⟩] concatenates_S1024x256_S1024x256_S1024x512_S1024x128_S1024x1152_d1 : (⟨S1024x1152, .f32⟩ : BufTy).Contents (Elt F))),
    StableHlo.binary main_v55 main_v96 main_v97 ((fun a b => concatenate S1024x3456 1 [⟨S1024x2304, a⟩, ⟨S1024x1152, b⟩] concatenates_S1024x2304_S1024x1152_S1024x3456_d1) : (⟨S1024x2304, .f32⟩ : BufTy).Contents (Elt F) → (⟨S1024x1152, .f32⟩ : BufTy).Contents (Elt F) → (⟨S1024x3456, .f32⟩ : BufTy).Contents (Elt F)),
    StableHlo.unary main_v97 main_v98 ((truncf .bf16 · bitsLt_bf16_f32) : (⟨S1024x3456, .f32⟩ : BufTy).Contents (Elt F) → (⟨S1024x3456, .bf16⟩ : BufTy).Contents (Elt F)) ]

/-- What this stretch writes. -/
abbrev outs9 : List (Ref sig .tc) := [main_v96, main_v97, main_v98]

theorem writes9 : (ops9 : List (HloOp τ sig (Elt F))).Forall fun op => op.writes ⊆ (outs9.map (Proc.devRef (τ := τ) .tc)).toFinset := by
  unfold ops9
  simp only [List.Forall]
  refine ⟨?_, ?_, ?_⟩ <;> (simp only [StableHlo.nullary_writes, StableHlo.unary_writes, StableHlo.binary_writes, StableHlo.ternary_writes, StableHlo.reshape_writes, StableHlo.nary_writes, Finset.singleton_subset_iff, List.mem_toFinset]; exact List.mem_map_of_mem (by decide))

/-- A buffer this stretch does not write keeps its contents. -/
theorem keep9 (σ : Valuation τ sig (Elt F)) (r : Ref sig .tc) (h : r ∉ outs9) :
    StableHlo.after ops9 σ (Proc.devRef .tc r) = σ (Proc.devRef .tc r) := StableHlo.after_of_writes_sub ops9 _ writes9 h

theorem after_app (l₁ l₂ : List (HloOp τ sig (Elt F))) (σ : Valuation τ sig (Elt F)) :
    StableHlo.after (l₁ ++ l₂) σ = StableHlo.after l₂ (StableHlo.after l₁ σ) := by
  induction l₁ generalizing σ with
  | nil => rfl
  | cons op l ih => exact ih _

theorem hostOps_split : (hostOps0 : List (HloOp τ sig (Elt F))) = ops0 ++ (ops1 ++ (ops2 ++ (ops3 ++ (ops4 ++ (ops5 ++ (ops6 ++ (ops7 ++ (ops8 ++ (ops9))))))))) := rfl

variable (m : (ℓ : Loc nD τ sig) → Buf (Elt F) ℓ) (c : Dev nD)

/-- What the buffers hold after each stretch. -/
def st0 : Valuation τ sig (Elt F) := fun b => m (c, b)
def st1 : Valuation τ sig (Elt F) := StableHlo.after ops0 (st0 m c)
def st2 : Valuation τ sig (Elt F) := StableHlo.after ops1 (st1 m c)
def st3 : Valuation τ sig (Elt F) := StableHlo.after ops2 (st2 m c)
def st4 : Valuation τ sig (Elt F) := StableHlo.after ops3 (st3 m c)
def st5 : Valuation τ sig (Elt F) := StableHlo.after ops4 (st4 m c)
def st6 : Valuation τ sig (Elt F) := StableHlo.after ops5 (st5 m c)
def st7 : Valuation τ sig (Elt F) := StableHlo.after ops6 (st6 m c)
def st8 : Valuation τ sig (Elt F) := StableHlo.after ops7 (st7 m c)
def st9 : Valuation τ sig (Elt F) := StableHlo.after ops8 (st8 m c)
def st10 : Valuation τ sig (Elt F) := StableHlo.after ops9 (st9 m c)

theorem V_st (b : Ref sig .tc) : V m c b = st10 m c (Proc.devRef .tc b) := by
  change StableHlo.after hostOps0 (st0 m c) (Proc.devRef .tc b) = _
  rw [hostOps_split]
  simp only [after_app]
  rfl

end Proj
end
-- ==== Proof.ProjSpec.lean ====
/- The projection as a function of plain index functions: the modulated rows, their products with the weights'
   columns, and the rotation of neighbouring columns by a token's place in the image. Both programs are read into
   these terms. -/
module

public import proofs.«01_k».proof.Proof.Spec

@[expose] public section

set_option maxRecDepth 16384

noncomputable section

namespace Proj
open Idealize.ShloMosaic

/-- A row's mean. -/
def mu (x : Fin 1024 → EReal) : EReal := Ideal.div (∑ k, x k) (Ideal.ofBits FTy.f32 1149239296#32)

/-- A row normalized, scaled and shifted. -/
def hrow (x sc sh : Fin 1024 → EReal) (k : Fin 1024) : EReal :=
  (x k - mu x) * Ideal.rsqrt (Ideal.div (∑ j, (x j - mu x) * (x j - mu x)) (Ideal.ofBits FTy.f32 1149239296#32)
    + Ideal.ofBits FTy.f32 925353388#32) * (1 + sc k) + sh k

/-- The column sixteen further, or sixteen back. -/
def part (C : Fin 2304) : Fin 2304 := ⟨if C.val % 32 < 16 then C.val + 16 else C.val - 16, by split <;> omega⟩

/-- The angle of a token at a column: by image row in the first half of a head, by image column in the second. -/
def ang (t : ℕ) (C : ℕ) : EReal :=
  (FloatOps.sitofp (F := Ideal) FTy.f32 (BitVec.ofNat 32 (if C % 64 < 32 then t / 64 else t % 64)) : EReal)
    * Ideal.pow (Ideal.ofBits FTy.f32 1176256512#32)
      (Ideal.div (-(FloatOps.sitofp (F := Ideal) FTy.f32 (BitVec.ofNat 32 (C % 16)) : EReal)) (Ideal.ofBits FTy.f32 1098907648#32))

/-- The token at a place in the order (query of the group, group) of the query columns. -/
def slab (C : ℕ) : ℕ := C / 64 % 2 * 256 + C / 128 * 64 + C % 64

section
variable (x : FVec Ideal (⟨3, ![2, 8192, 1024]⟩ : Shape) .f32) (y : FVec Ideal (⟨3, ![2, 256, 1024]⟩ : Shape) .f32)
variable (ml : FVec Ideal (⟨2, ![2, 6144]⟩ : Shape) .f32) (mc : FVec Ideal (⟨1, ![6144]⟩ : Shape) .f32)
variable (w : FVec Ideal (⟨2, ![1024, 2304]⟩ : Shape) .f32)
variable (R : Fin 16896)

/-- The rows of all tokens, the latent ones first. -/
def row (k : Fin 1024) : EReal :=
  if h : R.val < 16384 then x (ix3 ⟨R.val / 8192, by omega⟩ ⟨R.val % 8192, by omega⟩ k)
  else y (ix3 ⟨(R.val - 16384) / 256, by omega⟩ ⟨(R.val - 16384) % 256, by omega⟩ k)

/-- The modulation of a row. -/
def mrow (j : Fin 6144) : EReal :=
  if h : R.val < 16384 then ml (ix2 ⟨R.val / 8192, by omega⟩ j) else mc (ix1 j)

/-- The modulated rows. -/
def H (k : Fin 1024) : EReal :=
  hrow (row x y R) (fun k => mrow ml mc R ⟨1024 + k.val, by omega⟩) (fun k => mrow ml mc R ⟨k.val, by omega⟩) k

/-- Their products with the weights. -/
def P (C : Fin 2304) : EReal := ∑ k : Fin 1024, H x y ml mc R k * w (ix2 k C)

/-- The products rotated; a context row's are as they are. -/
def Q (C : Fin 2304) : EReal :=
  if R.val < 16384 then
    if C.val % 32 < 16 then P x y ml mc w R C * Ideal.cos (ang (R.val % 8192) C) - P x y ml mc w R (part C) * Ideal.sin (ang (R.val % 8192) C)
    else P x y ml mc w R C * Ideal.cos (ang (R.val % 8192) C) + P x y ml mc w R (part C) * Ideal.sin (ang (R.val % 8192) C)
  else P x y ml mc w R C

/-- The sign of a column's partner. -/
def sgn (C : ℕ) : EReal := if C % 32 < 16 then -1 else 1

/-- The cosine the rotation applies. -/
def cs (C : ℕ) : EReal := if R.val < 16384 then Ideal.cos (ang (R.val % 8192) C) else 1

/-- The sine the rotation applies. -/
def sn (C : ℕ) : EReal := if R.val < 16384 then Ideal.sin (ang (R.val % 8192) C) else 0

end

end Proj
end
-- ==== Proof.ProjCols.lean ====
/- The kernel's operands, entry by entry, stretch by stretch. -/
module

public import proofs.«01_k».proof.Proof.ProjHost
public import proofs.«01_k».proof.Proof.ProjSpec
public import Idealize.ShloMosaic.Lib.Pointwise
public import Idealize.ShloMosaic.Lib.Pipeline.ValueKit

@[expose] public section

set_option maxRecDepth 16384
set_option maxHeartbeats 4000000

noncomputable section

namespace Proj
open Idealize.ShloMosaic Idealize.ShloMosaic.TcCoe Idealize.SL.Sem
open Cert.Kernel2Ideal Cert.Kernel2Ideal.Gen

section Gather
variable {α : Type}

/-- Picking columns of a matrix by an array of column numbers. -/
abbrev colDims (N C : ℕ) (wf : GatherDims.WF ⟨2, ![1024, N]⟩ ⟨2, ![C, 1]⟩ ⟨2, ![1024, C]⟩ [0] [1] [] [1] [] 1 ![1024, 1]) :
    GatherDims ⟨2, ![1024, N]⟩ ⟨2, ![C, 1]⟩ ⟨2, ![1024, C]⟩ where
  offsetDims := [0]
  collapsedSliceDims := [1]
  operandBatchingDims := []
  startIndicesBatchingDims := []
  startIndexMap := [1]
  indexVectorDim := 1
  sliceSizes := ![1024, 1]
  wf := wf

theorem gather_cols {N C w : ℕ} (hN : 0 < N)
    (wf : GatherDims.WF ⟨2, ![1024, N]⟩ ⟨2, ![C, 1]⟩ ⟨2, ![1024, C]⟩ [0] [1] [] [1] [] 1 ![1024, 1])
    (x : (⟨2, ![1024, N]⟩ : Shape).Idx → α) (idx : IVec ⟨2, ![C, 1]⟩ w) (k : Fin 1024) (j : Fin C) :
    Host.gather (colDims N C wf) x idx (ix2 k j) = x (ix2 k ⟨min (idx (ix2 j 0)).toInt.toNat (N - 1), by omega⟩) := by
  unfold Host.gather
  congr 1
  funext a
  refine Fin.ext ?_
  match a with
  | ⟨0, _⟩ =>
    show (colDims N C wf).start (ix2 k j) idx 0 + (colDims N C wf).batchCoord (ix2 k j) 0 + (colDims N C wf).offCoord (ix2 k j) 0 = _
    rw [GatherDims.batchCoord_eq_zero _ _ _ List.not_mem_nil]
    unfold GatherDims.start
    rw [dif_neg (show (0 : Fin 2) ∉ (colDims N C wf).startIndexMap by simp)]
    simp only [Nat.add_zero, Nat.zero_add]
    rfl
  | ⟨1, _⟩ =>
    show (colDims N C wf).start (ix2 k j) idx 1 + (colDims N C wf).batchCoord (ix2 k j) 1 + (colDims N C wf).offCoord (ix2 k j) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims N C wf).startIndexMap from List.mem_singleton.mpr rfl)]
    have hsi : (colDims N C wf).siIdx (ix2 k j) ⟨List.idxOf (1 : Fin 2) (colDims N C wf).startIndexMap,
        List.idxOf_lt_length_iff.2 (List.mem_singleton.mpr rfl)⟩ = ix2 j 0 := by
      funext b; refine Fin.ext ?_
      match b with
      | ⟨0, _⟩ => rfl
      | ⟨1, _⟩ => rfl
    rw [hsi]
    rfl

end Gather

end Proj
end
-- ==== Proof.ProjOps.lean ====
/- The kernel's operands, entry by entry, stretch by stretch. -/
module

public import proofs.«01_k».proof.Proof.ProjCols
public import proofs.«01_k».proof.Proof.ProjSpec
public import Idealize.ShloMosaic.Lib.Pointwise
public import Idealize.ShloMosaic.Lib.Pipeline.ValueKit

@[expose] public section

set_option maxRecDepth 16384
set_option maxHeartbeats 4000000

noncomputable section

namespace Proj
open Idealize.ShloMosaic Idealize.ShloMosaic.TcCoe Idealize.SL.Sem
open Cert.Kernel2Ideal Cert.Kernel2Ideal.Gen

variable (σ : Valuation τ sig (Elt Ideal))

theorem rowsX (X : FVec Ideal S2x8192x1024 .f32) (Y : FVec Ideal S2x256x1024 .f32) (R : Fin 16896) (C : Fin 1024) :
    concatenate S16896x1024 0 [⟨S16384x1024, shapeCast S16384x1024 X shapeCasts_S2x8192x1024_S16384x1024⟩,
      ⟨S512x1024, shapeCast S512x1024 Y shapeCasts_S2x256x1024_S512x1024⟩] concatenates_S16384x1024_S512x1024_S16896x1024_d0 (ix2 R C)
    = row X Y R C := by
  unfold row
  pointwise

/-- The stacked tokens. -/
theorem at2 (R : Fin 16896) (C : Fin 1024) : (StableHlo.after ops1 σ (Proc.devRef .tc main_v2) : FVec Ideal S16896x1024 .f32) (ix2 R C)
    = row (σ (Proc.devRef .tc main_arg0)) (σ (Proc.devRef .tc main_arg1)) R C := by
  unfold ops1
  after_results_simp
  exact rowsX _ _ R C

/-- The stacked modulation rows. -/
theorem at5 (R : Fin 3) (C : Fin 6144) : (StableHlo.after ops1 σ (Proc.devRef .tc main_v5) : FVec Ideal S8x6144 .f32) (ix2 ⟨R.val, by omega⟩ C)
    = if h : R.val < 2 then (σ (Proc.devRef .tc main_arg2) : FVec Ideal S2x6144 .f32) (ix2 ⟨R.val, h⟩ C) else (σ (Proc.devRef .tc main_arg3) : FVec Ideal S6144 .f32) (ix1 C) := by
  unfold ops1
  after_results_simp
  pointwise
  after_results_simp
  by_cases h : R.val < 2
  · rw [dif_pos h, dif_pos h]
  · rw [dif_neg h, dif_neg h, dif_pos (by omega)]
    pointwise

theorem at25 (R : Fin 8192) (C : Fin 16) (c : ℕ) (h : c % 64 < 32) (hc : c % 16 = C) :
    (StableHlo.after ops2 σ (Proc.devRef .tc main_v25) : FVec Ideal S8192x16 .f32) (ix2 R C) = ang R c := by
  unfold ops2 ang
  rw [if_pos h, hc]
  after_results_simp
  pointwise

theorem at30 (R : Fin 8192) (C : Fin 16) (c : ℕ) (h : ¬ c % 64 < 32) (hc : c % 16 = C) :
    (StableHlo.after ops2 σ (Proc.devRef .tc main_v30) : FVec Ideal S8192x16 .f32) (ix2 R C) = ang R c := by
  unfold ops2 ang
  rw [if_neg h, hc]
  after_results_simp
  pointwise

theorem pick (f : EReal → EReal) (z : EReal) (A B : Fin 8192 → Fin 16 → EReal)
    (hA : ∀ (R : Fin 8192) (C : Fin 16) (c : ℕ), c % 64 < 32 → c % 16 = C → A R C = ang R c)
    (hB : ∀ (R : Fin 8192) (C : Fin 16) (c : ℕ), ¬ c % 64 < 32 → c % 16 = C → B R C = ang R c) (R C : ℕ) :
    (if h : R < 8192 then
      if h_1 : C % 64 < 16 then f (A ⟨R, h⟩ ⟨C % 64, h_1⟩)
      else
        if h_2 : C % 64 - 16 < 16 then f (A ⟨R, h⟩ ⟨C % 64 - 16, h_2⟩)
        else
          if h_3 : C % 64 - 16 - 16 < 16 then f (B ⟨R, h⟩ ⟨C % 64 - 16 - 16, h_3⟩)
          else f (B ⟨R, h⟩ ⟨C % 64 - 16 - 16 - 16, by omega⟩)
    else z) = if R < 8192 then f (ang R C) else z := by
  by_cases hR : R < 8192
  · rw [dif_pos hR, if_pos hR]
    split
    · exact congrArg f (hA _ _ C (by omega) (by dsimp only; omega))
    · split
      · exact congrArg f (hA _ _ C (by omega) (by dsimp only; omega))
      · split
        · exact congrArg f (hB _ _ C (by omega) (by dsimp only; omega))
        · exact congrArg f (hB _ _ C (by omega) (by dsimp only; omega))
  · rw [dif_neg hR, if_neg hR]

/-- The table of cosines: the last rows are the context's. -/
theorem at41 (h25 : ∀ (R : Fin 8192) (C : Fin 16) (c : ℕ), c % 64 < 32 → c % 16 = C → (σ (Proc.devRef .tc main_v25) : FVec Ideal S8192x16 .f32) (ix2 R C) = ang R c)
    (h30 : ∀ (R : Fin 8192) (C : Fin 16) (c : ℕ), ¬ c % 64 < 32 → c % 16 = C → (σ (Proc.devRef .tc main_v30) : FVec Ideal S8192x16 .f32) (ix2 R C) = ang R c)
    (R : Fin 8704) (C : Fin 256) :
    (StableHlo.after ops3 σ (Proc.devRef .tc main_v41) : FVec Ideal S8704x256 .f32) (ix2 R C) = if R.val < 8192 then Ideal.cos (ang R C) else 1 := by
  have key := pick Ideal.cos 1 (fun r c => (σ (Proc.devRef .tc main_v25) : FVec Ideal S8192x16 .f32) (ix2 r c))
    (fun r c => (σ (Proc.devRef .tc main_v30) : FVec Ideal S8192x16 .f32) (ix2 r c)) h25 h30 R.val C.val
  generalize (if R.val < 8192 then Ideal.cos (ang R C) else 1) = q at key ⊢
  unfold ops3
  after_results_simp
  pointwise
  after_results_simp
  try pointwise
  try after_results_simp
  try pointwise
  exact key

/-- The table of sines: the last rows are the context's. -/
theorem at46 (h25 : ∀ (R : Fin 8192) (C : Fin 16) (c : ℕ), c % 64 < 32 → c % 16 = C → (σ (Proc.devRef .tc main_v25) : FVec Ideal S8192x16 .f32) (ix2 R C) = ang R c)
    (h30 : ∀ (R : Fin 8192) (C : Fin 16) (c : ℕ), ¬ c % 64 < 32 → c % 16 = C → (σ (Proc.devRef .tc main_v30) : FVec Ideal S8192x16 .f32) (ix2 R C) = ang R c)
    (R : Fin 8704) (C : Fin 256) :
    (StableHlo.after ops3 σ (Proc.devRef .tc main_v46) : FVec Ideal S8704x256 .f32) (ix2 R C) = if R.val < 8192 then Ideal.sin (ang R C) else 0 := by
  have key := pick Ideal.sin 0 (fun r c => (σ (Proc.devRef .tc main_v25) : FVec Ideal S8192x16 .f32) (ix2 r c))
    (fun r c => (σ (Proc.devRef .tc main_v30) : FVec Ideal S8192x16 .f32) (ix2 r c)) h25 h30 R.val C.val
  generalize (if R.val < 8192 then Ideal.sin (ang R C) else 0) = q at key ⊢
  unfold ops3
  after_results_simp
  pointwise
  after_results_simp
  try pointwise
  try after_results_simp
  try pointwise
  exact key

theorem at98 (R : Fin 1024) (C : Fin 3456) : (StableHlo.after ops9 σ (Proc.devRef .tc main_v98) : FVec Ideal S1024x3456 .bf16) (ix2 R C)
    = if h : C.val < 2304 then (σ (Proc.devRef .tc main_v55) : FVec Ideal S1024x2304 .f32) (ix2 R ⟨C.val, h⟩)
      else if h1 : C.val - 2304 < 256 then (σ (Proc.devRef .tc main_v64) : FVec Ideal S1024x256 .f32) (ix2 R ⟨C.val - 2304, h1⟩)
      else if h2 : C.val - 2304 - 256 < 256 then (σ (Proc.devRef .tc main_v73) : FVec Ideal S1024x256 .f32) (ix2 R ⟨C.val - 2304 - 256, h2⟩)
      else if h3 : C.val - 2304 - 256 - 256 < 512 then (σ (Proc.devRef .tc main_v86) : FVec Ideal S1024x512 .f32) (ix2 R ⟨C.val - 2304 - 256 - 256, h3⟩)
      else (σ (Proc.devRef .tc main_v95) : FVec Ideal S1024x128 .f32) (ix2 R ⟨C.val - 2304 - 256 - 256 - 512, by omega⟩) := by
  unfold ops9
  after_results_simp
  pointwise
  after_results_simp
  try pointwise
  try after_results_simp
  try pointwise

theorem at55 (hm : (σ (Proc.devRef .tc main_c_0) : IVec S512 1) = constantI S512 1 0#1) (R : Fin 1024) (C : Fin 2304) : (StableHlo.after ops4 σ (Proc.devRef .tc main_v55) : FVec Ideal S1024x2304 .f32) (ix2 R C)
    = if h : C.val < 1536 then (σ (Proc.devRef .tc main_arg4) : FVec Ideal S1024x2304 .f32) (ix2 R C)
      else if h : C.val - 1536 < 512 then (σ (Proc.devRef .tc main_arg4) : FVec Ideal S1024x2304 .f32) (ix2 R ⟨1536 + min ((σ (Proc.devRef .tc main_c) : IVec S512 32) (ix1 ⟨C.val - 1536, h⟩)).toInt.toNat 511, by omega⟩)
      else (σ (Proc.devRef .tc main_arg4) : FVec Ideal S1024x2304 .f32) (ix2 R C) := by
  have hC := C.isLt
  unfold ops4
  after_results_simp
  pointwise
  after_results_simp
  try pointwise
  by_cases h : C.val < 1536
  · rw [dif_pos h, dif_pos h]
  · rw [dif_neg h, dif_neg h]
    by_cases h1 : C.val - 1536 < 512
    · rw [dif_pos h1, dif_pos h1]
      refine (gather_cols (by norm_num) gather_S1024x512_S512x1_S1024x512_0_1_n_n_1_1_10241_wf _ _ R ⟨C.val - 1536, h1⟩).trans ?_
      rw [hm]
      pointwise
    · rw [dif_neg h1, dif_neg h1]
      congr 2
      exact Fin.ext (by dsimp only; omega)

theorem at64 (hm : (σ (Proc.devRef .tc main_c_2) : IVec S256 1) = constantI S256 1 0#1) (R : Fin 1024) (C : Fin 256) :
    (StableHlo.after ops5 σ (Proc.devRef .tc main_v64) : FVec Ideal S1024x256 .f32) (ix2 R C)
    = HMul.hMul (α := EReal) (β := EReal) (γ := EReal)
      ((σ (Proc.devRef .tc main_arg4) : FVec Ideal S1024x2304 .f32) (ix2 R ⟨0 + min ((σ (Proc.devRef .tc main_c_1) : IVec S256 32) (ix1 C)).toInt.toNat 255, by omega⟩))
      ((σ (Proc.devRef .tc main_cst) : FVec Ideal S256 .f32) (ix1 C)) := by
  unfold ops5
  after_results_simp
  pointwise
  refine congrArg₂ (HMul.hMul (α := EReal) (β := EReal) (γ := EReal)) ?_ rfl
  refine (gather_cols (by norm_num) gather_S1024x256_S256x1_S1024x256_0_1_n_n_1_1_10241_wf _ _ R C).trans ?_
  rw [hm]
  pointwise

theorem at73 (hm : (σ (Proc.devRef .tc main_c_4) : IVec S256 1) = constantI S256 1 0#1) (R : Fin 1024) (C : Fin 256) :
    (StableHlo.after ops6 σ (Proc.devRef .tc main_v73) : FVec Ideal S1024x256 .f32) (ix2 R C)
    = HMul.hMul (α := EReal) (β := EReal) (γ := EReal)
      ((σ (Proc.devRef .tc main_arg4) : FVec Ideal S1024x2304 .f32) (ix2 R ⟨256 + min ((σ (Proc.devRef .tc main_c_3) : IVec S256 32) (ix1 C)).toInt.toNat 255, by omega⟩))
      ((σ (Proc.devRef .tc main_cst_5) : FVec Ideal S256 .f32) (ix1 C)) := by
  unfold ops6
  after_results_simp
  pointwise
  refine congrArg₂ (HMul.hMul (α := EReal) (β := EReal) (γ := EReal)) ?_ rfl
  refine (gather_cols (by norm_num) gather_S1024x256_S256x1_S1024x256_0_1_n_n_1_1_10241_wf _ _ R C).trans ?_
  rw [hm]
  pointwise

theorem at95 (hm : (σ (Proc.devRef .tc main_c_11) : IVec S128 1) = constantI S128 1 0#1) (R : Fin 1024) (C : Fin 128) :
    (StableHlo.after ops8 σ (Proc.devRef .tc main_v95) : FVec Ideal S1024x128 .f32) (ix2 R C)
    = HMul.hMul (α := EReal) (β := EReal) (γ := EReal)
      ((σ (Proc.devRef .tc main_arg4) : FVec Ideal S1024x2304 .f32) (ix2 R ⟨2048 + min ((σ (Proc.devRef .tc main_c_10) : IVec S128 32) (ix1 C)).toInt.toNat 127, by omega⟩))
      ((σ (Proc.devRef .tc main_cst_12) : FVec Ideal S128 .f32) (ix1 C)) := by
  unfold ops8
  after_results_simp
  pointwise
  refine congrArg₂ (HMul.hMul (α := EReal) (β := EReal) (γ := EReal)) ?_ rfl
  refine (gather_cols (by norm_num) gather_S1024x128_S128x1_S1024x128_0_1_n_n_1_1_10241_wf _ _ R C).trans ?_
  rw [hm]
  pointwise

theorem at86 (hm : (σ (Proc.devRef .tc main_c_7) : IVec S512 1) = constantI S512 1 0#1) (hm9 : (σ (Proc.devRef .tc main_c_9) : IVec S512 1) = constantI S512 1 0#1)
    (h47 : ∀ (R : Fin 1024) (C : Fin 512), (σ (Proc.devRef .tc main_v47) : FVec Ideal S1024x512 .f32) (ix2 R C) = (σ (Proc.devRef .tc main_arg4) : FVec Ideal S1024x2304 .f32) (ix2 R ⟨1536 + C.val, by omega⟩))
    (R : Fin 1024) (C D : Fin 512) (hD : min ((σ (Proc.devRef .tc main_c) : IVec S512 32) (ix1 C)).toInt.toNat 511 = D.val) :
    (StableHlo.after ops7 σ (Proc.devRef .tc main_v86) : FVec Ideal S1024x512 .f32) (ix2 R C)
    = HMul.hMul (α := EReal) (β := EReal) (γ := EReal)
      ((σ (Proc.devRef .tc main_arg4) : FVec Ideal S1024x2304 .f32) (ix2 R ⟨1536 + min ((σ (Proc.devRef .tc main_c_6) : IVec S512 32) (ix1 D)).toInt.toNat 511, by omega⟩))
      ((σ (Proc.devRef .tc main_cst_8) : FVec Ideal S512 .f32) (ix1 D)) := by
  unfold ops7
  after_results_simp
  refine (gather_cols (by norm_num) gather_S1024x512_S512x1_S1024x512_0_1_n_n_1_1_10241_wf _ _ R C).trans ?_
  rw [hm9]
  have e : ∀ h, (⟨min ((broadcastInDim S512x1 ![0] bcast_S512_S512x1_0 (select (constantI S512 1 0#1) (addi (σ (Proc.devRef .tc main_c)) (broadcastInDim S512 ![] bcast_S_S512 (constantI S_ 32 512#32))) (σ (Proc.devRef .tc main_c))) : IVec S512x1 32) (ix2 C 0)).toInt.toNat (512 - 1), h⟩ : Fin 512) = D := by
    intro h
    refine Fin.ext (Eq.trans ?_ hD)
    dsimp only
    pointwise
  rw [e]
  pointwise
  refine congrArg₂ (HMul.hMul (α := EReal) (β := EReal) (γ := EReal)) ?_ rfl
  refine (gather_cols (by norm_num) gather_S1024x512_S512x1_S1024x512_0_1_n_n_1_1_10241_wf _ _ R D).trans ?_
  rw [hm]
  refine (h47 _ _).trans ?_
  pointwise

theorem at47 (R : Fin 1024) (C : Fin 512) : (StableHlo.after ops4 σ (Proc.devRef .tc main_v47) : FVec Ideal S1024x512 .f32) (ix2 R C)
    = (σ (Proc.devRef .tc main_arg4) : FVec Ideal S1024x2304 .f32) (ix2 R ⟨1536 + C.val, by omega⟩) := by
  unfold ops4
  after_results_simp
  pointwise

end Proj
end
-- ==== Proof.ProjTabs.lean ====
/- The tables of columns and of signs. -/
module

public import proofs.«01_k».proof.Proof.ProjCols
public import proofs.«01_k».proof.Proof.ProjSpec
public import Idealize.ShloMosaic.Lib.Pointwise
public import Idealize.ShloMosaic.Lib.Pipeline.ValueKit

@[expose] public section

set_option maxRecDepth 16384
set_option maxHeartbeats 4000000

noncomputable section

namespace Proj
open Idealize.ShloMosaic Idealize.ShloMosaic.TcCoe Idealize.SL.Sem
open Cert.Kernel2Ideal Cert.Kernel2Ideal.Gen

variable (σ : Valuation τ sig (Elt Ideal))

theorem ofBits_sgn (C : ℕ) : Ideal.ofBits FTy.f32 (if C % 32 < 16 then 0xBF800000#32 else 0x3F800000#32) = sgn C := by
  unfold sgn
  split
  · simp [Ideal.ofBits, Ideal.ieee]; rw [← EReal.coe_mul]; norm_num
  · simp [Ideal.ofBits, Ideal.ieee]; rw [← EReal.coe_mul]; norm_num

theorem tabO : ∀ C : Fin 512, min ((lit0 (S512.rowMajor (ix1 C))).toInt.toNat) 511 = slab C.val := by decide +kernel

theorem tabO_at (C : Fin 512) : min ((StableHlo.after ops0 σ (Proc.devRef .tc main_c) : IVec S512 32) (ix1 C)).toInt.toNat 511 = slab C.val := by
  unfold ops0
  after_results_simp
  exact tabO C

theorem tabQ : ∀ C : Fin 256, min ((lit1 (S256.rowMajor (ix1 C))).toInt.toNat) 255 = if C.val % 32 < 16 then C.val + 16 else C.val - 16 := by decide +kernel

theorem tabQ_at (C : Fin 256) : min ((StableHlo.after ops0 σ (Proc.devRef .tc main_c_1) : IVec S256 32) (ix1 C)).toInt.toNat 255 = if C.val % 32 < 16 then C.val + 16 else C.val - 16 := by
  unfold ops0
  after_results_simp
  exact tabQ C

theorem tabK : ∀ C : Fin 256, min ((lit3 (S256.rowMajor (ix1 C))).toInt.toNat) 255 = if C.val % 32 < 16 then C.val + 16 else C.val - 16 := by decide +kernel

theorem tabK_at (C : Fin 256) : min ((StableHlo.after ops0 σ (Proc.devRef .tc main_c_3) : IVec S256 32) (ix1 C)).toInt.toNat 255 = if C.val % 32 < 16 then C.val + 16 else C.val - 16 := by
  unfold ops0
  after_results_simp
  exact tabK C

theorem tabA : ∀ C : Fin 512, min ((lit5 (S512.rowMajor (ix1 C))).toInt.toNat) 511 = if C.val % 32 < 16 then C.val + 16 else C.val - 16 := by decide +kernel

theorem tabA_at (C : Fin 512) : min ((StableHlo.after ops0 σ (Proc.devRef .tc main_c_6) : IVec S512 32) (ix1 C)).toInt.toNat 511 = if C.val % 32 < 16 then C.val + 16 else C.val - 16 := by
  unfold ops0
  after_results_simp
  exact tabA C

theorem tabB : ∀ C : Fin 128, min ((lit7 (S128.rowMajor (ix1 C))).toInt.toNat) 127 = if C.val % 32 < 16 then C.val + 16 else C.val - 16 := by decide +kernel

theorem tabB_at (C : Fin 128) : min ((StableHlo.after ops0 σ (Proc.devRef .tc main_c_10) : IVec S128 32) (ix1 C)).toInt.toNat 127 = if C.val % 32 < 16 then C.val + 16 else C.val - 16 := by
  unfold ops0
  after_results_simp
  exact tabB C

theorem sgnQ : ∀ C : Fin 256, lit2 (S256.rowMajor (ix1 C)) = if C.val % 32 < 16 then 0xBF800000#32 else 0x3F800000#32 := by decide +kernel

theorem sgnQ_at (C : Fin 256) : (StableHlo.after ops0 σ (Proc.devRef .tc main_cst) : FVec Ideal S256 .f32) (ix1 C) = sgn C.val := by
  unfold ops0
  after_results_simp
  exact (congrArg (Ideal.ofBits FTy.f32) (sgnQ C)).trans (ofBits_sgn C.val)

theorem sgnK : ∀ C : Fin 256, lit4 (S256.rowMajor (ix1 C)) = if C.val % 32 < 16 then 0xBF800000#32 else 0x3F800000#32 := by decide +kernel

theorem sgnK_at (C : Fin 256) : (StableHlo.after ops0 σ (Proc.devRef .tc main_cst_5) : FVec Ideal S256 .f32) (ix1 C) = sgn C.val := by
  unfold ops0
  after_results_simp
  exact (congrArg (Ideal.ofBits FTy.f32) (sgnK C)).trans (ofBits_sgn C.val)

theorem sgnA : ∀ C : Fin 512, lit6 (S512.rowMajor (ix1 C)) = if C.val % 32 < 16 then 0xBF800000#32 else 0x3F800000#32 := by decide +kernel

theorem sgnA_at (C : Fin 512) : (StableHlo.after ops0 σ (Proc.devRef .tc main_cst_8) : FVec Ideal S512 .f32) (ix1 C) = sgn C.val := by
  unfold ops0
  after_results_simp
  exact (congrArg (Ideal.ofBits FTy.f32) (sgnA C)).trans (ofBits_sgn C.val)

theorem sgnB : ∀ C : Fin 128, lit8 (S128.rowMajor (ix1 C)) = if C.val % 32 < 16 then 0xBF800000#32 else 0x3F800000#32 := by decide +kernel

theorem sgnB_at (C : Fin 128) : (StableHlo.after ops0 σ (Proc.devRef .tc main_cst_12) : FVec Ideal S128 .f32) (ix1 C) = sgn C.val := by
  unfold ops0
  after_results_simp
  exact (congrArg (Ideal.ofBits FTy.f32) (sgnB C)).trans (ofBits_sgn C.val)

theorem mask_c_0 : (StableHlo.after ops0 σ (Proc.devRef .tc main_c_0) : IVec S512 1) = constantI S512 1 0#1 := by
  unfold ops0
  after_results_simp

theorem mask_c_2 : (StableHlo.after ops0 σ (Proc.devRef .tc main_c_2) : IVec S256 1) = constantI S256 1 0#1 := by
  unfold ops0
  after_results_simp

theorem mask_c_4 : (StableHlo.after ops0 σ (Proc.devRef .tc main_c_4) : IVec S256 1) = constantI S256 1 0#1 := by
  unfold ops0
  after_results_simp

theorem mask_c_7 : (StableHlo.after ops0 σ (Proc.devRef .tc main_c_7) : IVec S512 1) = constantI S512 1 0#1 := by
  unfold ops0
  after_results_simp

theorem mask_c_9 : (StableHlo.after ops0 σ (Proc.devRef .tc main_c_9) : IVec S512 1) = constantI S512 1 0#1 := by
  unfold ops0
  after_results_simp

theorem mask_c_11 : (StableHlo.after ops0 σ (Proc.devRef .tc main_c_11) : IVec S128 1) = constantI S128 1 0#1 := by
  unfold ops0
  after_results_simp

end Proj
end
-- ==== Proof.ProjReads.lean ====
/- The kernel's operands, entry by entry, of its arguments. -/
module

public import proofs.«01_k».proof.Proof.ProjOps
public import proofs.«01_k».proof.Proof.ProjTabs
public import proofs.«01_k».proof.Proof.ProjSpec
public import Idealize.ShloMosaic.Lib.Pointwise
public import Idealize.ShloMosaic.Lib.Pipeline.ValueKit

@[expose] public section

set_option maxRecDepth 16384
set_option maxHeartbeats 4000000

noncomputable section

namespace Proj
open Idealize.ShloMosaic Idealize.ShloMosaic.TcCoe Idealize.SL.Sem
open Cert.Kernel2Ideal Cert.Kernel2Ideal.Gen

variable (m : (ℓ : Loc nD τ sig) → Buf (Elt Ideal) ℓ) (c : Dev nD)

abbrev a0 : FVec Ideal S2x8192x1024 .f32 := m ((c : Thread nD τ).loc main_arg0)
abbrev a1 : FVec Ideal S2x256x1024 .f32 := m ((c : Thread nD τ).loc main_arg1)
abbrev a2 : FVec Ideal S2x6144 .f32 := m ((c : Thread nD τ).loc main_arg2)
abbrev a3 : FVec Ideal S6144 .f32 := m ((c : Thread nD τ).loc main_arg3)
abbrev a4 : FVec Ideal S1024x2304 .f32 := m ((c : Thread nD τ).loc main_arg4)

/-- The kernel's rows are the tokens, stacked. -/
theorem V2 (R : Fin 16896) (k : Fin 1024) : (V m c main_v2 : FVec Ideal S16896x1024 .f32) (ix2 R k) = row (a0 m c) (a1 m c) R k := by
  have e : V m c main_v2 = StableHlo.after ops1 (st1 m c) (Proc.devRef .tc main_v2) := (V_st m c main_v2).trans (show st10 m c (Proc.devRef .tc main_v2) = st2 m c (Proc.devRef .tc main_v2) from ((keep9 _ main_v2 (by decide)).trans ((keep8 _ main_v2 (by decide)).trans ((keep7 _ main_v2 (by decide)).trans ((keep6 _ main_v2 (by decide)).trans ((keep5 _ main_v2 (by decide)).trans ((keep4 _ main_v2 (by decide)).trans ((keep3 _ main_v2 (by decide)).trans (keep2 _ main_v2 (by decide))))))))))
  rw [e, at2, show st1 m c (Proc.devRef .tc main_arg0) = a0 m c from (keep0 _ main_arg0 (by decide)),
    show st1 m c (Proc.devRef .tc main_arg1) = a1 m c from (keep0 _ main_arg1 (by decide))]

/-- The modulation rows. -/
theorem V5 (R : Fin 3) (C : Fin 6144) : (V m c main_v5 : FVec Ideal S8x6144 .f32) (ix2 ⟨R.val, by omega⟩ C)
    = if h : R.val < 2 then a2 m c (ix2 ⟨R.val, h⟩ C) else a3 m c (ix1 C) := by
  have e : V m c main_v5 = StableHlo.after ops1 (st1 m c) (Proc.devRef .tc main_v5) := (V_st m c main_v5).trans (show st10 m c (Proc.devRef .tc main_v5) = st2 m c (Proc.devRef .tc main_v5) from ((keep9 _ main_v5 (by decide)).trans ((keep8 _ main_v5 (by decide)).trans ((keep7 _ main_v5 (by decide)).trans ((keep6 _ main_v5 (by decide)).trans ((keep5 _ main_v5 (by decide)).trans ((keep4 _ main_v5 (by decide)).trans ((keep3 _ main_v5 (by decide)).trans (keep2 _ main_v5 (by decide))))))))))
  rw [e, at5, show st1 m c (Proc.devRef .tc main_arg2) = a2 m c from (keep0 _ main_arg2 (by decide)),
    show st1 m c (Proc.devRef .tc main_arg3) = a3 m c from (keep0 _ main_arg3 (by decide))]

theorem V41 (R : Fin 8704) (C : Fin 256) : (V m c main_v41 : FVec Ideal S8704x256 .f32) (ix2 R C) = if R.val < 8192 then Ideal.cos (ang R C) else 1 := by
  have e : V m c main_v41 = StableHlo.after ops3 (st3 m c) (Proc.devRef .tc main_v41) := (V_st m c main_v41).trans (show st10 m c (Proc.devRef .tc main_v41) = st4 m c (Proc.devRef .tc main_v41) from ((keep9 _ main_v41 (by decide)).trans ((keep8 _ main_v41 (by decide)).trans ((keep7 _ main_v41 (by decide)).trans ((keep6 _ main_v41 (by decide)).trans ((keep5 _ main_v41 (by decide)).trans (keep4 _ main_v41 (by decide))))))))
  rw [e]
  exact at41 (st3 m c) (fun R C c' h hc => at25 (st2 m c) R C c' h hc) (fun R C c' h hc => at30 (st2 m c) R C c' h hc) R C

theorem V46 (R : Fin 8704) (C : Fin 256) : (V m c main_v46 : FVec Ideal S8704x256 .f32) (ix2 R C) = if R.val < 8192 then Ideal.sin (ang R C) else 0 := by
  have e : V m c main_v46 = StableHlo.after ops3 (st3 m c) (Proc.devRef .tc main_v46) := (V_st m c main_v46).trans (show st10 m c (Proc.devRef .tc main_v46) = st4 m c (Proc.devRef .tc main_v46) from ((keep9 _ main_v46 (by decide)).trans ((keep8 _ main_v46 (by decide)).trans ((keep7 _ main_v46 (by decide)).trans ((keep6 _ main_v46 (by decide)).trans ((keep5 _ main_v46 (by decide)).trans (keep4 _ main_v46 (by decide))))))))
  rw [e]
  exact at46 (st3 m c) (fun R C c' h hc => at25 (st2 m c) R C c' h hc) (fun R C c' h hc => at30 (st2 m c) R C c' h hc) R C

theorem V98 : V m c main_v98 = StableHlo.after ops9 (st9 m c) (Proc.devRef .tc main_v98) := V_st m c main_v98

theorem arg4_0 : (st0 m c (Proc.devRef .tc main_arg4) : FVec Ideal S1024x2304 .f32) = a4 m c := (rfl)
theorem arg4_1 : (st1 m c (Proc.devRef .tc main_arg4) : FVec Ideal S1024x2304 .f32) = a4 m c := (keep0 _ main_arg4 (by decide))
theorem arg4_2 : (st2 m c (Proc.devRef .tc main_arg4) : FVec Ideal S1024x2304 .f32) = a4 m c := ((keep1 _ main_arg4 (by decide)).trans (keep0 _ main_arg4 (by decide)))
theorem arg4_3 : (st3 m c (Proc.devRef .tc main_arg4) : FVec Ideal S1024x2304 .f32) = a4 m c := ((keep2 _ main_arg4 (by decide)).trans ((keep1 _ main_arg4 (by decide)).trans (keep0 _ main_arg4 (by decide))))
theorem arg4_4 : (st4 m c (Proc.devRef .tc main_arg4) : FVec Ideal S1024x2304 .f32) = a4 m c := ((keep3 _ main_arg4 (by decide)).trans ((keep2 _ main_arg4 (by decide)).trans ((keep1 _ main_arg4 (by decide)).trans (keep0 _ main_arg4 (by decide)))))
theorem arg4_5 : (st5 m c (Proc.devRef .tc main_arg4) : FVec Ideal S1024x2304 .f32) = a4 m c := ((keep4 _ main_arg4 (by decide)).trans ((keep3 _ main_arg4 (by decide)).trans ((keep2 _ main_arg4 (by decide)).trans ((keep1 _ main_arg4 (by decide)).trans (keep0 _ main_arg4 (by decide))))))
theorem arg4_6 : (st6 m c (Proc.devRef .tc main_arg4) : FVec Ideal S1024x2304 .f32) = a4 m c := ((keep5 _ main_arg4 (by decide)).trans ((keep4 _ main_arg4 (by decide)).trans ((keep3 _ main_arg4 (by decide)).trans ((keep2 _ main_arg4 (by decide)).trans ((keep1 _ main_arg4 (by decide)).trans (keep0 _ main_arg4 (by decide)))))))
theorem arg4_7 : (st7 m c (Proc.devRef .tc main_arg4) : FVec Ideal S1024x2304 .f32) = a4 m c := ((keep6 _ main_arg4 (by decide)).trans ((keep5 _ main_arg4 (by decide)).trans ((keep4 _ main_arg4 (by decide)).trans ((keep3 _ main_arg4 (by decide)).trans ((keep2 _ main_arg4 (by decide)).trans ((keep1 _ main_arg4 (by decide)).trans (keep0 _ main_arg4 (by decide))))))))
theorem arg4_8 : (st8 m c (Proc.devRef .tc main_arg4) : FVec Ideal S1024x2304 .f32) = a4 m c := ((keep7 _ main_arg4 (by decide)).trans ((keep6 _ main_arg4 (by decide)).trans ((keep5 _ main_arg4 (by decide)).trans ((keep4 _ main_arg4 (by decide)).trans ((keep3 _ main_arg4 (by decide)).trans ((keep2 _ main_arg4 (by decide)).trans ((keep1 _ main_arg4 (by decide)).trans (keep0 _ main_arg4 (by decide)))))))))

theorem W1 (R : Fin 1024) (C : Fin 2304) (h : C.val < 1536) : (V m c main_v98 : FVec Ideal S1024x3456 .bf16) (ix2 R ⟨C.val, by omega⟩) = a4 m c (ix2 R C) := by
  rw [V98, at98, dif_pos (show C.val < 2304 from C.isLt),
    show st9 m c (Proc.devRef .tc main_v55) = StableHlo.after ops4 (st4 m c) (Proc.devRef .tc main_v55) from ((keep8 _ main_v55 (by decide)).trans ((keep7 _ main_v55 (by decide)).trans ((keep6 _ main_v55 (by decide)).trans (keep5 _ main_v55 (by decide))))),
    at55 (st4 m c) ((show st4 m c (Proc.devRef .tc main_c_0) = st1 m c (Proc.devRef .tc main_c_0) from ((keep3 _ main_c_0 (by decide)).trans ((keep2 _ main_c_0 (by decide)).trans (keep1 _ main_c_0 (by decide))))).trans (mask_c_0 _)), dif_pos h]
  exact congrFun (arg4_4 m c) _

theorem W3 (R : Fin 1024) (C : Fin 2304) (h : 2048 ≤ C.val) : (V m c main_v98 : FVec Ideal S1024x3456 .bf16) (ix2 R ⟨C.val, by omega⟩) = a4 m c (ix2 R C) := by
  rw [V98, at98, dif_pos (show C.val < 2304 from C.isLt),
    show st9 m c (Proc.devRef .tc main_v55) = StableHlo.after ops4 (st4 m c) (Proc.devRef .tc main_v55) from ((keep8 _ main_v55 (by decide)).trans ((keep7 _ main_v55 (by decide)).trans ((keep6 _ main_v55 (by decide)).trans (keep5 _ main_v55 (by decide))))),
    at55 (st4 m c) ((show st4 m c (Proc.devRef .tc main_c_0) = st1 m c (Proc.devRef .tc main_c_0) from ((keep3 _ main_c_0 (by decide)).trans ((keep2 _ main_c_0 (by decide)).trans (keep1 _ main_c_0 (by decide))))).trans (mask_c_0 _)), dif_neg (show ¬ C.val < 1536 by omega), dif_neg (show ¬ C.val - 1536 < 512 by omega)]
  exact congrFun (arg4_4 m c) _

theorem W2 (R : Fin 1024) (C : Fin 512) : (V m c main_v98 : FVec Ideal S1024x3456 .bf16) (ix2 R ⟨1536 + C.val, by omega⟩) = a4 m c (ix2 R ⟨1536 + slab C.val, by unfold slab; omega⟩) := by
  rw [V98, at98, dif_pos (show 1536 + C.val < 2304 by omega),
    show st9 m c (Proc.devRef .tc main_v55) = StableHlo.after ops4 (st4 m c) (Proc.devRef .tc main_v55) from ((keep8 _ main_v55 (by decide)).trans ((keep7 _ main_v55 (by decide)).trans ((keep6 _ main_v55 (by decide)).trans (keep5 _ main_v55 (by decide))))),
    at55 (st4 m c) ((show st4 m c (Proc.devRef .tc main_c_0) = st1 m c (Proc.devRef .tc main_c_0) from ((keep3 _ main_c_0 (by decide)).trans ((keep2 _ main_c_0 (by decide)).trans (keep1 _ main_c_0 (by decide))))).trans (mask_c_0 _)),
    dif_neg (show ¬ 1536 + C.val < 1536 by omega), dif_pos (show 1536 + C.val - 1536 < 512 by omega)]
  refine (congrFun (arg4_4 m c) _).trans (congrArg (a4 m c) (congrArg (ix2 R) (Fin.ext (congrArg (1536 + ·) ?_))))
  rw [show st4 m c (Proc.devRef .tc main_c) = StableHlo.after ops0 (st0 m c) (Proc.devRef .tc main_c) from ((keep3 _ main_c (by decide)).trans ((keep2 _ main_c (by decide)).trans (keep1 _ main_c (by decide))))]
  refine (tabO_at (st0 m c) ⟨1536 + C.val - 1536, by omega⟩).trans (congrArg slab ?_)
  dsimp only
  omega

theorem Wq (R : Fin 1024) (C : Fin 256) : (V m c main_v98 : FVec Ideal S1024x3456 .bf16) (ix2 R ⟨2304 + C.val, by omega⟩)
    = a4 m c (ix2 R (part ⟨0 + C.val, by omega⟩)) * sgn (0 + C.val) := by
  rw [V98, at98, dif_neg (show ¬ 2304 + C.val < 2304 by omega), dif_pos (show 2304 + C.val - 2304 < 256 by omega),
    show st9 m c (Proc.devRef .tc main_v64) = StableHlo.after ops5 (st5 m c) (Proc.devRef .tc main_v64) from ((keep8 _ main_v64 (by decide)).trans ((keep7 _ main_v64 (by decide)).trans (keep6 _ main_v64 (by decide)))),
    at64 (st5 m c) ((show st5 m c (Proc.devRef .tc main_c_2) = StableHlo.after ops0 (st0 m c) (Proc.devRef .tc main_c_2) from ((keep4 _ main_c_2 (by decide)).trans ((keep3 _ main_c_2 (by decide)).trans ((keep2 _ main_c_2 (by decide)).trans (keep1 _ main_c_2 (by decide)))))).trans (mask_c_2 _))]
  have eC : ∀ h, (⟨2304 + C.val - 2304, h⟩ : Fin 256) = C := fun h => Fin.ext (by dsimp only; omega)
  simp only [eC]
  refine congrArg₂ (HMul.hMul (α := EReal) (β := EReal) (γ := EReal)) ?_ ?_
  · refine (congrFun (arg4_5 m c) _).trans (congrArg (a4 m c) (congrArg (ix2 R) (Fin.ext ?_)))
    dsimp only [part]
    rw [(show st5 m c (Proc.devRef .tc main_c_1) = StableHlo.after ops0 (st0 m c) (Proc.devRef .tc main_c_1) from ((keep4 _ main_c_1 (by decide)).trans ((keep3 _ main_c_1 (by decide)).trans ((keep2 _ main_c_1 (by decide)).trans (keep1 _ main_c_1 (by decide)))))), tabQ_at]
    split <;> split <;> omega
  · rw [(show st5 m c (Proc.devRef .tc main_cst) = StableHlo.after ops0 (st0 m c) (Proc.devRef .tc main_cst) from ((keep4 _ main_cst (by decide)).trans ((keep3 _ main_cst (by decide)).trans ((keep2 _ main_cst (by decide)).trans (keep1 _ main_cst (by decide)))))), sgnQ_at]
    unfold sgn
    rw [show (0 + C.val) % 32 = C.val % 32 by omega]

theorem Wk (R : Fin 1024) (C : Fin 256) : (V m c main_v98 : FVec Ideal S1024x3456 .bf16) (ix2 R ⟨2560 + C.val, by omega⟩)
    = a4 m c (ix2 R (part ⟨256 + C.val, by omega⟩)) * sgn (256 + C.val) := by
  rw [V98, at98, dif_neg (show ¬ 2560 + C.val < 2304 by omega), dif_neg (show ¬ 2560 + C.val - 2304 < 256 by omega), dif_pos (show 2560 + C.val - 2304 - 256 < 256 by omega),
    show st9 m c (Proc.devRef .tc main_v73) = StableHlo.after ops6 (st6 m c) (Proc.devRef .tc main_v73) from ((keep8 _ main_v73 (by decide)).trans (keep7 _ main_v73 (by decide))),
    at73 (st6 m c) ((show st6 m c (Proc.devRef .tc main_c_4) = StableHlo.after ops0 (st0 m c) (Proc.devRef .tc main_c_4) from ((keep5 _ main_c_4 (by decide)).trans ((keep4 _ main_c_4 (by decide)).trans ((keep3 _ main_c_4 (by decide)).trans ((keep2 _ main_c_4 (by decide)).trans (keep1 _ main_c_4 (by decide))))))).trans (mask_c_4 _))]
  have eC : ∀ h, (⟨2560 + C.val - 2304 - 256, h⟩ : Fin 256) = C := fun h => Fin.ext (by dsimp only; omega)
  simp only [eC]
  refine congrArg₂ (HMul.hMul (α := EReal) (β := EReal) (γ := EReal)) ?_ ?_
  · refine (congrFun (arg4_6 m c) _).trans (congrArg (a4 m c) (congrArg (ix2 R) (Fin.ext ?_)))
    dsimp only [part]
    rw [(show st6 m c (Proc.devRef .tc main_c_3) = StableHlo.after ops0 (st0 m c) (Proc.devRef .tc main_c_3) from ((keep5 _ main_c_3 (by decide)).trans ((keep4 _ main_c_3 (by decide)).trans ((keep3 _ main_c_3 (by decide)).trans ((keep2 _ main_c_3 (by decide)).trans (keep1 _ main_c_3 (by decide))))))), tabK_at]
    split <;> split <;> omega
  · rw [(show st6 m c (Proc.devRef .tc main_cst_5) = StableHlo.after ops0 (st0 m c) (Proc.devRef .tc main_cst_5) from ((keep5 _ main_cst_5 (by decide)).trans ((keep4 _ main_cst_5 (by decide)).trans ((keep3 _ main_cst_5 (by decide)).trans ((keep2 _ main_cst_5 (by decide)).trans (keep1 _ main_cst_5 (by decide))))))), sgnK_at]
    unfold sgn
    rw [show (256 + C.val) % 32 = C.val % 32 by omega]

theorem Wb (R : Fin 1024) (C : Fin 128) : (V m c main_v98 : FVec Ideal S1024x3456 .bf16) (ix2 R ⟨3328 + C.val, by omega⟩)
    = a4 m c (ix2 R (part ⟨2048 + C.val, by omega⟩)) * sgn (2048 + C.val) := by
  rw [V98, at98, dif_neg (show ¬ 3328 + C.val < 2304 by omega), dif_neg (show ¬ 3328 + C.val - 2304 < 256 by omega), dif_neg (show ¬ 3328 + C.val - 2304 - 256 < 256 by omega), dif_neg (show ¬ 3328 + C.val - 2304 - 256 - 256 < 512 by omega),
    show st9 m c (Proc.devRef .tc main_v95) = StableHlo.after ops8 (st8 m c) (Proc.devRef .tc main_v95) from (rfl),
    at95 (st8 m c) ((show st8 m c (Proc.devRef .tc main_c_11) = StableHlo.after ops0 (st0 m c) (Proc.devRef .tc main_c_11) from ((keep7 _ main_c_11 (by decide)).trans ((keep6 _ main_c_11 (by decide)).trans ((keep5 _ main_c_11 (by decide)).trans ((keep4 _ main_c_11 (by decide)).trans ((keep3 _ main_c_11 (by decide)).trans ((keep2 _ main_c_11 (by decide)).trans (keep1 _ main_c_11 (by decide))))))))).trans (mask_c_11 _))]
  have eC : ∀ h, (⟨3328 + C.val - 2304 - 256 - 256 - 512, h⟩ : Fin 128) = C := fun h => Fin.ext (by dsimp only; omega)
  simp only [eC]
  refine congrArg₂ (HMul.hMul (α := EReal) (β := EReal) (γ := EReal)) ?_ ?_
  · refine (congrFun (arg4_8 m c) _).trans (congrArg (a4 m c) (congrArg (ix2 R) (Fin.ext ?_)))
    dsimp only [part]
    rw [(show st8 m c (Proc.devRef .tc main_c_10) = StableHlo.after ops0 (st0 m c) (Proc.devRef .tc main_c_10) from ((keep7 _ main_c_10 (by decide)).trans ((keep6 _ main_c_10 (by decide)).trans ((keep5 _ main_c_10 (by decide)).trans ((keep4 _ main_c_10 (by decide)).trans ((keep3 _ main_c_10 (by decide)).trans ((keep2 _ main_c_10 (by decide)).trans (keep1 _ main_c_10 (by decide))))))))), tabB_at]
    split <;> split <;> omega
  · rw [(show st8 m c (Proc.devRef .tc main_cst_12) = StableHlo.after ops0 (st0 m c) (Proc.devRef .tc main_cst_12) from ((keep7 _ main_cst_12 (by decide)).trans ((keep6 _ main_cst_12 (by decide)).trans ((keep5 _ main_cst_12 (by decide)).trans ((keep4 _ main_cst_12 (by decide)).trans ((keep3 _ main_cst_12 (by decide)).trans ((keep2 _ main_cst_12 (by decide)).trans (keep1 _ main_cst_12 (by decide))))))))), sgnB_at]
    unfold sgn
    rw [show (2048 + C.val) % 32 = C.val % 32 by omega]

theorem Wa (R : Fin 1024) (C : Fin 512) : (V m c main_v98 : FVec Ideal S1024x3456 .bf16) (ix2 R ⟨2816 + C.val, by omega⟩)
    = a4 m c (ix2 R (part ⟨1536 + slab C.val, by unfold slab; omega⟩)) * sgn (1536 + slab C.val) := by
  have hs : slab C.val < 512 := by unfold slab; omega
  rw [V98, at98, dif_neg (show ¬ 2816 + C.val < 2304 by omega), dif_neg (show ¬ 2816 + C.val - 2304 < 256 by omega),
    dif_neg (show ¬ 2816 + C.val - 2304 - 256 < 256 by omega), dif_pos (show 2816 + C.val - 2304 - 256 - 256 < 512 by omega),
    show st9 m c (Proc.devRef .tc main_v86) = StableHlo.after ops7 (st7 m c) (Proc.devRef .tc main_v86) from (keep8 _ main_v86 (by decide))]
  have eC : ∀ h, (⟨2816 + C.val - 2304 - 256 - 256, h⟩ : Fin 512) = C := fun h => Fin.ext (by dsimp only; omega)
  simp only [eC]
  refine (at86 (st7 m c) ((show st7 m c (Proc.devRef .tc main_c_7) = StableHlo.after ops0 (st0 m c) (Proc.devRef .tc main_c_7) from ((keep6 _ main_c_7 (by decide)).trans ((keep5 _ main_c_7 (by decide)).trans ((keep4 _ main_c_7 (by decide)).trans ((keep3 _ main_c_7 (by decide)).trans ((keep2 _ main_c_7 (by decide)).trans (keep1 _ main_c_7 (by decide)))))))).trans (mask_c_7 _)) ((show st7 m c (Proc.devRef .tc main_c_9) = StableHlo.after ops0 (st0 m c) (Proc.devRef .tc main_c_9) from ((keep6 _ main_c_9 (by decide)).trans ((keep5 _ main_c_9 (by decide)).trans ((keep4 _ main_c_9 (by decide)).trans ((keep3 _ main_c_9 (by decide)).trans ((keep2 _ main_c_9 (by decide)).trans (keep1 _ main_c_9 (by decide)))))))).trans (mask_c_9 _)) ?_ R C ⟨slab C.val, hs⟩ ?_).trans ?_
  · intro R C
    rw [show st7 m c (Proc.devRef .tc main_v47) = StableHlo.after ops4 (st4 m c) (Proc.devRef .tc main_v47) from ((keep6 _ main_v47 (by decide)).trans (keep5 _ main_v47 (by decide))), at47]
    exact (congrFun (arg4_4 m c) _).trans (congrFun (arg4_7 m c) _).symm
  · rw [(show st7 m c (Proc.devRef .tc main_c) = StableHlo.after ops0 (st0 m c) (Proc.devRef .tc main_c) from ((keep6 _ main_c (by decide)).trans ((keep5 _ main_c (by decide)).trans ((keep4 _ main_c (by decide)).trans ((keep3 _ main_c (by decide)).trans ((keep2 _ main_c (by decide)).trans (keep1 _ main_c (by decide)))))))), tabO_at]
  refine congrArg₂ (HMul.hMul (α := EReal) (β := EReal) (γ := EReal)) ?_ ?_
  · refine (congrFun (arg4_7 m c) _).trans (congrArg (a4 m c) (congrArg (ix2 R) (Fin.ext ?_)))
    dsimp only [part]
    rw [(show st7 m c (Proc.devRef .tc main_c_6) = StableHlo.after ops0 (st0 m c) (Proc.devRef .tc main_c_6) from ((keep6 _ main_c_6 (by decide)).trans ((keep5 _ main_c_6 (by decide)).trans ((keep4 _ main_c_6 (by decide)).trans ((keep3 _ main_c_6 (by decide)).trans ((keep2 _ main_c_6 (by decide)).trans (keep1 _ main_c_6 (by decide)))))))), tabA_at]
    dsimp only
    split <;> split <;> omega
  · rw [(show st7 m c (Proc.devRef .tc main_cst_8) = StableHlo.after ops0 (st0 m c) (Proc.devRef .tc main_cst_8) from ((keep6 _ main_cst_8 (by decide)).trans ((keep5 _ main_cst_8 (by decide)).trans ((keep4 _ main_cst_8 (by decide)).trans ((keep3 _ main_cst_8 (by decide)).trans ((keep2 _ main_cst_8 (by decide)).trans (keep1 _ main_cst_8 (by decide)))))))), sgnA_at]
    unfold sgn
    dsimp only
    rw [show (1536 + slab C.val) % 32 = slab C.val % 32 by omega]

end Proj
end
-- ==== Proof.ProjMath.lean ====
/- The rotation by a partner column with a sign is the rotation by pairs, where every row and weight is a number. -/
module

public import proofs.«01_k».proof.Proof.ProjSpec

@[expose] public section

set_option maxRecDepth 16384

noncomputable section

namespace Proj
open Idealize.ShloMosaic Attn

theorem fin_mul {x y : EReal} (hx : Fin' x) (hy : Fin' y) : Fin' (x * y) := by
  lift x to ℝ using ⟨hx.1, hx.2⟩
  lift y to ℝ using ⟨hy.1, hy.2⟩
  rw [← EReal.coe_mul]; exact ⟨EReal.coe_ne_top _, EReal.coe_ne_bot _⟩

theorem fin_add {x y : EReal} (hx : Fin' x) (hy : Fin' y) : Fin' (x + y) := by
  lift x to ℝ using ⟨hx.1, hx.2⟩
  lift y to ℝ using ⟨hy.1, hy.2⟩
  rw [← EReal.coe_add]; exact ⟨EReal.coe_ne_top _, EReal.coe_ne_bot _⟩

theorem fin_sub {x y : EReal} (hx : Fin' x) (hy : Fin' y) : Fin' (x - y) := by
  lift x to ℝ using ⟨hx.1, hx.2⟩
  lift y to ℝ using ⟨hy.1, hy.2⟩
  rw [← EReal.coe_sub]; exact ⟨EReal.coe_ne_top _, EReal.coe_ne_bot _⟩

theorem fin_sum {ι : Type*} (s : Finset ι) (f : ι → EReal) (h : ∀ i, Fin' (f i)) : Fin' (∑ i ∈ s, f i) := by
  classical
  induction s using Finset.induction_on with
  | empty => rw [Finset.sum_empty]; exact ⟨EReal.zero_ne_top, EReal.zero_ne_bot⟩
  | insert a t ha ih => rw [Finset.sum_insert ha]; exact fin_add (h a) ih

theorem sum_neg {ι : Type*} (s : Finset ι) (f : ι → EReal) (h : ∀ i, Fin' (f i)) : ∑ i ∈ s, -(f i) = -(∑ i ∈ s, f i) := by
  classical
  induction s using Finset.induction_on with
  | empty => simp
  | insert a t ha ih =>
    rw [Finset.sum_insert ha, Finset.sum_insert ha, ih, EReal.neg_add (Or.inl (h a).2) (Or.inl (h a).1), sub_eq_add_neg]

theorem width : Ideal.ofBits FTy.f32 1149239296#32 = ((1024 : ℝ) : EReal) := by
  simp [Ideal.ofBits, Ideal.ieee]; rw [← EReal.coe_mul]; norm_num

theorem eps_pos : ∃ e : ℝ, 0 < e ∧ Ideal.ofBits FTy.f32 925353388#32 = (e : EReal) := by
  refine ⟨_, ?_, (by simp only [Ideal.ofBits, Ideal.ieee]; simp; rfl)⟩
  norm_num

theorem fin_div {x : EReal} (hx : Fin' x) : Fin' (Ideal.div x (Ideal.ofBits FTy.f32 1149239296#32)) := by
  rw [width, Ideal.div_coe (by norm_num)]
  exact fin_mul hx ⟨EReal.coe_ne_top _, EReal.coe_ne_bot _⟩

theorem sq_nonneg' {x : EReal} (hx : Fin' x) : 0 ≤ x * x := by
  lift x to ℝ using ⟨hx.1, hx.2⟩
  rw [← EReal.coe_mul]; exact_mod_cast mul_self_nonneg x

theorem fin_rsqrt {v : EReal} (hv : Fin' v) (h0 : 0 ≤ v) : Fin' (Ideal.rsqrt (v + Ideal.ofBits FTy.f32 925353388#32)) := by
  obtain ⟨e, he, h⟩ := eps_pos
  rw [h]
  lift v to ℝ using ⟨hv.1, hv.2⟩
  have hv' : 0 ≤ v := by exact_mod_cast h0
  rw [← EReal.coe_add, Ideal.rsqrt_coe, if_neg (by linarith), if_neg (by linarith)]
  exact ⟨EReal.coe_ne_top _, EReal.coe_ne_bot _⟩

theorem fin_norm (x : Fin 1024 → EReal) (hx : ∀ k, Fin' (x k)) (k : Fin 1024) :
    Fin' ((x k - mu x) * Ideal.rsqrt (Ideal.div (∑ j, (x j - mu x) * (x j - mu x)) (Ideal.ofBits FTy.f32 1149239296#32)
      + Ideal.ofBits FTy.f32 925353388#32)) := by
  have hm : Fin' (mu x) := fin_div (fin_sum _ _ hx)
  have hq : ∀ j, Fin' ((x j - mu x) * (x j - mu x)) := fun j => fin_mul (fin_sub (hx j) hm) (fin_sub (hx j) hm)
  have hp : 0 ≤ Ideal.div (∑ j, (x j - mu x) * (x j - mu x)) (Ideal.ofBits FTy.f32 1149239296#32) := by
    rw [width, Ideal.div_coe (by norm_num)]
    refine mul_nonneg (Finset.sum_nonneg fun j _ => sq_nonneg' (fin_sub (hx j) hm)) ?_
    exact_mod_cast (by norm_num : (0 : ℝ) ≤ 1 / 1024)
  exact fin_mul (fin_sub (hx k) hm) (fin_rsqrt (fin_div (fin_sum _ _ hq)) hp)

theorem sum_bot (x : Fin 1024 → EReal) (j : Fin 1024) (h : x j = ⊥) : ∑ k, x k = ⊥ := by
  rw [← Finset.add_sum_erase _ _ (Finset.mem_univ j), h, EReal.bot_add]

theorem sum_top (x : Fin 1024 → EReal) (j : Fin 1024) (h : x j = ⊤) (hb : ∀ k, x k ≠ ⊥) : ∑ k, x k = ⊤ := by
  classical
  have hs : ∀ s : Finset (Fin 1024), ∑ k ∈ s, x k ≠ ⊥ := by
    intro s
    induction s using Finset.induction_on with
    | empty => rw [Finset.sum_empty]; exact EReal.zero_ne_bot
    | insert a t ha ih =>
      rw [Finset.sum_insert ha]
      intro e
      rcases EReal.add_eq_bot_iff.mp e with e | e
      · exact hb a e
      · exact ih e
  rw [← Finset.add_sum_erase _ _ (Finset.mem_univ j), h, EReal.top_add_of_ne_bot (hs _)]

theorem div_top : Ideal.div ⊤ (Ideal.ofBits FTy.f32 1149239296#32) = ⊤ := by
  rw [width, Ideal.div_coe (by norm_num)]
  exact EReal.top_mul_coe_of_pos (by norm_num)

theorem div_bot : Ideal.div ⊥ (Ideal.ofBits FTy.f32 1149239296#32) = ⊥ := by
  rw [width, Ideal.div_coe (by norm_num)]
  exact EReal.bot_mul_coe_of_pos (by norm_num)

/-- A row with an infinite entry is infinitely far from its mean everywhere. -/
theorem dev_inf (x : Fin 1024 → EReal) (j : Fin 1024) (h : ¬ Fin' (x j)) (k : Fin 1024) : x k - mu x = ⊤ ∨ x k - mu x = ⊥ := by
  by_cases hb : ∃ i, x i = ⊥
  · obtain ⟨i, hi⟩ := hb
    rw [show mu x = ⊥ from (congrArg (fun z => Ideal.div z _) (sum_bot x i hi)).trans div_bot, sub_eq_add_neg, EReal.neg_bot]
    by_cases hk : x k = ⊥
    · right; rw [hk, EReal.bot_add]
    · left; exact EReal.add_top_of_ne_bot hk
  · have hb' : ∀ i, x i ≠ ⊥ := fun i e => hb ⟨i, e⟩
    have hj : x j = ⊤ := by
      by_contra e
      exact h ⟨e, hb' j⟩
    right
    rw [show mu x = ⊤ from (congrArg (fun z => Ideal.div z _) (sum_top x j hj hb')).trans div_top, sub_eq_add_neg, EReal.neg_top, EReal.add_bot]

/-- A normalized row is finite, whatever the row: where an entry is infinite the normalized row is zero. -/
theorem fin_norm' (x : Fin 1024 → EReal) (k : Fin 1024) :
    Fin' ((x k - mu x) * Ideal.rsqrt (Ideal.div (∑ j, (x j - mu x) * (x j - mu x)) (Ideal.ofBits FTy.f32 1149239296#32)
      + Ideal.ofBits FTy.f32 925353388#32)) := by
  by_cases hx : ∀ k, Fin' (x k)
  · exact fin_norm x hx k
  · obtain ⟨j, hj⟩ := not_forall.mp hx
    have hq : ∀ i, (x i - mu x) * (x i - mu x) = ⊤ := by
      intro i
      rcases dev_inf x j hj i with e | e
      · rw [e, EReal.top_mul_top]
      · rw [e, EReal.bot_mul_bot]
    have hs : ∑ i, (x i - mu x) * (x i - mu x) = ⊤ :=
      sum_top (fun i => (x i - mu x) * (x i - mu x)) k (hq k) (fun i => by rw [hq i]; exact top_ne_bot)
    obtain ⟨e, he, h⟩ := eps_pos
    rw [hs, div_top, h, EReal.top_add_coe, show Ideal.rsqrt ⊤ = 0 from rfl, mul_zero]
    exact ⟨EReal.zero_ne_top, EReal.zero_ne_bot⟩

theorem fin_hrow (x sc sh : Fin 1024 → EReal) (hc : ∀ k, Fin' (sc k)) (hs : ∀ k, Fin' (sh k)) (k : Fin 1024) :
    Fin' (hrow x sc sh k) := by
  have h1 : Fin' (1 : EReal) := ⟨EReal.coe_ne_top 1, EReal.coe_ne_bot 1⟩
  unfold hrow
  exact fin_add (fin_mul (fin_norm' x k) (fin_add h1 (hc k))) (hs k)

section
variable (x : FVec Ideal (⟨3, ![2, 8192, 1024]⟩ : Shape) .f32) (y : FVec Ideal (⟨3, ![2, 256, 1024]⟩ : Shape) .f32)
variable (ml : FVec Ideal (⟨2, ![2, 6144]⟩ : Shape) .f32) (mc : FVec Ideal (⟨1, ![6144]⟩ : Shape) .f32)
variable (w : FVec Ideal (⟨2, ![1024, 2304]⟩ : Shape) .f32)

/-- The latent tokens' modulations and the weights are finite. -/
structure Ok : Prop where
  ml : ∀ i, Fin' (ml i)
  w : ∀ i, Fin' (w i)

theorem fin_H (ok : Ok ml w) (R : Fin 16896) (hR : R.val < 16384) (k : Fin 1024) : Fin' (H x y ml mc R k) := by
  refine fin_hrow _ _ _ (fun k => ?_) (fun k => ?_) k
  · unfold mrow
    rw [dif_pos hR]
    exact ok.ml _
  · unfold mrow
    rw [dif_pos hR]
    exact ok.ml _

theorem rotate (ok : Ok ml w) (R : Fin 16896) (C : Fin 2304) :
    (∑ k : Fin 1024, H x y ml mc R k * w (ix2 k C)) * cs R C
      + (∑ k : Fin 1024, H x y ml mc R k * (w (ix2 k (part C)) * sgn C)) * sn R C = Q x y ml mc w R C := by
  unfold Q cs sn sgn P
  by_cases hR : R.val < 16384
  · rw [if_pos hR, if_pos hR, if_pos hR]
    by_cases hC : C.val % 32 < 16
    · rw [if_pos hC, if_pos hC]
      have e : (∑ k : Fin 1024, H x y ml mc R k * (w (ix2 k (part C)) * -1)) = -(∑ k : Fin 1024, H x y ml mc R k * w (ix2 k (part C))) := by
        rw [← sum_neg _ _ fun k => fin_mul (fin_H x y ml mc w ok R hR k) (ok.w _)]
        refine Finset.sum_congr rfl fun k _ => ?_
        rw [mul_neg, mul_one, mul_neg]
      rw [e, neg_mul, sub_eq_add_neg]
    · rw [if_neg hC, if_neg hC]
      simp only [mul_one]
  · rw [if_neg hR, if_neg hR, if_neg hR, mul_one, mul_zero, add_zero]

end

end Proj
end
-- ==== Proof.ProjBlocks.lean ====
/- The blocks of a grid point, entry by entry. -/
module

public import proofs.«01_k».proof.Proof.Gen.Kernel2Ideal.Frame
public import proofs.«01_k».proof.Proof.ProjReads
public import proofs.«01_k».proof.Proof.ProjMath

@[expose] public section

set_option maxRecDepth 16384

noncomputable section

namespace Proj
open Idealize.ShloMosaic Idealize.ShloMosaic.TcCoe Idealize.SL.Sem
open Cert.Kernel2Ideal Cert.Kernel2Ideal.Gen

variable (m : (ℓ : Loc nD τ sig) → Buf (Elt Ideal) ℓ) (c : Dev nD) (t : Fin cfg0.N)

theorem t_lt : t.val < 33 := lt_of_lt_of_eq t.isLt N_0

/-- Where each window's block lies. -/
theorem idx_in : ∀ t : Fin cfg0.N, win0_0.index t = ![t.val, 0] ∧ win0_1.index t = ![0, 0] ∧ win0_2.index t = ![0, 0]
    ∧ win0_3.index t = ![if t.val < 32 then t.val % 16 else 16, 0] ∧ win0_4.index t = ![if t.val < 32 then t.val % 16 else 16, 0] :=
  (by decide +kernel : ∀ t : Fin grid0.N, win0_0.index t = ![t.val, 0] ∧ win0_1.index t = ![0, 0] ∧ win0_2.index t = ![0, 0]
    ∧ win0_3.index t = ![if t.val < 32 then t.val % 16 else 16, 0] ∧ win0_4.index t = ![if t.val < 32 then t.val % 16 else 16, 0])
theorem idx_out : ∀ t : Fin cfg0.N, win0_5.index t = ![t.val, 0] ∧ win0_6.index t = ![t.val, 0] ∧ win0_7.index t = ![t.val, 0]
    ∧ win0_8.index t = ![t.val, 0] ∧ win0_9.index t = ![t.val, 0] ∧ win0_10.index t = ![t.val, 0] ∧ win0_11.index t = ![t.val, 0]
    ∧ win0_12.index t = ![t.val, 0] ∧ win0_13.index t = ![t.val, 0] :=
  (by decide +kernel : ∀ t : Fin grid0.N, win0_5.index t = ![t.val, 0] ∧ win0_6.index t = ![t.val, 0] ∧ win0_7.index t = ![t.val, 0]
    ∧ win0_8.index t = ![t.val, 0] ∧ win0_9.index t = ![t.val, 0] ∧ win0_10.index t = ![t.val, 0] ∧ win0_11.index t = ![t.val, 0]
    ∧ win0_12.index t = ![t.val, 0] ∧ win0_13.index t = ![t.val, 0])
/-- The modulation row a point reads. -/
theorem off_row : ∀ t : Fin cfg0.N, k0_off1 (grid0.coords t) = ![t.val / 16, 0] ∧ k0_off2 (grid0.coords t) = ![t.val / 16, 1024] :=
  (by decide +kernel : ∀ t : Fin grid0.N, k0_off1 (grid0.coords t) = ![t.val / 16, 0] ∧ k0_off2 (grid0.coords t) = ![t.val / 16, 1024])

theorem blk0 (i : Fin 512) (k : Fin 1024) : (iblk m c 0 t : FVec Ideal S512x1024 .f32) (ix2 i k)
    = row (a0 m c) (a1 m c) ⟨t.val * 512 + i.val, by have := t_lt t; omega⟩ k := by
  have ht := t_lt t
  refine Eq.trans ?_ (V2 m c ⟨t.val * 512 + i.val, by omega⟩ k)
  change (V m c main_v2 : FVec Ideal S16896x1024 .f32) (((cfg0.win 0).blk t).view.emb (ix2 i k)) = _
  refine congrArg (V m c main_v2 : FVec Ideal S16896x1024 .f32) ?_
  funext a
  refine Fin.ext ?_
  refine ((cfg0.win 0).rect_emb_val t (ix2 i k) a).trans ?_
  rw [show (cfg0.win 0).index t = ![t.val, 0] from (idx_in t).1]
  fin_cases a
  · rfl
  · change 0 * 1024 + k.val = k.val
    omega

theorem blk1 (R : Fin 8) (C : Fin 6144) : (iblk m c 1 t : FVec Ideal S8x6144 .f32) (ix2 R C)
    = (V m c main_v5 : FVec Ideal S8x6144 .f32) (ix2 R C) := by
  change (V m c main_v5 : FVec Ideal S8x6144 .f32) (((cfg0.win 1).blk t).view.emb (ix2 R C)) = _
  refine congrArg (V m c main_v5 : FVec Ideal S8x6144 .f32) ?_
  funext a
  refine Fin.ext ?_
  refine ((cfg0.win 1).rect_emb_val t (ix2 R C) a).trans ?_
  rw [show (cfg0.win 1).index t = ![0, 0] from (idx_in t).2.1]
  fin_cases a
  · change 0 * 8 + R.val = R.val
    omega
  · change 0 * 6144 + C.val = C.val
    omega

theorem blk2 (R : Fin 1024) (C : Fin 3456) : (iblk m c 2 t : FVec Ideal S1024x3456 .bf16) (ix2 R C)
    = (V m c main_v98 : FVec Ideal S1024x3456 .bf16) (ix2 R C) := by
  change (V m c main_v98 : FVec Ideal S1024x3456 .bf16) (((cfg0.win 2).blk t).view.emb (ix2 R C)) = _
  refine congrArg (V m c main_v98 : FVec Ideal S1024x3456 .bf16) ?_
  funext a
  refine Fin.ext ?_
  refine ((cfg0.win 2).rect_emb_val t (ix2 R C) a).trans ?_
  rw [show (cfg0.win 2).index t = ![0, 0] from (idx_in t).2.2.1]
  fin_cases a
  · change 0 * 1024 + R.val = R.val
    omega
  · change 0 * 3456 + C.val = C.val
    omega

theorem ang_congr (n C D : ℕ) (h : C % 64 = D % 64) : ang n C = ang n D := by
  unfold ang
  rw [h, show C % 16 = D % 16 by omega]

theorem cs_congr (R : Fin 16896) (C D : ℕ) (h : C % 64 = D % 64) : cs R C = cs R D := by
  unfold cs
  rw [ang_congr _ _ _ h]

theorem sn_congr (R : Fin 16896) (C D : ℕ) (h : C % 64 = D % 64) : sn R C = sn R D := by
  unfold sn
  rw [ang_congr _ _ _ h]

theorem blk3 (i : Fin 512) (C : Fin 256) (D : ℕ) (h : C.val % 64 = D % 64) : (iblk m c 3 t : FVec Ideal S512x256 .f32) (ix2 i C)
    = cs ⟨t.val * 512 + i.val, by have := t_lt t; omega⟩ D := by
  have ht := t_lt t
  refine Eq.trans (b := (V m c main_v41 : FVec Ideal S8704x256 .f32) (ix2 ⟨(if t.val < 32 then t.val % 16 else 16) * 512 + i.val, by split <;> omega⟩ C)) ?_ ?_
  · change (V m c main_v41 : FVec Ideal S8704x256 .f32) (((cfg0.win 3).blk t).view.emb (ix2 i C)) = _
    refine congrArg (V m c main_v41 : FVec Ideal S8704x256 .f32) ?_
    funext a
    refine Fin.ext ?_
    refine ((cfg0.win 3).rect_emb_val t (ix2 i C) a).trans ?_
    rw [show (cfg0.win 3).index t = ![if t.val < 32 then t.val % 16 else 16, 0] from (idx_in t).2.2.2.1]
    fin_cases a
    · rfl
    · change 0 * 256 + C.val = C.val
      omega
  · rw [V41, ← cs_congr _ _ _ h]
    unfold cs
    dsimp only
    by_cases h32 : t.val < 32
    · simp only [if_pos h32]
      rw [if_pos (by omega), if_pos (by omega), show t.val % 16 * 512 + i.val = (t.val * 512 + i.val) % 8192 by omega]
    · simp only [if_neg h32]
      rw [if_neg (by omega), if_neg (by omega)]

theorem blk4 (i : Fin 512) (C : Fin 256) (D : ℕ) (h : C.val % 64 = D % 64) : (iblk m c 4 t : FVec Ideal S512x256 .f32) (ix2 i C)
    = sn ⟨t.val * 512 + i.val, by have := t_lt t; omega⟩ D := by
  have ht := t_lt t
  refine Eq.trans (b := (V m c main_v46 : FVec Ideal S8704x256 .f32) (ix2 ⟨(if t.val < 32 then t.val % 16 else 16) * 512 + i.val, by split <;> omega⟩ C)) ?_ ?_
  · change (V m c main_v46 : FVec Ideal S8704x256 .f32) (((cfg0.win 4).blk t).view.emb (ix2 i C)) = _
    refine congrArg (V m c main_v46 : FVec Ideal S8704x256 .f32) ?_
    funext a
    refine Fin.ext ?_
    refine ((cfg0.win 4).rect_emb_val t (ix2 i C) a).trans ?_
    rw [show (cfg0.win 4).index t = ![if t.val < 32 then t.val % 16 else 16, 0] from (idx_in t).2.2.2.2]
    fin_cases a
    · rfl
    · change 0 * 256 + C.val = C.val
      omega
  · rw [V46, ← sn_congr _ _ _ h]
    unfold sn
    dsimp only
    by_cases h32 : t.val < 32
    · simp only [if_pos h32]
      rw [if_pos (by omega), if_pos (by omega), show t.val % 16 * 512 + i.val = (t.val * 512 + i.val) % 8192 by omega]
    · simp only [if_neg h32]
      rw [if_neg (by omega), if_neg (by omega)]

/-- The modulation row a point's load reads. -/
theorem modrow (off : Fin 2 → ℕ) (o : ℕ) (ho : o + 1024 ≤ 6144) (e : off = ![t.val / 16, o])
    (hb : ∀ a, off a + (![1, 1024] : Fin 2 → ℕ) a ≤ S8x6144.size a) (A : FVec Ideal S1x1024 .f32)
    (eA : ∀ x, A x = (iblk m c 1 t : FVec Ideal S8x6144 .f32) ((Rect.unit (s := S8x6144) off ![1, 1024] hb).idx x)) (i : Fin 512) (k : Fin 1024) :
    A (ix2 0 k) = mrow (a2 m c) (a3 m c) ⟨t.val * 512 + i.val, by have := t_lt t; omega⟩ ⟨o + k.val, by omega⟩ := by
  have ht := t_lt t
  subst e
  refine (eA _).trans ?_
  refine Eq.trans (b := (iblk m c 1 t : FVec Ideal S8x6144 .f32) (ix2 ⟨t.val / 16, by omega⟩ ⟨o + k.val, by omega⟩)) ?_ ?_
  · refine congrArg (iblk m c 1 t : FVec Ideal S8x6144 .f32) ?_
    funext a
    refine Fin.ext ((Rect.idx_unit_val _ _ _ _ a).trans ?_)
    fin_cases a <;> rfl
  · rw [blk1]
    refine (V5 m c ⟨t.val / 16, by omega⟩ ⟨o + k.val, by omega⟩).trans ?_
    unfold mrow
    dsimp only
    by_cases h32 : t.val < 32
    · rw [dif_pos (by omega), dif_pos (by omega)]
      refine congrArg (fun a => a2 m c (ix2 a ⟨o + k.val, by omega⟩)) (Fin.ext ?_)
      dsimp only
      omega
    · rw [dif_neg (by omega), dif_neg (by omega)]

/-- A slab of the weights. -/
theorem slabW (o n : ℕ) (ho : o + n ≤ 3456) (hb : ∀ a, (![0, o] : Fin 2 → ℕ) a + (![1024, n] : Fin 2 → ℕ) a ≤ S1024x3456.size a)
    (W : (⟨2, ![1024, n]⟩ : Shape).Idx → EReal)
    (eW : ∀ x, W x = (iblk m c 2 t : FVec Ideal S1024x3456 .bf16) ((Rect.unit (s := S1024x3456) ![0, o] ![1024, n] hb).idx x)) (k : Fin 1024) (C : Fin n) :
    W (ix2 k C) = (V m c main_v98 : FVec Ideal S1024x3456 .bf16) (ix2 k ⟨o + C.val, by omega⟩) := by
  refine (eW _).trans (Eq.trans ?_ (blk2 m c t k ⟨o + C.val, by omega⟩))
  refine congrArg (iblk m c 2 t : FVec Ideal S1024x3456 .bf16) ?_
  funext a
  refine Fin.ext ((Rect.idx_unit_val _ _ _ _ a).trans ?_)
  fin_cases a
  · exact Nat.zero_add _
  · rfl

end Proj
end
-- ==== Proof.ProjPay.lean ====
/- The payloads of the kernel's stores, entry by entry. -/
module

public import proofs.«01_k».proof.Proof.Gen.Kernel2Ideal.Skeleton
public import proofs.«01_k».proof.Proof.ProjSpec
public import Idealize.ShloMosaic.Lib.Pointwise

@[expose] public section

set_option maxRecDepth 16384

noncomputable section

namespace Proj
open Idealize.ShloMosaic Idealize.ShloMosaic.TcCoe Idealize.SL.Sem
open Cert.Kernel2Ideal Cert.Kernel2Ideal.Gen

/-- The modulated block of rows. -/
theorem pay4_at (a b : FVec Ideal S1x1024 .f32) (x : FVec Ideal S512x1024 .f32) (i : Fin 512) (k : Fin 1024) :
    k0_pay4 (F := Ideal) (k0_pay1 a) (k0_pay2 b) (k0_pay3 x) (ix2 i k)
      = hrow (fun k => x (ix2 i k)) (fun k => b (ix2 0 k)) (fun k => a (ix2 0 k)) k := by
  unfold hrow mu k0_pay4 k0_pay1 k0_pay2 k0_pay3
  pointwise

theorem pay9_at (h : FVec Ideal S512x1024 .bf16) (w : FVec Ideal S1024x256 .bf16) (i : Fin 512) (l : Fin 256) :
    k0_pay9 (F := Ideal) h w (ix2 i l) = ∑ k : Fin 1024, HMul.hMul (α := EReal) (β := EReal) (γ := EReal) (h (ix2 i k)) (w (ix2 k l)) := by
  unfold k0_pay9
  pointwise

theorem pay10_at (h : FVec Ideal S512x1024 .bf16) (w : FVec Ideal S1024x256 .bf16) (i : Fin 512) (l : Fin 256) :
    k0_pay10 (F := Ideal) h w (ix2 i l) = ∑ k : Fin 1024, HMul.hMul (α := EReal) (β := EReal) (γ := EReal) (h (ix2 i k)) (w (ix2 k l)) := by
  unfold k0_pay10
  pointwise

theorem pay11_at (h : FVec Ideal S512x1024 .bf16) (w : FVec Ideal S1024x256 .bf16) (i : Fin 512) (l : Fin 256) :
    k0_pay11 (F := Ideal) h w (ix2 i l) = ∑ k : Fin 1024, HMul.hMul (α := EReal) (β := EReal) (γ := EReal) (h (ix2 i k)) (w (ix2 k l)) := by
  unfold k0_pay11
  pointwise

theorem pay12_at (h : FVec Ideal S512x1024 .bf16) (w : FVec Ideal S1024x256 .bf16) (i : Fin 512) (l : Fin 256) :
    k0_pay12 (F := Ideal) h w (ix2 i l) = ∑ k : Fin 1024, HMul.hMul (α := EReal) (β := EReal) (γ := EReal) (h (ix2 i k)) (w (ix2 k l)) := by
  unfold k0_pay12
  pointwise

theorem pay16_at (h : FVec Ideal S512x1024 .bf16) (w : FVec Ideal S1024x128 .bf16) (i : Fin 512) (l : Fin 128) :
    k0_pay16 (F := Ideal) h w (ix2 i l) = ∑ k : Fin 1024, HMul.hMul (α := EReal) (β := EReal) (γ := EReal) (h (ix2 i k)) (w (ix2 k l)) := by
  unfold k0_pay16
  pointwise

theorem pay13_at (h : FVec Ideal S512x1024 .bf16) (cs sn : FVec Ideal S512x256 .f32) (w v : FVec Ideal S1024x256 .bf16) (i : Fin 512) (l : Fin 256) :
    k0_pay13 (F := Ideal) h (k0_pay5 cs) (k0_pay6 sn) w v (ix2 i l) = HMul.hMul (α := EReal) (β := EReal) (γ := EReal) (HAdd.hAdd (α := EReal) (β := EReal) (γ := EReal) (HMul.hMul (α := EReal) (β := EReal) (γ := EReal) (∑ k : Fin 1024, HMul.hMul (α := EReal) (β := EReal) (γ := EReal) (h (ix2 i k)) (w (ix2 k l))) (cs (ix2 i l))) (HMul.hMul (α := EReal) (β := EReal) (γ := EReal) (∑ k : Fin 1024, HMul.hMul (α := EReal) (β := EReal) (γ := EReal) (h (ix2 i k)) (v (ix2 k l))) (sn (ix2 i l)))) (Ideal.ofBits FTy.f32 1040187392#32) := by
  unfold k0_pay13 k0_pay5 k0_pay6
  pointwise

theorem pay14_at (h : FVec Ideal S512x1024 .bf16) (cs sn : FVec Ideal S512x256 .f32) (w v : FVec Ideal S1024x256 .bf16) (i : Fin 512) (l : Fin 256) :
    k0_pay14 (F := Ideal) h (k0_pay5 cs) (k0_pay6 sn) w v (ix2 i l) = HMul.hMul (α := EReal) (β := EReal) (γ := EReal) (HAdd.hAdd (α := EReal) (β := EReal) (γ := EReal) (HMul.hMul (α := EReal) (β := EReal) (γ := EReal) (∑ k : Fin 1024, HMul.hMul (α := EReal) (β := EReal) (γ := EReal) (h (ix2 i k)) (w (ix2 k l))) (cs (ix2 i l))) (HMul.hMul (α := EReal) (β := EReal) (γ := EReal) (∑ k : Fin 1024, HMul.hMul (α := EReal) (β := EReal) (γ := EReal) (h (ix2 i k)) (v (ix2 k l))) (sn (ix2 i l)))) (Ideal.ofBits FTy.f32 1040187392#32) := by
  unfold k0_pay14 k0_pay5 k0_pay6
  pointwise

theorem pay15_at (h : FVec Ideal S512x1024 .bf16) (cs sn : FVec Ideal S512x256 .f32) (w v : FVec Ideal S1024x128 .bf16) (i : Fin 512) (l : Fin 128) :
    k0_pay15 (F := Ideal) h (k0_pay5 cs) (k0_pay6 sn) w v (ix2 i l) = HAdd.hAdd (α := EReal) (β := EReal) (γ := EReal) (HMul.hMul (α := EReal) (β := EReal) (γ := EReal) (∑ k : Fin 1024, HMul.hMul (α := EReal) (β := EReal) (γ := EReal) (h (ix2 i k)) (w (ix2 k l))) (cs (ix2 i ⟨l.val, by omega⟩))) (HMul.hMul (α := EReal) (β := EReal) (γ := EReal) (∑ k : Fin 1024, HMul.hMul (α := EReal) (β := EReal) (γ := EReal) (h (ix2 i k)) (v (ix2 k l))) (sn (ix2 i ⟨l.val, by omega⟩))) := by
  unfold k0_pay15 k0_pay5 k0_pay6
  pointwise

theorem pay7_at (a b : FVec Ideal S1x1024 .f32) (x : FVec Ideal S512x1024 .f32) (cs sn : FVec Ideal S512x256 .f32) (w v : FVec Ideal S1024x256 .bf16) (i : Fin 512) (l : Fin 256) :
    k0_pay7 (F := Ideal) a b x cs sn w v (ix2 i l) = HAdd.hAdd (α := EReal) (β := EReal) (γ := EReal) (HMul.hMul (α := EReal) (β := EReal) (γ := EReal) (∑ k : Fin 1024, HMul.hMul (α := EReal) (β := EReal) (γ := EReal) (k0_pay4 (F := Ideal) a b x (ix2 i k)) (w (ix2 k l))) (cs (ix2 i l))) (HMul.hMul (α := EReal) (β := EReal) (γ := EReal) (∑ k : Fin 1024, HMul.hMul (α := EReal) (β := EReal) (γ := EReal) (k0_pay4 (F := Ideal) a b x (ix2 i k)) (v (ix2 k l))) (sn (ix2 i l))) := by
  unfold k0_pay7 k0_pay5 k0_pay6
  generalize k0_pay4 (F := Ideal) a b x = h
  pointwise

theorem pay8_at (a b : FVec Ideal S1x1024 .f32) (x : FVec Ideal S512x1024 .f32) (cs sn : FVec Ideal S512x256 .f32) (w v : FVec Ideal S1024x256 .bf16) (i : Fin 512) (l : Fin 256) :
    k0_pay8 (F := Ideal) a b x cs sn w v (ix2 i l) = HMul.hMul (α := EReal) (β := EReal) (γ := EReal) (HAdd.hAdd (α := EReal) (β := EReal) (γ := EReal) (HMul.hMul (α := EReal) (β := EReal) (γ := EReal) (∑ k : Fin 1024, HMul.hMul (α := EReal) (β := EReal) (γ := EReal) (k0_pay4 (F := Ideal) a b x (ix2 i k)) (w (ix2 k l))) (cs (ix2 i l))) (HMul.hMul (α := EReal) (β := EReal) (γ := EReal) (∑ k : Fin 1024, HMul.hMul (α := EReal) (β := EReal) (γ := EReal) (k0_pay4 (F := Ideal) a b x (ix2 i k)) (v (ix2 k l))) (sn (ix2 i l)))) (Ideal.ofBits FTy.f32 1040187392#32) := by
  unfold k0_pay8 k0_pay5 k0_pay6
  generalize k0_pay4 (F := Ideal) a b x = h
  pointwise

end Proj
end
-- ==== Proof.ProjRef.lean ====
/- The reference's projection as a function of its arguments, stage by stage. -/
module

public import proofs.«01_k».proof.Proof.Gen.Reference2Ideal
public import Idealize.ShloMosaic.Lib.Pointwise
public import Idealize.ShloMosaic.Lib.Pipeline.ValueKit

@[expose] public section

set_option maxRecDepth 16384

noncomputable section

namespace Proj.Ref
open Idealize.ShloMosaic Idealize.ShloMosaic.TcCoe Idealize.SL.Sem
open Cert.Reference2Ideal Cert.Reference2Ideal.Gen

/-- The modulated rows of the latent tokens. -/
def latH (x : FVec Ideal S2x8192x1024 .f32) (ml : FVec Ideal S2x6144 .f32) : FVec Ideal S16384x1024 .f32 :=
  (shapeCast S16384x1024 (addf (mulf (mulf (subf x (broadcastInDim S2x8192x1024 ![0, 1, 2] bcast_S2x8192x1_S2x8192x1024_0_1_2 (Host.divf (broadcastInDim S2x8192x1 ![0, 1] bcast_S2x8192_S2x8192x1_0_1 (Host.reduceAdd x (constant S_ .f32 0x00000000#32) reducesTo_S2x8192x1024_S2x8192_d2 h_S_)) (broadcastInDim S2x8192x1 ![] bcast_S_S2x8192x1 (constant S_ .f32 0x44800000#32))))) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (subf x (broadcastInDim S2x8192x1024 ![0, 1, 2] bcast_S2x8192x1_S2x8192x1024_0_1_2 (Host.divf (broadcastInDim S2x8192x1 ![0, 1] bcast_S2x8192_S2x8192x1_0_1 (Host.reduceAdd x (constant S_ .f32 0x00000000#32) reducesTo_S2x8192x1024_S2x8192_d2 h_S_)) (broadcastInDim S2x8192x1 ![] bcast_S_S2x8192x1 (constant S_ .f32 0x44800000#32))))) (subf x (broadcastInDim S2x8192x1024 ![0, 1, 2] bcast_S2x8192x1_S2x8192x1024_0_1_2 (Host.divf (broadcastInDim S2x8192x1 ![0, 1] bcast_S2x8192_S2x8192x1_0_1 (Host.reduceAdd x (constant S_ .f32 0x00000000#32) reducesTo_S2x8192x1024_S2x8192_d2 h_S_)) (broadcastInDim S2x8192x1 ![] bcast_S_S2x8192x1 (constant S_ .f32 0x44800000#32)))))) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x3727C5AC#32)))))) (broadcastInDim S2x8192x1024 ![0, 1, 2] bcast_S2x1x1024_S2x8192x1024_0_1_2 (addf (broadcastInDim S2x1x1024 ![] bcast_S_S2x1x1024 (constant S_ .f32 0x3F800000#32)) (extractStridedSlice S2x1x1024 ![0, 0, 1024] (broadcastInDim S2x1x6144 ![0, 2] bcast_S2x6144_S2x1x6144_0_2 ml) slices_S2x1x6144_S2x1x1024_0_0_1024)))) (broadcastInDim S2x8192x1024 ![0, 1, 2] bcast_S2x1x1024_S2x8192x1024_0_1_2 (extractStridedSlice S2x1x1024 ![0, 0, 0] (broadcastInDim S2x1x6144 ![0, 2] bcast_S2x6144_S2x1x6144_0_2 ml) slices_S2x1x6144_S2x1x1024_0_0_0))) shapeCasts_S2x8192x1024_S16384x1024)

/-- The modulated rows of the context tokens. -/
def ctxH (y : FVec Ideal S2x256x1024 .f32) (mc : FVec Ideal S6144 .f32) : FVec Ideal S512x1024 .f32 :=
  (shapeCast S512x1024 (addf (mulf (mulf (subf y (broadcastInDim S2x256x1024 ![0, 1, 2] bcast_S2x256x1_S2x256x1024_0_1_2 (Host.divf (broadcastInDim S2x256x1 ![0, 1] bcast_S2x256_S2x256x1_0_1 (Host.reduceAdd y (constant S_ .f32 0x00000000#32) reducesTo_S2x256x1024_S2x256_d2 h_S_)) (broadcastInDim S2x256x1 ![] bcast_S_S2x256x1 (constant S_ .f32 0x44800000#32))))) (broadcastInDim S2x256x1024 ![0, 1, 2] bcast_S2x256x1_S2x256x1024_0_1_2 (Host.rsqrt (addf (Host.divf (broadcastInDim S2x256x1 ![0, 1] bcast_S2x256_S2x256x1_0_1 (Host.reduceAdd (mulf (subf y (broadcastInDim S2x256x1024 ![0, 1, 2] bcast_S2x256x1_S2x256x1024_0_1_2 (Host.divf (broadcastInDim S2x256x1 ![0, 1] bcast_S2x256_S2x256x1_0_1 (Host.reduceAdd y (constant S_ .f32 0x00000000#32) reducesTo_S2x256x1024_S2x256_d2 h_S_)) (broadcastInDim S2x256x1 ![] bcast_S_S2x256x1 (constant S_ .f32 0x44800000#32))))) (subf y (broadcastInDim S2x256x1024 ![0, 1, 2] bcast_S2x256x1_S2x256x1024_0_1_2 (Host.divf (broadcastInDim S2x256x1 ![0, 1] bcast_S2x256_S2x256x1_0_1 (Host.reduceAdd y (constant S_ .f32 0x00000000#32) reducesTo_S2x256x1024_S2x256_d2 h_S_)) (broadcastInDim S2x256x1 ![] bcast_S_S2x256x1 (constant S_ .f32 0x44800000#32)))))) (constant S_ .f32 0x00000000#32) reducesTo_S2x256x1024_S2x256_d2 h_S_)) (broadcastInDim S2x256x1 ![] bcast_S_S2x256x1 (constant S_ .f32 0x44800000#32))) (broadcastInDim S2x256x1 ![] bcast_S_S2x256x1 (constant S_ .f32 0x3727C5AC#32)))))) (broadcastInDim S2x256x1024 ![0, 1, 2] bcast_S1x1x1024_S2x256x1024_0_1_2 (broadcastInDim S1x1x1024 ![2] bcast_S1024_S1x1x1024_2 (addf (broadcastInDim S1024 ![] bcast_S_S1024 (constant S_ .f32 0x3F800000#32)) (extractStridedSlice S1024 ![1024] mc slices_S6144_S1024_1024))))) (broadcastInDim S2x256x1024 ![0, 1, 2] bcast_S1x1x1024_S2x256x1024_0_1_2 (broadcastInDim S1x1x1024 ![2] bcast_S1024_S1x1x1024_2 (extractStridedSlice S1024 ![0] mc slices_S6144_S1024_0)))) shapeCasts_S2x256x1024_S512x1024)

/-- Their products with the weights. -/
def prod (x : FVec Ideal S2x8192x1024 .f32) (y : FVec Ideal S2x256x1024 .f32) (ml : FVec Ideal S2x6144 .f32) (mc : FVec Ideal S6144 .f32) (w : FVec Ideal S1024x2304 .f32) : FVec Ideal S16896x2304 .f32 :=
  Host.dotGeneral dot_S16896x1024_S1024x2304_S16896x2304_1_0_0_1_n_n none (concatenate S16896x1024 0 [⟨S16384x1024, latH x ml⟩, ⟨S512x1024, ctxH y mc⟩] concatenates_S16384x1024_S512x1024_S16896x1024_d0) w

/-- Rotation angles by image row. -/
def angR : FVec Ideal S8192x16 .f32 :=
  mulf (broadcastInDim S8192x16 ![0, 1] bcast_S8192x1_S8192x16_0_1 (broadcastInDim S8192x1 ![0] bcast_S8192_S8192x1_0 (sitofp .f32 (shapeCast S8192 (broadcastInDim S128x64 ![0] bcast_S128_S128x64_0 (iotaInDim S128 32 0)) shapeCasts_S128x64_S8192)))) (broadcastInDim S8192x16 ![0, 1] bcast_S1x16_S8192x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32))))))

/-- Rotation angles by image column. -/
def angC : FVec Ideal S8192x16 .f32 :=
  mulf (broadcastInDim S8192x16 ![0, 1] bcast_S8192x1_S8192x16_0_1 (broadcastInDim S8192x1 ![0] bcast_S8192_S8192x1_0 (sitofp .f32 (shapeCast S8192 (broadcastInDim S128x64 ![0, 1] bcast_S1x64_S128x64_0_1 (shapeCast S1x64 (iotaInDim S64 32 0) shapeCasts_S64_S1x64)) shapeCasts_S128x64_S8192)))) (broadcastInDim S8192x16 ![0, 1] bcast_S1x16_S8192x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32))))))

/-- Their cosines. -/
def cosR : FVec Ideal S8192x16 .f32 := Host.cos angR

/-- Their sines. -/
def sinR : FVec Ideal S8192x16 .f32 := Host.sin angR

/-- Their cosines. -/
def cosC : FVec Ideal S8192x16 .f32 := Host.cos angC

/-- Their sines. -/
def sinC : FVec Ideal S8192x16 .f32 := Host.sin angC

/-- Latent rows rotated, context rows as they are: 4 heads. -/
def rot256 (p : FVec Ideal S16896x256 .f32) : FVec Ideal S16896x256 .f32 :=
  concatenate S16896x256 0 [⟨S16384x256, (shapeCast S16384x256 (concatenate S2x8192x4x64 3 [⟨S2x8192x4x32, (concatenate S2x8192x4x32 3 [⟨S2x8192x4x16, (subf (mulf (extractStridedSlice S2x8192x4x16 ![0, 0, 0, 0] (extractStridedSlice S2x8192x4x32 ![0, 0, 0, 0] (shapeCast S2x8192x4x64 (extractStridedSlice S16384x256 ![0, 0] p slices_S16896x256_S16384x256_0_0) shapeCasts_S16384x256_S2x8192x4x64) slices_S2x8192x4x64_S2x8192x4x32_0_0_0_0) slices_S2x8192x4x32_S2x8192x4x16_0_0_0_0) (broadcastInDim S2x8192x4x16 ![0, 1, 2, 3] bcast_S1x8192x1x16_S2x8192x4x16_0_1_2_3 (broadcastInDim S1x8192x1x16 ![1, 2, 3] bcast_S8192x1x16_S1x8192x1x16_1_2_3 (shapeCast S8192x1x16 cosR shapeCasts_S8192x16_S8192x1x16)))) (mulf (extractStridedSlice S2x8192x4x16 ![0, 0, 0, 16] (extractStridedSlice S2x8192x4x32 ![0, 0, 0, 0] (shapeCast S2x8192x4x64 (extractStridedSlice S16384x256 ![0, 0] p slices_S16896x256_S16384x256_0_0) shapeCasts_S16384x256_S2x8192x4x64) slices_S2x8192x4x64_S2x8192x4x32_0_0_0_0) slices_S2x8192x4x32_S2x8192x4x16_0_0_0_16) (broadcastInDim S2x8192x4x16 ![0, 1, 2, 3] bcast_S1x8192x1x16_S2x8192x4x16_0_1_2_3 (broadcastInDim S1x8192x1x16 ![1, 2, 3] bcast_S8192x1x16_S1x8192x1x16_1_2_3 (shapeCast S8192x1x16 sinR shapeCasts_S8192x16_S8192x1x16)))))⟩, ⟨S2x8192x4x16, (addf (mulf (extractStridedSlice S2x8192x4x16 ![0, 0, 0, 16] (extractStridedSlice S2x8192x4x32 ![0, 0, 0, 0] (shapeCast S2x8192x4x64 (extractStridedSlice S16384x256 ![0, 0] p slices_S16896x256_S16384x256_0_0) shapeCasts_S16384x256_S2x8192x4x64) slices_S2x8192x4x64_S2x8192x4x32_0_0_0_0) slices_S2x8192x4x32_S2x8192x4x16_0_0_0_16) (broadcastInDim S2x8192x4x16 ![0, 1, 2, 3] bcast_S1x8192x1x16_S2x8192x4x16_0_1_2_3 (broadcastInDim S1x8192x1x16 ![1, 2, 3] bcast_S8192x1x16_S1x8192x1x16_1_2_3 (shapeCast S8192x1x16 cosR shapeCasts_S8192x16_S8192x1x16)))) (mulf (extractStridedSlice S2x8192x4x16 ![0, 0, 0, 0] (extractStridedSlice S2x8192x4x32 ![0, 0, 0, 0] (shapeCast S2x8192x4x64 (extractStridedSlice S16384x256 ![0, 0] p slices_S16896x256_S16384x256_0_0) shapeCasts_S16384x256_S2x8192x4x64) slices_S2x8192x4x64_S2x8192x4x32_0_0_0_0) slices_S2x8192x4x32_S2x8192x4x16_0_0_0_0) (broadcastInDim S2x8192x4x16 ![0, 1, 2, 3] bcast_S1x8192x1x16_S2x8192x4x16_0_1_2_3 (broadcastInDim S1x8192x1x16 ![1, 2, 3] bcast_S8192x1x16_S1x8192x1x16_1_2_3 (shapeCast S8192x1x16 sinR shapeCasts_S8192x16_S8192x1x16)))))⟩] concatenates_S2x8192x4x16_S2x8192x4x16_S2x8192x4x32_d3)⟩, ⟨S2x8192x4x32, (concatenate S2x8192x4x32 3 [⟨S2x8192x4x16, (subf (mulf (extractStridedSlice S2x8192x4x16 ![0, 0, 0, 0] (extractStridedSlice S2x8192x4x32 ![0, 0, 0, 32] (shapeCast S2x8192x4x64 (extractStridedSlice S16384x256 ![0, 0] p slices_S16896x256_S16384x256_0_0) shapeCasts_S16384x256_S2x8192x4x64) slices_S2x8192x4x64_S2x8192x4x32_0_0_0_32) slices_S2x8192x4x32_S2x8192x4x16_0_0_0_0) (broadcastInDim S2x8192x4x16 ![0, 1, 2, 3] bcast_S1x8192x1x16_S2x8192x4x16_0_1_2_3 (broadcastInDim S1x8192x1x16 ![1, 2, 3] bcast_S8192x1x16_S1x8192x1x16_1_2_3 (shapeCast S8192x1x16 cosC shapeCasts_S8192x16_S8192x1x16)))) (mulf (extractStridedSlice S2x8192x4x16 ![0, 0, 0, 16] (extractStridedSlice S2x8192x4x32 ![0, 0, 0, 32] (shapeCast S2x8192x4x64 (extractStridedSlice S16384x256 ![0, 0] p slices_S16896x256_S16384x256_0_0) shapeCasts_S16384x256_S2x8192x4x64) slices_S2x8192x4x64_S2x8192x4x32_0_0_0_32) slices_S2x8192x4x32_S2x8192x4x16_0_0_0_16) (broadcastInDim S2x8192x4x16 ![0, 1, 2, 3] bcast_S1x8192x1x16_S2x8192x4x16_0_1_2_3 (broadcastInDim S1x8192x1x16 ![1, 2, 3] bcast_S8192x1x16_S1x8192x1x16_1_2_3 (shapeCast S8192x1x16 sinC shapeCasts_S8192x16_S8192x1x16)))))⟩, ⟨S2x8192x4x16, (addf (mulf (extractStridedSlice S2x8192x4x16 ![0, 0, 0, 16] (extractStridedSlice S2x8192x4x32 ![0, 0, 0, 32] (shapeCast S2x8192x4x64 (extractStridedSlice S16384x256 ![0, 0] p slices_S16896x256_S16384x256_0_0) shapeCasts_S16384x256_S2x8192x4x64) slices_S2x8192x4x64_S2x8192x4x32_0_0_0_32) slices_S2x8192x4x32_S2x8192x4x16_0_0_0_16) (broadcastInDim S2x8192x4x16 ![0, 1, 2, 3] bcast_S1x8192x1x16_S2x8192x4x16_0_1_2_3 (broadcastInDim S1x8192x1x16 ![1, 2, 3] bcast_S8192x1x16_S1x8192x1x16_1_2_3 (shapeCast S8192x1x16 cosC shapeCasts_S8192x16_S8192x1x16)))) (mulf (extractStridedSlice S2x8192x4x16 ![0, 0, 0, 0] (extractStridedSlice S2x8192x4x32 ![0, 0, 0, 32] (shapeCast S2x8192x4x64 (extractStridedSlice S16384x256 ![0, 0] p slices_S16896x256_S16384x256_0_0) shapeCasts_S16384x256_S2x8192x4x64) slices_S2x8192x4x64_S2x8192x4x32_0_0_0_32) slices_S2x8192x4x32_S2x8192x4x16_0_0_0_0) (broadcastInDim S2x8192x4x16 ![0, 1, 2, 3] bcast_S1x8192x1x16_S2x8192x4x16_0_1_2_3 (broadcastInDim S1x8192x1x16 ![1, 2, 3] bcast_S8192x1x16_S1x8192x1x16_1_2_3 (shapeCast S8192x1x16 sinC shapeCasts_S8192x16_S8192x1x16)))))⟩] concatenates_S2x8192x4x16_S2x8192x4x16_S2x8192x4x32_d3)⟩] concatenates_S2x8192x4x32_S2x8192x4x32_S2x8192x4x64_d3) shapeCasts_S2x8192x4x64_S16384x256)⟩, ⟨S512x256, (extractStridedSlice S512x256 ![16384, 0] p slices_S16896x256_S512x256_16384_0)⟩] concatenates_S16384x256_S512x256_S16896x256_d0

/-- Latent rows rotated, context rows as they are: 8 heads. -/
def rot512 (p : FVec Ideal S16896x512 .f32) : FVec Ideal S16896x512 .f32 :=
  concatenate S16896x512 0 [⟨S16384x512, (shapeCast S16384x512 (concatenate S2x8192x8x64 3 [⟨S2x8192x8x32, (concatenate S2x8192x8x32 3 [⟨S2x8192x8x16, (subf (mulf (extractStridedSlice S2x8192x8x16 ![0, 0, 0, 0] (extractStridedSlice S2x8192x8x32 ![0, 0, 0, 0] (shapeCast S2x8192x8x64 (extractStridedSlice S16384x512 ![0, 0] p slices_S16896x512_S16384x512_0_0) shapeCasts_S16384x512_S2x8192x8x64) slices_S2x8192x8x64_S2x8192x8x32_0_0_0_0) slices_S2x8192x8x32_S2x8192x8x16_0_0_0_0) (broadcastInDim S2x8192x8x16 ![0, 1, 2, 3] bcast_S1x8192x1x16_S2x8192x8x16_0_1_2_3 (broadcastInDim S1x8192x1x16 ![1, 2, 3] bcast_S8192x1x16_S1x8192x1x16_1_2_3 (shapeCast S8192x1x16 cosR shapeCasts_S8192x16_S8192x1x16)))) (mulf (extractStridedSlice S2x8192x8x16 ![0, 0, 0, 16] (extractStridedSlice S2x8192x8x32 ![0, 0, 0, 0] (shapeCast S2x8192x8x64 (extractStridedSlice S16384x512 ![0, 0] p slices_S16896x512_S16384x512_0_0) shapeCasts_S16384x512_S2x8192x8x64) slices_S2x8192x8x64_S2x8192x8x32_0_0_0_0) slices_S2x8192x8x32_S2x8192x8x16_0_0_0_16) (broadcastInDim S2x8192x8x16 ![0, 1, 2, 3] bcast_S1x8192x1x16_S2x8192x8x16_0_1_2_3 (broadcastInDim S1x8192x1x16 ![1, 2, 3] bcast_S8192x1x16_S1x8192x1x16_1_2_3 (shapeCast S8192x1x16 sinR shapeCasts_S8192x16_S8192x1x16)))))⟩, ⟨S2x8192x8x16, (addf (mulf (extractStridedSlice S2x8192x8x16 ![0, 0, 0, 16] (extractStridedSlice S2x8192x8x32 ![0, 0, 0, 0] (shapeCast S2x8192x8x64 (extractStridedSlice S16384x512 ![0, 0] p slices_S16896x512_S16384x512_0_0) shapeCasts_S16384x512_S2x8192x8x64) slices_S2x8192x8x64_S2x8192x8x32_0_0_0_0) slices_S2x8192x8x32_S2x8192x8x16_0_0_0_16) (broadcastInDim S2x8192x8x16 ![0, 1, 2, 3] bcast_S1x8192x1x16_S2x8192x8x16_0_1_2_3 (broadcastInDim S1x8192x1x16 ![1, 2, 3] bcast_S8192x1x16_S1x8192x1x16_1_2_3 (shapeCast S8192x1x16 cosR shapeCasts_S8192x16_S8192x1x16)))) (mulf (extractStridedSlice S2x8192x8x16 ![0, 0, 0, 0] (extractStridedSlice S2x8192x8x32 ![0, 0, 0, 0] (shapeCast S2x8192x8x64 (extractStridedSlice S16384x512 ![0, 0] p slices_S16896x512_S16384x512_0_0) shapeCasts_S16384x512_S2x8192x8x64) slices_S2x8192x8x64_S2x8192x8x32_0_0_0_0) slices_S2x8192x8x32_S2x8192x8x16_0_0_0_0) (broadcastInDim S2x8192x8x16 ![0, 1, 2, 3] bcast_S1x8192x1x16_S2x8192x8x16_0_1_2_3 (broadcastInDim S1x8192x1x16 ![1, 2, 3] bcast_S8192x1x16_S1x8192x1x16_1_2_3 (shapeCast S8192x1x16 sinR shapeCasts_S8192x16_S8192x1x16)))))⟩] concatenates_S2x8192x8x16_S2x8192x8x16_S2x8192x8x32_d3)⟩, ⟨S2x8192x8x32, (concatenate S2x8192x8x32 3 [⟨S2x8192x8x16, (subf (mulf (extractStridedSlice S2x8192x8x16 ![0, 0, 0, 0] (extractStridedSlice S2x8192x8x32 ![0, 0, 0, 32] (shapeCast S2x8192x8x64 (extractStridedSlice S16384x512 ![0, 0] p slices_S16896x512_S16384x512_0_0) shapeCasts_S16384x512_S2x8192x8x64) slices_S2x8192x8x64_S2x8192x8x32_0_0_0_32) slices_S2x8192x8x32_S2x8192x8x16_0_0_0_0) (broadcastInDim S2x8192x8x16 ![0, 1, 2, 3] bcast_S1x8192x1x16_S2x8192x8x16_0_1_2_3 (broadcastInDim S1x8192x1x16 ![1, 2, 3] bcast_S8192x1x16_S1x8192x1x16_1_2_3 (shapeCast S8192x1x16 cosC shapeCasts_S8192x16_S8192x1x16)))) (mulf (extractStridedSlice S2x8192x8x16 ![0, 0, 0, 16] (extractStridedSlice S2x8192x8x32 ![0, 0, 0, 32] (shapeCast S2x8192x8x64 (extractStridedSlice S16384x512 ![0, 0] p slices_S16896x512_S16384x512_0_0) shapeCasts_S16384x512_S2x8192x8x64) slices_S2x8192x8x64_S2x8192x8x32_0_0_0_32) slices_S2x8192x8x32_S2x8192x8x16_0_0_0_16) (broadcastInDim S2x8192x8x16 ![0, 1, 2, 3] bcast_S1x8192x1x16_S2x8192x8x16_0_1_2_3 (broadcastInDim S1x8192x1x16 ![1, 2, 3] bcast_S8192x1x16_S1x8192x1x16_1_2_3 (shapeCast S8192x1x16 sinC shapeCasts_S8192x16_S8192x1x16)))))⟩, ⟨S2x8192x8x16, (addf (mulf (extractStridedSlice S2x8192x8x16 ![0, 0, 0, 16] (extractStridedSlice S2x8192x8x32 ![0, 0, 0, 32] (shapeCast S2x8192x8x64 (extractStridedSlice S16384x512 ![0, 0] p slices_S16896x512_S16384x512_0_0) shapeCasts_S16384x512_S2x8192x8x64) slices_S2x8192x8x64_S2x8192x8x32_0_0_0_32) slices_S2x8192x8x32_S2x8192x8x16_0_0_0_16) (broadcastInDim S2x8192x8x16 ![0, 1, 2, 3] bcast_S1x8192x1x16_S2x8192x8x16_0_1_2_3 (broadcastInDim S1x8192x1x16 ![1, 2, 3] bcast_S8192x1x16_S1x8192x1x16_1_2_3 (shapeCast S8192x1x16 cosC shapeCasts_S8192x16_S8192x1x16)))) (mulf (extractStridedSlice S2x8192x8x16 ![0, 0, 0, 0] (extractStridedSlice S2x8192x8x32 ![0, 0, 0, 32] (shapeCast S2x8192x8x64 (extractStridedSlice S16384x512 ![0, 0] p slices_S16896x512_S16384x512_0_0) shapeCasts_S16384x512_S2x8192x8x64) slices_S2x8192x8x64_S2x8192x8x32_0_0_0_32) slices_S2x8192x8x32_S2x8192x8x16_0_0_0_0) (broadcastInDim S2x8192x8x16 ![0, 1, 2, 3] bcast_S1x8192x1x16_S2x8192x8x16_0_1_2_3 (broadcastInDim S1x8192x1x16 ![1, 2, 3] bcast_S8192x1x16_S1x8192x1x16_1_2_3 (shapeCast S8192x1x16 sinC shapeCasts_S8192x16_S8192x1x16)))))⟩] concatenates_S2x8192x8x16_S2x8192x8x16_S2x8192x8x32_d3)⟩] concatenates_S2x8192x8x32_S2x8192x8x32_S2x8192x8x64_d3) shapeCasts_S2x8192x8x64_S16384x512)⟩, ⟨S512x512, (extractStridedSlice S512x512 ![16384, 0] p slices_S16896x512_S512x512_16384_0)⟩] concatenates_S16384x512_S512x512_S16896x512_d0

/-- Latent rows rotated, context rows as they are: 2 heads. -/
def rot128 (p : FVec Ideal S16896x128 .f32) : FVec Ideal S16896x128 .f32 :=
  concatenate S16896x128 0 [⟨S16384x128, (shapeCast S16384x128 (concatenate S2x8192x2x64 3 [⟨S2x8192x2x32, (concatenate S2x8192x2x32 3 [⟨S2x8192x2x16, (subf (mulf (extractStridedSlice S2x8192x2x16 ![0, 0, 0, 0] (extractStridedSlice S2x8192x2x32 ![0, 0, 0, 0] (shapeCast S2x8192x2x64 (extractStridedSlice S16384x128 ![0, 0] p slices_S16896x128_S16384x128_0_0) shapeCasts_S16384x128_S2x8192x2x64) slices_S2x8192x2x64_S2x8192x2x32_0_0_0_0) slices_S2x8192x2x32_S2x8192x2x16_0_0_0_0) (broadcastInDim S2x8192x2x16 ![0, 1, 2, 3] bcast_S1x8192x1x16_S2x8192x2x16_0_1_2_3 (broadcastInDim S1x8192x1x16 ![1, 2, 3] bcast_S8192x1x16_S1x8192x1x16_1_2_3 (shapeCast S8192x1x16 cosR shapeCasts_S8192x16_S8192x1x16)))) (mulf (extractStridedSlice S2x8192x2x16 ![0, 0, 0, 16] (extractStridedSlice S2x8192x2x32 ![0, 0, 0, 0] (shapeCast S2x8192x2x64 (extractStridedSlice S16384x128 ![0, 0] p slices_S16896x128_S16384x128_0_0) shapeCasts_S16384x128_S2x8192x2x64) slices_S2x8192x2x64_S2x8192x2x32_0_0_0_0) slices_S2x8192x2x32_S2x8192x2x16_0_0_0_16) (broadcastInDim S2x8192x2x16 ![0, 1, 2, 3] bcast_S1x8192x1x16_S2x8192x2x16_0_1_2_3 (broadcastInDim S1x8192x1x16 ![1, 2, 3] bcast_S8192x1x16_S1x8192x1x16_1_2_3 (shapeCast S8192x1x16 sinR shapeCasts_S8192x16_S8192x1x16)))))⟩, ⟨S2x8192x2x16, (addf (mulf (extractStridedSlice S2x8192x2x16 ![0, 0, 0, 16] (extractStridedSlice S2x8192x2x32 ![0, 0, 0, 0] (shapeCast S2x8192x2x64 (extractStridedSlice S16384x128 ![0, 0] p slices_S16896x128_S16384x128_0_0) shapeCasts_S16384x128_S2x8192x2x64) slices_S2x8192x2x64_S2x8192x2x32_0_0_0_0) slices_S2x8192x2x32_S2x8192x2x16_0_0_0_16) (broadcastInDim S2x8192x2x16 ![0, 1, 2, 3] bcast_S1x8192x1x16_S2x8192x2x16_0_1_2_3 (broadcastInDim S1x8192x1x16 ![1, 2, 3] bcast_S8192x1x16_S1x8192x1x16_1_2_3 (shapeCast S8192x1x16 cosR shapeCasts_S8192x16_S8192x1x16)))) (mulf (extractStridedSlice S2x8192x2x16 ![0, 0, 0, 0] (extractStridedSlice S2x8192x2x32 ![0, 0, 0, 0] (shapeCast S2x8192x2x64 (extractStridedSlice S16384x128 ![0, 0] p slices_S16896x128_S16384x128_0_0) shapeCasts_S16384x128_S2x8192x2x64) slices_S2x8192x2x64_S2x8192x2x32_0_0_0_0) slices_S2x8192x2x32_S2x8192x2x16_0_0_0_0) (broadcastInDim S2x8192x2x16 ![0, 1, 2, 3] bcast_S1x8192x1x16_S2x8192x2x16_0_1_2_3 (broadcastInDim S1x8192x1x16 ![1, 2, 3] bcast_S8192x1x16_S1x8192x1x16_1_2_3 (shapeCast S8192x1x16 sinR shapeCasts_S8192x16_S8192x1x16)))))⟩] concatenates_S2x8192x2x16_S2x8192x2x16_S2x8192x2x32_d3)⟩, ⟨S2x8192x2x32, (concatenate S2x8192x2x32 3 [⟨S2x8192x2x16, (subf (mulf (extractStridedSlice S2x8192x2x16 ![0, 0, 0, 0] (extractStridedSlice S2x8192x2x32 ![0, 0, 0, 32] (shapeCast S2x8192x2x64 (extractStridedSlice S16384x128 ![0, 0] p slices_S16896x128_S16384x128_0_0) shapeCasts_S16384x128_S2x8192x2x64) slices_S2x8192x2x64_S2x8192x2x32_0_0_0_32) slices_S2x8192x2x32_S2x8192x2x16_0_0_0_0) (broadcastInDim S2x8192x2x16 ![0, 1, 2, 3] bcast_S1x8192x1x16_S2x8192x2x16_0_1_2_3 (broadcastInDim S1x8192x1x16 ![1, 2, 3] bcast_S8192x1x16_S1x8192x1x16_1_2_3 (shapeCast S8192x1x16 cosC shapeCasts_S8192x16_S8192x1x16)))) (mulf (extractStridedSlice S2x8192x2x16 ![0, 0, 0, 16] (extractStridedSlice S2x8192x2x32 ![0, 0, 0, 32] (shapeCast S2x8192x2x64 (extractStridedSlice S16384x128 ![0, 0] p slices_S16896x128_S16384x128_0_0) shapeCasts_S16384x128_S2x8192x2x64) slices_S2x8192x2x64_S2x8192x2x32_0_0_0_32) slices_S2x8192x2x32_S2x8192x2x16_0_0_0_16) (broadcastInDim S2x8192x2x16 ![0, 1, 2, 3] bcast_S1x8192x1x16_S2x8192x2x16_0_1_2_3 (broadcastInDim S1x8192x1x16 ![1, 2, 3] bcast_S8192x1x16_S1x8192x1x16_1_2_3 (shapeCast S8192x1x16 sinC shapeCasts_S8192x16_S8192x1x16)))))⟩, ⟨S2x8192x2x16, (addf (mulf (extractStridedSlice S2x8192x2x16 ![0, 0, 0, 16] (extractStridedSlice S2x8192x2x32 ![0, 0, 0, 32] (shapeCast S2x8192x2x64 (extractStridedSlice S16384x128 ![0, 0] p slices_S16896x128_S16384x128_0_0) shapeCasts_S16384x128_S2x8192x2x64) slices_S2x8192x2x64_S2x8192x2x32_0_0_0_32) slices_S2x8192x2x32_S2x8192x2x16_0_0_0_16) (broadcastInDim S2x8192x2x16 ![0, 1, 2, 3] bcast_S1x8192x1x16_S2x8192x2x16_0_1_2_3 (broadcastInDim S1x8192x1x16 ![1, 2, 3] bcast_S8192x1x16_S1x8192x1x16_1_2_3 (shapeCast S8192x1x16 cosC shapeCasts_S8192x16_S8192x1x16)))) (mulf (extractStridedSlice S2x8192x2x16 ![0, 0, 0, 0] (extractStridedSlice S2x8192x2x32 ![0, 0, 0, 32] (shapeCast S2x8192x2x64 (extractStridedSlice S16384x128 ![0, 0] p slices_S16896x128_S16384x128_0_0) shapeCasts_S16384x128_S2x8192x2x64) slices_S2x8192x2x64_S2x8192x2x32_0_0_0_32) slices_S2x8192x2x32_S2x8192x2x16_0_0_0_0) (broadcastInDim S2x8192x2x16 ![0, 1, 2, 3] bcast_S1x8192x1x16_S2x8192x2x16_0_1_2_3 (broadcastInDim S1x8192x1x16 ![1, 2, 3] bcast_S8192x1x16_S1x8192x1x16_1_2_3 (shapeCast S8192x1x16 sinC shapeCasts_S8192x16_S8192x1x16)))))⟩] concatenates_S2x8192x2x16_S2x8192x2x16_S2x8192x2x32_d3)⟩] concatenates_S2x8192x2x32_S2x8192x2x32_S2x8192x2x64_d3) shapeCasts_S2x8192x2x64_S16384x128)⟩, ⟨S512x128, (extractStridedSlice S512x128 ![16384, 0] p slices_S16896x128_S512x128_16384_0)⟩] concatenates_S16384x128_S512x128_S16896x128_d0

/-- Result 0. -/
def res0 (x : FVec Ideal S2x8192x1024 .f32) (y : FVec Ideal S2x256x1024 .f32) (ml : FVec Ideal S2x6144 .f32) (mc : FVec Ideal S6144 .f32) (w : FVec Ideal S1024x2304 .f32) : FVec Ideal S16896x256 .bf16 :=
  truncf .bf16 (rot256 (extractStridedSlice S16896x256 ![0, 0] (prod x y ml mc w) slices_S16896x2304_S16896x256_0_0)) bitsLt_bf16_f32

/-- Result 1. -/
def res1 (x : FVec Ideal S2x8192x1024 .f32) (y : FVec Ideal S2x256x1024 .f32) (ml : FVec Ideal S2x6144 .f32) (mc : FVec Ideal S6144 .f32) (w : FVec Ideal S1024x2304 .f32) : FVec Ideal S16896x256 .bf16 :=
  truncf .bf16 (mulf (rot256 (extractStridedSlice S16896x256 ![0, 256] (prod x y ml mc w) slices_S16896x2304_S16896x256_0_256)) (broadcastInDim S16896x256 ![] bcast_S_S16896x256 (constant S_ .f32 0x3E000000#32))) bitsLt_bf16_f32

/-- Result 2. -/
def res2 (x : FVec Ideal S2x8192x1024 .f32) (y : FVec Ideal S2x256x1024 .f32) (ml : FVec Ideal S2x6144 .f32) (mc : FVec Ideal S6144 .f32) (w : FVec Ideal S1024x2304 .f32) : FVec Ideal S16896x256 .bf16 :=
  truncf .bf16 (extractStridedSlice S16896x256 ![0, 512] (prod x y ml mc w) slices_S16896x2304_S16896x256_0_512) bitsLt_bf16_f32

/-- Result 3. -/
def res3 (x : FVec Ideal S2x8192x1024 .f32) (y : FVec Ideal S2x256x1024 .f32) (ml : FVec Ideal S2x6144 .f32) (mc : FVec Ideal S6144 .f32) (w : FVec Ideal S1024x2304 .f32) : FVec Ideal S16896x256 .f32 :=
  extractStridedSlice S16896x256 ![0, 768] (prod x y ml mc w) slices_S16896x2304_S16896x256_0_768

/-- Result 4. -/
def res4 (x : FVec Ideal S2x8192x1024 .f32) (y : FVec Ideal S2x256x1024 .f32) (ml : FVec Ideal S2x6144 .f32) (mc : FVec Ideal S6144 .f32) (w : FVec Ideal S1024x2304 .f32) : FVec Ideal S16896x256 .f32 :=
  extractStridedSlice S16896x256 ![0, 1024] (prod x y ml mc w) slices_S16896x2304_S16896x256_0_1024

/-- Result 5. -/
def res5 (x : FVec Ideal S2x8192x1024 .f32) (y : FVec Ideal S2x256x1024 .f32) (ml : FVec Ideal S2x6144 .f32) (mc : FVec Ideal S6144 .f32) (w : FVec Ideal S1024x2304 .f32) : FVec Ideal S16896x256 .f32 :=
  extractStridedSlice S16896x256 ![0, 1280] (prod x y ml mc w) slices_S16896x2304_S16896x256_0_1280

/-- Result 6. -/
def res6 (x : FVec Ideal S2x8192x1024 .f32) (y : FVec Ideal S2x256x1024 .f32) (ml : FVec Ideal S2x6144 .f32) (mc : FVec Ideal S6144 .f32) (w : FVec Ideal S1024x2304 .f32) : FVec Ideal S16896x512 .bf16 :=
  truncf .bf16 (shapeCast S16896x512 (transpose S16896x4x2x64 [0, 2, 1, 3] (shapeCast S16896x2x4x64 (mulf (rot512 (extractStridedSlice S16896x512 ![0, 1536] (prod x y ml mc w) slices_S16896x2304_S16896x512_0_1536)) (broadcastInDim S16896x512 ![] bcast_S_S16896x512 (constant S_ .f32 0x3E000000#32))) shapeCasts_S16896x512_S16896x2x4x64) transposes_S16896x2x4x64_S16896x4x2x64_0_2_1_3) shapeCasts_S16896x4x2x64_S16896x512) bitsLt_bf16_f32

/-- Result 7. -/
def res7 (x : FVec Ideal S2x8192x1024 .f32) (y : FVec Ideal S2x256x1024 .f32) (ml : FVec Ideal S2x6144 .f32) (mc : FVec Ideal S6144 .f32) (w : FVec Ideal S1024x2304 .f32) : FVec Ideal S16896x128 .bf16 :=
  truncf .bf16 (rot128 (extractStridedSlice S16896x128 ![0, 2048] (prod x y ml mc w) slices_S16896x2304_S16896x128_0_2048)) bitsLt_bf16_f32

/-- Result 8. -/
def res8 (x : FVec Ideal S2x8192x1024 .f32) (y : FVec Ideal S2x256x1024 .f32) (ml : FVec Ideal S2x6144 .f32) (mc : FVec Ideal S6144 .f32) (w : FVec Ideal S1024x2304 .f32) : FVec Ideal S16896x128 .bf16 :=
  truncf .bf16 (extractStridedSlice S16896x128 ![0, 2176] (prod x y ml mc w) slices_S16896x2304_S16896x128_0_2176) bitsLt_bf16_f32

end Proj.Ref
end
-- ==== Proof.ProjRefRead.lean ====
/- The reference's results, entry by entry. -/
module

public import proofs.«01_k».proof.Proof.ProjRef
public import proofs.«01_k».proof.Proof.ProjSpec

@[expose] public section

set_option maxRecDepth 16384
set_option maxHeartbeats 4000000

noncomputable section

namespace Proj.Ref
open Idealize.ShloMosaic Idealize.ShloMosaic.TcCoe Idealize.SL.Sem
open Cert.Reference2Ideal Cert.Reference2Ideal.Gen

theorem angR_at (R : Fin 8192) (C : Fin 16) (c : ℕ) (h : c % 64 < 32) (hc : c % 16 = C) : angR (ix2 R C) = ang R c := by
  unfold angR ang
  rw [if_pos h, hc]
  pointwise

theorem angC_at (R : Fin 8192) (C : Fin 16) (c : ℕ) (h : ¬ c % 64 < 32) (hc : c % 16 = C) : angC (ix2 R C) = ang R c := by
  unfold angC ang
  rw [if_neg h, hc]
  pointwise

theorem cosR_at (R : Fin 8192) (C : Fin 16) (c : ℕ) (h : c % 64 < 32) (hc : c % 16 = C) : cosR (ix2 R C) = Ideal.cos (ang R c) :=
  congrArg Ideal.cos (angR_at R C c h hc)
theorem sinR_at (R : Fin 8192) (C : Fin 16) (c : ℕ) (h : c % 64 < 32) (hc : c % 16 = C) : sinR (ix2 R C) = Ideal.sin (ang R c) :=
  congrArg Ideal.sin (angR_at R C c h hc)
theorem cosC_at (R : Fin 8192) (C : Fin 16) (c : ℕ) (h : ¬ c % 64 < 32) (hc : c % 16 = C) : cosC (ix2 R C) = Ideal.cos (ang R c) :=
  congrArg Ideal.cos (angC_at R C c h hc)
theorem sinC_at (R : Fin 8192) (C : Fin 16) (c : ℕ) (h : ¬ c % 64 < 32) (hc : c % 16 = C) : sinC (ix2 R C) = Ideal.sin (ang R c) :=
  congrArg Ideal.sin (angC_at R C c h hc)

variable (x : FVec Ideal S2x8192x1024 .f32) (y : FVec Ideal S2x256x1024 .f32) (ml : FVec Ideal S2x6144 .f32) (mc : FVec Ideal S6144 .f32) (w : FVec Ideal S1024x2304 .f32)

theorem lat_at (R : Fin 16384) (k : Fin 1024) : latH x ml (ix2 R k) = H x y ml mc ⟨R.val, by omega⟩ k := by
  have e1 : row x y ⟨R.val, by omega⟩ = fun k => x (ix3 ⟨R.val / 8192, by omega⟩ ⟨R.val % 8192, by omega⟩ k) :=
    funext fun k => dif_pos R.isLt
  have e2 : mrow ml mc ⟨R.val, by omega⟩ = fun j => ml (ix2 ⟨R.val / 8192, by omega⟩ j) :=
    funext fun k => dif_pos R.isLt
  unfold H hrow mu
  rw [e1, e2]
  unfold latH
  pointwise

theorem ctx_at (R : Fin 512) (k : Fin 1024) : ctxH y mc (ix2 R k) = H x y ml mc ⟨16384 + R.val, by omega⟩ k := by
  have e1 : row x y ⟨16384 + R.val, by omega⟩ = fun k => y (ix3 ⟨R.val / 256, by omega⟩ ⟨R.val % 256, by omega⟩ k) := by
    funext k
    refine (dif_neg (by simp)).trans ?_
    simp only [Nat.add_sub_cancel_left]
  have e2 : mrow ml mc ⟨16384 + R.val, by omega⟩ = fun j => mc (ix1 j) :=
    funext fun k => dif_neg (by simp)
  unfold H hrow mu
  rw [e1, e2]
  unfold ctxH
  pointwise

theorem prod_at (R : Fin 16896) (C : Fin 2304) : prod x y ml mc w (ix2 R C) = P x y ml mc w R C := by
  unfold prod P
  pointwise
  refine Finset.sum_congr rfl fun k _ => congrArg (· * w (ix2 k C)) ?_
  split
  · exact lat_at x y ml mc _ _
  · exact (ctx_at x y ml mc ⟨R.val - 16384, by omega⟩ k).trans (congrArg (fun r => H x y ml mc r k) (Fin.ext (by dsimp only; omega)))

end Proj.Ref
end
-- ==== Proof.ProjRefRot.lean ====
/- The reference's results, the rotations. -/
module

public import proofs.«01_k».proof.Proof.ProjRefRead
public import proofs.«01_k».proof.Proof.ProjSpec

@[expose] public section

set_option maxRecDepth 16384
set_option maxHeartbeats 4000000

noncomputable section

namespace Proj.Ref
open Idealize.ShloMosaic Idealize.ShloMosaic.TcCoe Idealize.SL.Sem
open Cert.Reference2Ideal Cert.Reference2Ideal.Gen

/-- The four cases of a column's place in its head are one rotation. -/
theorem pickRot (n : ℕ) (hn : n % 64 = 0) (o : ℕ) (ho : o % 64 = 0) (hw : o + n ≤ 2304)
    (p : Fin 16896 → Fin n → EReal) (PP : Fin 16896 → Fin 2304 → EReal) (hp : ∀ R (C : Fin n), p R C = PP R ⟨o + C.val, by omega⟩)
    (cR sR cC sC : Fin 8192 → Fin 16 → EReal) (co si : ℕ → ℕ → EReal)
    (hcR : ∀ (R : Fin 8192) (C : Fin 16) (c : ℕ), c % 64 < 32 → c % 16 = C → cR R C = co R c)
    (hsR : ∀ (R : Fin 8192) (C : Fin 16) (c : ℕ), c % 64 < 32 → c % 16 = C → sR R C = si R c)
    (hcC : ∀ (R : Fin 8192) (C : Fin 16) (c : ℕ), ¬ c % 64 < 32 → c % 16 = C → cC R C = co R c)
    (hsC : ∀ (R : Fin 8192) (C : Fin 16) (c : ℕ), ¬ c % 64 < 32 → c % 16 = C → sC R C = si R c)
    (R C : ℕ) (hR : R < 16896) (hC : C < n) :
    (if h : R < 16384 then
      if h_1 : C % 64 < 32 then
        if h_2 : C % 64 < 16 then
          p ⟨R / 8192 * 8192 + R % 8192, by omega⟩ ⟨C, hC⟩ * cR ⟨R % 8192, by omega⟩ ⟨C % 64, h_2⟩ -
            p ⟨R / 8192 * 8192 + R % 8192, by omega⟩ ⟨C / 64 * 64 + (16 + C % 64), by omega⟩ * sR ⟨R % 8192, by omega⟩ ⟨C % 64, h_2⟩
        else
          p ⟨R / 8192 * 8192 + R % 8192, by omega⟩ ⟨C / 64 * 64 + (16 + (C % 64 - 16)), by omega⟩ * cR ⟨R % 8192, by omega⟩ ⟨C % 64 - 16, by omega⟩ +
            p ⟨R / 8192 * 8192 + R % 8192, by omega⟩ ⟨C / 64 * 64 + (C % 64 - 16), by omega⟩ * sR ⟨R % 8192, by omega⟩ ⟨C % 64 - 16, by omega⟩
      else
        if h_2 : C % 64 - 32 < 16 then
          p ⟨R / 8192 * 8192 + R % 8192, by omega⟩ ⟨C / 64 * 64 + (32 + (C % 64 - 32)), by omega⟩ * cC ⟨R % 8192, by omega⟩ ⟨C % 64 - 32, h_2⟩ -
            p ⟨R / 8192 * 8192 + R % 8192, by omega⟩ ⟨C / 64 * 64 + (32 + (16 + (C % 64 - 32))), by omega⟩ * sC ⟨R % 8192, by omega⟩ ⟨C % 64 - 32, h_2⟩
        else
          p ⟨R / 8192 * 8192 + R % 8192, by omega⟩ ⟨C / 64 * 64 + (32 + (16 + (C % 64 - 32 - 16))), by omega⟩ * cC ⟨R % 8192, by omega⟩ ⟨C % 64 - 32 - 16, by omega⟩ +
            p ⟨R / 8192 * 8192 + R % 8192, by omega⟩ ⟨C / 64 * 64 + (32 + (C % 64 - 32 - 16)), by omega⟩ * sC ⟨R % 8192, by omega⟩ ⟨C % 64 - 32 - 16, by omega⟩
    else p ⟨16384 + (R - 16384), by omega⟩ ⟨C, hC⟩)
    = if R < 16384 then
        if (o + C) % 32 < 16 then PP ⟨R, hR⟩ ⟨o + C, by omega⟩ * co (R % 8192) (o + C) - PP ⟨R, hR⟩ (part ⟨o + C, by omega⟩) * si (R % 8192) (o + C)
        else PP ⟨R, hR⟩ ⟨o + C, by omega⟩ * co (R % 8192) (o + C) + PP ⟨R, hR⟩ (part ⟨o + C, by omega⟩) * si (R % 8192) (o + C)
      else PP ⟨R, hR⟩ ⟨o + C, by omega⟩ := by
  have key : ∀ (r r' : ℕ) (h h') (c c' : ℕ) (k : c < n) (k' : c' < 2304), r = r' → o + c = c' → p ⟨r, h⟩ ⟨c, k⟩ = PP ⟨r', h'⟩ ⟨c', k'⟩ := by
    rintro r r' h h' c c' k k' rfl rfl; exact hp _ _
  by_cases h : R < 16384
  · rw [dif_pos h, if_pos h]
    split
    · split
      · rw [if_pos (by omega)]
        refine congrArg₂ (· - ·) (congrArg₂ (· * ·) (key _ _ _ _ _ _ _ _ ?_ ?_) (hcR _ _ (o + C) ?_ ?_)) (congrArg₂ (· * ·) (key _ _ _ _ _ _ _ _ ?_ ?_) (hsR _ _ (o + C) ?_ ?_)) <;> (try dsimp only [part]) <;> (try split) <;> omega
      · rw [if_neg (by omega)]
        refine congrArg₂ (· + ·) (congrArg₂ (· * ·) (key _ _ _ _ _ _ _ _ ?_ ?_) (hcR _ _ (o + C) ?_ ?_)) (congrArg₂ (· * ·) (key _ _ _ _ _ _ _ _ ?_ ?_) (hsR _ _ (o + C) ?_ ?_)) <;> (try dsimp only [part]) <;> (try split) <;> omega
    · split
      · rw [if_pos (by omega)]
        refine congrArg₂ (· - ·) (congrArg₂ (· * ·) (key _ _ _ _ _ _ _ _ ?_ ?_) (hcC _ _ (o + C) ?_ ?_)) (congrArg₂ (· * ·) (key _ _ _ _ _ _ _ _ ?_ ?_) (hsC _ _ (o + C) ?_ ?_)) <;> (try dsimp only [part]) <;> (try split) <;> omega
      · rw [if_neg (by omega)]
        refine congrArg₂ (· + ·) (congrArg₂ (· * ·) (key _ _ _ _ _ _ _ _ ?_ ?_) (hcC _ _ (o + C) ?_ ?_)) (congrArg₂ (· * ·) (key _ _ _ _ _ _ _ _ ?_ ?_) (hsC _ _ (o + C) ?_ ?_)) <;> (try dsimp only [part]) <;> (try split) <;> omega
  · rw [dif_neg h, if_neg h]
    exact key _ _ _ _ _ _ _ _ (by omega) rfl

variable (x : FVec Ideal S2x8192x1024 .f32) (y : FVec Ideal S2x256x1024 .f32) (ml : FVec Ideal S2x6144 .f32) (mc : FVec Ideal S6144 .f32) (w : FVec Ideal S1024x2304 .f32)

/-- The rotation of columns that start at `o`, a multiple of a head's width. -/
theorem rot256_at (p : FVec Ideal S16896x256 .f32) (o : ℕ) (ho : o % 64 = 0) (hn : o + 256 ≤ 2304)
    (hp : ∀ R (C : Fin 256), p (ix2 R C) = P x y ml mc w R ⟨o + C.val, by omega⟩) (R : Fin 16896) (C : Fin 256) :
    rot256 p (ix2 R C) = Q x y ml mc w R ⟨o + C.val, by omega⟩ := by
  have key := pickRot 256 (by norm_num) o ho hn (fun R C => p (ix2 R C)) (P x y ml mc w) hp (fun t d => cosR (ix2 t d)) (fun t d => sinR (ix2 t d))
    (fun t d => cosC (ix2 t d)) (fun t d => sinC (ix2 t d)) (fun t c => Ideal.cos (ang t c)) (fun t c => Ideal.sin (ang t c)) cosR_at sinR_at cosC_at sinC_at
    R.val C.val R.isLt C.isLt
  refine Eq.trans ?_ (key.trans (by unfold Q; rfl))
  clear key
  unfold rot256
  pointwise

/-- The rotation of columns that start at `o`, a multiple of a head's width. -/
theorem rot512_at (p : FVec Ideal S16896x512 .f32) (o : ℕ) (ho : o % 64 = 0) (hn : o + 512 ≤ 2304)
    (hp : ∀ R (C : Fin 512), p (ix2 R C) = P x y ml mc w R ⟨o + C.val, by omega⟩) (R : Fin 16896) (C : Fin 512) :
    rot512 p (ix2 R C) = Q x y ml mc w R ⟨o + C.val, by omega⟩ := by
  have key := pickRot 512 (by norm_num) o ho hn (fun R C => p (ix2 R C)) (P x y ml mc w) hp (fun t d => cosR (ix2 t d)) (fun t d => sinR (ix2 t d))
    (fun t d => cosC (ix2 t d)) (fun t d => sinC (ix2 t d)) (fun t c => Ideal.cos (ang t c)) (fun t c => Ideal.sin (ang t c)) cosR_at sinR_at cosC_at sinC_at
    R.val C.val R.isLt C.isLt
  refine Eq.trans ?_ (key.trans (by unfold Q; rfl))
  clear key
  unfold rot512
  pointwise

/-- The rotation of columns that start at `o`, a multiple of a head's width. -/
theorem rot128_at (p : FVec Ideal S16896x128 .f32) (o : ℕ) (ho : o % 64 = 0) (hn : o + 128 ≤ 2304)
    (hp : ∀ R (C : Fin 128), p (ix2 R C) = P x y ml mc w R ⟨o + C.val, by omega⟩) (R : Fin 16896) (C : Fin 128) :
    rot128 p (ix2 R C) = Q x y ml mc w R ⟨o + C.val, by omega⟩ := by
  have key := pickRot 128 (by norm_num) o ho hn (fun R C => p (ix2 R C)) (P x y ml mc w) hp (fun t d => cosR (ix2 t d)) (fun t d => sinR (ix2 t d))
    (fun t d => cosC (ix2 t d)) (fun t d => sinC (ix2 t d)) (fun t c => Ideal.cos (ang t c)) (fun t c => Ideal.sin (ang t c)) cosR_at sinR_at cosC_at sinC_at
    R.val C.val R.isLt C.isLt
  refine Eq.trans ?_ (key.trans (by unfold Q; rfl))
  clear key
  unfold rot128
  pointwise

end Proj.Ref
end
-- ==== Proof.ProjRefRes.lean ====
/- The reference's results, entry by entry. -/
module

public import proofs.«01_k».proof.Proof.ProjRefRot
public import proofs.«01_k».proof.Proof.ProjSpec

@[expose] public section

set_option maxRecDepth 16384
set_option maxHeartbeats 4000000

noncomputable section

namespace Proj.Ref
open Idealize.ShloMosaic Idealize.ShloMosaic.TcCoe Idealize.SL.Sem
open Cert.Reference2Ideal Cert.Reference2Ideal.Gen

variable (x : FVec Ideal S2x8192x1024 .f32) (y : FVec Ideal S2x256x1024 .f32) (ml : FVec Ideal S2x6144 .f32) (mc : FVec Ideal S6144 .f32) (w : FVec Ideal S1024x2304 .f32)

theorem res0_at (R : Fin 16896) (C : Fin 256) : res0 x y ml mc w (ix2 R C) = Q x y ml mc w R ⟨0 + C.val, by omega⟩ := by
  have e := rot256_at x y ml mc w (extractStridedSlice S16896x256 ![0, 0] (prod x y ml mc w) slices_S16896x2304_S16896x256_0_0) 0 (by norm_num) (by norm_num)
    (fun R C => by
      refine Eq.trans ?_ (prod_at x y ml mc w R ⟨0 + C.val, by omega⟩)
      pointwise) R C
  rw [← e]
  unfold res0
  pointwise

theorem res1_at (R : Fin 16896) (C : Fin 256) : res1 x y ml mc w (ix2 R C) = Q x y ml mc w R ⟨256 + C.val, by omega⟩ * Ideal.ofBits FTy.f32 1040187392#32 := by
  have e := rot256_at x y ml mc w (extractStridedSlice S16896x256 ![0, 256] (prod x y ml mc w) slices_S16896x2304_S16896x256_0_256) 256 (by norm_num) (by norm_num)
    (fun R C => by
      refine Eq.trans ?_ (prod_at x y ml mc w R ⟨256 + C.val, by omega⟩)
      pointwise) R C
  rw [← e]
  unfold res1
  pointwise

theorem res2_at (R : Fin 16896) (C : Fin 256) : res2 x y ml mc w (ix2 R C) = P x y ml mc w R ⟨512 + C.val, by omega⟩ := by
  refine Eq.trans ?_ (prod_at x y ml mc w R ⟨512 + C.val, by omega⟩)
  unfold res2
  pointwise

theorem res3_at (R : Fin 16896) (C : Fin 256) : res3 x y ml mc w (ix2 R C) = P x y ml mc w R ⟨768 + C.val, by omega⟩ := by
  refine Eq.trans ?_ (prod_at x y ml mc w R ⟨768 + C.val, by omega⟩)
  unfold res3
  pointwise

theorem res4_at (R : Fin 16896) (C : Fin 256) : res4 x y ml mc w (ix2 R C) = P x y ml mc w R ⟨1024 + C.val, by omega⟩ := by
  refine Eq.trans ?_ (prod_at x y ml mc w R ⟨1024 + C.val, by omega⟩)
  unfold res4
  pointwise

theorem res5_at (R : Fin 16896) (C : Fin 256) : res5 x y ml mc w (ix2 R C) = P x y ml mc w R ⟨1280 + C.val, by omega⟩ := by
  refine Eq.trans ?_ (prod_at x y ml mc w R ⟨1280 + C.val, by omega⟩)
  unfold res5
  pointwise

theorem res6_at (R : Fin 16896) (C : Fin 512) : res6 x y ml mc w (ix2 R C) = Q x y ml mc w R ⟨1536 + slab C.val, by unfold slab; omega⟩ * Ideal.ofBits FTy.f32 1040187392#32 := by
  have e := rot512_at x y ml mc w (extractStridedSlice S16896x512 ![0, 1536] (prod x y ml mc w) slices_S16896x2304_S16896x512_0_1536) 1536 (by norm_num) (by norm_num)
    (fun R C => by
      refine Eq.trans ?_ (prod_at x y ml mc w R ⟨1536 + C.val, by omega⟩)
      pointwise) R ⟨slab C.val, by unfold slab; omega⟩
  rw [← e]
  unfold res6 slab
  pointwise

theorem res7_at (R : Fin 16896) (C : Fin 128) : res7 x y ml mc w (ix2 R C) = Q x y ml mc w R ⟨2048 + C.val, by omega⟩ := by
  have e := rot128_at x y ml mc w (extractStridedSlice S16896x128 ![0, 2048] (prod x y ml mc w) slices_S16896x2304_S16896x128_0_2048) 2048 (by norm_num) (by norm_num)
    (fun R C => by
      refine Eq.trans ?_ (prod_at x y ml mc w R ⟨2048 + C.val, by omega⟩)
      pointwise) R C
  rw [← e]
  unfold res7
  pointwise

theorem res8_at (R : Fin 16896) (C : Fin 128) : res8 x y ml mc w (ix2 R C) = P x y ml mc w R ⟨2176 + C.val, by omega⟩ := by
  refine Eq.trans ?_ (prod_at x y ml mc w R ⟨2176 + C.val, by omega⟩)
  unfold res8
  pointwise

end Proj.Ref
end
-- ==== Proof.ProjPoint.lean ====
/- A grid point's stores are the reference's results. -/
module

public import proofs.«01_k».proof.Proof.ProjBlocks
public import proofs.«01_k».proof.Proof.ProjPay
public import proofs.«01_k».proof.Proof.ProjRefRes

@[expose] public section

set_option maxRecDepth 16384

noncomputable section

namespace Proj
open Idealize.ShloMosaic Idealize.ShloMosaic.TcCoe Idealize.SL.Sem
open Cert.Kernel2Ideal Cert.Kernel2Ideal.Gen

variable (m : (ℓ : Loc nD τ sig) → Buf (Elt Ideal) ℓ) (c : Dev nD) (t : Fin cfg0.N)

/-- The latent tokens' modulations and the weights are finite. -/
abbrev OkM : Prop := Ok (a2 m c) (a4 m c)

/-- The row of the whole array at a row of a point's block. -/
abbrev at' (i : Fin 512) : Fin 16896 := ⟨t.val * 512 + i.val, by have := t_lt t; omega⟩

/-- The modulated rows of a point. -/
abbrev hb (A B : FVec Ideal S1x1024 .f32) : FVec Ideal S512x1024 .bf16 :=
  k0_pay4 (F := Ideal) (k0_pay1 A) (k0_pay2 B) (k0_pay3 (iblk m c 0 t))

/-- The two loads of modulation rows. -/
structure Mod (A B : FVec Ideal S1x1024 .f32) : Prop where
  A : ∀ x, A x = (iblk m c 1 t : FVec Ideal S8x6144 .f32) ((Rect.unit (s := S8x6144) (k0_off1 (grid0.coords t)) ![1, 1024] (k0_off1_inb (grid0.coords t))).idx x)
  B : ∀ x, B x = (iblk m c 1 t : FVec Ideal S8x6144 .f32) ((Rect.unit (s := S8x6144) (k0_off2 (grid0.coords t)) ![1, 1024] (k0_off2_inb (grid0.coords t))).idx x)

theorem hb_at (A B : FVec Ideal S1x1024 .f32) (hm : Mod m c t A B) (i : Fin 512) (k : Fin 1024) :
    hb m c t A B (ix2 i k) = H (a0 m c) (a1 m c) (a2 m c) (a3 m c) (at' t i) k := by
  refine (pay4_at A B (iblk m c 0 t) i k).trans ?_
  unfold H
  have e0 : (fun k => (iblk m c 0 t : FVec Ideal S512x1024 .f32) (ix2 i k)) = row (a0 m c) (a1 m c) (at' t i) := funext fun k => blk0 m c t i k
  have e1 : (fun k => B (ix2 0 k)) = fun k : Fin 1024 => mrow (a2 m c) (a3 m c) (at' t i) ⟨1024 + k.val, by omega⟩ :=
    funext fun k => modrow m c t _ 1024 (by norm_num) (off_row t).2 _ B hm.B i k
  have e2 : (fun k => A (ix2 0 k)) = fun k : Fin 1024 => mrow (a2 m c) (a3 m c) (at' t i) ⟨k.val, by omega⟩ :=
    funext fun k => (modrow m c t _ 0 (by norm_num) (off_row t).1 _ A hm.A i k).trans
      (congrArg (mrow (a2 m c) (a3 m c) (at' t i)) (Fin.ext (Nat.zero_add _)))
  exact congrFun (congr (congr (congrArg hrow e0) e1) e2) k

/-- A plain product. -/
theorem plain (A B : FVec Ideal S1x1024 .f32) (hm : Mod m c t A B) (i : Fin 512) (C : Fin 2304) (W : Fin 1024 → EReal)
    (hw : ∀ k, W k = a4 m c (ix2 k C)) :
    (∑ k : Fin 1024, HMul.hMul (α := EReal) (β := EReal) (γ := EReal) (hb m c t A B (ix2 i k)) (W k))
      = P (a0 m c) (a1 m c) (a2 m c) (a3 m c) (a4 m c) (at' t i) C := by
  unfold P
  exact Finset.sum_congr rfl fun k _ => congrArg₂ (HMul.hMul (α := EReal) (β := EReal) (γ := EReal)) (hb_at m c t A B hm i k) (hw k)

/-- A rotated product. -/
theorem rot (ok : OkM m c) (A B : FVec Ideal S1x1024 .f32) (hm : Mod m c t A B) (i : Fin 512) (l : Fin 256) (C : Fin 2304) (hl : l.val % 64 = C.val % 64) (W W' : Fin 1024 → EReal)
    (hw : ∀ k, W k = a4 m c (ix2 k C)) (hw' : ∀ k, W' k = a4 m c (ix2 k (part C)) * sgn C) :
    HAdd.hAdd (α := EReal) (β := EReal) (γ := EReal)
      (HMul.hMul (α := EReal) (β := EReal) (γ := EReal) (∑ k : Fin 1024, HMul.hMul (α := EReal) (β := EReal) (γ := EReal) (hb m c t A B (ix2 i k)) (W k))
        ((iblk m c 3 t : FVec Ideal S512x256 .f32) (ix2 i l)))
      (HMul.hMul (α := EReal) (β := EReal) (γ := EReal) (∑ k : Fin 1024, HMul.hMul (α := EReal) (β := EReal) (γ := EReal) (hb m c t A B (ix2 i k)) (W' k))
        ((iblk m c 4 t : FVec Ideal S512x256 .f32) (ix2 i l)))
      = Q (a0 m c) (a1 m c) (a2 m c) (a3 m c) (a4 m c) (at' t i) C := by
  refine Eq.trans ?_ (rotate (a0 m c) (a1 m c) (a2 m c) (a3 m c) (a4 m c) ok (at' t i) C)
  refine congrArg₂ (HAdd.hAdd (α := EReal) (β := EReal) (γ := EReal))
    (congrArg₂ (HMul.hMul (α := EReal) (β := EReal) (γ := EReal)) ?_ (blk3 m c t i l C hl))
    (congrArg₂ (HMul.hMul (α := EReal) (β := EReal) (γ := EReal)) ?_ (blk4 m c t i l C hl))
  · exact Finset.sum_congr rfl fun k _ => congrArg₂ (HMul.hMul (α := EReal) (β := EReal) (γ := EReal)) (hb_at m c t A B hm i k) (hw k)
  · exact Finset.sum_congr rfl fun k _ => congrArg₂ (HMul.hMul (α := EReal) (β := EReal) (γ := EReal)) (hb_at m c t A B hm i k) (hw' k)

theorem store2 (A B : FVec Ideal S1x1024 .f32) (hm : Mod m c t A B) (W : FVec Ideal S1024x256 .bf16)
    (eW : ∀ x, W x = (iblk m c 2 t : FVec Ideal S1024x3456 .bf16) ((Rect.unit (s := S1024x3456) ![0, 512] ![1024, 256] inb_S1024x3456_S1024x256_0_512).idx x)) (i : Fin 512) (l : Fin 256) :
    k0_pay9 (F := Ideal) (k0_pay4 (k0_pay1 A) (k0_pay2 B) (k0_pay3 (iblk m c 0 t))) W (ix2 i l) = Ref.res2 (a0 m c) (a1 m c) (a2 m c) (a3 m c) (a4 m c) (ix2 (at' t i) l) := by
  refine (pay9_at _ W i l).trans (Eq.trans ?_ (Ref.res2_at (a0 m c) (a1 m c) (a2 m c) (a3 m c) (a4 m c) (at' t i) l).symm)
  refine plain m c t A B hm i ⟨512 + l.val, by omega⟩ (fun k => W (ix2 k l)) fun k => ?_
  exact (slabW m c t 512 256 (by norm_num) inb_S1024x3456_S1024x256_0_512 W eW k l).trans (W1 m c k ⟨512 + l.val, by omega⟩ (by dsimp only; omega))

theorem store3 (A B : FVec Ideal S1x1024 .f32) (hm : Mod m c t A B) (W : FVec Ideal S1024x256 .bf16)
    (eW : ∀ x, W x = (iblk m c 2 t : FVec Ideal S1024x3456 .bf16) ((Rect.unit (s := S1024x3456) ![0, 768] ![1024, 256] inb_S1024x3456_S1024x256_0_768).idx x)) (i : Fin 512) (l : Fin 256) :
    k0_pay10 (F := Ideal) (k0_pay4 (k0_pay1 A) (k0_pay2 B) (k0_pay3 (iblk m c 0 t))) W (ix2 i l) = Ref.res3 (a0 m c) (a1 m c) (a2 m c) (a3 m c) (a4 m c) (ix2 (at' t i) l) := by
  refine (pay10_at _ W i l).trans (Eq.trans ?_ (Ref.res3_at (a0 m c) (a1 m c) (a2 m c) (a3 m c) (a4 m c) (at' t i) l).symm)
  refine plain m c t A B hm i ⟨768 + l.val, by omega⟩ (fun k => W (ix2 k l)) fun k => ?_
  exact (slabW m c t 768 256 (by norm_num) inb_S1024x3456_S1024x256_0_768 W eW k l).trans (W1 m c k ⟨768 + l.val, by omega⟩ (by dsimp only; omega))

theorem store4 (A B : FVec Ideal S1x1024 .f32) (hm : Mod m c t A B) (W : FVec Ideal S1024x256 .bf16)
    (eW : ∀ x, W x = (iblk m c 2 t : FVec Ideal S1024x3456 .bf16) ((Rect.unit (s := S1024x3456) ![0, 1024] ![1024, 256] inb_S1024x3456_S1024x256_0_1024).idx x)) (i : Fin 512) (l : Fin 256) :
    k0_pay11 (F := Ideal) (k0_pay4 (k0_pay1 A) (k0_pay2 B) (k0_pay3 (iblk m c 0 t))) W (ix2 i l) = Ref.res4 (a0 m c) (a1 m c) (a2 m c) (a3 m c) (a4 m c) (ix2 (at' t i) l) := by
  refine (pay11_at _ W i l).trans (Eq.trans ?_ (Ref.res4_at (a0 m c) (a1 m c) (a2 m c) (a3 m c) (a4 m c) (at' t i) l).symm)
  refine plain m c t A B hm i ⟨1024 + l.val, by omega⟩ (fun k => W (ix2 k l)) fun k => ?_
  exact (slabW m c t 1024 256 (by norm_num) inb_S1024x3456_S1024x256_0_1024 W eW k l).trans (W1 m c k ⟨1024 + l.val, by omega⟩ (by dsimp only; omega))

theorem store5 (A B : FVec Ideal S1x1024 .f32) (hm : Mod m c t A B) (W : FVec Ideal S1024x256 .bf16)
    (eW : ∀ x, W x = (iblk m c 2 t : FVec Ideal S1024x3456 .bf16) ((Rect.unit (s := S1024x3456) ![0, 1280] ![1024, 256] inb_S1024x3456_S1024x256_0_1280).idx x)) (i : Fin 512) (l : Fin 256) :
    k0_pay12 (F := Ideal) (k0_pay4 (k0_pay1 A) (k0_pay2 B) (k0_pay3 (iblk m c 0 t))) W (ix2 i l) = Ref.res5 (a0 m c) (a1 m c) (a2 m c) (a3 m c) (a4 m c) (ix2 (at' t i) l) := by
  refine (pay12_at _ W i l).trans (Eq.trans ?_ (Ref.res5_at (a0 m c) (a1 m c) (a2 m c) (a3 m c) (a4 m c) (at' t i) l).symm)
  refine plain m c t A B hm i ⟨1280 + l.val, by omega⟩ (fun k => W (ix2 k l)) fun k => ?_
  exact (slabW m c t 1280 256 (by norm_num) inb_S1024x3456_S1024x256_0_1280 W eW k l).trans (W1 m c k ⟨1280 + l.val, by omega⟩ (by dsimp only; omega))

theorem store8 (A B : FVec Ideal S1x1024 .f32) (hm : Mod m c t A B) (W : FVec Ideal S1024x128 .bf16)
    (eW : ∀ x, W x = (iblk m c 2 t : FVec Ideal S1024x3456 .bf16) ((Rect.unit (s := S1024x3456) ![0, 2176] ![1024, 128] inb_S1024x3456_S1024x128_0_2176).idx x)) (i : Fin 512) (l : Fin 128) :
    k0_pay16 (F := Ideal) (k0_pay4 (k0_pay1 A) (k0_pay2 B) (k0_pay3 (iblk m c 0 t))) W (ix2 i l) = Ref.res8 (a0 m c) (a1 m c) (a2 m c) (a3 m c) (a4 m c) (ix2 (at' t i) l) := by
  refine (pay16_at _ W i l).trans (Eq.trans ?_ (Ref.res8_at (a0 m c) (a1 m c) (a2 m c) (a3 m c) (a4 m c) (at' t i) l).symm)
  refine plain m c t A B hm i ⟨2176 + l.val, by omega⟩ (fun k => W (ix2 k l)) fun k => ?_
  exact (slabW m c t 2176 128 (by norm_num) inb_S1024x3456_S1024x128_0_2176 W eW k l).trans (W3 m c k ⟨2176 + l.val, by omega⟩ (by dsimp only; omega))

theorem store0 (ok : OkM m c) (A B : FVec Ideal S1x1024 .f32) (hm : Mod m c t A B) (W W' : FVec Ideal S1024x256 .bf16)
    (eW : ∀ x, W x = (iblk m c 2 t : FVec Ideal S1024x3456 .bf16) ((Rect.unit (s := S1024x3456) ![0, 0] ![1024, 256] inb_S1024x3456_S1024x256_0_0).idx x))
    (eW' : ∀ x, W' x = (iblk m c 2 t : FVec Ideal S1024x3456 .bf16) ((Rect.unit (s := S1024x3456) ![0, 2304] ![1024, 256] inb_S1024x3456_S1024x256_0_2304).idx x)) (i : Fin 512) (l : Fin 256) :
    k0_pay7 (F := Ideal) (k0_pay1 A) (k0_pay2 B) (k0_pay3 (iblk m c 0 t)) (iblk m c 3 t) (iblk m c 4 t) W W' (ix2 i l) = Ref.res0 (a0 m c) (a1 m c) (a2 m c) (a3 m c) (a4 m c) (ix2 (at' t i) l) := by
  refine (pay7_at _ _ _ _ _ W W' i l).trans (Eq.trans ?_ (Ref.res0_at (a0 m c) (a1 m c) (a2 m c) (a3 m c) (a4 m c) (at' t i) l).symm)

  refine rot m c t ok A B hm i l ⟨0 + l.val, by omega⟩ (by dsimp only; omega) (fun k => W (ix2 k l)) (fun k => W' (ix2 k l)) (fun k => ?_) (fun k => ?_)
  · exact (slabW m c t 0 256 (by norm_num) inb_S1024x3456_S1024x256_0_0 W eW k l).trans (W1 m c k ⟨0 + l.val, by omega⟩ (by dsimp only; omega))
  · exact (slabW m c t 2304 256 (by norm_num) inb_S1024x3456_S1024x256_0_2304 W' eW' k l).trans (Wq m c k l)

theorem store1 (ok : OkM m c) (A B : FVec Ideal S1x1024 .f32) (hm : Mod m c t A B) (W W' : FVec Ideal S1024x256 .bf16)
    (eW : ∀ x, W x = (iblk m c 2 t : FVec Ideal S1024x3456 .bf16) ((Rect.unit (s := S1024x3456) ![0, 256] ![1024, 256] inb_S1024x3456_S1024x256_0_256).idx x))
    (eW' : ∀ x, W' x = (iblk m c 2 t : FVec Ideal S1024x3456 .bf16) ((Rect.unit (s := S1024x3456) ![0, 2560] ![1024, 256] inb_S1024x3456_S1024x256_0_2560).idx x)) (i : Fin 512) (l : Fin 256) :
    k0_pay8 (F := Ideal) (k0_pay1 A) (k0_pay2 B) (k0_pay3 (iblk m c 0 t)) (iblk m c 3 t) (iblk m c 4 t) W W' (ix2 i l) = Ref.res1 (a0 m c) (a1 m c) (a2 m c) (a3 m c) (a4 m c) (ix2 (at' t i) l) := by
  refine (pay8_at _ _ _ _ _ W W' i l).trans (Eq.trans ?_ (Ref.res1_at (a0 m c) (a1 m c) (a2 m c) (a3 m c) (a4 m c) (at' t i) l).symm)
  refine congrArg (fun z : EReal => z * Ideal.ofBits FTy.f32 1040187392#32) ?_
  refine rot m c t ok A B hm i l ⟨256 + l.val, by omega⟩ (by dsimp only; omega) (fun k => W (ix2 k l)) (fun k => W' (ix2 k l)) (fun k => ?_) (fun k => ?_)
  · exact (slabW m c t 256 256 (by norm_num) inb_S1024x3456_S1024x256_0_256 W eW k l).trans (W1 m c k ⟨256 + l.val, by omega⟩ (by dsimp only; omega))
  · exact (slabW m c t 2560 256 (by norm_num) inb_S1024x3456_S1024x256_0_2560 W' eW' k l).trans (Wk m c k l)

theorem store7 (ok : OkM m c) (A B : FVec Ideal S1x1024 .f32) (hm : Mod m c t A B) (W W' : FVec Ideal S1024x128 .bf16)
    (eW : ∀ x, W x = (iblk m c 2 t : FVec Ideal S1024x3456 .bf16) ((Rect.unit (s := S1024x3456) ![0, 2048] ![1024, 128] inb_S1024x3456_S1024x128_0_2048).idx x))
    (eW' : ∀ x, W' x = (iblk m c 2 t : FVec Ideal S1024x3456 .bf16) ((Rect.unit (s := S1024x3456) ![0, 3328] ![1024, 128] inb_S1024x3456_S1024x128_0_3328).idx x)) (i : Fin 512) (l : Fin 128) :
    k0_pay15 (F := Ideal) (k0_pay4 (k0_pay1 A) (k0_pay2 B) (k0_pay3 (iblk m c 0 t))) (k0_pay5 (iblk m c 3 t)) (k0_pay6 (iblk m c 4 t)) W W' (ix2 i l) = Ref.res7 (a0 m c) (a1 m c) (a2 m c) (a3 m c) (a4 m c) (ix2 (at' t i) l) := by
  refine (pay15_at _ _ _ W W' i l).trans (Eq.trans ?_ (Ref.res7_at (a0 m c) (a1 m c) (a2 m c) (a3 m c) (a4 m c) (at' t i) l).symm)

  refine rot m c t ok A B hm i ⟨l.val, by omega⟩ ⟨2048 + l.val, by omega⟩ (by dsimp only; omega) (fun k => W (ix2 k l)) (fun k => W' (ix2 k l)) (fun k => ?_) (fun k => ?_)
  · exact (slabW m c t 2048 128 (by norm_num) inb_S1024x3456_S1024x128_0_2048 W eW k l).trans (W3 m c k ⟨2048 + l.val, by omega⟩ (by dsimp only; omega))
  · exact (slabW m c t 3328 128 (by norm_num) inb_S1024x3456_S1024x128_0_3328 W' eW' k l).trans (Wb m c k l)

theorem store6a (ok : OkM m c) (A B : FVec Ideal S1x1024 .f32) (hm : Mod m c t A B) (W W' : FVec Ideal S1024x256 .bf16)
    (eW : ∀ x, W x = (iblk m c 2 t : FVec Ideal S1024x3456 .bf16) ((Rect.unit (s := S1024x3456) ![0, 1536] ![1024, 256] inb_S1024x3456_S1024x256_0_1536).idx x))
    (eW' : ∀ x, W' x = (iblk m c 2 t : FVec Ideal S1024x3456 .bf16) ((Rect.unit (s := S1024x3456) ![0, 2816] ![1024, 256] inb_S1024x3456_S1024x256_0_2816).idx x)) (i : Fin 512) (l : Fin 256) :
    k0_pay13 (F := Ideal) (k0_pay4 (k0_pay1 A) (k0_pay2 B) (k0_pay3 (iblk m c 0 t))) (k0_pay5 (iblk m c 3 t)) (k0_pay6 (iblk m c 4 t)) W W' (ix2 i l) = Ref.res6 (a0 m c) (a1 m c) (a2 m c) (a3 m c) (a4 m c) (ix2 (at' t i) ⟨0 + l.val, by omega⟩) := by
  refine (pay13_at _ _ _ W W' i l).trans (Eq.trans ?_ (Ref.res6_at (a0 m c) (a1 m c) (a2 m c) (a3 m c) (a4 m c) (at' t i) ⟨0 + l.val, by omega⟩).symm)
  refine congrArg (fun z : EReal => z * Ideal.ofBits FTy.f32 1040187392#32) ?_
  refine rot m c t ok A B hm i l ⟨1536 + slab (0 + l.val), by unfold slab; omega⟩ (by (try unfold slab); dsimp only; omega) (fun k => W (ix2 k l)) (fun k => W' (ix2 k l)) (fun k => ?_) (fun k => ?_)
  · exact (slabW m c t 1536 256 (by norm_num) inb_S1024x3456_S1024x256_0_1536 W eW k l).trans ((congrArg (fun a => (V m c main_v98 : FVec Ideal S1024x3456 .bf16) (ix2 k a)) (Fin.ext (show 1536 + l.val = 1536 + (0 + l.val) by omega))).trans (W2 m c k ⟨0 + l.val, by omega⟩))
  · exact (slabW m c t 2816 256 (by norm_num) inb_S1024x3456_S1024x256_0_2816 W' eW' k l).trans ((congrArg (fun a => (V m c main_v98 : FVec Ideal S1024x3456 .bf16) (ix2 k a)) (Fin.ext (show 2816 + l.val = 2816 + (0 + l.val) by omega))).trans (Wa m c k ⟨0 + l.val, by omega⟩))

theorem store6b (ok : OkM m c) (A B : FVec Ideal S1x1024 .f32) (hm : Mod m c t A B) (W W' : FVec Ideal S1024x256 .bf16)
    (eW : ∀ x, W x = (iblk m c 2 t : FVec Ideal S1024x3456 .bf16) ((Rect.unit (s := S1024x3456) ![0, 1792] ![1024, 256] inb_S1024x3456_S1024x256_0_1792).idx x))
    (eW' : ∀ x, W' x = (iblk m c 2 t : FVec Ideal S1024x3456 .bf16) ((Rect.unit (s := S1024x3456) ![0, 3072] ![1024, 256] inb_S1024x3456_S1024x256_0_3072).idx x)) (i : Fin 512) (l : Fin 256) :
    k0_pay14 (F := Ideal) (k0_pay4 (k0_pay1 A) (k0_pay2 B) (k0_pay3 (iblk m c 0 t))) (k0_pay5 (iblk m c 3 t)) (k0_pay6 (iblk m c 4 t)) W W' (ix2 i l) = Ref.res6 (a0 m c) (a1 m c) (a2 m c) (a3 m c) (a4 m c) (ix2 (at' t i) ⟨256 + l.val, by omega⟩) := by
  refine (pay14_at _ _ _ W W' i l).trans (Eq.trans ?_ (Ref.res6_at (a0 m c) (a1 m c) (a2 m c) (a3 m c) (a4 m c) (at' t i) ⟨256 + l.val, by omega⟩).symm)
  refine congrArg (fun z : EReal => z * Ideal.ofBits FTy.f32 1040187392#32) ?_
  refine rot m c t ok A B hm i l ⟨1536 + slab (256 + l.val), by unfold slab; omega⟩ (by (try unfold slab); dsimp only; omega) (fun k => W (ix2 k l)) (fun k => W' (ix2 k l)) (fun k => ?_) (fun k => ?_)
  · exact (slabW m c t 1792 256 (by norm_num) inb_S1024x3456_S1024x256_0_1792 W eW k l).trans ((congrArg (fun a => (V m c main_v98 : FVec Ideal S1024x3456 .bf16) (ix2 k a)) (Fin.ext (show 1792 + l.val = 1536 + (256 + l.val) by omega))).trans (W2 m c k ⟨256 + l.val, by omega⟩))
  · exact (slabW m c t 3072 256 (by norm_num) inb_S1024x3456_S1024x256_0_3072 W' eW' k l).trans ((congrArg (fun a => (V m c main_v98 : FVec Ideal S1024x3456 .bf16) (ix2 k a)) (Fin.ext (show 3072 + l.val = 2816 + (256 + l.val) by omega))).trans (Wa m c k ⟨256 + l.val, by omega⟩))

end Proj
end
-- ==== Proof.ProjFinal.lean ====
/- Every block the kernel writes back is a block of the reference's results. -/
module

public import proofs.«01_k».proof.Proof.ProjPoint
public import proofs.«01_k».proof.Proof.Gen.Kernel2Ideal.Value
public import Idealize.ShloMosaic.Lib.Pipeline.ValueKit

@[expose] public section

set_option maxRecDepth 16384

noncomputable section

namespace Proj
open Idealize.ShloMosaic Idealize.ShloMosaic.TcCoe Idealize.SL.Sem
open Cert.Kernel2Ideal Cert.Kernel2Ideal.Gen

variable (m : (ℓ : Loc nD τ sig) → Buf (Elt Ideal) ℓ) (c : Dev nD)

/-- Where a block of result 0 lies. -/
theorem emb0 (t : Fin cfg0.N) (y : S512x256.Idx) : (((View.whole main_v99_0).slice (win0_5.rect t)).emb y : S16896x256.Idx) = ix2 (at' t (y 0)) (y 1) := by
  funext a
  refine Fin.ext ?_
  refine ((cfg0.win 5).rect_emb_val t y a).trans ?_
  rw [show (cfg0.win 5).index t = ![t.val, 0] from (idx_out t).1]
  fin_cases a
  · rfl
  · exact (congrArg (· + (y 1).val) (Nat.zero_mul _)).trans (Nat.zero_add _)

/-- Result 0. -/
theorem final0 (ok : OkM m c) : (dats m 0 c).arrAt 5 (cfgs 0).N = Ref.res0 (a0 m c) (a1 m c) (a2 m c) (a3 m c) (a4 m c) := by
  refine (dats m 0 c).arrAt_eq_of_covers 5 _ (by decide +kernel) fun t hf y => ?_
  clear hf
  have e := emb0 t y
  blk_simp
  rw [after0_5]
  unfold outsAt0
  frame_out
  refine Eq.trans (congrArg _ (eq_ix2 y)) ?_
  exact (store0 m c t ok _ _ ⟨fun x => rfl, fun x => rfl⟩ _ _ (fun x => rfl) (fun x => rfl) (y 0) (y 1)).trans (congrArg (Ref.res0 (a0 m c) (a1 m c) (a2 m c) (a3 m c) (a4 m c)) e.symm)

/-- Where a block of result 1 lies. -/
theorem emb1 (t : Fin cfg0.N) (y : S512x256.Idx) : (((View.whole main_v99_1).slice (win0_6.rect t)).emb y : S16896x256.Idx) = ix2 (at' t (y 0)) (y 1) := by
  funext a
  refine Fin.ext ?_
  refine ((cfg0.win 6).rect_emb_val t y a).trans ?_
  rw [show (cfg0.win 6).index t = ![t.val, 0] from (idx_out t).2.1]
  fin_cases a
  · rfl
  · exact (congrArg (· + (y 1).val) (Nat.zero_mul _)).trans (Nat.zero_add _)

/-- Result 1. -/
theorem final1 (ok : OkM m c) : (dats m 0 c).arrAt 6 (cfgs 0).N = Ref.res1 (a0 m c) (a1 m c) (a2 m c) (a3 m c) (a4 m c) := by
  refine (dats m 0 c).arrAt_eq_of_covers 6 _ (by decide +kernel) fun t hf y => ?_
  clear hf
  have e := emb1 t y
  blk_simp
  rw [after0_6]
  unfold outsAt0
  frame_out
  refine Eq.trans (congrArg _ (eq_ix2 y)) ?_
  exact (store1 m c t ok _ _ ⟨fun x => rfl, fun x => rfl⟩ _ _ (fun x => rfl) (fun x => rfl) (y 0) (y 1)).trans (congrArg (Ref.res1 (a0 m c) (a1 m c) (a2 m c) (a3 m c) (a4 m c)) e.symm)

/-- Where a block of result 2 lies. -/
theorem emb2 (t : Fin cfg0.N) (y : S512x256.Idx) : (((View.whole main_v99_2).slice (win0_7.rect t)).emb y : S16896x256.Idx) = ix2 (at' t (y 0)) (y 1) := by
  funext a
  refine Fin.ext ?_
  refine ((cfg0.win 7).rect_emb_val t y a).trans ?_
  rw [show (cfg0.win 7).index t = ![t.val, 0] from (idx_out t).2.2.1]
  fin_cases a
  · rfl
  · exact (congrArg (· + (y 1).val) (Nat.zero_mul _)).trans (Nat.zero_add _)

/-- Result 2. -/
theorem final2 (ok : OkM m c) : (dats m 0 c).arrAt 7 (cfgs 0).N = Ref.res2 (a0 m c) (a1 m c) (a2 m c) (a3 m c) (a4 m c) := by
  refine (dats m 0 c).arrAt_eq_of_covers 7 _ (by decide +kernel) fun t hf y => ?_
  clear hf
  have e := emb2 t y
  blk_simp
  rw [after0_7]
  unfold outsAt0
  frame_out
  refine Eq.trans (congrArg _ (eq_ix2 y)) ?_
  exact (store2 m c t _ _ ⟨fun x => rfl, fun x => rfl⟩ _ (fun x => rfl) (y 0) (y 1)).trans (congrArg (Ref.res2 (a0 m c) (a1 m c) (a2 m c) (a3 m c) (a4 m c)) e.symm)

/-- Where a block of result 3 lies. -/
theorem emb3 (t : Fin cfg0.N) (y : S512x256.Idx) : (((View.whole main_v99_3).slice (win0_8.rect t)).emb y : S16896x256.Idx) = ix2 (at' t (y 0)) (y 1) := by
  funext a
  refine Fin.ext ?_
  refine ((cfg0.win 8).rect_emb_val t y a).trans ?_
  rw [show (cfg0.win 8).index t = ![t.val, 0] from (idx_out t).2.2.2.1]
  fin_cases a
  · rfl
  · exact (congrArg (· + (y 1).val) (Nat.zero_mul _)).trans (Nat.zero_add _)

/-- Result 3. -/
theorem final3 (ok : OkM m c) : (dats m 0 c).arrAt 8 (cfgs 0).N = Ref.res3 (a0 m c) (a1 m c) (a2 m c) (a3 m c) (a4 m c) := by
  refine (dats m 0 c).arrAt_eq_of_covers 8 _ (by decide +kernel) fun t hf y => ?_
  clear hf
  have e := emb3 t y
  blk_simp
  rw [after0_8]
  unfold outsAt0
  frame_out
  refine Eq.trans (congrArg _ (eq_ix2 y)) ?_
  exact (store3 m c t _ _ ⟨fun x => rfl, fun x => rfl⟩ _ (fun x => rfl) (y 0) (y 1)).trans (congrArg (Ref.res3 (a0 m c) (a1 m c) (a2 m c) (a3 m c) (a4 m c)) e.symm)

/-- Where a block of result 4 lies. -/
theorem emb4 (t : Fin cfg0.N) (y : S512x256.Idx) : (((View.whole main_v99_4).slice (win0_9.rect t)).emb y : S16896x256.Idx) = ix2 (at' t (y 0)) (y 1) := by
  funext a
  refine Fin.ext ?_
  refine ((cfg0.win 9).rect_emb_val t y a).trans ?_
  rw [show (cfg0.win 9).index t = ![t.val, 0] from (idx_out t).2.2.2.2.1]
  fin_cases a
  · rfl
  · exact (congrArg (· + (y 1).val) (Nat.zero_mul _)).trans (Nat.zero_add _)

/-- Result 4. -/
theorem final4 (ok : OkM m c) : (dats m 0 c).arrAt 9 (cfgs 0).N = Ref.res4 (a0 m c) (a1 m c) (a2 m c) (a3 m c) (a4 m c) := by
  refine (dats m 0 c).arrAt_eq_of_covers 9 _ (by decide +kernel) fun t hf y => ?_
  clear hf
  have e := emb4 t y
  blk_simp
  rw [after0_9]
  unfold outsAt0
  frame_out
  refine Eq.trans (congrArg _ (eq_ix2 y)) ?_
  exact (store4 m c t _ _ ⟨fun x => rfl, fun x => rfl⟩ _ (fun x => rfl) (y 0) (y 1)).trans (congrArg (Ref.res4 (a0 m c) (a1 m c) (a2 m c) (a3 m c) (a4 m c)) e.symm)

/-- Where a block of result 5 lies. -/
theorem emb5 (t : Fin cfg0.N) (y : S512x256.Idx) : (((View.whole main_v99_5).slice (win0_10.rect t)).emb y : S16896x256.Idx) = ix2 (at' t (y 0)) (y 1) := by
  funext a
  refine Fin.ext ?_
  refine ((cfg0.win 10).rect_emb_val t y a).trans ?_
  rw [show (cfg0.win 10).index t = ![t.val, 0] from (idx_out t).2.2.2.2.2.1]
  fin_cases a
  · rfl
  · exact (congrArg (· + (y 1).val) (Nat.zero_mul _)).trans (Nat.zero_add _)

/-- Result 5. -/
theorem final5 (ok : OkM m c) : (dats m 0 c).arrAt 10 (cfgs 0).N = Ref.res5 (a0 m c) (a1 m c) (a2 m c) (a3 m c) (a4 m c) := by
  refine (dats m 0 c).arrAt_eq_of_covers 10 _ (by decide +kernel) fun t hf y => ?_
  clear hf
  have e := emb5 t y
  blk_simp
  rw [after0_10]
  unfold outsAt0
  frame_out
  refine Eq.trans (congrArg _ (eq_ix2 y)) ?_
  exact (store5 m c t _ _ ⟨fun x => rfl, fun x => rfl⟩ _ (fun x => rfl) (y 0) (y 1)).trans (congrArg (Ref.res5 (a0 m c) (a1 m c) (a2 m c) (a3 m c) (a4 m c)) e.symm)

/-- Where a block of result 6 lies. -/
theorem emb6 (t : Fin cfg0.N) (y : S512x512.Idx) : (((View.whole main_v99_6).slice (win0_11.rect t)).emb y : S16896x512.Idx) = ix2 (at' t (y 0)) (y 1) := by
  funext a
  refine Fin.ext ?_
  refine ((cfg0.win 11).rect_emb_val t y a).trans ?_
  rw [show (cfg0.win 11).index t = ![t.val, 0] from (idx_out t).2.2.2.2.2.2.1]
  fin_cases a
  · rfl
  · exact (congrArg (· + (y 1).val) (Nat.zero_mul _)).trans (Nat.zero_add _)

/-- Result 6. -/
theorem final6 (ok : OkM m c) : (dats m 0 c).arrAt 11 (cfgs 0).N = Ref.res6 (a0 m c) (a1 m c) (a2 m c) (a3 m c) (a4 m c) := by
  refine (dats m 0 c).arrAt_eq_of_covers 11 _ (by decide +kernel) fun t hf y => ?_
  clear hf
  have e := emb6 t y
  blk_simp
  rw [after0_11]
  unfold outsAt0
  frame_out
  canon_tiles x k
  · rw [eq_ix2 x]
    refine (store6b m c t ok _ _ ⟨fun x => rfl, fun x => rfl⟩ _ _ (fun x => rfl) (fun x => rfl) (x 0) (x 1)).trans ?_
    refine congrArg (Ref.res6 (a0 m c) (a1 m c) (a2 m c) (a3 m c) (a4 m c)) (Eq.trans ?_ e.symm)
    exact congr (congrArg ix2 (Fin.ext (by dsimp only; rw [k0]))) (Fin.ext k1.symm)
  · rw [eq_ix2 x]
    refine (store6a m c t ok _ _ ⟨fun x => rfl, fun x => rfl⟩ _ _ (fun x => rfl) (fun x => rfl) (x 0) (x 1)).trans ?_
    refine congrArg (Ref.res6 (a0 m c) (a1 m c) (a2 m c) (a3 m c) (a4 m c)) (Eq.trans ?_ e.symm)
    exact congr (congrArg ix2 (Fin.ext (by dsimp only; rw [k0]))) (Fin.ext (by dsimp only; rw [k1]; omega))

/-- Where a block of result 7 lies. -/
theorem emb7 (t : Fin cfg0.N) (y : S512x128.Idx) : (((View.whole main_v99_7).slice (win0_12.rect t)).emb y : S16896x128.Idx) = ix2 (at' t (y 0)) (y 1) := by
  funext a
  refine Fin.ext ?_
  refine ((cfg0.win 12).rect_emb_val t y a).trans ?_
  rw [show (cfg0.win 12).index t = ![t.val, 0] from (idx_out t).2.2.2.2.2.2.2.1]
  fin_cases a
  · rfl
  · exact (congrArg (· + (y 1).val) (Nat.zero_mul _)).trans (Nat.zero_add _)

/-- Result 7. -/
theorem final7 (ok : OkM m c) : (dats m 0 c).arrAt 12 (cfgs 0).N = Ref.res7 (a0 m c) (a1 m c) (a2 m c) (a3 m c) (a4 m c) := by
  refine (dats m 0 c).arrAt_eq_of_covers 12 _ (by decide +kernel) fun t hf y => ?_
  clear hf
  have e := emb7 t y
  blk_simp
  rw [after0_12]
  unfold outsAt0
  frame_out
  refine Eq.trans (congrArg _ (eq_ix2 y)) ?_
  exact (store7 m c t ok _ _ ⟨fun x => rfl, fun x => rfl⟩ _ _ (fun x => rfl) (fun x => rfl) (y 0) (y 1)).trans (congrArg (Ref.res7 (a0 m c) (a1 m c) (a2 m c) (a3 m c) (a4 m c)) e.symm)

/-- Where a block of result 8 lies. -/
theorem emb8 (t : Fin cfg0.N) (y : S512x128.Idx) : (((View.whole main_v99_8).slice (win0_13.rect t)).emb y : S16896x128.Idx) = ix2 (at' t (y 0)) (y 1) := by
  funext a
  refine Fin.ext ?_
  refine ((cfg0.win 13).rect_emb_val t y a).trans ?_
  rw [show (cfg0.win 13).index t = ![t.val, 0] from (idx_out t).2.2.2.2.2.2.2.2]
  fin_cases a
  · rfl
  · exact (congrArg (· + (y 1).val) (Nat.zero_mul _)).trans (Nat.zero_add _)

/-- Result 8. -/
theorem final8 (ok : OkM m c) : (dats m 0 c).arrAt 13 (cfgs 0).N = Ref.res8 (a0 m c) (a1 m c) (a2 m c) (a3 m c) (a4 m c) := by
  refine (dats m 0 c).arrAt_eq_of_covers 13 _ (by decide +kernel) fun t hf y => ?_
  clear hf
  have e := emb8 t y
  blk_simp
  rw [after0_13]
  unfold outsAt0
  frame_out
  refine Eq.trans (congrArg _ (eq_ix2 y)) ?_
  exact (store8 m c t _ _ ⟨fun x => rfl, fun x => rfl⟩ _ (fun x => rfl) (y 0) (y 1)).trans (congrArg (Ref.res8 (a0 m c) (a1 m c) (a2 m c) (a3 m c) (a4 m c)) e.symm)

end Proj
end
-- ==== Proof.ProjRun.lean ====
/- The reference run's results are the projection's stages. -/
module

public import proofs.«01_k».proof.Proof.Gen.Reference2Ideal.Run
public import proofs.«01_k».proof.Proof.ProjRef

@[expose] public section

set_option maxRecDepth 16384

noncomputable section

namespace Proj.Ref
open Idealize.ShloMosaic Idealize.ShloMosaic.TcCoe Idealize.SL.Sem
open Cert.Reference2Ideal Cert.Reference2Ideal.Gen Cert.Reference2Ideal.Value
open Idealize.ShloMosaic.StableHlo (launchContents)

theorem res0_eq (m : (ℓ : Loc nD τ sig) → Buf (Elt Ideal) ℓ) (c : Dev nD) :
    (truncf .bf16 (concatenate S16896x256 0 [⟨S16384x256, (shapeCast _ (concatenate S2x8192x4x64 3 [⟨S2x8192x4x32, (concatenate S2x8192x4x32 3 [⟨S2x8192x4x16, (subf (mulf (res_main_v112 (launchContents m c)) (broadcastInDim S2x8192x4x16 ![0, 1, 2, 3] bcast_S1x8192x1x16_S2x8192x4x16_0_1_2_3 (broadcastInDim S1x8192x1x16 ![1, 2, 3] bcast_S8192x1x16_S1x8192x1x16_1_2_3 (res_main_v107 (launchContents m c))))) (mulf (res_main_v113 (launchContents m c)) (broadcastInDim S2x8192x4x16 ![0, 1, 2, 3] bcast_S1x8192x1x16_S2x8192x4x16_0_1_2_3 (broadcastInDim S1x8192x1x16 ![1, 2, 3] bcast_S8192x1x16_S1x8192x1x16_1_2_3 (res_main_v108 (launchContents m c))))))⟩, ⟨S2x8192x4x16, (addf (mulf (res_main_v113 (launchContents m c)) (broadcastInDim S2x8192x4x16 ![0, 1, 2, 3] bcast_S1x8192x1x16_S2x8192x4x16_0_1_2_3 (broadcastInDim S1x8192x1x16 ![1, 2, 3] bcast_S8192x1x16_S1x8192x1x16_1_2_3 (res_main_v107 (launchContents m c))))) (mulf (res_main_v112 (launchContents m c)) (broadcastInDim S2x8192x4x16 ![0, 1, 2, 3] bcast_S1x8192x1x16_S2x8192x4x16_0_1_2_3 (broadcastInDim S1x8192x1x16 ![1, 2, 3] bcast_S8192x1x16_S1x8192x1x16_1_2_3 (res_main_v108 (launchContents m c))))))⟩] concatenates_S2x8192x4x16_S2x8192x4x16_S2x8192x4x32_d3)⟩, ⟨S2x8192x4x32, (concatenate S2x8192x4x32 3 [⟨S2x8192x4x16, (subf (mulf (res_main_v130 (launchContents m c)) (broadcastInDim S2x8192x4x16 ![0, 1, 2, 3] bcast_S1x8192x1x16_S2x8192x4x16_0_1_2_3 (broadcastInDim S1x8192x1x16 ![1, 2, 3] bcast_S8192x1x16_S1x8192x1x16_1_2_3 (res_main_v109 (launchContents m c))))) (mulf (res_main_v131 (launchContents m c)) (broadcastInDim S2x8192x4x16 ![0, 1, 2, 3] bcast_S1x8192x1x16_S2x8192x4x16_0_1_2_3 (broadcastInDim S1x8192x1x16 ![1, 2, 3] bcast_S8192x1x16_S1x8192x1x16_1_2_3 (res_main_v110 (launchContents m c))))))⟩, ⟨S2x8192x4x16, (addf (mulf (res_main_v131 (launchContents m c)) (broadcastInDim S2x8192x4x16 ![0, 1, 2, 3] bcast_S1x8192x1x16_S2x8192x4x16_0_1_2_3 (broadcastInDim S1x8192x1x16 ![1, 2, 3] bcast_S8192x1x16_S1x8192x1x16_1_2_3 (res_main_v109 (launchContents m c))))) (mulf (res_main_v130 (launchContents m c)) (broadcastInDim S2x8192x4x16 ![0, 1, 2, 3] bcast_S1x8192x1x16_S2x8192x4x16_0_1_2_3 (broadcastInDim S1x8192x1x16 ![1, 2, 3] bcast_S8192x1x16_S1x8192x1x16_1_2_3 (res_main_v110 (launchContents m c))))))⟩] concatenates_S2x8192x4x16_S2x8192x4x16_S2x8192x4x32_d3)⟩] concatenates_S2x8192x4x32_S2x8192x4x32_S2x8192x4x64_d3) shapeCasts_S2x8192x4x64_S16384x256)⟩, ⟨S512x256, (extractStridedSlice S512x256 ![16384, 0] (res_main_v67 (launchContents m c)) slices_S16896x256_S512x256_16384_0)⟩] concatenates_S16384x256_S512x256_S16896x256_d0) bitsLt_bf16_f32 : FVec Ideal S16896x256 .bf16)
    = res0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

theorem res1_eq (m : (ℓ : Loc nD τ sig) → Buf (Elt Ideal) ℓ) (c : Dev nD) :
    (truncf .bf16 (mulf (concatenate S16896x256 0 [⟨S16384x256, (shapeCast _ (concatenate S2x8192x4x64 3 [⟨S2x8192x4x32, (concatenate S2x8192x4x32 3 [⟨S2x8192x4x16, (subf (mulf (res_main_v159 (launchContents m c)) (broadcastInDim S2x8192x4x16 ![0, 1, 2, 3] bcast_S1x8192x1x16_S2x8192x4x16_0_1_2_3 (broadcastInDim S1x8192x1x16 ![1, 2, 3] bcast_S8192x1x16_S1x8192x1x16_1_2_3 (res_main_v154 (launchContents m c))))) (mulf (res_main_v160 (launchContents m c)) (broadcastInDim S2x8192x4x16 ![0, 1, 2, 3] bcast_S1x8192x1x16_S2x8192x4x16_0_1_2_3 (broadcastInDim S1x8192x1x16 ![1, 2, 3] bcast_S8192x1x16_S1x8192x1x16_1_2_3 (res_main_v155 (launchContents m c))))))⟩, ⟨S2x8192x4x16, (addf (mulf (res_main_v160 (launchContents m c)) (broadcastInDim S2x8192x4x16 ![0, 1, 2, 3] bcast_S1x8192x1x16_S2x8192x4x16_0_1_2_3 (broadcastInDim S1x8192x1x16 ![1, 2, 3] bcast_S8192x1x16_S1x8192x1x16_1_2_3 (res_main_v154 (launchContents m c))))) (mulf (res_main_v159 (launchContents m c)) (broadcastInDim S2x8192x4x16 ![0, 1, 2, 3] bcast_S1x8192x1x16_S2x8192x4x16_0_1_2_3 (broadcastInDim S1x8192x1x16 ![1, 2, 3] bcast_S8192x1x16_S1x8192x1x16_1_2_3 (res_main_v155 (launchContents m c))))))⟩] concatenates_S2x8192x4x16_S2x8192x4x16_S2x8192x4x32_d3)⟩, ⟨S2x8192x4x32, (concatenate S2x8192x4x32 3 [⟨S2x8192x4x16, (subf (mulf (res_main_v177 (launchContents m c)) (broadcastInDim S2x8192x4x16 ![0, 1, 2, 3] bcast_S1x8192x1x16_S2x8192x4x16_0_1_2_3 (broadcastInDim S1x8192x1x16 ![1, 2, 3] bcast_S8192x1x16_S1x8192x1x16_1_2_3 (res_main_v156 (launchContents m c))))) (mulf (res_main_v178 (launchContents m c)) (broadcastInDim S2x8192x4x16 ![0, 1, 2, 3] bcast_S1x8192x1x16_S2x8192x4x16_0_1_2_3 (broadcastInDim S1x8192x1x16 ![1, 2, 3] bcast_S8192x1x16_S1x8192x1x16_1_2_3 (res_main_v157 (launchContents m c))))))⟩, ⟨S2x8192x4x16, (addf (mulf (res_main_v178 (launchContents m c)) (broadcastInDim S2x8192x4x16 ![0, 1, 2, 3] bcast_S1x8192x1x16_S2x8192x4x16_0_1_2_3 (broadcastInDim S1x8192x1x16 ![1, 2, 3] bcast_S8192x1x16_S1x8192x1x16_1_2_3 (res_main_v156 (launchContents m c))))) (mulf (res_main_v177 (launchContents m c)) (broadcastInDim S2x8192x4x16 ![0, 1, 2, 3] bcast_S1x8192x1x16_S2x8192x4x16_0_1_2_3 (broadcastInDim S1x8192x1x16 ![1, 2, 3] bcast_S8192x1x16_S1x8192x1x16_1_2_3 (res_main_v157 (launchContents m c))))))⟩] concatenates_S2x8192x4x16_S2x8192x4x16_S2x8192x4x32_d3)⟩] concatenates_S2x8192x4x32_S2x8192x4x32_S2x8192x4x64_d3) shapeCasts_S2x8192x4x64_S16384x256)⟩, ⟨S512x256, (extractStridedSlice S512x256 ![16384, 0] (res_main_v68 (launchContents m c)) slices_S16896x256_S512x256_16384_0)⟩] concatenates_S16384x256_S512x256_S16896x256_d0) (broadcastInDim S16896x256 ![] bcast_S_S16896x256 (constant S_ .f32 0x3E000000#32))) bitsLt_bf16_f32 : FVec Ideal S16896x256 .bf16)
    = res1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

theorem res2_eq (m : (ℓ : Loc nD τ sig) → Buf (Elt Ideal) ℓ) (c : Dev nD) :
    (truncf .bf16 (extractStridedSlice S16896x256 ![0, 512] (res_main_v66 (launchContents m c)) slices_S16896x2304_S16896x256_0_512) bitsLt_bf16_f32 : FVec Ideal S16896x256 .bf16)
    = res2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

theorem res3_eq (m : (ℓ : Loc nD τ sig) → Buf (Elt Ideal) ℓ) (c : Dev nD) :
    (extractStridedSlice S16896x256 ![0, 768] (res_main_v66 (launchContents m c)) slices_S16896x2304_S16896x256_0_768 : FVec Ideal S16896x256 .f32)
    = res3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

theorem res4_eq (m : (ℓ : Loc nD τ sig) → Buf (Elt Ideal) ℓ) (c : Dev nD) :
    (extractStridedSlice S16896x256 ![0, 1024] (res_main_v66 (launchContents m c)) slices_S16896x2304_S16896x256_0_1024 : FVec Ideal S16896x256 .f32)
    = res4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

theorem res5_eq (m : (ℓ : Loc nD τ sig) → Buf (Elt Ideal) ℓ) (c : Dev nD) :
    (extractStridedSlice S16896x256 ![0, 1280] (res_main_v66 (launchContents m c)) slices_S16896x2304_S16896x256_0_1280 : FVec Ideal S16896x256 .f32)
    = res5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

theorem res6_eq (m : (ℓ : Loc nD τ sig) → Buf (Elt Ideal) ℓ) (c : Dev nD) :
    (truncf .bf16 (shapeCast _ (transpose S16896x4x2x64 [0, 2, 1, 3] (shapeCast _ (mulf (concatenate S16896x512 0 [⟨S16384x512, (shapeCast _ (concatenate S2x8192x8x64 3 [⟨S2x8192x8x32, (concatenate S2x8192x8x32 3 [⟨S2x8192x8x16, (subf (mulf (res_main_v209 (launchContents m c)) (broadcastInDim S2x8192x8x16 ![0, 1, 2, 3] bcast_S1x8192x1x16_S2x8192x8x16_0_1_2_3 (broadcastInDim S1x8192x1x16 ![1, 2, 3] bcast_S8192x1x16_S1x8192x1x16_1_2_3 (res_main_v204 (launchContents m c))))) (mulf (res_main_v210 (launchContents m c)) (broadcastInDim S2x8192x8x16 ![0, 1, 2, 3] bcast_S1x8192x1x16_S2x8192x8x16_0_1_2_3 (broadcastInDim S1x8192x1x16 ![1, 2, 3] bcast_S8192x1x16_S1x8192x1x16_1_2_3 (res_main_v205 (launchContents m c))))))⟩, ⟨S2x8192x8x16, (addf (mulf (res_main_v210 (launchContents m c)) (broadcastInDim S2x8192x8x16 ![0, 1, 2, 3] bcast_S1x8192x1x16_S2x8192x8x16_0_1_2_3 (broadcastInDim S1x8192x1x16 ![1, 2, 3] bcast_S8192x1x16_S1x8192x1x16_1_2_3 (res_main_v204 (launchContents m c))))) (mulf (res_main_v209 (launchContents m c)) (broadcastInDim S2x8192x8x16 ![0, 1, 2, 3] bcast_S1x8192x1x16_S2x8192x8x16_0_1_2_3 (broadcastInDim S1x8192x1x16 ![1, 2, 3] bcast_S8192x1x16_S1x8192x1x16_1_2_3 (res_main_v205 (launchContents m c))))))⟩] concatenates_S2x8192x8x16_S2x8192x8x16_S2x8192x8x32_d3)⟩, ⟨S2x8192x8x32, (concatenate S2x8192x8x32 3 [⟨S2x8192x8x16, (subf (mulf (res_main_v227 (launchContents m c)) (broadcastInDim S2x8192x8x16 ![0, 1, 2, 3] bcast_S1x8192x1x16_S2x8192x8x16_0_1_2_3 (broadcastInDim S1x8192x1x16 ![1, 2, 3] bcast_S8192x1x16_S1x8192x1x16_1_2_3 (res_main_v206 (launchContents m c))))) (mulf (res_main_v228 (launchContents m c)) (broadcastInDim S2x8192x8x16 ![0, 1, 2, 3] bcast_S1x8192x1x16_S2x8192x8x16_0_1_2_3 (broadcastInDim S1x8192x1x16 ![1, 2, 3] bcast_S8192x1x16_S1x8192x1x16_1_2_3 (res_main_v207 (launchContents m c))))))⟩, ⟨S2x8192x8x16, (addf (mulf (res_main_v228 (launchContents m c)) (broadcastInDim S2x8192x8x16 ![0, 1, 2, 3] bcast_S1x8192x1x16_S2x8192x8x16_0_1_2_3 (broadcastInDim S1x8192x1x16 ![1, 2, 3] bcast_S8192x1x16_S1x8192x1x16_1_2_3 (res_main_v206 (launchContents m c))))) (mulf (res_main_v227 (launchContents m c)) (broadcastInDim S2x8192x8x16 ![0, 1, 2, 3] bcast_S1x8192x1x16_S2x8192x8x16_0_1_2_3 (broadcastInDim S1x8192x1x16 ![1, 2, 3] bcast_S8192x1x16_S1x8192x1x16_1_2_3 (res_main_v207 (launchContents m c))))))⟩] concatenates_S2x8192x8x16_S2x8192x8x16_S2x8192x8x32_d3)⟩] concatenates_S2x8192x8x32_S2x8192x8x32_S2x8192x8x64_d3) shapeCasts_S2x8192x8x64_S16384x512)⟩, ⟨S512x512, (extractStridedSlice S512x512 ![16384, 0] (res_main_v73 (launchContents m c)) slices_S16896x512_S512x512_16384_0)⟩] concatenates_S16384x512_S512x512_S16896x512_d0) (broadcastInDim S16896x512 ![] bcast_S_S16896x512 (constant S_ .f32 0x3E000000#32))) shapeCasts_S16896x512_S16896x2x4x64) transposes_S16896x2x4x64_S16896x4x2x64_0_2_1_3) shapeCasts_S16896x4x2x64_S16896x512) bitsLt_bf16_f32 : FVec Ideal S16896x512 .bf16)
    = res6 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

theorem res7_eq (m : (ℓ : Loc nD τ sig) → Buf (Elt Ideal) ℓ) (c : Dev nD) :
    (truncf .bf16 (concatenate S16896x128 0 [⟨S16384x128, (shapeCast _ (concatenate S2x8192x2x64 3 [⟨S2x8192x2x32, (concatenate S2x8192x2x32 3 [⟨S2x8192x2x16, (subf (mulf (res_main_v261 (launchContents m c)) (broadcastInDim S2x8192x2x16 ![0, 1, 2, 3] bcast_S1x8192x1x16_S2x8192x2x16_0_1_2_3 (broadcastInDim S1x8192x1x16 ![1, 2, 3] bcast_S8192x1x16_S1x8192x1x16_1_2_3 (res_main_v256 (launchContents m c))))) (mulf (res_main_v262 (launchContents m c)) (broadcastInDim S2x8192x2x16 ![0, 1, 2, 3] bcast_S1x8192x1x16_S2x8192x2x16_0_1_2_3 (broadcastInDim S1x8192x1x16 ![1, 2, 3] bcast_S8192x1x16_S1x8192x1x16_1_2_3 (res_main_v257 (launchContents m c))))))⟩, ⟨S2x8192x2x16, (addf (mulf (res_main_v262 (launchContents m c)) (broadcastInDim S2x8192x2x16 ![0, 1, 2, 3] bcast_S1x8192x1x16_S2x8192x2x16_0_1_2_3 (broadcastInDim S1x8192x1x16 ![1, 2, 3] bcast_S8192x1x16_S1x8192x1x16_1_2_3 (res_main_v256 (launchContents m c))))) (mulf (res_main_v261 (launchContents m c)) (broadcastInDim S2x8192x2x16 ![0, 1, 2, 3] bcast_S1x8192x1x16_S2x8192x2x16_0_1_2_3 (broadcastInDim S1x8192x1x16 ![1, 2, 3] bcast_S8192x1x16_S1x8192x1x16_1_2_3 (res_main_v257 (launchContents m c))))))⟩] concatenates_S2x8192x2x16_S2x8192x2x16_S2x8192x2x32_d3)⟩, ⟨S2x8192x2x32, (concatenate S2x8192x2x32 3 [⟨S2x8192x2x16, (subf (mulf (res_main_v279 (launchContents m c)) (broadcastInDim S2x8192x2x16 ![0, 1, 2, 3] bcast_S1x8192x1x16_S2x8192x2x16_0_1_2_3 (broadcastInDim S1x8192x1x16 ![1, 2, 3] bcast_S8192x1x16_S1x8192x1x16_1_2_3 (res_main_v258 (launchContents m c))))) (mulf (res_main_v280 (launchContents m c)) (broadcastInDim S2x8192x2x16 ![0, 1, 2, 3] bcast_S1x8192x1x16_S2x8192x2x16_0_1_2_3 (broadcastInDim S1x8192x1x16 ![1, 2, 3] bcast_S8192x1x16_S1x8192x1x16_1_2_3 (res_main_v259 (launchContents m c))))))⟩, ⟨S2x8192x2x16, (addf (mulf (res_main_v280 (launchContents m c)) (broadcastInDim S2x8192x2x16 ![0, 1, 2, 3] bcast_S1x8192x1x16_S2x8192x2x16_0_1_2_3 (broadcastInDim S1x8192x1x16 ![1, 2, 3] bcast_S8192x1x16_S1x8192x1x16_1_2_3 (res_main_v258 (launchContents m c))))) (mulf (res_main_v279 (launchContents m c)) (broadcastInDim S2x8192x2x16 ![0, 1, 2, 3] bcast_S1x8192x1x16_S2x8192x2x16_0_1_2_3 (broadcastInDim S1x8192x1x16 ![1, 2, 3] bcast_S8192x1x16_S1x8192x1x16_1_2_3 (res_main_v259 (launchContents m c))))))⟩] concatenates_S2x8192x2x16_S2x8192x2x16_S2x8192x2x32_d3)⟩] concatenates_S2x8192x2x32_S2x8192x2x32_S2x8192x2x64_d3) shapeCasts_S2x8192x2x64_S16384x128)⟩, ⟨S512x128, (extractStridedSlice S512x128 ![16384, 0] (res_main_v74 (launchContents m c)) slices_S16896x128_S512x128_16384_0)⟩] concatenates_S16384x128_S512x128_S16896x128_d0) bitsLt_bf16_f32 : FVec Ideal S16896x128 .bf16)
    = res7 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

theorem res8_eq (m : (ℓ : Loc nD τ sig) → Buf (Elt Ideal) ℓ) (c : Dev nD) :
    (truncf .bf16 (extractStridedSlice S16896x128 ![0, 2176] (res_main_v66 (launchContents m c)) slices_S16896x2304_S16896x128_0_2176) bitsLt_bf16_f32 : FVec Ideal S16896x128 .bf16)
    = res8 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

end Proj.Ref
end
-- ==== Proof.MixSpec.lean ====
/- The out-projection step as a function of plain index functions: group norms of the retention's output and of the
   gated values, the token mixing inside blocks of 128, the joined product, the norm after it and the modulated rows.
   Both programs are read into these terms. -/
module

public import proofs.«01_k».proof.Proof.ProjSpec

@[expose] public section

set_option maxRecDepth 16384

noncomputable section

namespace Mix
open Idealize.ShloMosaic

/-- A column of a head. -/
abbrev hcol (l : Fin 256) (d : Fin 64) : Fin 256 := ⟨l.val / 64 * 64 + d.val, by omega⟩

/-- The mean over a column's head. -/
def gm (z : Fin 256 → EReal) (l : Fin 256) : EReal := Ideal.div (∑ d : Fin 64, z (hcol l d)) (Ideal.ofBits FTy.f32 0x42800000#32)

/-- A row normalized head by head. -/
def gln (z : Fin 256 → EReal) (l : Fin 256) : EReal :=
  (z l - gm z l) * Ideal.rsqrt (Ideal.div (∑ d : Fin 64, (z (hcol l d) - gm z l) * (z (hcol l d) - gm z l)) (Ideal.ofBits FTy.f32 0x42800000#32)
    + Ideal.ofBits FTy.f32 0x3727C5AC#32)

/-- The smooth rectifier with the hyperbolic tangent. -/
def gelu (x : EReal) : EReal :=
  x * (Ideal.ofBits FTy.f32 0x3F000000#32 * (1 + Ideal.tanh (Ideal.ofBits FTy.f32 0x3F4C422A#32 * (x + Ideal.ofBits FTy.f32 0x3D372713#32 * (x * x * x)))))

/-- A value times its logistic. -/
def silu (x : EReal) : EReal := x * Ideal.div 1 (1 + Ideal.exp (-x))

/-- The retention's output, normalized and gated. -/
def ret (o rg : Fin 256 → EReal) (l : Fin 256) : EReal := gln o l * silu (rg l)

/-- The normalized values of the token mixing. -/
def val (v : Fin 256 → EReal) (l : Fin 256) : EReal := gln (fun l => gelu (v l)) l

/-- The mixed tokens of a block, gated. -/
def tm (u : Fin 256 → EReal) (v : Fin 128 → Fin 256 → EReal) (w : FVec Ideal (⟨3, ![4, 128, 128]⟩ : Shape) .f32)
    (b : FVec Ideal (⟨2, ![4, 128]⟩ : Shape) .f32) (i : Fin 128) (C : Fin 256) : EReal :=
  gelu (u C) * (∑ j : Fin 128, val (v j) C * w (ix3 ⟨C.val / 64, by omega⟩ i j) + b (ix2 ⟨C.val / 64, by omega⟩ i))

/-- The place of a column in the order (query of the group, group). -/
def unslab (j : ℕ) : ℕ := j / 64 % 4 * 128 + j / 256 * 64 + j % 64

theorem unslab_lt (j : Fin 512) : unslab j.val < 512 := by unfold unslab; omega

/-- The three parts side by side. -/
def cat (r t : Fin 256 → EReal) (a : Fin 512 → EReal) (k : Fin 1024) : EReal :=
  if h : k.val < 256 then r ⟨k.val, h⟩ else if h2 : k.val - 256 < 256 then t ⟨k.val - 256, h2⟩
  else a ⟨unslab (k.val - 256 - 256), unslab_lt ⟨k.val - 256 - 256, by omega⟩⟩

/-- The row before its norm. -/
def pre (x g ct : Fin 1024 → EReal) (W : FVec Ideal (⟨2, ![1024, 1024]⟩ : Shape) .f32) (n : Fin 1024) : EReal :=
  Ideal.ofBits FTy.f32 0x3FD744FD#32 * x n + g n * ∑ k : Fin 1024, ct k * W (ix2 k n)

/-- A row normalized, with scale and shift. -/
def lnr (p ga be : Fin 1024 → EReal) (n : Fin 1024) : EReal :=
  (p n - Proj.mu p) * Ideal.rsqrt (Ideal.div (∑ j, (p j - Proj.mu p) * (p j - Proj.mu p)) (Ideal.ofBits FTy.f32 0x44800000#32)
    + Ideal.ofBits FTy.f32 0x3727C5AC#32) * ga n + be n

section
variable (x : FVec Ideal (⟨2, ![16896, 1024]⟩ : Shape) .f32) (of ob rg su sv : FVec Ideal (⟨2, ![16896, 256]⟩ : Shape) .f32)
variable (ao : FVec Ideal (⟨2, ![16896, 512]⟩ : Shape) .f32)
variable (ml : FVec Ideal (⟨2, ![2, 6144]⟩ : Shape) .f32) (mc : FVec Ideal (⟨1, ![6144]⟩ : Shape) .f32)
variable (wo : FVec Ideal (⟨2, ![1024, 1024]⟩ : Shape) .f32) (w : FVec Ideal (⟨3, ![4, 128, 128]⟩ : Shape) .f32)
variable (b : FVec Ideal (⟨2, ![4, 128]⟩ : Shape) .f32) (ga be : FVec Ideal (⟨1, ![1024]⟩ : Shape) .f32)
variable (wq : FVec Ideal (⟨2, ![1024, 2048]⟩ : Shape) .f32)
variable (R : Fin 16896)

/-- The joined row of a token. -/
def joined : Fin 1024 → EReal :=
  cat (ret (fun l => of (ix2 R l) + ob (ix2 R l)) (fun l => rg (ix2 R l)))
    (tm (fun l => su (ix2 R l)) (fun j l => sv (ix2 ⟨R.val / 128 * 128 + j.val, by omega⟩ l)) w b ⟨R.val % 128, by omega⟩)
    (fun l => ao (ix2 R l))

/-- The row of a token before its norm. -/
def prow : Fin 1024 → EReal :=
  pre (fun n => x (ix2 R n)) (fun n => Proj.mrow ml mc R ⟨2048 + n.val, by omega⟩) (joined of ob rg su sv ao w b R) wo

/-- The row of a token after the step. -/
def x1 : Fin 1024 → EReal := lnr (prow x of ob rg su sv ao ml mc wo w b R) (fun n => ga (ix1 n)) (fun n => be (ix1 n))

/-- Its modulated row. -/
def hm : Fin 1024 → EReal :=
  Proj.hrow (x1 x of ob rg su sv ao ml mc wo w b ga be R) (fun n => Proj.mrow ml mc R ⟨4096 + n.val, by omega⟩) (fun n => Proj.mrow ml mc R ⟨3072 + n.val, by omega⟩)

/-- Its queries. -/
def qp (C : Fin 2048) : EReal := ∑ k : Fin 1024, hm x of ob rg su sv ao ml mc wo w b ga be R k * wq (ix2 k C)

end

end Mix
end
-- ==== Proof.MixMath.lean ====
/- The kernel's forms of the group norm, the smooth rectifier and the token mixing are the plain ones on finite rows. -/
module

public import proofs.«01_k».proof.Proof.MixSpec
public import proofs.«01_k».proof.Proof.ProjMath

@[expose] public section

set_option maxRecDepth 16384

noncomputable section

namespace Mix
open Idealize.ShloMosaic Attn Proj

theorem fin_zero : Fin' (0 : EReal) := ⟨EReal.zero_ne_top, EReal.zero_ne_bot⟩
theorem fin_one : Fin' (1 : EReal) := ⟨EReal.coe_ne_top 1, EReal.coe_ne_bot 1⟩
theorem fin_coe (r : ℝ) : Fin' (r : EReal) := ⟨EReal.coe_ne_top r, EReal.coe_ne_bot r⟩

theorem sub_self' {x : EReal} (h : Fin' x) : x - x = 0 := by
  lift x to ℝ using ⟨h.1, h.2⟩
  rw [← EReal.coe_sub, sub_self]; rfl

/-- A sum over one block of a row. -/
theorem sum_block (n m : ℕ) (f : Fin (n * m) → EReal) (g : Fin n) :
    (∑ k : Fin (n * m), if k.val / m = g.val then f k else 0) = ∑ d : Fin m, f (finProdFinEquiv (g, d)) := by
  rw [← Equiv.sum_comp finProdFinEquiv, Fintype.sum_prod_type, Finset.sum_eq_single g]
  · refine Finset.sum_congr rfl fun d _ => if_pos ?_
    have hm : 0 < m := lt_of_le_of_lt (Nat.zero_le _) d.isLt
    change (d.val + m * g.val) / m = g.val
    rw [Nat.add_mul_div_left _ _ hm, Nat.div_eq_of_lt d.isLt, Nat.zero_add]
  · intro a _ ha
    refine Finset.sum_eq_zero fun d _ => if_neg ?_
    have hm : 0 < m := lt_of_le_of_lt (Nat.zero_le _) d.isLt
    change ¬ (d.val + m * a.val) / m = g.val
    rw [Nat.add_mul_div_left _ _ hm, Nat.div_eq_of_lt d.isLt, Nat.zero_add]
    exact fun e => ha (Fin.ext e)
  · exact fun h => absurd (Finset.mem_univ _) h

theorem sum_head (f : Fin 256 → EReal) (l : Fin 256) :
    (∑ k : Fin 256, if k.val / 64 = l.val / 64 then f k else 0) = ∑ d : Fin 64, f (hcol l d) := by
  refine (sum_block 4 64 f ⟨l.val / 64, by omega⟩).trans (Finset.sum_congr rfl fun d _ => congrArg f (Fin.ext ?_))
  change d.val + 64 * (l.val / 64) = l.val / 64 * 64 + d.val
  omega

theorem sum_mix (f : Fin 512 → EReal) (g : Fin 4) :
    (∑ k : Fin 512, if k.val / 128 = g.val then f k else 0) = ∑ j : Fin 128, f ⟨g.val * 128 + j.val, by omega⟩ := by
  refine (sum_block 4 128 f g).trans (Finset.sum_congr rfl fun d _ => congrArg f (Fin.ext ?_))
  change d.val + 128 * g.val = g.val * 128 + d.val
  omega

theorem w64 : Ideal.ofBits FTy.f32 0x42800000#32 = ((64 : ℝ) : EReal) := by
  simp [Ideal.ofBits, Ideal.ieee]; rw [← EReal.coe_mul]; norm_num
theorem i64 : Ideal.ofBits FTy.f32 0x3C800000#32 = ((1 / 64 : ℝ) : EReal) := by
  simp [Ideal.ofBits, Ideal.ieee]; rw [← EReal.coe_mul]; norm_num

/-- The entry of the averaging matrix. -/
def av (k l : Fin 256) : EReal := if k.val / 64 = l.val / 64 then Ideal.ofBits FTy.f32 0x3C800000#32 else 0

theorem mean_av (f : Fin 256 → EReal) (l : Fin 256) :
    ∑ k, f k * av k l = Ideal.div (∑ d : Fin 64, f (hcol l d)) (Ideal.ofBits FTy.f32 0x42800000#32) := by
  rw [w64, Ideal.div_coe (by norm_num), ← sum_head, Attn.sum_mul_fin _ _ _ (by exact_mod_cast (by norm_num : (0 : ℝ) ≤ 1 / 64)) (EReal.coe_ne_top _)]
  refine Finset.sum_congr rfl fun k _ => ?_
  unfold av
  split
  · rw [i64]
  · rw [mul_zero, zero_mul]

theorem zero_av (f : Fin 256 → EReal) (hf : ∀ k, Fin' (f k)) (l : Fin 256) : ∑ k, (f k - f k) * av k l = 0 :=
  Finset.sum_eq_zero fun k _ => by rw [sub_self' (hf k), zero_mul]

theorem fin_gm (z : Fin 256 → EReal) (hz : ∀ k, Fin' (z k)) (l : Fin 256) : Fin' (gm z l) := by
  unfold gm
  rw [w64, Ideal.div_coe (by norm_num)]
  exact fin_mul (fin_sum _ _ fun d => hz _) (fin_coe _)

theorem gm_congr (z : Fin 256 → EReal) (k l : Fin 256) (h : k.val / 64 = l.val / 64) : gm z k = gm z l := by
  unfold gm hcol
  simp only [h]

/-- The mean in two parts. -/
theorem gm_split (z : Fin 256 → EReal) (hz : ∀ k, Fin' (z k)) (l : Fin 256) :
    ∑ k, z k * av k l + ∑ k, (z k - z k) * av k l = gm z l := by
  rw [zero_av z hz, add_zero, mean_av]; rfl

/-- The group norm with both means in two parts. -/
theorem gln_split (z : Fin 256 → EReal) (hz : ∀ k, Fin' (z k)) (l : Fin 256) (p : Fin 256 → EReal)
    (hp : ∀ k, p k = z k - gm z k) :
    p l * Ideal.rsqrt (∑ k, p k * p k * av k l + ∑ k, (p k * p k - p k * p k) * av k l + Ideal.ofBits FTy.f32 0x3727C5AC#32) = gln z l := by
  have hf : ∀ k, Fin' (p k) := fun k => by rw [hp]; exact fin_sub (hz k) (fin_gm z hz k)
  rw [zero_av (fun k => p k * p k) (fun k => fin_mul (hf k) (hf k)), add_zero, mean_av (fun k => p k * p k)]
  unfold gln
  simp only [hp]
  have e : ∀ d : Fin 64, gm z (hcol l d) = gm z l := fun d => gm_congr z _ _ (by dsimp only; omega)
  simp only [e]

theorem half : Ideal.ofBits FTy.f32 0x3F000000#32 = ((1 / 2 : ℝ) : EReal) := by
  simp [Ideal.ofBits, Ideal.ieee]; rw [← EReal.coe_mul]; norm_num
theorem c0 : Ideal.ofBits FTy.f32 0x3F4C422A#32 = ((6693141 / 8388608 : ℝ) : EReal) := by
  simp [Ideal.ofBits, Ideal.ieee]; rw [← EReal.coe_mul]; norm_num
theorem c3 : Ideal.ofBits FTy.f32 0x3D372713#32 = ((12003091 / 268435456 : ℝ) : EReal) := by
  simp [Ideal.ofBits, Ideal.ieee]; rw [← EReal.coe_mul]; norm_num

/-- The rectifier in the factored form. -/
theorem gelu_fac (x : EReal) (hx : x ≠ ⊥) :
    Ideal.ofBits FTy.f32 0x3F000000#32 * x + Ideal.ofBits FTy.f32 0x3F000000#32 * x
      * Ideal.tanh (x * (Ideal.ofBits FTy.f32 0x3F4C422A#32 + ((80338380498831 / 2251799813685248 : ℝ) : EReal) * (x * x))) = gelu x := by
  unfold gelu
  rw [half, c0, c3]
  by_cases ht : x = ⊤
  · subst ht
    have p : ∀ r : ℝ, 0 < r → ((r : ℝ) : EReal) * ⊤ = ⊤ := fun r hr => EReal.coe_mul_top_of_pos hr
    have n : ((6693141 / 8388608 : ℝ) : EReal) + ⊤ = ⊤ := EReal.coe_add_top _
    have h2 : (1 : EReal) + 1 = ((2 : ℝ) : EReal) := by rw [← EReal.coe_one, ← EReal.coe_add]; norm_num
    rw [EReal.top_mul_top, EReal.top_mul_top, p _ (by norm_num), p _ (by norm_num), p _ (by norm_num), n, EReal.top_mul_top, EReal.top_add_top,
      p _ (by norm_num), Ideal.tanh_top, mul_one, EReal.top_add_top, h2, ← EReal.coe_mul, EReal.top_mul_coe_of_pos (by norm_num)]
  lift x to ℝ using ⟨ht, hx⟩
  have h1 : (1 : EReal) = ((1 : ℝ) : EReal) := rfl
  rw [h1]
  simp only [← EReal.coe_mul, ← EReal.coe_add]
  rw [Ideal.tanh_coe, Ideal.tanh_coe]
  simp only [← EReal.coe_mul, ← EReal.coe_add]
  refine congrArg _ ?_
  have e : x * (6693141 / 8388608 + 80338380498831 / 2251799813685248 * (x * x)) = 6693141 / 8388608 * (x + 12003091 / 268435456 * (x * x * x)) := by ring
  rw [e]; ring

theorem fin_gelu (x : EReal) (hx : Fin' x) : Fin' (gelu x) := by
  unfold gelu
  rw [half, c0, c3]
  lift x to ℝ using ⟨hx.1, hx.2⟩
  have h1 : (1 : EReal) = ((1 : ℝ) : EReal) := rfl
  rw [h1]
  simp only [← EReal.coe_mul, ← EReal.coe_add]
  rw [Ideal.tanh_coe]
  simp only [← EReal.coe_mul, ← EReal.coe_add]
  exact fin_coe _

theorem neg_sub0 (x : EReal) : 0 - x = -x := zero_sub x

theorem unslab_slab : ∀ k : Fin 512, unslab (slab k.val) = k.val := by decide +kernel
theorem slab_unslab : ∀ k : Fin 512, slab (unslab k.val) = k.val := by decide +kernel

/-- The last columns of the joined row in the order (query of the group, group). -/
theorem sum_perm (f : Fin 512 → Fin 512 → EReal) :
    ∑ k : Fin 512, f k ⟨slab k.val, by unfold slab; omega⟩ = ∑ j : Fin 512, f ⟨unslab j.val, unslab_lt j⟩ j := by
  refine Fintype.sum_equiv ⟨fun k : Fin 512 => (⟨slab k.val, by unfold slab; omega⟩ : Fin 512), fun j => ⟨unslab j.val, unslab_lt j⟩, fun k => Fin.ext ?_, fun j => Fin.ext ?_⟩ _ _ fun k => ?_
  · exact unslab_slab k
  · exact slab_unslab j
  · refine congrArg₂ f (Fin.ext ?_) rfl
    exact (unslab_slab k).symm

/-- The joined product in three parts. -/
theorem sum_cat (r t : Fin 256 → EReal) (a : Fin 512 → EReal) (W : Fin 1024 → EReal) :
    ∑ k : Fin 256, r k * W ⟨k.val, by omega⟩ + ∑ k : Fin 256, t k * W ⟨256 + k.val, by omega⟩
      + ∑ k : Fin 512, a k * W ⟨512 + slab k.val, by unfold slab; omega⟩ = ∑ k, cat r t a k * W k := by
  rw [sum_perm fun k j => a k * W ⟨512 + j.val, by omega⟩]
  have e1 : ∑ k, cat r t a k * W k = ∑ k : Fin 512, cat r t a ⟨k.val, by omega⟩ * W ⟨k.val, by omega⟩ + ∑ k : Fin 512, cat r t a ⟨512 + k.val, by omega⟩ * W ⟨512 + k.val, by omega⟩ :=
    Fin.sum_univ_two_halves 512 512 rfl (fun k => cat r t a k * W k)
  have e2 : ∑ k : Fin 512, cat r t a ⟨k.val, by omega⟩ * W ⟨k.val, by omega⟩
      = ∑ k : Fin 256, cat r t a ⟨k.val, by omega⟩ * W ⟨k.val, by omega⟩ + ∑ k : Fin 256, cat r t a ⟨256 + k.val, by omega⟩ * W ⟨256 + k.val, by omega⟩ :=
    Fin.sum_univ_two_halves 256 256 rfl (fun k : Fin 512 => cat r t a ⟨k.val, by omega⟩ * W ⟨k.val, by omega⟩)
  rw [e1, e2]
  refine congrArg₂ (HAdd.hAdd (α := EReal) (β := EReal) (γ := EReal)) (congrArg₂ (HAdd.hAdd (α := EReal) (β := EReal) (γ := EReal)) (Finset.sum_congr rfl fun k _ => ?_) (Finset.sum_congr rfl fun k _ => ?_)) (Finset.sum_congr rfl fun k _ => ?_)
  · unfold cat
    rw [dif_pos k.isLt]
  · unfold cat
    dsimp only
    rw [dif_neg (by omega), dif_pos (by omega)]
    exact congrArg (fun z => t z * _) (Fin.ext (by dsimp only; omega))
  · unfold cat
    dsimp only
    rw [dif_neg (by omega), dif_neg (by omega)]
    exact congrArg (fun z => a z * _) (Fin.ext (by dsimp only; congr 1; omega))

end Mix
end
-- ==== Proof.MixReads.lean ====
/- The out-projection's operands, entry by entry, of its arguments. -/
module

public import proofs.«01_k».proof.Proof.Gen.Kernel3Ideal.Frame.Runs
public import proofs.«01_k».proof.Proof.MixMath
public import Idealize.ShloMosaic.Lib.Pointwise
public import Idealize.ShloMosaic.Lib.Pipeline.ValueKit

@[expose] public section

set_option maxRecDepth 16384
set_option maxHeartbeats 4000000

noncomputable section

namespace Mix
open Idealize.ShloMosaic Idealize.ShloMosaic.TcCoe Idealize.SL.Sem
open Cert.Kernel3Ideal Cert.Kernel3Ideal.Gen

section Gather
variable {α : Type}

/-- Picking rows of a matrix by an array of row numbers. -/
abbrev rowDims (N C : ℕ) (wf : GatherDims.WF ⟨2, ![N, 1024]⟩ ⟨2, ![C, 1]⟩ ⟨2, ![C, 1024]⟩ [1] [0] [] [0] [] 1 ![1, 1024]) :
    GatherDims ⟨2, ![N, 1024]⟩ ⟨2, ![C, 1]⟩ ⟨2, ![C, 1024]⟩ where
  offsetDims := [1]
  collapsedSliceDims := [0]
  operandBatchingDims := []
  startIndicesBatchingDims := []
  startIndexMap := [0]
  indexVectorDim := 1
  sliceSizes := ![1, 1024]
  wf := wf

theorem gather_rows {N C w : ℕ} (hN : 0 < N)
    (wf : GatherDims.WF ⟨2, ![N, 1024]⟩ ⟨2, ![C, 1]⟩ ⟨2, ![C, 1024]⟩ [1] [0] [] [0] [] 1 ![1, 1024])
    (x : (⟨2, ![N, 1024]⟩ : Shape).Idx → α) (idx : IVec ⟨2, ![C, 1]⟩ w) (j : Fin C) (k : Fin 1024) :
    Host.gather (rowDims N C wf) x idx (ix2 j k) = x (ix2 ⟨min (idx (ix2 j 0)).toInt.toNat (N - 1), by omega⟩ k) := by
  unfold Host.gather
  congr 1
  funext a
  refine Fin.ext ?_
  match a with
  | ⟨1, _⟩ =>
    show (rowDims N C wf).start (ix2 j k) idx 1 + (rowDims N C wf).batchCoord (ix2 j k) 1 + (rowDims N C wf).offCoord (ix2 j k) 1 = _
    rw [GatherDims.batchCoord_eq_zero _ _ _ List.not_mem_nil]
    unfold GatherDims.start
    rw [dif_neg (show (1 : Fin 2) ∉ (rowDims N C wf).startIndexMap by simp)]
    simp only [Nat.add_zero, Nat.zero_add]
    rfl
  | ⟨0, _⟩ =>
    show (rowDims N C wf).start (ix2 j k) idx 0 + (rowDims N C wf).batchCoord (ix2 j k) 0 + (rowDims N C wf).offCoord (ix2 j k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C wf).startIndexMap from List.mem_singleton.mpr rfl)]
    have hsi : (rowDims N C wf).siIdx (ix2 j k) ⟨List.idxOf (0 : Fin 2) (rowDims N C wf).startIndexMap,
        List.idxOf_lt_length_iff.2 (List.mem_singleton.mpr rfl)⟩ = ix2 j 0 := by
      funext b; refine Fin.ext ?_
      match b with
      | ⟨0, _⟩ => rfl
      | ⟨1, _⟩ => rfl
    rw [hsi]
    rfl

end Gather

variable (m : (ℓ : Loc nD τ sig) → Buf (Elt Ideal) ℓ) (c : Dev nD)

abbrev b0 : FVec Ideal S16896x1024 .f32 := m ((c : Thread nD τ).loc main_arg0)
abbrev b1 : FVec Ideal S16896x256 .f32 := m ((c : Thread nD τ).loc main_arg1)
abbrev b2 : FVec Ideal S16896x256 .f32 := m ((c : Thread nD τ).loc main_arg2)
abbrev b3 : FVec Ideal S16896x256 .f32 := m ((c : Thread nD τ).loc main_arg3)
abbrev b4 : FVec Ideal S16896x256 .f32 := m ((c : Thread nD τ).loc main_arg4)
abbrev b5 : FVec Ideal S16896x256 .f32 := m ((c : Thread nD τ).loc main_arg5)
abbrev b6 : FVec Ideal S16896x512 .f32 := m ((c : Thread nD τ).loc main_arg6)
abbrev b7 : FVec Ideal S2x6144 .f32 := m ((c : Thread nD τ).loc main_arg7)
abbrev b8 : FVec Ideal S6144 .f32 := m ((c : Thread nD τ).loc main_arg8)
abbrev b9 : FVec Ideal S1024x1024 .f32 := m ((c : Thread nD τ).loc main_arg9)
abbrev b10 : FVec Ideal S4x128x128 .f32 := m ((c : Thread nD τ).loc main_arg10)
abbrev b11 : FVec Ideal S4x128 .f32 := m ((c : Thread nD τ).loc main_arg11)
abbrev b12 : FVec Ideal S1024 .f32 := m ((c : Thread nD τ).loc main_arg12)
abbrev b13 : FVec Ideal S1024 .f32 := m ((c : Thread nD τ).loc main_arg13)
abbrev b14 : FVec Ideal S1024x2048 .f32 := m ((c : Thread nD τ).loc main_arg14)

/-- The order of the rows of the output weights. -/
theorem tab : ∀ C : Fin 512, min ((lit0 (S512.rowMajor (ix1 C))).toInt.toNat) 511 = Proj.slab C.val := by decide +kernel

/-- The modulation rows. -/
theorem V2 (R : Fin 3) (C : Fin 6144) : (V m c main_v2 : FVec Ideal S8x6144 .f32) (ix2 ⟨R.val, by omega⟩ C)
    = if h : R.val < 2 then b7 m c (ix2 ⟨R.val, h⟩ C) else b8 m c (ix1 C) := by
  change (StableHlo.after hostOps0 (fun b => m (c, b)) (Proc.devRef .tc main_v2) : FVec Ideal S8x6144 .f32) _ = _
  unfold hostOps0
  after_results_simp
  pointwise
  after_results_simp
  by_cases h : R.val < 2
  · rw [dif_pos h, dif_pos h]
  · rw [dif_neg h, dif_neg h, dif_pos (by omega)]
    pointwise

/-- The output weights' rows, reordered past the first 512. -/
theorem V11 (R : Fin 1024) (C : Fin 1024) : (V m c main_v11 : FVec Ideal S1024x1024 .bf16) (ix2 R C)
    = if h : R.val < 512 then b9 m c (ix2 R C) else b9 m c (ix2 ⟨512 + Proj.slab (R.val - 512), by unfold Proj.slab; omega⟩ C) := by
  change (StableHlo.after hostOps0 (fun b => m (c, b)) (Proc.devRef .tc main_v11) : FVec Ideal S1024x1024 .bf16) _ = _
  unfold hostOps0
  after_results_simp
  pointwise
  after_results_simp
  split
  · pointwise
  · refine (gather_rows (by norm_num) gather_S512x1024_S512x1_S512x1024_1_0_n_n_0_1_11024.wf _ _ _ _).trans ?_
    pointwise
    refine congrArg (b9 m c) (congrArg (fun a => ix2 a C) (Fin.ext (congrArg (512 + ·) ?_)))
    exact tab ⟨R.val - 512, by omega⟩

/-- The mixing weights side by side. -/
theorem V14 (i : Fin 128) (g : Fin 4) (j : Fin 128) : (V m c main_v14 : FVec Ideal S128x512 .bf16) (ix2 i ⟨g.val * 128 + j.val, by omega⟩)
    = b10 m c (ix3 g i j) := by
  change (StableHlo.after hostOps0 (fun b => m (c, b)) (Proc.devRef .tc main_v14) : FVec Ideal S128x512 .bf16) _ = _
  unfold hostOps0
  after_results_simp
  pointwise
  refine congrArg (b10 m c) ?_
  exact congr (congr (congrArg ix3 (Fin.ext (by dsimp only; omega))) rfl) (Fin.ext (by dsimp only; omega))

/-- The mixing biases, each over its head. -/
theorem V17 (i : Fin 128) (C : Fin 256) : (V m c main_v17 : FVec Ideal S128x256 .f32) (ix2 i C)
    = b11 m c (ix2 ⟨C.val / 64, by omega⟩ i) := by
  change (StableHlo.after hostOps0 (fun b => m (c, b)) (Proc.devRef .tc main_v17) : FVec Ideal S128x256 .f32) _ = _
  unfold hostOps0
  after_results_simp
  pointwise

theorem V18 (R : Fin 16896) (C : Fin 512) : (V m c main_v18 : FVec Ideal S16896x512 .bf16) (ix2 R C) = b6 m c (ix2 R C) := by
  change (StableHlo.after hostOps0 (fun b => m (c, b)) (Proc.devRef .tc main_v18) : FVec Ideal S16896x512 .bf16) _ = _
  unfold hostOps0
  after_results_simp
  pointwise

theorem V19 (z : Fin 1) (C : Fin 1024) : (V m c main_v19 : FVec Ideal S1x1024 .f32) (ix2 z C) = b12 m c (ix1 C) := by
  change (StableHlo.after hostOps0 (fun b => m (c, b)) (Proc.devRef .tc main_v19) : FVec Ideal S1x1024 .f32) _ = _
  unfold hostOps0
  after_results_simp
  pointwise

theorem V20 (z : Fin 1) (C : Fin 1024) : (V m c main_v20 : FVec Ideal S1x1024 .f32) (ix2 z C) = b13 m c (ix1 C) := by
  change (StableHlo.after hostOps0 (fun b => m (c, b)) (Proc.devRef .tc main_v20) : FVec Ideal S1x1024 .f32) _ = _
  unfold hostOps0
  after_results_simp
  pointwise

theorem V21 (R : Fin 1024) (C : Fin 2048) : (V m c main_v21 : FVec Ideal S1024x2048 .bf16) (ix2 R C) = b14 m c (ix2 R C) := by
  change (StableHlo.after hostOps0 (fun b => m (c, b)) (Proc.devRef .tc main_v21) : FVec Ideal S1024x2048 .bf16) _ = _
  unfold hostOps0
  after_results_simp
  pointwise

end Mix
end
-- ==== Proof.MixBlocks.lean ====
/- The blocks of a grid point, entry by entry. -/
module

public import proofs.«01_k».proof.Proof.Gen.Kernel3Ideal.Frame
public import proofs.«01_k».proof.Proof.MixReads

@[expose] public section

set_option maxRecDepth 16384
set_option maxHeartbeats 4000000

noncomputable section

namespace Mix
open Idealize.ShloMosaic Idealize.ShloMosaic.TcCoe Idealize.SL.Sem
open Cert.Kernel3Ideal Cert.Kernel3Ideal.Gen

variable (m : (ℓ : Loc nD τ sig) → Buf (Elt Ideal) ℓ) (c : Dev nD) (t : Fin cfg0.N)

theorem t_lt : t.val < 33 := lt_of_lt_of_eq t.isLt N_0

/-- The row of the whole array at a row of a point's block. -/
abbrev at' (i : Fin 512) : Fin 16896 := ⟨t.val * 512 + i.val, by have := t_lt t; omega⟩

/-- Where each window's block lies. -/
theorem idx_row : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0])
theorem idx_all : ∀ t : Fin cfg0.N, win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] :=
  (by decide +kernel : ∀ t : Fin grid0.N, win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0])
theorem idx_out : ∀ t : Fin cfg0.N, win0_14.index t = ![t.val, 0] ∧ win0_16.index t = ![t.val, 0] :=
  (by decide +kernel : ∀ t : Fin grid0.N, win0_14.index t = ![t.val, 0] ∧ win0_16.index t = ![t.val, 0])
theorem idx_blk : ∀ t : Fin cfg0.N, win0_15.index t = ![t.val, 0, 0] :=
  (by decide +kernel : ∀ t : Fin grid0.N, win0_15.index t = ![t.val, 0, 0])
theorem off_row : ∀ t : Fin cfg0.N, k0_off1 (grid0.coords t) = ![t.val / 16, 2048] ∧ k0_off2 (grid0.coords t) = ![t.val / 16, 3072] ∧ k0_off3 (grid0.coords t) = ![t.val / 16, 4096] :=
  (by decide +kernel : ∀ t : Fin grid0.N, k0_off1 (grid0.coords t) = ![t.val / 16, 2048] ∧ k0_off2 (grid0.coords t) = ![t.val / 16, 3072] ∧ k0_off3 (grid0.coords t) = ![t.val / 16, 4096])

theorem blk0 (i : Fin 512) (k : Fin 1024) : (iblk m c 0 t : FVec Ideal S512x1024 .f32) (ix2 i k) = b0 m c (ix2 (at' t i) k) := by
  refine Eq.trans ?_ (congrFun (V_main_arg0 m c) (ix2 (at' t i) k))
  change (V m c main_arg0 : FVec Ideal S16896x1024 .f32) (((cfg0.win 0).blk t).view.emb (ix2 i k)) = _
  refine congrArg (V m c main_arg0 : FVec Ideal S16896x1024 .f32) ?_
  funext a
  refine Fin.ext ?_
  refine ((cfg0.win 0).rect_emb_val t (ix2 i k) a).trans ?_
  rw [show (cfg0.win 0).index t = ![t.val, 0] from (idx_row t).1]
  fin_cases a
  · rfl
  · change 0 * 1024 + k.val = k.val
    omega

theorem blk1 (i : Fin 512) (k : Fin 256) : (iblk m c 1 t : FVec Ideal S512x256 .f32) (ix2 i k) = b1 m c (ix2 (at' t i) k) := by
  refine Eq.trans ?_ (congrFun (V_main_arg1 m c) (ix2 (at' t i) k))
  change (V m c main_arg1 : FVec Ideal S16896x256 .f32) (((cfg0.win 1).blk t).view.emb (ix2 i k)) = _
  refine congrArg (V m c main_arg1 : FVec Ideal S16896x256 .f32) ?_
  funext a
  refine Fin.ext ?_
  refine ((cfg0.win 1).rect_emb_val t (ix2 i k) a).trans ?_
  rw [show (cfg0.win 1).index t = ![t.val, 0] from (idx_row t).2.1]
  fin_cases a
  · rfl
  · change 0 * 256 + k.val = k.val
    omega

theorem blk2 (i : Fin 512) (k : Fin 256) : (iblk m c 2 t : FVec Ideal S512x256 .f32) (ix2 i k) = b2 m c (ix2 (at' t i) k) := by
  refine Eq.trans ?_ (congrFun (V_main_arg2 m c) (ix2 (at' t i) k))
  change (V m c main_arg2 : FVec Ideal S16896x256 .f32) (((cfg0.win 2).blk t).view.emb (ix2 i k)) = _
  refine congrArg (V m c main_arg2 : FVec Ideal S16896x256 .f32) ?_
  funext a
  refine Fin.ext ?_
  refine ((cfg0.win 2).rect_emb_val t (ix2 i k) a).trans ?_
  rw [show (cfg0.win 2).index t = ![t.val, 0] from (idx_row t).2.2.1]
  fin_cases a
  · rfl
  · change 0 * 256 + k.val = k.val
    omega

theorem blk3 (i : Fin 512) (k : Fin 256) : (iblk m c 3 t : FVec Ideal S512x256 .f32) (ix2 i k) = b3 m c (ix2 (at' t i) k) := by
  refine Eq.trans ?_ (congrFun (V_main_arg3 m c) (ix2 (at' t i) k))
  change (V m c main_arg3 : FVec Ideal S16896x256 .f32) (((cfg0.win 3).blk t).view.emb (ix2 i k)) = _
  refine congrArg (V m c main_arg3 : FVec Ideal S16896x256 .f32) ?_
  funext a
  refine Fin.ext ?_
  refine ((cfg0.win 3).rect_emb_val t (ix2 i k) a).trans ?_
  rw [show (cfg0.win 3).index t = ![t.val, 0] from (idx_row t).2.2.2.1]
  fin_cases a
  · rfl
  · change 0 * 256 + k.val = k.val
    omega

theorem blk4 (i : Fin 512) (k : Fin 256) : (iblk m c 4 t : FVec Ideal S512x256 .f32) (ix2 i k) = b4 m c (ix2 (at' t i) k) := by
  refine Eq.trans ?_ (congrFun (V_main_arg4 m c) (ix2 (at' t i) k))
  change (V m c main_arg4 : FVec Ideal S16896x256 .f32) (((cfg0.win 4).blk t).view.emb (ix2 i k)) = _
  refine congrArg (V m c main_arg4 : FVec Ideal S16896x256 .f32) ?_
  funext a
  refine Fin.ext ?_
  refine ((cfg0.win 4).rect_emb_val t (ix2 i k) a).trans ?_
  rw [show (cfg0.win 4).index t = ![t.val, 0] from (idx_row t).2.2.2.2.1]
  fin_cases a
  · rfl
  · change 0 * 256 + k.val = k.val
    omega

theorem blk5 (i : Fin 512) (k : Fin 256) : (iblk m c 5 t : FVec Ideal S512x256 .f32) (ix2 i k) = b5 m c (ix2 (at' t i) k) := by
  refine Eq.trans ?_ (congrFun (V_main_arg5 m c) (ix2 (at' t i) k))
  change (V m c main_arg5 : FVec Ideal S16896x256 .f32) (((cfg0.win 5).blk t).view.emb (ix2 i k)) = _
  refine congrArg (V m c main_arg5 : FVec Ideal S16896x256 .f32) ?_
  funext a
  refine Fin.ext ?_
  refine ((cfg0.win 5).rect_emb_val t (ix2 i k) a).trans ?_
  rw [show (cfg0.win 5).index t = ![t.val, 0] from (idx_row t).2.2.2.2.2.1]
  fin_cases a
  · rfl
  · change 0 * 256 + k.val = k.val
    omega

theorem blk6 (i : Fin 512) (k : Fin 512) : (iblk m c 6 t : FVec Ideal S512x512 .bf16) (ix2 i k) = b6 m c (ix2 (at' t i) k) := by
  refine Eq.trans ?_ (V18 m c (at' t i) k)
  change (V m c main_v18 : FVec Ideal S16896x512 .bf16) (((cfg0.win 6).blk t).view.emb (ix2 i k)) = _
  refine congrArg (V m c main_v18 : FVec Ideal S16896x512 .bf16) ?_
  funext a
  refine Fin.ext ?_
  refine ((cfg0.win 6).rect_emb_val t (ix2 i k) a).trans ?_
  rw [show (cfg0.win 6).index t = ![t.val, 0] from (idx_row t).2.2.2.2.2.2]
  fin_cases a
  · rfl
  · change 0 * 512 + k.val = k.val
    omega

theorem blk7 (R : Fin 8) (C : Fin 6144) : (iblk m c 7 t : FVec Ideal S8x6144 .f32) (ix2 R C)
    = (V m c main_v2 : FVec Ideal S8x6144 .f32) (ix2 R C) := by
  change (V m c main_v2 : FVec Ideal S8x6144 .f32) (((cfg0.win 7).blk t).view.emb (ix2 R C)) = _
  refine congrArg (V m c main_v2 : FVec Ideal S8x6144 .f32) ?_
  funext a
  refine Fin.ext ?_
  refine ((cfg0.win 7).rect_emb_val t (ix2 R C) a).trans ?_
  rw [show (cfg0.win 7).index t = ![0, 0] from (idx_all t).1]
  fin_cases a
  · change 0 * 8 + R.val = R.val
    omega
  · change 0 * 6144 + C.val = C.val
    omega

theorem blk8 (R : Fin 1024) (C : Fin 1024) : (iblk m c 8 t : FVec Ideal S1024x1024 .bf16) (ix2 R C)
    = (V m c main_v11 : FVec Ideal S1024x1024 .bf16) (ix2 R C) := by
  change (V m c main_v11 : FVec Ideal S1024x1024 .bf16) (((cfg0.win 8).blk t).view.emb (ix2 R C)) = _
  refine congrArg (V m c main_v11 : FVec Ideal S1024x1024 .bf16) ?_
  funext a
  refine Fin.ext ?_
  refine ((cfg0.win 8).rect_emb_val t (ix2 R C) a).trans ?_
  rw [show (cfg0.win 8).index t = ![0, 0] from (idx_all t).2.1]
  fin_cases a
  · change 0 * 1024 + R.val = R.val
    omega
  · change 0 * 1024 + C.val = C.val
    omega

theorem blk9 (R : Fin 128) (C : Fin 512) : (iblk m c 9 t : FVec Ideal S128x512 .bf16) (ix2 R C)
    = (V m c main_v14 : FVec Ideal S128x512 .bf16) (ix2 R C) := by
  change (V m c main_v14 : FVec Ideal S128x512 .bf16) (((cfg0.win 9).blk t).view.emb (ix2 R C)) = _
  refine congrArg (V m c main_v14 : FVec Ideal S128x512 .bf16) ?_
  funext a
  refine Fin.ext ?_
  refine ((cfg0.win 9).rect_emb_val t (ix2 R C) a).trans ?_
  rw [show (cfg0.win 9).index t = ![0, 0] from (idx_all t).2.2.1]
  fin_cases a
  · change 0 * 128 + R.val = R.val
    omega
  · change 0 * 512 + C.val = C.val
    omega

theorem blk10 (R : Fin 128) (C : Fin 256) : (iblk m c 10 t : FVec Ideal S128x256 .f32) (ix2 R C)
    = (V m c main_v17 : FVec Ideal S128x256 .f32) (ix2 R C) := by
  change (V m c main_v17 : FVec Ideal S128x256 .f32) (((cfg0.win 10).blk t).view.emb (ix2 R C)) = _
  refine congrArg (V m c main_v17 : FVec Ideal S128x256 .f32) ?_
  funext a
  refine Fin.ext ?_
  refine ((cfg0.win 10).rect_emb_val t (ix2 R C) a).trans ?_
  rw [show (cfg0.win 10).index t = ![0, 0] from (idx_all t).2.2.2.1]
  fin_cases a
  · change 0 * 128 + R.val = R.val
    omega
  · change 0 * 256 + C.val = C.val
    omega

theorem blk11 (R : Fin 1) (C : Fin 1024) : (iblk m c 11 t : FVec Ideal S1x1024 .f32) (ix2 R C)
    = (V m c main_v19 : FVec Ideal S1x1024 .f32) (ix2 R C) := by
  change (V m c main_v19 : FVec Ideal S1x1024 .f32) (((cfg0.win 11).blk t).view.emb (ix2 R C)) = _
  refine congrArg (V m c main_v19 : FVec Ideal S1x1024 .f32) ?_
  funext a
  refine Fin.ext ?_
  refine ((cfg0.win 11).rect_emb_val t (ix2 R C) a).trans ?_
  rw [show (cfg0.win 11).index t = ![0, 0] from (idx_all t).2.2.2.2.1]
  fin_cases a
  · change 0 * 1 + R.val = R.val
    omega
  · change 0 * 1024 + C.val = C.val
    omega

theorem blk12 (R : Fin 1) (C : Fin 1024) : (iblk m c 12 t : FVec Ideal S1x1024 .f32) (ix2 R C)
    = (V m c main_v20 : FVec Ideal S1x1024 .f32) (ix2 R C) := by
  change (V m c main_v20 : FVec Ideal S1x1024 .f32) (((cfg0.win 12).blk t).view.emb (ix2 R C)) = _
  refine congrArg (V m c main_v20 : FVec Ideal S1x1024 .f32) ?_
  funext a
  refine Fin.ext ?_
  refine ((cfg0.win 12).rect_emb_val t (ix2 R C) a).trans ?_
  rw [show (cfg0.win 12).index t = ![0, 0] from (idx_all t).2.2.2.2.2.1]
  fin_cases a
  · change 0 * 1 + R.val = R.val
    omega
  · change 0 * 1024 + C.val = C.val
    omega

theorem blk13 (R : Fin 1024) (C : Fin 2048) : (iblk m c 13 t : FVec Ideal S1024x2048 .bf16) (ix2 R C)
    = (V m c main_v21 : FVec Ideal S1024x2048 .bf16) (ix2 R C) := by
  change (V m c main_v21 : FVec Ideal S1024x2048 .bf16) (((cfg0.win 13).blk t).view.emb (ix2 R C)) = _
  refine congrArg (V m c main_v21 : FVec Ideal S1024x2048 .bf16) ?_
  funext a
  refine Fin.ext ?_
  refine ((cfg0.win 13).rect_emb_val t (ix2 R C) a).trans ?_
  rw [show (cfg0.win 13).index t = ![0, 0] from (idx_all t).2.2.2.2.2.2]
  fin_cases a
  · change 0 * 1024 + R.val = R.val
    omega
  · change 0 * 2048 + C.val = C.val
    omega

/-- The modulation row a point's load reads. -/
theorem modrow (off : Fin 2 → ℕ) (o : ℕ) (ho : o + 1024 ≤ 6144) (e : off = ![t.val / 16, o])
    (hb : ∀ a, off a + (![1, 1024] : Fin 2 → ℕ) a ≤ S8x6144.size a) (A : FVec Ideal S1x1024 .f32)
    (eA : ∀ x, A x = (iblk m c 7 t : FVec Ideal S8x6144 .f32) ((Rect.unit (s := S8x6144) off ![1, 1024] hb).idx x)) (i : Fin 512) (k : Fin 1024) :
    A (ix2 0 k) = Proj.mrow (b7 m c) (b8 m c) (at' t i) ⟨o + k.val, by omega⟩ := by
  have ht := t_lt t
  subst e
  refine (eA _).trans ?_
  refine Eq.trans (b := (iblk m c 7 t : FVec Ideal S8x6144 .f32) (ix2 ⟨t.val / 16, by omega⟩ ⟨o + k.val, by omega⟩)) ?_ ?_
  · refine congrArg (iblk m c 7 t : FVec Ideal S8x6144 .f32) ?_
    funext a
    refine Fin.ext ((Rect.idx_unit_val _ _ _ _ a).trans ?_)
    fin_cases a <;> rfl
  · rw [blk7]
    refine (V2 m c ⟨t.val / 16, by omega⟩ ⟨o + k.val, by omega⟩).trans ?_
    unfold Proj.mrow
    dsimp only
    by_cases h32 : t.val < 32
    · rw [dif_pos (by omega), dif_pos (by omega)]
      refine congrArg (fun a => b7 m c (ix2 a ⟨o + k.val, by omega⟩)) (Fin.ext ?_)
      dsimp only
      omega
    · rw [dif_neg (by omega), dif_neg (by omega)]

/-- A slab of the output weights' rows. -/
theorem slabW (o n : ℕ) (ho : o + n ≤ 1024) (hb : ∀ a, (![o, 0] : Fin 2 → ℕ) a + (![n, 1024] : Fin 2 → ℕ) a ≤ S1024x1024.size a)
    (W : (⟨2, ![n, 1024]⟩ : Shape).Idx → EReal)
    (eW : ∀ x, W x = (iblk m c 8 t : FVec Ideal S1024x1024 .bf16) ((Rect.unit (s := S1024x1024) ![o, 0] ![n, 1024] hb).idx x)) (k : Fin n) (C : Fin 1024) :
    W (ix2 k C) = (V m c main_v11 : FVec Ideal S1024x1024 .bf16) (ix2 ⟨o + k.val, by omega⟩ C) := by
  refine (eW _).trans (Eq.trans ?_ (blk8 m c t ⟨o + k.val, by omega⟩ C))
  refine congrArg (iblk m c 8 t : FVec Ideal S1024x1024 .bf16) ?_
  funext a
  refine Fin.ext ((Rect.idx_unit_val _ _ _ _ a).trans ?_)
  fin_cases a
  · rfl
  · exact Nat.zero_add _

end Mix
end
-- ==== Proof.MixPay.lean ====
/- The kernel's pieces of the out-projection step, entry by entry. -/
module

public import proofs.«01_k».proof.Proof.Gen.Kernel3Ideal.Skeleton
public import proofs.«01_k».proof.Proof.MixMath
public import Idealize.ShloMosaic.Lib.Pointwise
public import Idealize.ShloMosaic.Lib.Pipeline.ValueKit

@[expose] public section

set_option maxRecDepth 16384
set_option maxHeartbeats 4000000

noncomputable section

namespace Mix
open Idealize.ShloMosaic Idealize.ShloMosaic.TcCoe Idealize.SL.Sem Attn
open Cert.Kernel3Ideal Cert.Kernel3Ideal.Gen

/-- The column numbers of the averaging matrix. -/
abbrev colI : IVec S256x256 32 := iota .tc S256x256 32 [1] iota_S256x256_d1_w32

theorem rowHead : ∀ r : Fin 256, k0_pay2 (ix2 r 0) = BitVec.ofNat 32 (r.val / 64) := by decide +kernel

/-- The quotient by 64 as the kernel writes it. -/
def quot (v : IVec S256x256 32) : IVec S256x256 32 :=
  select (andi (cmpi .ne (subi (extui 32 (cmpi .sgt v (broadcast S256x256 0#32)) natLt_1_32) (extui 32 (cmpi .slt v (broadcast S256x256 0#32)) natLt_1_32))
      (broadcast S256x256 (Scalar.subi (Scalar.extui (Scalar.cmpi .sgt 64#32 0#32)) (Scalar.extui (Scalar.cmpi .slt 64#32 0#32)))))
    (cmpi .ne (remsi v (broadcast S256x256 64#32)) (broadcast S256x256 0#32)))
    (subi (divsi v (broadcast S256x256 64#32)) (broadcast S256x256 1#32)) (divsi v (broadcast S256x256 64#32))

theorem colHead : ∀ c : Fin 256, quot colI (ix2 0 c) = BitVec.ofNat 32 (c.val / 64) := by decide +kernel

theorem ofNat_inj {a b : ℕ} (ha : a < 4) (hb : b < 4) : BitVec.ofNat 32 a = BitVec.ofNat 32 b ↔ a = b := by
  constructor
  · intro h
    have := congrArg BitVec.toNat h
    simp only [BitVec.toNat_ofNat] at this
    omega
  · exact fun h => h ▸ rfl

/-- The averaging matrix. -/
theorem avg_at (k l : Fin 256) : k0_pay3 (F := Ideal) k0_pay2 colI (ix2 k l) = av k l := by
  have e1 : k0_pay2 (ix2 k l) = BitVec.ofNat 32 (k.val / 64) := rowHead k
  have e2 : quot colI (ix2 k l) = BitVec.ofNat 32 (l.val / 64) := colHead l
  have e : k0_pay3 (F := Ideal) k0_pay2 colI (ix2 k l)
      = Scalar.select (Scalar.cmpi .eq (k0_pay2 (ix2 k l)) (quot colI (ix2 k l))) (Ideal.ofBits FTy.f32 0x3C800000#32) (Ideal.ofBits FTy.f32 0x00000000#32) := rfl
  rw [e, e1, e2]
  unfold av
  by_cases h : k.val / 64 = l.val / 64
  · rw [if_pos h, h]
    simp [Scalar.select, Scalar.cmpi, IntOp.cmpi]
  · rw [if_neg h]
    have h' : ¬ BitVec.ofNat 32 (k.val / 64) = BitVec.ofNat 32 (l.val / 64) := fun q => h ((ofNat_inj (by omega) (by omega)).mp q)
    have hc : Scalar.cmpi .eq (BitVec.ofNat 32 (k.val / 64)) (BitVec.ofNat 32 (l.val / 64)) = 0#1 := by
      show BitVec.ofBool (_ == _) = 0#1
      rw [beq_false_of_ne h']; rfl
    rw [hc]
    simp [Scalar.select, Ideal.ofBits, Ideal.ieee]

section
/-- The retention's output, normalized and gated. -/
theorem pay8_at (of ob rg : FVec Ideal S512x256 .f32) (i : Fin 512) (l : Fin 256)
    (hf : ∀ k, Fin' (of (ix2 i k))) (hb : ∀ k, Fin' (ob (ix2 i k))) :
    k0_pay8 (F := Ideal) (k0_pay3 k0_pay2 colI) (k0_pay4 k0_pay2 colI of ob) (k0_pay6 k0_pay2 colI of ob) (k0_pay7 k0_pay2 colI of ob) rg (ix2 i l)
      = ret (fun l => of (ix2 i l) + ob (ix2 i l)) (fun l => rg (ix2 i l)) l := by
  have hz : ∀ k, Fin' (of (ix2 i k) + ob (ix2 i k)) := fun k => Proj.fin_add (hf k) (hb k)
  have e4 : ∀ k, k0_pay4 (F := Ideal) k0_pay2 colI of ob (ix2 i k) = (of (ix2 i k) + ob (ix2 i k)) - gm (fun l => of (ix2 i l) + ob (ix2 i l)) k := by
    intro k
    rw [← gm_split _ hz]
    simp only [← avg_at]
    unfold k0_pay4
    generalize k0_pay3 (F := Ideal) k0_pay2 colI = A
    pointwise
  unfold ret silu
  rw [← gln_split _ hz l _ e4]
  simp only [← avg_at]
  unfold k0_pay8 k0_pay7 k0_pay6 k0_pay5
  generalize k0_pay3 (F := Ideal) k0_pay2 colI = A
  generalize k0_pay4 (F := Ideal) k0_pay2 colI of ob = p
  pointwise
  simp only [zero_sub]

theorem pay9_at (u : FVec Ideal S512x256 .f32) (i : Fin 512) (l : Fin 256) (h : u (ix2 i l) ≠ (⊥ : EReal)) :
    k0_pay9 (F := Ideal) u (ix2 i l) = gelu (u (ix2 i l)) := by
  rw [← gelu_fac _ h]
  unfold k0_pay9
  pointwise
  rfl

theorem pay10_at (u : FVec Ideal S512x256 .f32) (i : Fin 512) (l : Fin 256) (h : Fin' (u (ix2 i l))) :
    k0_pay10 (F := Ideal) u (ix2 i l) = gelu (u (ix2 i l)) := by
  rw [← gelu_fac _ h.2]
  unfold k0_pay10
  pointwise
  rfl

theorem pay12_at (v : FVec Ideal S512x256 .f32) (i : Fin 512) (l : Fin 256) (h : ∀ k, Fin' (v (ix2 i k))) :
    k0_pay12 (F := Ideal) (k0_pay3 k0_pay2 colI) (k0_pay10 v) (k0_pay11 v) (ix2 i l) = val (fun l => v (ix2 i l)) l := by
  have hz : ∀ k, Fin' (gelu (v (ix2 i k))) := fun k => fin_gelu _ (h k)
  unfold val
  refine Eq.trans ?_ (gln_split (fun k => gelu (v (ix2 i k))) hz l
    (fun k => gelu (v (ix2 i k)) - (∑ j, gelu (v (ix2 i j)) * av j k + ∑ j, (gelu (v (ix2 i j)) - gelu (v (ix2 i j))) * av j k))
    fun k => by rw [gm_split _ hz])
  simp only [← avg_at]
  simp only [← fun k => pay10_at v i k (h k)]
  unfold k0_pay12 k0_pay11
  generalize k0_pay3 (F := Ideal) k0_pay2 colI = A
  generalize k0_pay10 (F := Ideal) v = p
  pointwise

end

/-- The row blocks of 128. -/
abbrev colM : IVec S512x256 32 := iota .tc S512x256 32 [1] iota_S512x256_d1_w32

theorem rowBlk : ∀ r : Fin 512, k0_pay13 (ix2 r 0) = BitVec.ofNat 32 (r.val / 128) := by decide +kernel

/-- The quotient by 64 as the kernel writes it. -/
def quotM : IVec S512x256 32 :=
  select (andi (cmpi .ne (subi (extui 32 (cmpi .sgt colM (broadcast S512x256 0#32)) natLt_1_32) (extui 32 (cmpi .slt colM (broadcast S512x256 0#32)) natLt_1_32))
      (broadcast S512x256 (Scalar.subi (Scalar.extui (Scalar.cmpi .sgt 64#32 0#32)) (Scalar.extui (Scalar.cmpi .slt 64#32 0#32)))))
    (cmpi .ne (remsi colM (broadcast S512x256 64#32)) (broadcast S512x256 0#32)))
    (subi k0_pay14 (broadcast S512x256 1#32)) k0_pay14

theorem colBlk : ∀ c : Fin 256, quotM (ix2 0 c) = BitVec.ofNat 32 (c.val / 64) := by decide +kernel

abbrev mixMask : IVec S512x256 1 := k0_pay15 k0_pay13 colM 64#32 k0_pay14

theorem mask_at (k : Fin 512) (C : Fin 256) : mixMask (ix2 k C) = if k.val / 128 = C.val / 64 then 1#1 else 0#1 := by
  have e1 : k0_pay13 (ix2 k C) = BitVec.ofNat 32 (k.val / 128) := rowBlk k
  have e2 : quotM (ix2 k C) = BitVec.ofNat 32 (C.val / 64) := colBlk C
  have e : mixMask (ix2 k C) = Scalar.cmpi .eq (k0_pay13 (ix2 k C)) (quotM (ix2 k C)) := rfl
  rw [e, e1, e2]
  by_cases h : k.val / 128 = C.val / 64
  · rw [if_pos h, h]
    simp [Scalar.cmpi, IntOp.cmpi]
  · rw [if_neg h]
    have h' : ¬ BitVec.ofNat 32 (k.val / 128) = BitVec.ofNat 32 (C.val / 64) := fun q => h ((ofNat_inj (by omega) (by omega)).mp q)
    show BitVec.ofBool (_ == _) = 0#1
    rw [beq_false_of_ne h']; rfl

/-- The mixed tokens of one block. -/
def mixc (mk : IVec S512x256 1) (s : FVec Ideal S128x256 .f32) (w : FVec Ideal S128x512 .bf16) : FVec Ideal S128x256 .f32 :=
  matmul dot_S128x512_S512x256_S128x256_1_0_0_1_n_n none (shapeCast S128x512 w shapeCasts_S128x512_S128x512)
    (select mk (concatenate S512x256 0 [⟨S128x256, truncf .bf16 s bitsLt_bf16_f32⟩, ⟨S128x256, truncf .bf16 s bitsLt_bf16_f32⟩, ⟨S128x256, truncf .bf16 s bitsLt_bf16_f32⟩, ⟨S128x256, truncf .bf16 s bitsLt_bf16_f32⟩] concatenates_S128x256_S128x256_S128x256_S128x256_S512x256_d0)
      (broadcast S512x256 (Scalar.ofBits (F := Ideal) .bf16 0x0000#16)))
    (constant S128x256 .f32 0x00000000#32)

theorem mixc_at (s : FVec Ideal S128x256 .f32) (w : FVec Ideal S128x512 .bf16) (i : Fin 128) (C : Fin 256) :
    mixc mixMask s w (ix2 i C) = ∑ j : Fin 128, s (ix2 j C) * w (ix2 i ⟨C.val / 64 * 128 + j.val, by omega⟩) := by
  have key : ∀ k : Fin 512, w (ix2 i k) * Scalar.select (mixMask (ix2 k C)) (s (ix2 ⟨k.val % 128, by omega⟩ C)) 0
      = if k.val / 128 = C.val / 64 then s (ix2 ⟨k.val % 128, by omega⟩ C) * w (ix2 i k) else 0 := by
    intro k
    rw [mask_at]
    by_cases h : k.val / 128 = C.val / 64
    · rw [if_pos h, if_pos h, mul_comm]; rfl
    · rw [if_neg h, if_neg h]; exact mul_zero _
  have e := (Finset.sum_congr rfl fun k _ => key k).trans (sum_mix (fun k => s (ix2 ⟨k.val % 128, by omega⟩ C) * w (ix2 i k)) ⟨C.val / 64, by omega⟩)
  refine Eq.trans ?_ (e.trans (Finset.sum_congr rfl fun j _ => congrArg (fun a => s (ix2 a C) * _) (Fin.ext (by dsimp only; omega))))
  unfold mixc
  generalize mixMask = mk
  pointwise
  refine Finset.sum_congr rfl fun k _ => ?_
  refine congrArg (fun z : EReal => Scalar.select (mk (ix2 k C)) (w (ix2 i k) * z) 0) ?_
  split
  · exact congrArg (fun a => s (ix2 a C)) (Fin.ext (by dsimp only; omega))
  · split
    · exact congrArg (fun a => s (ix2 a C)) (Fin.ext (by dsimp only; omega))
    · split
      · exact congrArg (fun a => s (ix2 a C)) (Fin.ext (by dsimp only; omega))
      · exact congrArg (fun a => s (ix2 a C)) (Fin.ext (by dsimp only; omega))

/-- The four blocks of mixed tokens, gated. -/
def mixed (u v : FVec Ideal S512x256 .f32) (mk : IVec S512x256 1) (w0 w1 w2 w3 : FVec Ideal S128x512 .bf16) (b0 b1 b2 b3 : FVec Ideal S128x256 .f32) : FVec Ideal S512x256 .f32 :=
  concatenate S512x256 0 [
    ⟨S128x256, mulf (extractStridedSlice S128x256 ![0, 0] u slices_S512x256_o0_0_S128x256) (addf (mixc mk (extractStridedSlice S128x256 ![0, 0] v slices_S512x256_o0_0_S128x256) w0) (shapeCast S128x256 b0 shapeCasts_S128x256_S128x256))⟩,
    ⟨S128x256, mulf (extractStridedSlice S128x256 ![128, 0] u slices_S512x256_o128_0_S128x256) (addf (mixc mk (extractStridedSlice S128x256 ![128, 0] v slices_S512x256_o128_0_S128x256) w1) (shapeCast S128x256 b1 shapeCasts_S128x256_S128x256))⟩,
    ⟨S128x256, mulf (extractStridedSlice S128x256 ![256, 0] u slices_S512x256_o256_0_S128x256) (addf (mixc mk (extractStridedSlice S128x256 ![256, 0] v slices_S512x256_o256_0_S128x256) w2) (shapeCast S128x256 b2 shapeCasts_S128x256_S128x256))⟩,
    ⟨S128x256, mulf (extractStridedSlice S128x256 ![384, 0] u slices_S512x256_o384_0_S128x256) (addf (mixc mk (extractStridedSlice S128x256 ![384, 0] v slices_S512x256_o384_0_S128x256) w3) (shapeCast S128x256 b3 shapeCasts_S128x256_S128x256))⟩]
    concatenates_S128x256_S128x256_S128x256_S128x256_S512x256_d0

theorem pay19_eq (u v : FVec Ideal S512x256 .f32) (w0 w1 w2 w3 : FVec Ideal S128x512 .bf16) (b0 b1 b2 b3 : FVec Ideal S128x256 .f32) (wo : FVec Ideal S256x1024 .bf16) :
    k0_pay19 (F := Ideal) u v mixMask (k0_pay16 u v k0_pay13 colM 64#32 k0_pay14 w0 b0) (k0_pay17 v k0_pay13 colM 64#32 k0_pay14 w1) b1 w2 b2 w3 b3 wo
      = matmul dot_S512x256_S256x1024_S512x1024_1_0_0_1_n_n none (truncf .bf16 (mixed u v mixMask w0 w1 w2 w3 b0 b1 b2 b3) bitsLt_bf16_f32)
          (shapeCast S256x1024 wo shapeCasts_S256x1024_S256x1024) (constant S512x1024 .f32 0x00000000#32) := rfl

theorem mixed_at (u v : FVec Ideal S512x256 .f32) (w : FVec Ideal S128x512 .bf16) (b : FVec Ideal S128x256 .f32) (i : Fin 512) (C : Fin 256) :
    mixed u v mixMask w w w w b b b b (ix2 i C)
      = u (ix2 i C) * (∑ j : Fin 128, v (ix2 ⟨i.val / 128 * 128 + j.val, by omega⟩ C) * w (ix2 ⟨i.val % 128, by omega⟩ ⟨C.val / 64 * 128 + j.val, by omega⟩)
        + b (ix2 ⟨i.val % 128, by omega⟩ C)) := by
  unfold mixed
  pointwise
  simp only [mixc_at]
  pointwise
  have key : ∀ (a : Fin 512) (s : Fin 128 → Fin 512) (r : Fin 128), a = i → (∀ j, (s j).val = i.val / 128 * 128 + j.val) → r.val = i.val % 128 →
      u (ix2 a C) * (∑ j : Fin 128, v (ix2 (s j) C) * w (ix2 r ⟨C.val / 64 * 128 + j.val, by omega⟩) + b (ix2 r C))
      = u (ix2 i C) * (∑ j : Fin 128, v (ix2 ⟨i.val / 128 * 128 + j.val, by omega⟩ C) * w (ix2 ⟨i.val % 128, by omega⟩ ⟨C.val / 64 * 128 + j.val, by omega⟩)
        + b (ix2 ⟨i.val % 128, by omega⟩ C)) := by
    intro a s r ha hs hr
    have e1 : r = ⟨i.val % 128, by omega⟩ := Fin.ext hr
    have e2 : s = fun j => ⟨i.val / 128 * 128 + j.val, by omega⟩ := funext fun j => Fin.ext (hs j)
    rw [ha, e1, e2]
  split
  · exact key _ _ _ (Fin.ext (by first | rfl | omega | (dsimp only; omega))) (fun j => by first | rfl | omega | (dsimp only; omega)) (by first | rfl | omega | (dsimp only; omega))
  · split
    · exact key _ _ _ (Fin.ext (by first | rfl | omega | (dsimp only; omega))) (fun j => by first | rfl | omega | (dsimp only; omega)) (by first | rfl | omega | (dsimp only; omega))
    · split
      · exact key _ _ _ (Fin.ext (by first | rfl | omega | (dsimp only; omega))) (fun j => by first | rfl | omega | (dsimp only; omega)) (by first | rfl | omega | (dsimp only; omega))
      · exact key _ _ _ (Fin.ext (by first | rfl | omega | (dsimp only; omega))) (fun j => by first | rfl | omega | (dsimp only; omega)) (by first | rfl | omega | (dsimp only; omega))

/-- The row after the norm, of the three products. -/
theorem pay20_at (p q : FVec Ideal S512x1024 .f32) (ao : FVec Ideal S512x512 .bf16) (wo : FVec Ideal S512x1024 .bf16) (g : FVec Ideal S1x1024 .f32)
    (x : FVec Ideal S512x1024 .f32) (ga be : FVec Ideal S1x1024 .f32) (i : Fin 512) (n : Fin 1024) :
    k0_pay20 (F := Ideal) p q ao wo g x ga be (ix2 i n)
      = lnr (fun n => Ideal.ofBits FTy.f32 0x3FD744FD#32 * x (ix2 i n) + g (ix2 0 n) * (p (ix2 i n) + q (ix2 i n) + ∑ k : Fin 512, ao (ix2 i k) * wo (ix2 k n)))
          (fun n => ga (ix2 0 n)) (fun n => be (ix2 0 n)) n := by
  unfold lnr Proj.mu
  unfold k0_pay20
  pointwise

theorem pay18_at (a : FVec Ideal S512x256 .f32) (wo : FVec Ideal S256x1024 .bf16) (i : Fin 512) (n : Fin 1024) :
    k0_pay18 (F := Ideal) a wo (ix2 i n) = ∑ k : Fin 256, a (ix2 i k) * wo (ix2 k n) := by
  unfold k0_pay18
  pointwise

theorem pay21_at (x1 : FVec Ideal S512x1024 .f32) (sh sc : FVec Ideal S1x1024 .f32) (i : Fin 512) (n : Fin 1024) :
    k0_pay21 (F := Ideal) x1 sh sc (ix2 i n) = Proj.hrow (fun n => x1 (ix2 i n)) (fun n => sc (ix2 0 n)) (fun n => sh (ix2 0 n)) n := by
  unfold Proj.hrow Proj.mu
  unfold k0_pay21
  pointwise

theorem pay22_at (x1 : FVec Ideal S512x1024 .f32) (sh sc : FVec Ideal S1x1024 .f32) (z : Fin 1) (n : Fin 1024) (i : Fin 256) :
    k0_pay22 (F := Ideal) x1 sh sc (ix3 z n i) = k0_pay21 (F := Ideal) x1 sh sc (ix2 ⟨i.val, by omega⟩ n) := by
  unfold k0_pay22
  generalize k0_pay21 (F := Ideal) x1 sh sc = h
  pointwise

theorem pay23_at (x1 : FVec Ideal S512x1024 .f32) (sh sc : FVec Ideal S1x1024 .f32) (z : Fin 1) (n : Fin 1024) (i : Fin 256) :
    k0_pay23 (F := Ideal) x1 sh sc (ix3 z n i) = k0_pay21 (F := Ideal) x1 sh sc (ix2 ⟨256 + i.val, by omega⟩ n) := by
  unfold k0_pay23
  generalize k0_pay21 (F := Ideal) x1 sh sc = h
  pointwise

theorem pay1_at (x1 : FVec Ideal S512x1024 .f32) (sh sc : FVec Ideal S1x1024 .f32) (wq : FVec Ideal S1024x2048 .bf16) (i : Fin 512) (C : Fin 2048) :
    k0_pay1 (F := Ideal) (k0_pay24 x1 sh sc) wq (ix2 i C) = ∑ k : Fin 1024, k0_pay21 (F := Ideal) x1 sh sc (ix2 i k) * wq (ix2 k C) := by
  unfold k0_pay1 k0_pay24
  generalize k0_pay21 (F := Ideal) x1 sh sc = h
  pointwise

end Mix
end
-- ==== Proof.MixRef.lean ====
/- The reference's out-projection step as a function of its arguments, stage by stage. -/
module

public import proofs.«01_k».proof.Proof.Gen.Reference3Ideal
public import Idealize.ShloMosaic.Lib.Pointwise
public import Idealize.ShloMosaic.Lib.Pipeline.ValueKit

@[expose] public section

set_option maxRecDepth 16384

noncomputable section

namespace Mix.Ref
open Idealize.ShloMosaic Idealize.ShloMosaic.TcCoe Idealize.SL.Sem
open Cert.Reference3Ideal Cert.Reference3Ideal.Gen

/-- The modulation of every token. -/
def mods (ml : FVec Ideal S2x6144 .f32) (mc : FVec Ideal S6144 .f32) : FVec Ideal S16896x6144 .f32 :=
  concatenate S16896x6144 0 [⟨S16384x6144, (shapeCast S16384x6144 (broadcastInDim S2x8192x6144 ![0, 1, 2] bcast_S2x1x6144_S2x8192x6144_0_1_2 (broadcastInDim S2x1x6144 ![0, 2] bcast_S2x6144_S2x1x6144_0_2 ml)) shapeCasts_S2x8192x6144_S16384x6144)⟩, ⟨S512x6144, (broadcastInDim S512x6144 ![1] bcast_S6144_S512x6144_1 mc)⟩] concatenates_S16384x6144_S512x6144_S16896x6144_d0

/-- Every head's mean. -/
def gmean (z : FVec Ideal S16896x4x64 .f32) : FVec Ideal S16896x4x1 .f32 :=
  Host.divf (broadcastInDim S16896x4x1 ![0, 1] bcast_S16896x4_S16896x4x1_0_1 (Host.reduceAdd z (constant S_ .f32 0x00000000#32) reducesTo_S16896x4x64_S16896x4_d2 h_S_)) (broadcastInDim S16896x4x1 ![] bcast_S_S16896x4x1 (constant S_ .f32 0x42800000#32))

/-- The deviations from it. -/
def gdev (z : FVec Ideal S16896x4x64 .f32) : FVec Ideal S16896x4x64 .f32 :=
  subf z (broadcastInDim S16896x4x64 ![0, 1, 2] bcast_S16896x4x1_S16896x4x64_0_1_2 (gmean z))

/-- Every head normalized. -/
def gnorm (z : FVec Ideal S16896x4x64 .f32) : FVec Ideal S16896x4x64 .f32 :=
  mulf (subf z (broadcastInDim S16896x4x64 ![0, 1, 2] bcast_S16896x4x1_S16896x4x64_0_1_2 (gmean z))) (broadcastInDim S16896x4x64 ![0, 1, 2] bcast_S16896x4x1_S16896x4x64_0_1_2 (Host.rsqrt (addf (Host.divf (broadcastInDim S16896x4x1 ![0, 1] bcast_S16896x4_S16896x4x1_0_1 (Host.reduceAdd (mulf (gdev z) (gdev z)) (constant S_ .f32 0x00000000#32) reducesTo_S16896x4x64_S16896x4_d2 h_S_)) (broadcastInDim S16896x4x1 ![] bcast_S_S16896x4x1 (constant S_ .f32 0x42800000#32))) (broadcastInDim S16896x4x1 ![] bcast_S_S16896x4x1 (constant S_ .f32 0x3727C5AC#32)))))

/-- The retention's output, normalized and gated. -/
def retn (of : FVec Ideal S16896x256 .f32) (ob : FVec Ideal S16896x256 .f32) (rg : FVec Ideal S16896x256 .f32) : FVec Ideal S16896x256 .f32 :=
  shapeCast S16896x256 (mulf (gnorm (shapeCast S16896x4x64 (addf of ob) shapeCasts_S16896x256_S16896x4x64)) (mulf (shapeCast S16896x4x64 rg shapeCasts_S16896x256_S16896x4x64) (Host.divf (broadcastInDim S16896x4x64 ![] bcast_S_S16896x4x64 (constant S_ .f32 0x3F800000#32)) (addf (broadcastInDim S16896x4x64 ![] bcast_S_S16896x4x64 (constant S_ .f32 0x3F800000#32)) (Host.exp (Host.negf (shapeCast S16896x4x64 rg shapeCasts_S16896x256_S16896x4x64))))))) shapeCasts_S16896x4x64_S16896x256

/-- The smooth rectifier of every entry. -/
def gel (sv : FVec Ideal S16896x256 .f32) : FVec Ideal S16896x256 .f32 :=
  mulf sv (mulf (broadcastInDim S16896x256 ![] bcast_S_S16896x256 (constant S_ .f32 0x3F000000#32)) (addf (broadcastInDim S16896x256 ![] bcast_S_S16896x256 (constant S_ .f32 0x3F800000#32)) (Host.tanh (mulf (broadcastInDim S16896x256 ![] bcast_S_S16896x256 (constant S_ .f32 0x3F4C422A#32)) (addf sv (mulf (broadcastInDim S16896x256 ![] bcast_S_S16896x256 (constant S_ .f32 0x3D372713#32)) (mulf (mulf sv sv) sv)))))))

/-- The token mixing. -/
def tmix (su : FVec Ideal S16896x256 .f32) (sv : FVec Ideal S16896x256 .f32) (w : FVec Ideal S4x128x128 .f32) (b : FVec Ideal S4x128 .f32) : FVec Ideal S16896x256 .f32 :=
  shapeCast S16896x256 (mulf (shapeCast S132x128x4x64 (gel su) shapeCasts_S16896x256_S132x128x4x64) (addf (transpose S132x128x4x64 [1, 3, 0, 2] (Host.dotGeneral dot_S132x128x4x64_S4x128x128_S4x132x64x128_1_2_03_1_2_0 none (shapeCast S132x128x4x64 (gnorm (shapeCast S16896x4x64 (gel sv) shapeCasts_S16896x256_S16896x4x64)) shapeCasts_S16896x4x64_S132x128x4x64) w) transposes_S4x132x64x128_S132x128x4x64_1_3_0_2) (broadcastInDim S132x128x4x64 ![0, 1, 2, 3] bcast_S1x128x4x1_S132x128x4x64_0_1_2_3 (broadcastInDim S1x128x4x1 ![1, 2, 3] bcast_S128x4x1_S1x128x4x1_1_2_3 (broadcastInDim S128x4x1 ![0, 1] bcast_S128x4_S128x4x1_0_1 (transpose S128x4 [1, 0] b transposes_S4x128_S128x4_1_0)))))) shapeCasts_S132x128x4x64_S16896x256

/-- The attention's columns in head order. -/
def attn (ao : FVec Ideal S16896x512 .f32) : FVec Ideal S16896x512 .f32 :=
  shapeCast S16896x512 (transpose S16896x2x4x64 [0, 2, 1, 3] (shapeCast S16896x4x2x64 ao shapeCasts_S16896x512_S16896x4x2x64) transposes_S16896x4x2x64_S16896x2x4x64_0_2_1_3) shapeCasts_S16896x2x4x64_S16896x512

/-- The rows before the norm. -/
def prer (x : FVec Ideal S16896x1024 .f32) (of : FVec Ideal S16896x256 .f32) (ob : FVec Ideal S16896x256 .f32) (rg : FVec Ideal S16896x256 .f32) (su : FVec Ideal S16896x256 .f32) (sv : FVec Ideal S16896x256 .f32) (ao : FVec Ideal S16896x512 .f32) (ml : FVec Ideal S2x6144 .f32) (mc : FVec Ideal S6144 .f32) (wo : FVec Ideal S1024x1024 .f32) (w : FVec Ideal S4x128x128 .f32) (b : FVec Ideal S4x128 .f32) : FVec Ideal S16896x1024 .f32 :=
  addf (mulf (broadcastInDim S16896x1024 ![] bcast_S_S16896x1024 (constant S_ .f32 0x3FD744FD#32)) x) (mulf (extractStridedSlice S16896x1024 ![0, 2048] (mods ml mc) slices_S16896x6144_S16896x1024_0_2048) (Host.dotGeneral dot_S16896x1024_S1024x1024_S16896x1024_1_0_0_1_n_n none ((concatenate S16896x1024 1 [⟨S16896x256, ((retn of ob rg))⟩, ⟨S16896x256, ((tmix su sv w b))⟩, ⟨S16896x512, ((attn ao))⟩] concatenates_S16896x256_S16896x256_S16896x512_S16896x1024_d1)) wo))

/-- Every row's mean. -/
def mean (p : FVec Ideal S16896x1024 .f32) : FVec Ideal S16896x1 .f32 :=
  Host.divf (broadcastInDim S16896x1 ![0] bcast_S16896_S16896x1_0 (Host.reduceAdd p (constant S_ .f32 0x00000000#32) reducesTo_S16896x1024_S16896_d1 h_S_)) (broadcastInDim S16896x1 ![] bcast_S_S16896x1 (constant S_ .f32 0x44800000#32))

/-- The deviations from it. -/
def dev (p : FVec Ideal S16896x1024 .f32) : FVec Ideal S16896x1024 .f32 :=
  subf p (broadcastInDim S16896x1024 ![0, 1] bcast_S16896x1_S16896x1024_0_1 (mean p))

/-- The rows normalized, with scale and shift. -/
def norm1 (p : FVec Ideal S16896x1024 .f32) (ga : FVec Ideal S1024 .f32) (be : FVec Ideal S1024 .f32) : FVec Ideal S16896x1024 .f32 :=
  addf (mulf (mulf (subf p (broadcastInDim S16896x1024 ![0, 1] bcast_S16896x1_S16896x1024_0_1 (mean p))) (broadcastInDim S16896x1024 ![0, 1] bcast_S16896x1_S16896x1024_0_1 (Host.rsqrt (addf (Host.divf (broadcastInDim S16896x1 ![0] bcast_S16896_S16896x1_0 (Host.reduceAdd (mulf (dev p) (dev p)) (constant S_ .f32 0x00000000#32) reducesTo_S16896x1024_S16896_d1 h_S_)) (broadcastInDim S16896x1 ![] bcast_S_S16896x1 (constant S_ .f32 0x44800000#32))) (broadcastInDim S16896x1 ![] bcast_S_S16896x1 (constant S_ .f32 0x3727C5AC#32)))))) (broadcastInDim S16896x1024 ![0, 1] bcast_S1x1024_S16896x1024_0_1 (broadcastInDim S1x1024 ![1] bcast_S1024_S1x1024_1 ga))) (broadcastInDim S16896x1024 ![0, 1] bcast_S1x1024_S16896x1024_0_1 (broadcastInDim S1x1024 ![1] bcast_S1024_S1x1024_1 be))

/-- The rows normalized and modulated. -/
def norm2 (p : FVec Ideal S16896x1024 .f32) (ml : FVec Ideal S2x6144 .f32) (mc : FVec Ideal S6144 .f32) : FVec Ideal S16896x1024 .f32 :=
  addf (mulf (mulf (subf p (broadcastInDim S16896x1024 ![0, 1] bcast_S16896x1_S16896x1024_0_1 (mean p))) (broadcastInDim S16896x1024 ![0, 1] bcast_S16896x1_S16896x1024_0_1 (Host.rsqrt (addf (Host.divf (broadcastInDim S16896x1 ![0] bcast_S16896_S16896x1_0 (Host.reduceAdd (mulf (dev p) (dev p)) (constant S_ .f32 0x00000000#32) reducesTo_S16896x1024_S16896_d1 h_S_)) (broadcastInDim S16896x1 ![] bcast_S_S16896x1 (constant S_ .f32 0x44800000#32))) (broadcastInDim S16896x1 ![] bcast_S_S16896x1 (constant S_ .f32 0x3727C5AC#32)))))) (addf (broadcastInDim S16896x1024 ![] bcast_S_S16896x1024 (constant S_ .f32 0x3F800000#32)) (extractStridedSlice S16896x1024 ![0, 4096] (mods ml mc) slices_S16896x6144_S16896x1024_0_4096))) (extractStridedSlice S16896x1024 ![0, 3072] (mods ml mc) slices_S16896x6144_S16896x1024_0_3072)

/-- Result 0. -/
def out0 (x : FVec Ideal S16896x1024 .f32) (of : FVec Ideal S16896x256 .f32) (ob : FVec Ideal S16896x256 .f32) (rg : FVec Ideal S16896x256 .f32) (su : FVec Ideal S16896x256 .f32) (sv : FVec Ideal S16896x256 .f32) (ao : FVec Ideal S16896x512 .f32) (ml : FVec Ideal S2x6144 .f32) (mc : FVec Ideal S6144 .f32) (wo : FVec Ideal S1024x1024 .f32) (w : FVec Ideal S4x128x128 .f32) (b : FVec Ideal S4x128 .f32) (ga : FVec Ideal S1024 .f32) (be : FVec Ideal S1024 .f32) : FVec Ideal S16896x1024 .f32 :=
  norm1 (prer x of ob rg su sv ao ml mc wo w b) ga be

/-- The modulated rows. -/
def hrows (x : FVec Ideal S16896x1024 .f32) (of : FVec Ideal S16896x256 .f32) (ob : FVec Ideal S16896x256 .f32) (rg : FVec Ideal S16896x256 .f32) (su : FVec Ideal S16896x256 .f32) (sv : FVec Ideal S16896x256 .f32) (ao : FVec Ideal S16896x512 .f32) (ml : FVec Ideal S2x6144 .f32) (mc : FVec Ideal S6144 .f32) (wo : FVec Ideal S1024x1024 .f32) (w : FVec Ideal S4x128x128 .f32) (b : FVec Ideal S4x128 .f32) (ga : FVec Ideal S1024 .f32) (be : FVec Ideal S1024 .f32) : FVec Ideal S16896x1024 .f32 :=
  norm2 (out0 x of ob rg su sv ao ml mc wo w b ga be) ml mc

/-- Result 1. -/
def out1 (x : FVec Ideal S16896x1024 .f32) (of : FVec Ideal S16896x256 .f32) (ob : FVec Ideal S16896x256 .f32) (rg : FVec Ideal S16896x256 .f32) (su : FVec Ideal S16896x256 .f32) (sv : FVec Ideal S16896x256 .f32) (ao : FVec Ideal S16896x512 .f32) (ml : FVec Ideal S2x6144 .f32) (mc : FVec Ideal S6144 .f32) (wo : FVec Ideal S1024x1024 .f32) (w : FVec Ideal S4x128x128 .f32) (b : FVec Ideal S4x128 .f32) (ga : FVec Ideal S1024 .f32) (be : FVec Ideal S1024 .f32) : FVec Ideal S66x1024x256 .bf16 :=
  truncf .bf16 (transpose S66x1024x256 [0, 2, 1] (shapeCast S66x256x1024 (hrows x of ob rg su sv ao ml mc wo w b ga be) shapeCasts_S16896x1024_S66x256x1024) transposes_S66x256x1024_S66x1024x256_0_2_1) bitsLt_bf16_f32

/-- Result 2. -/
def out2 (x : FVec Ideal S16896x1024 .f32) (of : FVec Ideal S16896x256 .f32) (ob : FVec Ideal S16896x256 .f32) (rg : FVec Ideal S16896x256 .f32) (su : FVec Ideal S16896x256 .f32) (sv : FVec Ideal S16896x256 .f32) (ao : FVec Ideal S16896x512 .f32) (ml : FVec Ideal S2x6144 .f32) (mc : FVec Ideal S6144 .f32) (wo : FVec Ideal S1024x1024 .f32) (w : FVec Ideal S4x128x128 .f32) (b : FVec Ideal S4x128 .f32) (ga : FVec Ideal S1024 .f32) (be : FVec Ideal S1024 .f32) (wq : FVec Ideal S1024x2048 .f32) : FVec Ideal S16896x2048 .bf16 :=
  truncf .bf16 (Host.dotGeneral dot_S16896x1024_S1024x2048_S16896x2048_1_0_0_1_n_n none (hrows x of ob rg su sv ao ml mc wo w b ga be) wq) bitsLt_bf16_f32

end Mix.Ref
end
-- ==== Proof.MixRefRead.lean ====
/- The reference's results, entry by entry. -/
module

public import proofs.«01_k».proof.Proof.MixRef
public import proofs.«01_k».proof.Proof.MixSpec

@[expose] public section

set_option maxRecDepth 16384
set_option maxHeartbeats 4000000

noncomputable section

namespace Mix.Ref
open Idealize.ShloMosaic Idealize.ShloMosaic.TcCoe Idealize.SL.Sem
open Cert.Reference3Ideal Cert.Reference3Ideal.Gen

theorem gnorm_at (z : FVec Ideal S16896x4x64 .f32) (y : Fin 256 → EReal) (R : Fin 16896)
    (h : ∀ (g : Fin 4) (d : Fin 64), z (ix3 R g d) = y ⟨g.val * 64 + d.val, by omega⟩) (l : Fin 256) (g : Fin 4) (d : Fin 64)
    (hg : g.val = l.val / 64) (hd : d.val = l.val % 64) :
    gnorm z (ix3 R g d) = gln y l := by
  have e : gm y l = Ideal.div (∑ d : Fin 64, z (ix3 R g d)) (Ideal.ofBits FTy.f32 0x42800000#32) := by
    unfold gm
    refine congrArg (fun q => Ideal.div q _) (Finset.sum_congr rfl fun d _ => ?_)
    rw [h]
    exact congrArg y (Fin.ext (by dsimp only; omega))
  have e2 : ∀ d : Fin 64, y (hcol l d) = z (ix3 R g d) := fun d => by
    rw [h]
    exact congrArg y (Fin.ext (by dsimp only; omega))
  have e3 : y l = z (ix3 R g d) := by
    rw [h]
    exact congrArg y (Fin.ext (by dsimp only; omega))
  unfold gln
  simp only [e, e2, e3]
  unfold gnorm gdev gmean
  pointwise

theorem gel_at (x : FVec Ideal S16896x256 .f32) (i : S16896x256.Idx) : gel x i = gelu (x i) := by
  unfold gel gelu
  pointwise

theorem retn_at (of ob rg : FVec Ideal S16896x256 .f32) (R : Fin 16896) (l : Fin 256) :
    retn of ob rg (ix2 R l) = ret (fun l => of (ix2 R l) + ob (ix2 R l)) (fun l => rg (ix2 R l)) l := by
  unfold ret silu
  rw [← gnorm_at (shapeCast S16896x4x64 (addf of ob) shapeCasts_S16896x256_S16896x4x64) _ R (fun g d => by pointwise) l ⟨l.val / 64, by omega⟩ ⟨l.val % 64, by omega⟩ rfl rfl]
  unfold retn
  generalize gnorm (shapeCast S16896x4x64 (addf of ob) shapeCasts_S16896x256_S16896x4x64) = q
  pointwise

theorem attn_at (ao : FVec Ideal S16896x512 .f32) (R : Fin 16896) (l : Fin 512) :
    attn ao (ix2 R l) = ao (ix2 R ⟨unslab l.val, unslab_lt l⟩) := by
  unfold attn unslab
  pointwise

theorem mods_at (ml : FVec Ideal S2x6144 .f32) (mc : FVec Ideal S6144 .f32) (R : Fin 16896) (j : Fin 6144) :
    mods ml mc (ix2 R j) = Proj.mrow ml mc R j := by
  unfold mods Proj.mrow
  pointwise

theorem tmix_at (su sv : FVec Ideal S16896x256 .f32) (w : FVec Ideal S4x128x128 .f32) (b : FVec Ideal S4x128 .f32) (R : Fin 16896) (l : Fin 256) :
    tmix su sv w b (ix2 R l) = tm (fun l => su (ix2 R l)) (fun j l => sv (ix2 ⟨R.val / 128 * 128 + j.val, by omega⟩ l)) w b ⟨R.val % 128, by omega⟩ l := by
  unfold tm val
  have e : ∀ j : Fin 128, gln (fun l => gelu (sv (ix2 ⟨R.val / 128 * 128 + j.val, by omega⟩ l))) l
      = gnorm (shapeCast S16896x4x64 (gel sv) shapeCasts_S16896x256_S16896x4x64) (ix3 ⟨R.val / 128 * 128 + j.val, by omega⟩ ⟨l.val / 64, by omega⟩ ⟨l.val % 64, by omega⟩) := fun j =>
    (gnorm_at (shapeCast S16896x4x64 (gel sv) shapeCasts_S16896x256_S16896x4x64) _ ⟨R.val / 128 * 128 + j.val, by omega⟩
      (fun g d => by
        refine Eq.trans ?_ (gel_at sv _)
        generalize gel sv = q
        pointwise) l ⟨l.val / 64, by omega⟩ ⟨l.val % 64, by omega⟩ rfl rfl).symm
  have e2 : gelu (su (ix2 R l)) = gel su (ix2 R l) := (gel_at su _).symm
  simp only [e, e2]
  unfold tmix
  generalize gnorm (shapeCast S16896x4x64 (gel sv) shapeCasts_S16896x256_S16896x4x64) = q
  generalize gel su = p
  pointwise

theorem norm1_at (p : FVec Ideal S16896x1024 .f32) (ga be : FVec Ideal S1024 .f32) (R : Fin 16896) (n : Fin 1024) :
    norm1 p ga be (ix2 R n) = lnr (fun n => p (ix2 R n)) (fun n => ga (ix1 n)) (fun n => be (ix1 n)) n := by
  unfold lnr Proj.mu
  unfold norm1 dev mean
  pointwise

theorem norm2_at (p : FVec Ideal S16896x1024 .f32) (ml : FVec Ideal S2x6144 .f32) (mc : FVec Ideal S6144 .f32) (R : Fin 16896) (n : Fin 1024) :
    norm2 p ml mc (ix2 R n) = Proj.hrow (fun n => p (ix2 R n)) (fun n => Proj.mrow ml mc R ⟨4096 + n.val, by omega⟩) (fun n => Proj.mrow ml mc R ⟨3072 + n.val, by omega⟩) n := by
  unfold Proj.hrow Proj.mu
  simp only [← mods_at]
  unfold norm2 dev mean
  generalize mods ml mc = q
  pointwise

section
variable (x : FVec Ideal S16896x1024 .f32) (of ob rg su sv : FVec Ideal S16896x256 .f32) (ao : FVec Ideal S16896x512 .f32)
variable (ml : FVec Ideal S2x6144 .f32) (mc : FVec Ideal S6144 .f32) (wo : FVec Ideal S1024x1024 .f32) (w : FVec Ideal S4x128x128 .f32)
variable (b : FVec Ideal S4x128 .f32) (ga be : FVec Ideal S1024 .f32) (wq : FVec Ideal S1024x2048 .f32)

theorem prer_at (R : Fin 16896) (n : Fin 1024) :
    prer x of ob rg su sv ao ml mc wo w b (ix2 R n) = prow x of ob rg su sv ao ml mc wo w b R n := by
  unfold prow pre joined cat
  simp only [← mods_at, ← retn_at, ← tmix_at]
  unfold prer
  generalize mods ml mc = q
  generalize retn of ob rg = r
  generalize tmix su sv w b = t
  generalize ha : attn ao = a
  pointwise
  refine congrArg (fun z => Ideal.ofBits FTy.f32 1071072509#32 * x (ix2 R n) + q (ix2 R ⟨2048 + n.val, by omega⟩) * z) (Finset.sum_congr rfl fun k _ => ?_)
  refine congrArg (fun z : EReal => z * wo (ix2 k n)) ?_
  split
  · rfl
  · split
    · rfl
    · rw [← ha, attn_at]

theorem out0_at (R : Fin 16896) (n : Fin 1024) :
    out0 x of ob rg su sv ao ml mc wo w b ga be (ix2 R n) = x1 x of ob rg su sv ao ml mc wo w b ga be R n := by
  unfold out0 x1
  rw [norm1_at]
  simp only [prer_at]

theorem hrows_at (R : Fin 16896) (n : Fin 1024) :
    hrows x of ob rg su sv ao ml mc wo w b ga be (ix2 R n) = hm x of ob rg su sv ao ml mc wo w b ga be R n := by
  unfold hrows hm
  rw [norm2_at]
  simp only [out0_at]

theorem out1_at (B : Fin 66) (n : Fin 1024) (i : Fin 256) :
    out1 x of ob rg su sv ao ml mc wo w b ga be (ix3 B n i) = hm x of ob rg su sv ao ml mc wo w b ga be ⟨B.val * 256 + i.val, by omega⟩ n := by
  rw [← hrows_at]
  unfold out1
  generalize hrows x of ob rg su sv ao ml mc wo w b ga be = h
  pointwise

theorem out2_at (R : Fin 16896) (C : Fin 2048) :
    out2 x of ob rg su sv ao ml mc wo w b ga be wq (ix2 R C) = qp x of ob rg su sv ao ml mc wo w b ga be wq R C := by
  unfold qp
  simp only [← hrows_at]
  unfold out2
  generalize hrows x of ob rg su sv ao ml mc wo w b ga be = h
  pointwise

end

end Mix.Ref
end
-- ==== Proof.MixPoint.lean ====
/- A grid point's rows are the reference's. -/
module

public import proofs.«01_k».proof.Proof.MixBlocks
public import proofs.«01_k».proof.Proof.MixPay
public import proofs.«01_k».proof.Proof.MixRefRead

@[expose] public section

set_option maxRecDepth 16384

noncomputable section

namespace Mix
open Idealize.ShloMosaic Idealize.ShloMosaic.TcCoe Idealize.SL.Sem Attn
open Cert.Kernel3Ideal Cert.Kernel3Ideal.Gen

variable (m : (ℓ : Loc nD τ sig) → Buf (Elt Ideal) ℓ) (c : Dev nD) (t : Fin cfg0.N)

/-- The retention's outputs and the token mixing's operands are finite. -/
structure OkX : Prop where
  of : ∀ R l, Fin' (b1 m c (ix2 R l))
  ob : ∀ R l, Fin' (b2 m c (ix2 R l))
  su : ∀ R l, b4 m c (ix2 R l) ≠ (⊥ : EReal)
  sv : ∀ R l, Fin' (b5 m c (ix2 R l))

/-- The loads of one gate row and of the output weights' three slabs. -/
structure Lds (G : FVec Ideal S1x1024 .f32) (W0 W1 : FVec Ideal S256x1024 .bf16) (W2 : FVec Ideal S512x1024 .bf16) : Prop where
  G : ∀ x, G x = (iblk m c 7 t : FVec Ideal S8x6144 .f32) ((Rect.unit (s := S8x6144) (k0_off1 (grid0.coords t)) ![1, 1024] (k0_off1_inb (grid0.coords t))).idx x)
  W0 : ∀ x, W0 x = (iblk m c 8 t : FVec Ideal S1024x1024 .bf16) ((Rect.unit (s := S1024x1024) ![0, 0] ![256, 1024] inb_S1024x1024_S256x1024_0_0).idx x)
  W1 : ∀ x, W1 x = (iblk m c 8 t : FVec Ideal S1024x1024 .bf16) ((Rect.unit (s := S1024x1024) ![256, 0] ![256, 1024] inb_S1024x1024_S256x1024_256_0).idx x)
  W2 : ∀ x, W2 x = (iblk m c 8 t : FVec Ideal S1024x1024 .bf16) ((Rect.unit (s := S1024x1024) ![512, 0] ![512, 1024] inb_S1024x1024_S512x1024_512_0).idx x)

/-- The loads of the shift row and the scale row. -/
structure Mods (B C : FVec Ideal S1x1024 .f32) : Prop where
  B : ∀ x, B x = (iblk m c 7 t : FVec Ideal S8x6144 .f32) ((Rect.unit (s := S8x6144) (k0_off2 (grid0.coords t)) ![1, 1024] (k0_off2_inb (grid0.coords t))).idx x)
  C : ∀ x, C x = (iblk m c 7 t : FVec Ideal S8x6144 .f32) ((Rect.unit (s := S8x6144) (k0_off3 (grid0.coords t)) ![1, 1024] (k0_off3_inb (grid0.coords t))).idx x)

/-- The averaging matrix. -/
abbrev avm : FVec Ideal S256x256 .f32 := k0_pay3 (F := Ideal) k0_pay2 colI

/-- The retention's part of a point. -/
abbrev rt : FVec Ideal S512x256 .f32 :=
  k0_pay8 (F := Ideal) (k0_pay3 k0_pay2 colI) (k0_pay4 k0_pay2 colI (iblk m c 1 t) (iblk m c 2 t)) (k0_pay6 k0_pay2 colI (iblk m c 1 t) (iblk m c 2 t))
    (k0_pay7 k0_pay2 colI (iblk m c 1 t) (iblk m c 2 t)) (iblk m c 3 t)
/-- The gate of the token mixing. -/
abbrev ut : FVec Ideal S512x256 .f32 := k0_pay9 (F := Ideal) (iblk m c 4 t)
/-- The values of the token mixing. -/
abbrev vt : FVec Ideal S512x256 .f32 := k0_pay12 (F := Ideal) (k0_pay3 k0_pay2 colI) (k0_pay10 (iblk m c 5 t)) (k0_pay11 (iblk m c 5 t))

/-- The rows of a point. -/
abbrev x1t (G : FVec Ideal S1x1024 .f32) (W0 W1 : FVec Ideal S256x1024 .bf16) (W2 : FVec Ideal S512x1024 .bf16) : FVec Ideal S512x1024 .f32 :=
  k0_pay20 (F := Ideal) (k0_pay18 (rt m c t) W0)
    (k0_pay19 (ut m c t) (vt m c t) (k0_pay15 k0_pay13 colM 64#32 k0_pay14)
      (k0_pay16 (ut m c t) (vt m c t) k0_pay13 colM 64#32 k0_pay14 (iblk m c 9 t) (iblk m c 10 t))
      (k0_pay17 (vt m c t) k0_pay13 colM 64#32 k0_pay14 (iblk m c 9 t)) (iblk m c 10 t) (iblk m c 9 t) (iblk m c 10 t) (iblk m c 9 t) (iblk m c 10 t) W1)
    (iblk m c 6 t) W2 G (iblk m c 0 t) (iblk m c 11 t) (iblk m c 12 t)

theorem rt_at (ok : OkX m c) (i : Fin 512) (l : Fin 256) :
    rt m c t (ix2 i l) = ret (fun l => b1 m c (ix2 (at' t i) l) + b2 m c (ix2 (at' t i) l)) (fun l => b3 m c (ix2 (at' t i) l)) l := by
  refine (pay8_at (iblk m c 1 t) (iblk m c 2 t) (iblk m c 3 t) i l (fun k => ?_) (fun k => ?_)).trans ?_
  · rw [blk1]; exact ok.of _ _
  · rw [blk2]; exact ok.ob _ _
  · have e1 : (fun l => HAdd.hAdd (α := EReal) (β := EReal) (γ := EReal) ((iblk m c 1 t : FVec Ideal S512x256 .f32) (ix2 i l)) ((iblk m c 2 t : FVec Ideal S512x256 .f32) (ix2 i l)))
        = fun l => HAdd.hAdd (α := EReal) (β := EReal) (γ := EReal) (b1 m c (ix2 (at' t i) l)) (b2 m c (ix2 (at' t i) l)) :=
      funext fun l => congrArg₂ (HAdd.hAdd (α := EReal) (β := EReal) (γ := EReal)) (blk1 m c t i l) (blk2 m c t i l)
    have e2 : (fun l => (iblk m c 3 t : FVec Ideal S512x256 .f32) (ix2 i l)) = fun l => b3 m c (ix2 (at' t i) l) := funext fun l => blk3 m c t i l
    exact congrFun (congr (congrArg ret e1) e2) l

theorem ut_at (ok : OkX m c) (i : Fin 512) (l : Fin 256) : ut m c t (ix2 i l) = gelu (b4 m c (ix2 (at' t i) l)) := by
  refine (pay9_at (iblk m c 4 t) i l ?_).trans (congrArg gelu (blk4 m c t i l))
  rw [blk4]; exact ok.su _ _

theorem vt_at (ok : OkX m c) (i : Fin 512) (l : Fin 256) : vt m c t (ix2 i l) = val (fun l => b5 m c (ix2 (at' t i) l)) l := by
  refine (pay12_at (iblk m c 5 t) i l (fun k => ?_)).trans ?_
  · rw [blk5]; exact ok.sv _ _
  · exact congrFun (congrArg val (funext fun l => blk5 m c t i l)) l

theorem wt_at (i : Fin 128) (C : Fin 256) (j : Fin 128) : (iblk m c 9 t : FVec Ideal S128x512 .bf16) (ix2 i ⟨C.val / 64 * 128 + j.val, by omega⟩)
    = b10 m c (ix3 ⟨C.val / 64, by omega⟩ i j) :=
  (blk9 m c t i ⟨C.val / 64 * 128 + j.val, by omega⟩).trans (V14 m c i ⟨C.val / 64, by omega⟩ j)

theorem mixed_tm (ok : OkX m c) (i : Fin 512) (C : Fin 256) :
    mixed (ut m c t) (vt m c t) mixMask (iblk m c 9 t) (iblk m c 9 t) (iblk m c 9 t) (iblk m c 9 t) (iblk m c 10 t) (iblk m c 10 t) (iblk m c 10 t) (iblk m c 10 t) (ix2 i C)
      = tm (fun l => b4 m c (ix2 (at' t i) l)) (fun j l => b5 m c (ix2 ⟨(at' t i).val / 128 * 128 + j.val, by have := (at' t i).isLt; omega⟩ l))
          (b10 m c) (b11 m c) ⟨(at' t i).val % 128, by omega⟩ C := by
  refine (mixed_at (ut m c t) (vt m c t) (iblk m c 9 t) (iblk m c 10 t) i C).trans ?_
  have ht := t_lt t
  have er : (⟨(at' t i).val % 128, by omega⟩ : Fin 128) = ⟨i.val % 128, by omega⟩ := Fin.ext (by dsimp only; omega)
  unfold tm
  rw [er]
  refine congrArg₂ (HMul.hMul (α := EReal) (β := EReal) (γ := EReal)) (ut_at m c t ok i C)
    (congrArg₂ (HAdd.hAdd (α := EReal) (β := EReal) (γ := EReal)) (Finset.sum_congr rfl fun j _ => ?_) ?_)
  · refine congrArg₂ (HMul.hMul (α := EReal) (β := EReal) (γ := EReal)) ((vt_at m c t ok _ C).trans ?_) (wt_at m c t _ C j)
    refine congrFun (congrArg val (funext fun l => congrArg (fun a => b5 m c (ix2 a l)) (Fin.ext ?_))) C
    dsimp only
    omega
  · exact (blk10 m c t _ C).trans (V17 m c _ C)

theorem mm_at (a : FVec Ideal S512x256 .f32) (wo : FVec Ideal S256x1024 .bf16) (i : Fin 512) (n : Fin 1024) :
    matmul dot_S512x256_S256x1024_S512x1024_1_0_0_1_n_n none (truncf .bf16 a bitsLt_bf16_f32)
          (shapeCast S256x1024 wo shapeCasts_S256x1024_S256x1024) (constant S512x1024 .f32 0x00000000#32) (ix2 i n) = ∑ k : Fin 256, a (ix2 i k) * wo (ix2 k n) := by
  pointwise

theorem x1_at (ok : OkX m c) (G : FVec Ideal S1x1024 .f32) (W0 W1 : FVec Ideal S256x1024 .bf16) (W2 : FVec Ideal S512x1024 .bf16)
    (h : Lds m c t G W0 W1 W2) (i : Fin 512) (n : Fin 1024) :
    x1t m c t G W0 W1 W2 (ix2 i n)
      = x1 (b0 m c) (b1 m c) (b2 m c) (b3 m c) (b4 m c) (b5 m c) (b6 m c) (b7 m c) (b8 m c) (b9 m c) (b10 m c) (b11 m c) (b12 m c) (b13 m c) (at' t i) n := by
  refine (pay20_at _ _ _ _ _ _ _ _ i n).trans ?_
  unfold x1
  refine congrFun (congr (congr (congrArg lnr (funext fun n => ?_)) (funext fun n => ?_)) (funext fun n => ?_)) n
  · unfold prow pre
    refine congrArg₂ (HAdd.hAdd (α := EReal) (β := EReal) (γ := EReal))
      (congrArg (fun z : EReal => Ideal.ofBits FTy.f32 0x3FD744FD#32 * z) (blk0 m c t i n))
      (congrArg₂ (HMul.hMul (α := EReal) (β := EReal) (γ := EReal)) (modrow m c t _ 2048 (by norm_num) (off_row t).1 _ G h.G i n) ?_)
    unfold joined
    refine Eq.trans ?_ (sum_cat _ _ _ fun k => b9 m c (ix2 k n))
    refine congrArg₂ (HAdd.hAdd (α := EReal) (β := EReal) (γ := EReal)) (congrArg₂ (HAdd.hAdd (α := EReal) (β := EReal) (γ := EReal)) ?_ ?_) ?_
    · refine (pay18_at _ W0 i n).trans (Finset.sum_congr rfl fun k _ => ?_)
      refine congrArg₂ (HMul.hMul (α := EReal) (β := EReal) (γ := EReal)) (rt_at m c t ok i k) ?_
      refine (slabW m c t 0 256 (by norm_num) inb_S1024x1024_S256x1024_0_0 W0 h.W0 k n).trans ((V11 m c _ n).trans ?_)
      rw [dif_pos (show 0 + k.val < 512 by omega)]
      exact congrArg (fun a => b9 m c (ix2 a n)) (Fin.ext (Nat.zero_add _))
    · rw [pay19_eq]
      refine (mm_at _ W1 i n).trans (Finset.sum_congr rfl fun k _ => ?_)
      refine congrArg₂ (HMul.hMul (α := EReal) (β := EReal) (γ := EReal)) (mixed_tm m c t ok i k) ?_
      refine (slabW m c t 256 256 (by norm_num) inb_S1024x1024_S256x1024_256_0 W1 h.W1 k n).trans ((V11 m c _ n).trans ?_)
      rw [dif_pos (show 256 + k.val < 512 by omega)]
    · refine Finset.sum_congr rfl fun k _ => ?_
      refine congrArg₂ (HMul.hMul (α := EReal) (β := EReal) (γ := EReal)) (blk6 m c t i k) ?_
      refine (slabW m c t 512 512 (by norm_num) inb_S1024x1024_S512x1024_512_0 W2 h.W2 k n).trans ((V11 m c _ n).trans ?_)
      rw [dif_neg (show ¬ 512 + k.val < 512 by omega)]
      refine congrArg (fun a => b9 m c (ix2 a n)) (Fin.ext ?_)
      dsimp only
      rw [Nat.add_sub_cancel_left]
  · exact (blk11 m c t 0 n).trans (V19 m c 0 n)
  · exact (blk12 m c t 0 n).trans (V20 m c 0 n)

theorem hm_at (ok : OkX m c) (G : FVec Ideal S1x1024 .f32) (W0 W1 : FVec Ideal S256x1024 .bf16) (W2 : FVec Ideal S512x1024 .bf16)
    (h : Lds m c t G W0 W1 W2) (B C : FVec Ideal S1x1024 .f32) (hm' : Mods m c t B C) (i : Fin 512) (n : Fin 1024) :
    k0_pay21 (F := Ideal) (x1t m c t G W0 W1 W2) B C (ix2 i n)
      = hm (b0 m c) (b1 m c) (b2 m c) (b3 m c) (b4 m c) (b5 m c) (b6 m c) (b7 m c) (b8 m c) (b9 m c) (b10 m c) (b11 m c) (b12 m c) (b13 m c) (at' t i) n := by
  refine (pay21_at _ B C i n).trans ?_
  unfold hm
  exact congrFun (congr (congr (congrArg Proj.hrow (funext fun n => x1_at m c t ok G W0 W1 W2 h i n))
    (funext fun n => modrow m c t _ 4096 (by norm_num) (off_row t).2.2 _ C hm'.C i n))
    (funext fun n => modrow m c t _ 3072 (by norm_num) (off_row t).2.1 _ B hm'.B i n)) n

/-- The first store of a point. -/
theorem store0 (ok : OkX m c) (G : FVec Ideal S1x1024 .f32) (W0 W1 : FVec Ideal S256x1024 .bf16) (W2 : FVec Ideal S512x1024 .bf16)
    (h : Lds m c t G W0 W1 W2) (i : Fin 512) (n : Fin 1024) :
    x1t m c t G W0 W1 W2 (ix2 i n)
      = Ref.out0 (b0 m c) (b1 m c) (b2 m c) (b3 m c) (b4 m c) (b5 m c) (b6 m c) (b7 m c) (b8 m c) (b9 m c) (b10 m c) (b11 m c) (b12 m c) (b13 m c) (ix2 (at' t i) n) :=
  (x1_at m c t ok G W0 W1 W2 h i n).trans (Ref.out0_at _ _ _ _ _ _ _ _ _ _ _ _ _ _ (at' t i) n).symm

/-- The second store, a block of 256 tokens. -/
theorem store1a (ok : OkX m c) (G : FVec Ideal S1x1024 .f32) (W0 W1 : FVec Ideal S256x1024 .bf16) (W2 : FVec Ideal S512x1024 .bf16)
    (h : Lds m c t G W0 W1 W2) (B C : FVec Ideal S1x1024 .f32) (hm' : Mods m c t B C) (z : Fin 1) (n : Fin 1024) (i : Fin 256) :
    k0_pay22 (F := Ideal) (x1t m c t G W0 W1 W2) B C (ix3 z n i)
      = Ref.out1 (b0 m c) (b1 m c) (b2 m c) (b3 m c) (b4 m c) (b5 m c) (b6 m c) (b7 m c) (b8 m c) (b9 m c) (b10 m c) (b11 m c) (b12 m c) (b13 m c)
          (ix3 ⟨t.val * 2, by have := t_lt t; omega⟩ n i) := by
  refine (pay22_at _ B C z n i).trans ((hm_at m c t ok G W0 W1 W2 h B C hm' _ n).trans (Eq.trans ?_ (Ref.out1_at _ _ _ _ _ _ _ _ _ _ _ _ _ _ _ n i).symm))
  refine congrArg (fun R => hm (b0 m c) (b1 m c) (b2 m c) (b3 m c) (b4 m c) (b5 m c) (b6 m c) (b7 m c) (b8 m c) (b9 m c) (b10 m c) (b11 m c) (b12 m c) (b13 m c) R n) (Fin.ext ?_)
  dsimp only
  omega

theorem store1b (ok : OkX m c) (G : FVec Ideal S1x1024 .f32) (W0 W1 : FVec Ideal S256x1024 .bf16) (W2 : FVec Ideal S512x1024 .bf16)
    (h : Lds m c t G W0 W1 W2) (B C : FVec Ideal S1x1024 .f32) (hm' : Mods m c t B C) (z : Fin 1) (n : Fin 1024) (i : Fin 256) :
    k0_pay23 (F := Ideal) (x1t m c t G W0 W1 W2) B C (ix3 z n i)
      = Ref.out1 (b0 m c) (b1 m c) (b2 m c) (b3 m c) (b4 m c) (b5 m c) (b6 m c) (b7 m c) (b8 m c) (b9 m c) (b10 m c) (b11 m c) (b12 m c) (b13 m c)
          (ix3 ⟨t.val * 2 + 1, by have := t_lt t; omega⟩ n i) := by
  refine (pay23_at _ B C z n i).trans ((hm_at m c t ok G W0 W1 W2 h B C hm' _ n).trans (Eq.trans ?_ (Ref.out1_at _ _ _ _ _ _ _ _ _ _ _ _ _ _ _ n i).symm))
  refine congrArg (fun R => hm (b0 m c) (b1 m c) (b2 m c) (b3 m c) (b4 m c) (b5 m c) (b6 m c) (b7 m c) (b8 m c) (b9 m c) (b10 m c) (b11 m c) (b12 m c) (b13 m c) R n) (Fin.ext ?_)
  dsimp only
  omega

/-- The third store, the queries. -/
theorem store2 (ok : OkX m c) (G : FVec Ideal S1x1024 .f32) (W0 W1 : FVec Ideal S256x1024 .bf16) (W2 : FVec Ideal S512x1024 .bf16)
    (h : Lds m c t G W0 W1 W2) (B C : FVec Ideal S1x1024 .f32) (hm' : Mods m c t B C) (i : Fin 512) (D : Fin 2048) :
    k0_pay1 (F := Ideal) (k0_pay24 (x1t m c t G W0 W1 W2) B C) (iblk m c 13 t) (ix2 i D)
      = Ref.out2 (b0 m c) (b1 m c) (b2 m c) (b3 m c) (b4 m c) (b5 m c) (b6 m c) (b7 m c) (b8 m c) (b9 m c) (b10 m c) (b11 m c) (b12 m c) (b13 m c) (b14 m c) (ix2 (at' t i) D) := by
  refine (pay1_at _ B C (iblk m c 13 t) i D).trans (Eq.trans ?_ (Ref.out2_at _ _ _ _ _ _ _ _ _ _ _ _ _ _ _ (at' t i) D).symm)
  unfold qp
  exact Finset.sum_congr rfl fun k _ => congrArg₂ (HMul.hMul (α := EReal) (β := EReal) (γ := EReal)) (hm_at m c t ok G W0 W1 W2 h B C hm' i k)
    ((blk13 m c t k D).trans (V21 m c k D))

end Mix
end
-- ==== Proof.MixFinal.lean ====
/- The kernel's results are the reference's. -/
module

public import proofs.«01_k».proof.Proof.MixPoint
public import proofs.«01_k».proof.Proof.Gen.Kernel3Ideal.Value
public import Idealize.ShloMosaic.Lib.Pipeline.ValueKit

@[expose] public section

set_option maxRecDepth 16384
set_option maxHeartbeats 4000000

noncomputable section

namespace Mix
open Idealize.ShloMosaic Idealize.ShloMosaic.TcCoe Idealize.SL.Sem Attn
open Cert.Kernel3Ideal Cert.Kernel3Ideal.Gen

variable (m : (ℓ : Loc nD τ sig) → Buf (Elt Ideal) ℓ) (c : Dev nD)

/-- Where a block of result 0 lies. -/
theorem emb0 (t : Fin cfg0.N) (y : S512x1024.Idx) : (((View.whole main_v22_0).slice (win0_14.rect t)).emb y : S16896x1024.Idx) = ix2 (at' t (y 0)) (y 1) := by
  funext a
  refine Fin.ext ?_
  refine ((cfg0.win 14).rect_emb_val t y a).trans ?_
  rw [show (cfg0.win 14).index t = ![t.val, 0] from (idx_out t).1]
  fin_cases a
  · rfl
  · exact (congrArg (· + (y 1).val) (Nat.zero_mul _)).trans (Nat.zero_add _)

/-- Result 0. -/
theorem final0 (ok : OkX m c) : (dats m 0 c).arrAt 14 (cfgs 0).N = Ref.out0 (b0 m c) (b1 m c) (b2 m c) (b3 m c) (b4 m c) (b5 m c) (b6 m c) (b7 m c) (b8 m c) (b9 m c) (b10 m c) (b11 m c) (b12 m c) (b13 m c) := by
  refine (dats m 0 c).arrAt_eq_of_covers 14 _ (by decide +kernel) fun t hf y => ?_
  clear hf
  have e := emb0 t y
  blk_simp
  rw [after0_14]
  unfold outsAt0
  frame_out
  refine Eq.trans (congrArg _ (eq_ix2 y)) ?_
  exact (store0 m c t ok _ _ _ _ ⟨fun x => rfl, fun x => rfl, fun x => rfl, fun x => rfl⟩ (y 0) (y 1)).trans (congrArg (Ref.out0 (b0 m c) (b1 m c) (b2 m c) (b3 m c) (b4 m c) (b5 m c) (b6 m c) (b7 m c) (b8 m c) (b9 m c) (b10 m c) (b11 m c) (b12 m c) (b13 m c)) e.symm)

/-- Where a block of result 2 lies. -/
theorem emb2 (t : Fin cfg0.N) (y : S512x2048.Idx) : (((View.whole main_v22_2).slice (win0_16.rect t)).emb y : S16896x2048.Idx) = ix2 (at' t (y 0)) (y 1) := by
  funext a
  refine Fin.ext ?_
  refine ((cfg0.win 16).rect_emb_val t y a).trans ?_
  rw [show (cfg0.win 16).index t = ![t.val, 0] from (idx_out t).2]
  fin_cases a
  · rfl
  · exact (congrArg (· + (y 1).val) (Nat.zero_mul _)).trans (Nat.zero_add _)

/-- Result 2. -/
theorem final2 (ok : OkX m c) : (dats m 0 c).arrAt 16 (cfgs 0).N = Ref.out2 (b0 m c) (b1 m c) (b2 m c) (b3 m c) (b4 m c) (b5 m c) (b6 m c) (b7 m c) (b8 m c) (b9 m c) (b10 m c) (b11 m c) (b12 m c) (b13 m c) (b14 m c) := by
  refine (dats m 0 c).arrAt_eq_of_covers 16 _ (by decide +kernel) fun t hf y => ?_
  clear hf
  have e := emb2 t y
  blk_simp
  rw [after0_16]
  unfold outsAt0
  frame_out
  refine Eq.trans (congrArg _ (eq_ix2 y)) ?_
  exact (store2 m c t ok _ _ _ _ ⟨fun x => rfl, fun x => rfl, fun x => rfl, fun x => rfl⟩ _ _ ⟨fun x => rfl, fun x => rfl⟩ (y 0) (y 1)).trans (congrArg (Ref.out2 (b0 m c) (b1 m c) (b2 m c) (b3 m c) (b4 m c) (b5 m c) (b6 m c) (b7 m c) (b8 m c) (b9 m c) (b10 m c) (b11 m c) (b12 m c) (b13 m c) (b14 m c)) e.symm)

/-- Where a block of result 1 lies. -/
theorem emb1 (t : Fin cfg0.N) (y : S2x1024x256.Idx) : (((View.whole main_v22_1).slice (win0_15.rect t)).emb y : S66x1024x256.Idx)
    = ix3 ⟨t.val * 2 + (y 0).val, by have := t_lt t; have := (y 0).isLt; change (y 0).val < 2 at this; omega⟩ (y 1) (y 2) := by
  funext a
  refine Fin.ext ?_
  refine ((cfg0.win 15).rect_emb_val t y a).trans ?_
  rw [show (cfg0.win 15).index t = ![t.val, 0, 0] from idx_blk t]
  fin_cases a
  · rfl
  · exact (congrArg (· + (y 1).val) (Nat.zero_mul _)).trans (Nat.zero_add _)
  · exact (congrArg (· + (y 2).val) (Nat.zero_mul _)).trans (Nat.zero_add _)

/-- Result 1. -/
theorem final1 (ok : OkX m c) : (dats m 0 c).arrAt 15 (cfgs 0).N = Ref.out1 (b0 m c) (b1 m c) (b2 m c) (b3 m c) (b4 m c) (b5 m c) (b6 m c) (b7 m c) (b8 m c) (b9 m c) (b10 m c) (b11 m c) (b12 m c) (b13 m c) := by
  refine (dats m 0 c).arrAt_eq_of_covers 15 _ (by decide +kernel) fun t hf y => ?_
  clear hf
  have e := emb1 t y
  blk_simp
  rw [after0_15]
  unfold outsAt0
  frame_out
  canon_tiles x k
  · rw [eq_ix3 x]
    refine (store1b m c t ok _ _ _ _ ⟨fun x => rfl, fun x => rfl, fun x => rfl, fun x => rfl⟩ _ _ ⟨fun x => rfl, fun x => rfl⟩ (x 0) (x 1) (x 2)).trans ?_
    refine congrArg (Ref.out1 (b0 m c) (b1 m c) (b2 m c) (b3 m c) (b4 m c) (b5 m c) (b6 m c) (b7 m c) (b8 m c) (b9 m c) (b10 m c) (b11 m c) (b12 m c) (b13 m c)) (Eq.trans ?_ e.symm)
    exact congr (congr (congrArg ix3 (Fin.ext (by dsimp only; rw [k0]; omega))) (Fin.ext k1.symm)) (Fin.ext k2.symm)
  · rw [eq_ix3 x]
    refine (store1a m c t ok _ _ _ _ ⟨fun x => rfl, fun x => rfl, fun x => rfl, fun x => rfl⟩ _ _ ⟨fun x => rfl, fun x => rfl⟩ (x 0) (x 1) (x 2)).trans ?_
    refine congrArg (Ref.out1 (b0 m c) (b1 m c) (b2 m c) (b3 m c) (b4 m c) (b5 m c) (b6 m c) (b7 m c) (b8 m c) (b9 m c) (b10 m c) (b11 m c) (b12 m c) (b13 m c)) (Eq.trans ?_ e.symm)
    exact congr (congr (congrArg ix3 (Fin.ext (by dsimp only; rw [k0]; omega))) (Fin.ext k1.symm)) (Fin.ext k2.symm)

end Mix
end
-- ==== Proof.MixRun.lean ====
/- The reference run's results are the stages of the out-projection step. -/
module

public import proofs.«01_k».proof.Proof.Gen.Reference3Ideal.Run
public import proofs.«01_k».proof.Proof.MixRef

@[expose] public section

set_option maxRecDepth 16384

noncomputable section

namespace Mix.Ref
open Idealize.ShloMosaic Idealize.ShloMosaic.TcCoe Idealize.SL.Sem
open Cert.Reference3Ideal Cert.Reference3Ideal.Gen Cert.Reference3Ideal.Value
open Idealize.ShloMosaic.StableHlo (launchContents)

theorem out0_eq (m : (ℓ : Loc nD τ sig) → Buf (Elt Ideal) ℓ) (c : Dev nD) :
    (res_main_v123 (launchContents m c) : FVec Ideal S16896x1024 .f32)
    = out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := rfl

theorem out1_eq (m : (ℓ : Loc nD τ sig) → Buf (Elt Ideal) ℓ) (c : Dev nD) :
    (truncf .bf16 (transpose S66x1024x256 [0, 2, 1] (shapeCast _ (res_main_v145 (launchContents m c)) shapeCasts_S16896x1024_S66x256x1024) transposes_S66x256x1024_S66x1024x256_0_2_1) bitsLt_bf16_f32 : FVec Ideal S66x1024x256 .bf16)
    = out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := rfl

theorem out2_eq (m : (ℓ : Loc nD τ sig) → Buf (Elt Ideal) ℓ) (c : Dev nD) :
    (truncf .bf16 (Host.dotGeneral (F := Ideal) (φ₁ := .f32) (φ₂ := .f32) dot_S16896x1024_S1024x2048_S16896x2048_1_0_0_1_n_n none (res_main_v145 (launchContents m c)) ((launchContents m c) (Proc.devRef .tc main_arg14))) bitsLt_bf16_f32 : FVec Ideal S16896x2048 .bf16)
    = out2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := rfl

end Mix.Ref
end
-- ==== Proof.lean ====
/- The certificate of the window attention, of the in-projection and of the out-projection: the frames of the kernels
   and of the references, and that over the extended reals each kernel ends with its reference's arrays, the attention
   wherever the queries, the keys and the sinks are numbers, the in-projection wherever the latent tokens' modulations
   and the weights are, the out-projection wherever the retention's outputs and the token mixing's second
   operand are and its first is not negative infinity. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Final
public import proofs.«01_k».proof.Proof.Finite
public import proofs.«01_k».proof.Proof.ProjFinal
public import proofs.«01_k».proof.Proof.ProjRun
public import proofs.«01_k».proof.Proof.MixFinal
public import proofs.«01_k».proof.Proof.MixRun
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- Under the precondition every query, key and sink is a number. -/
theorem ok (m : (ℓ : Loc Cert.KernelIdeal.nD Cert.KernelIdeal.τ Cert.KernelIdeal.sig) → Buf (Elt Ideal) ℓ)
    (h : Cert.Pre_KernelIdeal_finite_scores m) (c : Dev Cert.KernelIdeal.nD) : Attn.Ok m c :=
  ⟨fun _ _ _ => Attn.fin_of _ _ (h c).1 _, fun _ _ _ => Attn.fin_of _ _ (h c).2.1 _, fun _ _ _ => Attn.fin_of _ _ (h c).2.2.1 _,
    fun _ _ _ => Attn.fin_of _ _ (h c).2.2.2.1 _, fun _ => Attn.fin_of _ _ (h c).2.2.2.2 _⟩

/-- The reference has no semaphore. -/
theorem noSem : ∀ sm : SemLoc Cert.ReferenceIdeal.sig, False := by decide

/-- Kernel and reference end with the same array, over the extended reals. -/
theorem algebraic : Cert.algebraic_KernelIdeal_ReferenceIdeal_pre_finite_scores := by
  pair_intro
  · run_from Cert.KernelIdeal.Value.run_blocks m g
  · run_from Cert.ReferenceIdeal.Value.run m' g'
    obtain ⟨e0, e1, e2, e3, e4, e5, e6⟩ := hagree c
    refine Eq.trans ?_ (Attn.final m c (ok m hpre c)).symm
    refine (Attn.Ref.res_eq m' c).trans ?_
    rw [e0, e1, e2, e3, e4, e5, e6]

/-- The reference ends, its arguments as they were. -/
theorem frameRef : Cert.quiescent_ReferenceIdeal := by
  intro m g _
  refine (θ_run _ _ _).mono (fun r h => ⟨fun c => (h c).2, funext fun s => (noSem s.2).elim⟩) (Cert.ReferenceIdeal.Value.run m g)

/-- Under the precondition the latent tokens' modulations and the weights are finite. -/
theorem ok2 (m : (ℓ : Loc Cert.Kernel2Ideal.nD Cert.Kernel2Ideal.τ Cert.Kernel2Ideal.sig) → Buf (Elt Ideal) ℓ)
    (h : Cert.Pre_Kernel2Ideal_finite_weights m) (c : Dev Cert.Kernel2Ideal.nD) : Proj.OkM m c :=
  ⟨fun _ => Attn.fin_of _ _ (h c).1 _, fun _ => Attn.fin_of _ _ (h c).2 _⟩

/-- The projection's reference has no semaphore. -/
theorem noSem2 : ∀ sm : SemLoc Cert.Reference2Ideal.sig, False := by decide

/-- The projection's kernel and reference end with the same nine arrays, over the extended reals. -/
theorem algebraic2 : Cert.algebraic_Kernel2Ideal_Reference2Ideal_pre_finite_weights := by
  pair_intro
  · run_from Cert.Kernel2Ideal.Value.run_blocks m g
  · run_from Cert.Reference2Ideal.Value.run m' g'
    all_goals obtain ⟨e0, e1, e2, e3, e4⟩ := hagree c
    · exact ((Proj.Ref.res0_eq m' c).trans (by rw [e0, e1, e2, e3, e4])).trans (Proj.final0 m c (ok2 m hpre c)).symm
    · exact ((Proj.Ref.res1_eq m' c).trans (by rw [e0, e1, e2, e3, e4])).trans (Proj.final1 m c (ok2 m hpre c)).symm
    · exact ((Proj.Ref.res2_eq m' c).trans (by rw [e0, e1, e2, e3, e4])).trans (Proj.final2 m c (ok2 m hpre c)).symm
    · exact ((Proj.Ref.res3_eq m' c).trans (by rw [e0, e1, e2, e3, e4])).trans (Proj.final3 m c (ok2 m hpre c)).symm
    · exact ((Proj.Ref.res4_eq m' c).trans (by rw [e0, e1, e2, e3, e4])).trans (Proj.final4 m c (ok2 m hpre c)).symm
    · exact ((Proj.Ref.res5_eq m' c).trans (by rw [e0, e1, e2, e3, e4])).trans (Proj.final5 m c (ok2 m hpre c)).symm
    · exact ((Proj.Ref.res6_eq m' c).trans (by rw [e0, e1, e2, e3, e4])).trans (Proj.final6 m c (ok2 m hpre c)).symm
    · exact ((Proj.Ref.res7_eq m' c).trans (by rw [e0, e1, e2, e3, e4])).trans (Proj.final7 m c (ok2 m hpre c)).symm
    · exact ((Proj.Ref.res8_eq m' c).trans (by rw [e0, e1, e2, e3, e4])).trans (Proj.final8 m c (ok2 m hpre c)).symm

/-- The projection's reference ends, its arguments as they were. -/
theorem frameRef2 : Cert.quiescent_Reference2Ideal := by
  intro m g _
  refine (θ_run _ _ _).mono (fun r h => ⟨fun c => ?_, funext fun s => (noSem2 s.2).elim⟩) (Cert.Reference2Ideal.Value.run m g)
  obtain ⟨_, _, _, _, _, _, _, _, _, ha⟩ := h c
  exact ha

/-- Under the precondition the retention's outputs and the token mixing's second operand are finite, its first is not
    negative infinity. -/
theorem ok3 (m : (ℓ : Loc Cert.Kernel3Ideal.nD Cert.Kernel3Ideal.τ Cert.Kernel3Ideal.sig) → Buf (Elt Ideal) ℓ)
    (h : Cert.Pre_Kernel3Ideal_finite_mixers m) (c : Dev Cert.Kernel3Ideal.nD) : Mix.OkX m c :=
  ⟨fun _ _ => Attn.fin_of _ _ (h c).1 _, fun _ _ => Attn.fin_of _ _ (h c).2.1 _, fun _ _ => Attn.ne_bot_of _ _ (h c).2.2.2 _,
    fun _ _ => Attn.fin_of _ _ (h c).2.2.1 _⟩

/-- The out-projection's reference has no semaphore. -/
theorem noSem3 : ∀ sm : SemLoc Cert.Reference3Ideal.sig, False := by decide

/-- The out-projection's kernel and reference end with the same three arrays, over the extended reals. -/
theorem algebraic3 : Cert.algebraic_Kernel3Ideal_Reference3Ideal_pre_finite_mixers := by
  pair_intro
  · run_from Cert.Kernel3Ideal.Value.run_blocks m g
  · run_from Cert.Reference3Ideal.Value.run m' g'
    all_goals obtain ⟨e0, e1, e2, e3, e4, e5, e6, e7, e8, e9, e10, e11, e12, e13, e14⟩ := hagree c
    · exact ((Mix.Ref.out0_eq m' c).trans (by rw [e0, e1, e2, e3, e4, e5, e6, e7, e8, e9, e10, e11, e12, e13])).trans (Mix.final0 m c (ok3 m hpre c)).symm
    · exact ((Mix.Ref.out1_eq m' c).trans (by rw [e0, e1, e2, e3, e4, e5, e6, e7, e8, e9, e10, e11, e12, e13])).trans (Mix.final1 m c (ok3 m hpre c)).symm
    · refine Eq.trans ?_ (((Mix.Ref.out2_eq m' c).trans (by rw [e0, e1, e2, e3, e4, e5, e6, e7, e8, e9, e10, e11, e12, e13, e14])).trans (Mix.final2 m c (ok3 m hpre c)).symm)
      rw [← e14]

/-- The out-projection's reference ends, its arguments as they were. -/
theorem frameRef3 : Cert.quiescent_Reference3Ideal := by
  intro m g _
  refine (θ_run _ _ _).mono (fun r h => ⟨fun c => ?_, funext fun s => (noSem3 s.2).elim⟩) (Cert.Reference3Ideal.Value.run m g)
  obtain ⟨_, _, _, ha⟩ := h c
  exact ha

/-- The named constant is the printed one's, exactly. -/
theorem preserves3 : Cert.preserves_Kernel3_Kernel3Ideal :=
  IdealRules.named_const.statement Cert.Kernel3Ideal.κ "gelu_cubic" .f32 0x3D122279#32 (((80338380498831 / 2251799813685248 : ℝ) : EReal)) rfl

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, Attn.preFacts, Attn.preFacts2, Attn.preFacts3,
    fun m ρ _ => Cert.Kernel.Gen.frame m ρ, fun m ρ _ => Cert.KernelIdeal.Gen.frame m ρ, fun m ρ _ => Cert.KernelIdeal.Gen.frame m ρ,
    frameRef, fun m ρ _ => frameRef m ρ trivial,
    fun m ρ _ => Cert.Kernel2.Gen.frame m ρ, fun m ρ _ => Cert.Kernel2Ideal.Gen.frame m ρ, fun m ρ _ => Cert.Kernel2Ideal.Gen.frame m ρ,
    frameRef2, fun m ρ _ => frameRef2 m ρ trivial,
    fun m ρ _ => Cert.Kernel3.Gen.frame m ρ, fun m ρ _ => Cert.Kernel3Ideal.Gen.frame m ρ, fun m ρ _ => Cert.Kernel3Ideal.Gen.frame m ρ,
    frameRef3, fun m ρ _ => frameRef3 m ρ trivial, trivial, algebraic, trivial, algebraic2, preserves3, algebraic3⟩

end Cert.Proof

end
